-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real [hPre_real : Cert.Pre_real.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_real.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real [hPre_real : Cert.Pre_real.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_real.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_real5 [hPre_real5 : Cert.Pre_real5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_real5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_real5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_real5 [hPre_real5 : Cert.Pre_real5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_real5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_real5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_real [hKernel3Ideal : Cert.Kernel3Ideal.Facts] [hPre_real : Cert.Pre_real.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_real [hReference3Ideal : Cert.Reference3Ideal.Facts] [hPre_real : Cert.Pre_real.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_real5 [hKernel5Ideal : Cert.Kernel5Ideal.Facts] [hPre_real5 : Cert.Pre_real5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_real5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_real5 [hReference5Ideal : Cert.Reference5Ideal.Facts] [hPre_real5 : Cert.Pre_real5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_real5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "masked" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_real [hKernel3Ideal : Cert.Kernel3Ideal.Facts] [hReference3Ideal : Cert.Reference3Ideal.Facts] [hPre_real : Cert.Pre_real.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_v113) = v1 c
          ∧ r.2.mem ((c.tc : Thread Cert.Reference3Ideal.nD Cert.Reference3Ideal.τ).loc Cert.Reference3Ideal.main_v115) = v2 c
          ∧ r.2.mem ((c.tc : Thread Cert.Reference3Ideal.nD Cert.Reference3Ideal.τ).loc Cert.Reference3Ideal.main_v120) = v3 c
          ∧ r.2.mem ((c.tc : Thread Cert.Reference3Ideal.nD Cert.Reference3Ideal.τ).loc Cert.Reference3Ideal.main_v121) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_real5 [hKernel5Ideal : Cert.Kernel5Ideal.Facts] [hReference5Ideal : Cert.Reference5Ideal.Facts] [hPre_real5 : Cert.Pre_real5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_real5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v110) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_v117) = v3 c
          ∧ r.2.mem ((c.tc : Thread Cert.Reference5Ideal.nD Cert.Reference5Ideal.τ).loc Cert.Reference5Ideal.main_v118) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_real : Cert.Pre_real.Facts) (hPre_real5 : Cert.Pre_real5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_real (hKernel3Ideal := hKernel3Ideal) (hPre_real := hPre_real)
    ∧ quiescent_Reference3Ideal (hReference3Ideal := hReference3Ideal)
    ∧ quiescent_Reference3Ideal_pre_real (hReference3Ideal := hReference3Ideal) (hPre_real := hPre_real)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_real5 (hKernel5Ideal := hKernel5Ideal) (hPre_real5 := hPre_real5)
    ∧ quiescent_Reference5Ideal (hReference5Ideal := hReference5Ideal)
    ∧ quiescent_Reference5Ideal_pre_real5 (hReference5Ideal := hReference5Ideal) (hPre_real5 := hPre_real5)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_real (hKernel3Ideal := hKernel3Ideal) (hReference3Ideal := hReference3Ideal) (hPre_real := hPre_real)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_real5 (hKernel5Ideal := hKernel5Ideal) (hReference5Ideal := hReference5Ideal) (hPre_real5 := hPre_real5)
-- ==== Pre_real.lean ====
abbrev S8x2064x1024 : Shape := ⟨3, ![8, 2064, 1024]⟩
abbrev S16x1024 : Shape := ⟨2, ![16, 1024]⟩
abbrev S2x1024 : Shape := ⟨2, ![2, 1024]⟩
abbrev S2x1024x4096 : Shape := ⟨3, ![2, 1024, 4096]⟩
abbrev S2x2048 : Shape := ⟨2, ![2, 2048]⟩
abbrev S2x4x128x128 : Shape := ⟨4, ![2, 4, 128, 128]⟩
abbrev S2x512 : Shape := ⟨2, ![2, 512]⟩
abbrev S2x512x1024 : Shape := ⟨3, ![2, 512, 1024]⟩
abbrev S_ : Shape := ⟨0, ![]⟩

class Facts : Prop where
  bcast_S_S2x1024 : S_.BroadcastsInDim S2x1024 (![] : Fin 0 → Fin S2x1024.rank)
  bcast_S_S2x1024x4096 : S_.BroadcastsInDim S2x1024x4096 (![] : Fin 0 → Fin S2x1024x4096.rank)

variable [Facts]

def fn {F : FTy → Type} [FloatOps F] (main_arg0 : FVec F S8x2064x1024 .f32) (main_arg1 : FVec F S16x1024 .f32) (main_arg2 : FVec F S2x1024 .f32) (main_arg3 : FVec F S2x1024x4096 .f32) (main_arg4 : FVec F S2x2048 .f32) (main_arg5 : FVec F S2x4x128x128 .f32) (main_arg6 : FVec F S2x512 .f32) (main_arg7 : FVec F S2x512x1024 .f32) : IVec S2x1024 1 × IVec S2x1024x4096 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024x4096 .f32 := Host.absf main_arg3
  let main_cst_0 : FVec F S_ .f32 := constant S_ .f32 0x7F800000#32
  let main_v4 : FVec F S2x1024x4096 .f32 := broadcastInDim S2x1024x4096 ![] bcast_S_S2x1024x4096 main_cst_0
  let main_v5 : IVec S2x1024x4096 1 := cmpf .olt main_v3 main_v4
  (main_v2, main_v5)
-- ==== Pre_real5.lean ====
abbrev S8x2048x1024 : Shape := ⟨3, ![8, 2048, 1024]⟩
abbrev S16x1024 : Shape := ⟨2, ![16, 1024]⟩
abbrev S2x1024 : Shape := ⟨2, ![2, 1024]⟩
abbrev S2x1024x4096 : Shape := ⟨3, ![2, 1024, 4096]⟩
abbrev S2x2048 : Shape := ⟨2, ![2, 2048]⟩
abbrev S2x4x128x128 : Shape := ⟨4, ![2, 4, 128, 128]⟩
abbrev S2x512 : Shape := ⟨2, ![2, 512]⟩
abbrev S2x512x1024 : Shape := ⟨3, ![2, 512, 1024]⟩
abbrev S_ : Shape := ⟨0, ![]⟩

class Facts : Prop where
  bcast_S_S2x1024 : S_.BroadcastsInDim S2x1024 (![] : Fin 0 → Fin S2x1024.rank)
  bcast_S_S2x1024x4096 : S_.BroadcastsInDim S2x1024x4096 (![] : Fin 0 → Fin S2x1024x4096.rank)

variable [Facts]

def fn {F : FTy → Type} [FloatOps F] (main_arg0 : FVec F S8x2048x1024 .f32) (main_arg1 : FVec F S16x1024 .f32) (main_arg2 : FVec F S2x1024 .f32) (main_arg3 : FVec F S2x1024x4096 .f32) (main_arg4 : FVec F S2x2048 .f32) (main_arg5 : FVec F S2x4x128x128 .f32) (main_arg6 : FVec F S2x512 .f32) (main_arg7 : FVec F S2x512x1024 .f32) : IVec S2x1024 1 × IVec S2x1024x4096 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024x4096 .f32 := Host.absf main_arg3
  let main_cst_0 : FVec F S_ .f32 := constant S_ .f32 0x7F800000#32
  let main_v4 : FVec F S2x1024x4096 .f32 := broadcastInDim S2x1024x4096 ![] bcast_S_S2x1024x4096 main_cst_0
  let main_v5 : IVec S2x1024x4096 1 := cmpf .olt main_v3 main_v4
  (main_v2, main_v5)
-- ==== Kernel.lean ====
abbrev S8x2064x512 : Shape := ⟨3, ![8, 2064, 512]⟩
abbrev S_ : Shape := ⟨0, ![]⟩
abbrev S256x256 : Shape := ⟨2, ![256, 256]⟩
abbrev S256x128 : Shape := ⟨2, ![256, 128]⟩
abbrev S1x2064x128 : Shape := ⟨3, ![1, 2064, 128]⟩
abbrev S4x128x256 : Shape := ⟨3, ![4, 128, 256]⟩
abbrev S17x256x128 : Shape := ⟨3, ![17, 256, 128]⟩
abbrev S17x128x128 : Shape := ⟨3, ![17, 128, 128]⟩
abbrev S11x256x256 : Shape := ⟨3, ![11, 256, 256]⟩
abbrev S128x128 : Shape := ⟨2, ![128, 128]⟩
abbrev S128x256 : Shape := ⟨2, ![128, 256]⟩
abbrev S1x128x256 : Shape := ⟨3, ![1, 128, 256]⟩
abbrev S1x128x128 : Shape := ⟨3, ![1, 128, 128]⟩
abbrev S1x16x128 : Shape := ⟨3, ![1, 16, 128]⟩
abbrev S16x128 : Shape := ⟨2, ![16, 128]⟩
abbrev S112x128 : Shape := ⟨2, ![112, 128]⟩
abbrev S1x256x128 : Shape := ⟨3, ![1, 256, 128]⟩
abbrev S1x256x256 : Shape := ⟨3, ![1, 256, 256]⟩
abbrev S1x256x1 : Shape := ⟨3, ![1, 256, 1]⟩
abbrev S256x1 : Shape := ⟨2, ![256, 1]⟩

abbrev nBuf : Space → Nat
  | .hbm => 34
  | .vmem => 19
  | .smem => 0
  | _ => 0

abbrev bufTy : (tb : Table) → Fin (tcTables nBuf tb) → BufTy
  | .hbm, ⟨0, _⟩ => ⟨S8x2064x512, .f32⟩
  | .hbm, ⟨1, _⟩ => ⟨S8x2064x512, .f32⟩
  | .hbm, ⟨2, _⟩ => ⟨S8x2064x512, .f32⟩
  | .hbm, ⟨3, _⟩ => ⟨S_, .f32⟩
  | .hbm, ⟨4, _⟩ => ⟨S8x2064x512, .f32⟩
  | .hbm, ⟨5, _⟩ => ⟨S8x2064x512, .f32⟩
  | .hbm, ⟨6, _⟩ => ⟨S8x2064x512, .bf16⟩
  | .hbm, ⟨7, _⟩ => ⟨S8x2064x512, .bf16⟩
  | .hbm, ⟨8, _⟩ => ⟨S8x2064x512, .bf16⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S256x128, .i32⟩
  | .hbm, ⟨19, _⟩ => ⟨S256x128, .i32⟩
  | .hbm, ⟨20, _⟩ => ⟨S256x128, .i1⟩
  | .hbm, ⟨21, _⟩ => ⟨S_, .i32⟩
  | .hbm, ⟨22, _⟩ => ⟨S256x128, .i32⟩
  | .hbm, ⟨23, _⟩ => ⟨S256x128, .i32⟩
  | .hbm, ⟨24, _⟩ => ⟨S256x128, .i1⟩
  | .hbm, ⟨25, _⟩ => ⟨S256x128, .i1⟩
  | .hbm, ⟨26, _⟩ => ⟨S_, .f32⟩
  | .hbm, ⟨27, _⟩ => ⟨S_, .f32⟩
  | .hbm, ⟨28, _⟩ => ⟨S256x128, .f32⟩
  | .hbm, ⟨29, _⟩ => ⟨S256x128, .f32⟩
  | .hbm, ⟨30, _⟩ => ⟨S256x128, .f32⟩
  | .hbm, ⟨31, _⟩ => ⟨S256x128, .bf16⟩
  | .hbm, ⟨32, _⟩ => ⟨S8x2064x512, .bf16⟩
  | .hbm, ⟨33, _⟩ => ⟨S8x2064x512, .f32⟩
  | .local _ .vmem, ⟨0, _⟩ => ⟨S1x2064x128, .bf16⟩
  | .local _ .vmem, ⟨1, _⟩ => ⟨S1x2064x128, .bf16⟩
  | .local _ .vmem, ⟨2, _⟩ => ⟨S1x2064x128, .bf16⟩
  | .local _ .vmem, ⟨3, _⟩ => ⟨S1x2064x128, .bf16⟩
  | .local _ .vmem, ⟨4, _⟩ => ⟨S1x2064x128, .bf16⟩
  | .local _ .vmem, ⟨5, _⟩ => ⟨S1x2064x128, .bf16⟩
  | .local _ .vmem, ⟨6, _⟩ => ⟨S256x256, .bf16⟩
  | .local _ .vmem, ⟨7, _⟩ => ⟨S256x128, .bf16⟩
  | .local _ .vmem, ⟨8, _⟩ => ⟨S1x2064x128, .bf16⟩
  | .local _ .vmem, ⟨9, _⟩ => ⟨S1x2064x128, .bf16⟩
  | .local _ .vmem, ⟨10, _⟩ => ⟨S4x128x256, .bf16⟩
  | .local _ .vmem, ⟨11, _⟩ => ⟨S17x256x128, .bf16⟩
  | .local _ .vmem, ⟨12, _⟩ => ⟨S17x128x128, .bf16⟩
  | .local _ .vmem, ⟨13, _⟩ => ⟨S17x128x128, .bf16⟩
  | .local _ .vmem, ⟨14, _⟩ => ⟨S17x256x128, .f32⟩
  | .local _ .vmem, ⟨15, _⟩ => ⟨S11x256x256, .f32⟩
  | .local _ .vmem, ⟨16, _⟩ => ⟨S11x256x256, .bf16⟩
  | .local _ .vmem, ⟨17, _⟩ => ⟨S11x256x256, .f32⟩
  | .local _ .vmem, ⟨18, _⟩ => ⟨S11x256x256, .bf16⟩
  | _, _ => ⟨S8x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S8x2064x512 : Shape := ⟨3, ![8, 2064, 512]⟩
abbrev S8x2064x8x64 : Shape := ⟨4, ![8, 2064, 8, 64]⟩
abbrev S8x8x2064x64 : Shape := ⟨4, ![8, 8, 2064, 64]⟩
abbrev S8x8x2064x2064 : Shape := ⟨4, ![8, 8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩

abbrev nBuf : Space → Nat
  | .hbm => 71
  | .vmem => 0
  | .smem => 0
  | _ => 0

abbrev bufTy : (tb : Table) → Fin (tcTables nBuf tb) → BufTy
  | .hbm, ⟨0, _⟩ => ⟨S8x2064x512, .f32⟩
  | .hbm, ⟨1, _⟩ => ⟨S8x2064x512, .f32⟩
  | .hbm, ⟨2, _⟩ => ⟨S8x2064x512, .f32⟩
  | .hbm, ⟨3, _⟩ => ⟨S8x2064x8x64, .f32⟩
  | .hbm, ⟨4, _⟩ => ⟨S8x8x2064x64, .f32⟩
  | .hbm, ⟨5, _⟩ => ⟨S8x2064x8x64, .f32⟩
  | .hbm, ⟨6, _⟩ => ⟨S8x8x2064x64, .f32⟩
  | .hbm, ⟨7, _⟩ => ⟨S8x2064x8x64, .f32⟩
  | .hbm, ⟨8, _⟩ => ⟨S8x8x2064x64, .f32⟩
  | .hbm, ⟨9, _⟩ => ⟨S8x8x2064x2064, .f32⟩
  | .hbm, ⟨10, _⟩ => ⟨S_, .f32⟩
  | .hbm, ⟨11, _⟩ => ⟨S8x8x2064x2064, .f32⟩
  | .hbm, ⟨12, _⟩ => ⟨S8x8x2064x2064, .f32⟩
  | .hbm, ⟨13, _⟩ => ⟨S2064, .i32⟩
  | .hbm, ⟨14, _⟩ => ⟨S1x2064, .i32⟩
  | .hbm, ⟨15, _⟩ => ⟨S2064x1, .i32⟩
  | .hbm, ⟨16, _⟩ => ⟨S2064x2064, .i32⟩
  | .hbm, ⟨17, _⟩ => ⟨S2064x2064, .i32⟩
  | .hbm, ⟨18, _⟩ => ⟨S2064x2064, .i1⟩
  | .hbm, ⟨19, _⟩ => ⟨S8x8x2064x2064, .f32⟩
  | .hbm, ⟨20, _⟩ => ⟨S8x8x2064x2064, .f32⟩
  | .hbm, ⟨21, _⟩ => ⟨S_, .f32⟩
  | .hbm, ⟨22, _⟩ => ⟨S8x8x2064x2064, .f32⟩
  | .hbm, ⟨23, _⟩ => ⟨S8x8x2064x2064, .f32⟩
  | .hbm, ⟨24, _⟩ => ⟨S8x8x2064x2064, .f32⟩
  | .hbm, ⟨25, _⟩ => ⟨S8x8x2064x2064, .f32⟩
  | .hbm, ⟨26, _⟩ => ⟨S8x8x2064x2064, .i1⟩
  | .hbm, ⟨27, _⟩ => ⟨S8x8x2064x2064, .f32⟩
  | .hbm, ⟨28, _⟩ => ⟨S8x8x2064x2064, .f32⟩
  | .hbm, ⟨29, _⟩ => ⟨S8x8x2064x2064, .f32⟩
  | .hbm, ⟨30, _⟩ => ⟨S8x8x2064x2064, .f32⟩
  | .hbm, ⟨31, _⟩ => ⟨S8x8x2064x2064, .f32⟩
  | .hbm, ⟨32, _⟩ => ⟨S8x8x2064x2064, .f32⟩
  | .hbm, ⟨33, _⟩ => ⟨S8x8x2064x2064, .f32⟩
  | .hbm, ⟨34, _⟩ => ⟨S8x8x2064x2064, .f32⟩
  | .hbm, ⟨35, _⟩ => ⟨S8x8x2064x2064, .f32⟩
  | .hbm, ⟨36, _⟩ => ⟨S_, .f32⟩
  | .hbm, ⟨37, _⟩ => ⟨S_, .f32⟩
  | .hbm, ⟨38, _⟩ => ⟨S8x8x2064x2064, .i1⟩
  | .hbm, ⟨39, _⟩ => ⟨S8x8x2064x2064, .f32⟩
  | .hbm, ⟨40, _⟩ => ⟨S8x8x2064x2064, .f32⟩
  | .hbm, ⟨41, _⟩ => ⟨S_, .f32⟩
  | .hbm, ⟨42, _⟩ => ⟨S_, .f32⟩
  | .hbm, ⟨43, _⟩ => ⟨S8x8x2064x2064, .f32⟩
  | .hbm, ⟨44, _⟩ => ⟨S8x8x2064x2064, .f32⟩
  | .hbm, ⟨45, _⟩ => ⟨S8x8x2064x2064, .f32⟩
  | .hbm, ⟨46, _⟩ => ⟨S_, .f32⟩
  | .hbm, ⟨47, _⟩ => ⟨S8x8x2064x2064, .f32⟩
  | .hbm, ⟨48, _⟩ => ⟨S8x8x2064x2064, .f32⟩
  | .hbm, ⟨49, _⟩ => ⟨S8x8x2064x2064, .f32⟩
  | .hbm, ⟨50, _⟩ => ⟨S8x8x2064x2064, .f32⟩
  | .hbm, ⟨51, _⟩ => ⟨S8x8x2064x2064, .i1⟩
  | .hbm, ⟨52, _⟩ => ⟨S8x8x2064x2064, .f32⟩
  | .hbm, ⟨53, _⟩ => ⟨S8x8x2064x2064, .f32⟩
  | .hbm, ⟨54, _⟩ => ⟨S8x8x2064x2064, .f32⟩
  | .hbm, ⟨55, _⟩ => ⟨S8x8x2064x2064, .f32⟩
  | .hbm, ⟨56, _⟩ => ⟨S8x8x2064x2064, .f32⟩
  | .hbm, ⟨57, _⟩ => ⟨S8x8x2064x2064, .f32⟩
  | .hbm, ⟨58, _⟩ => ⟨S8x8x2064x2064, .f32⟩
  | .hbm, ⟨59, _⟩ => ⟨S8x8x2064x2064, .f32⟩
  | .hbm, ⟨60, _⟩ => ⟨S8x8x2064x2064, .f32⟩
  | .hbm, ⟨61, _⟩ => ⟨S8x8x2064x2064, .f32⟩
  | .hbm, ⟨62, _⟩ => ⟨S8x8x2064x2064, .f32⟩
  | .hbm, ⟨63, _⟩ => ⟨S_, .f32⟩
  | .hbm, ⟨64, _⟩ => ⟨S_, .f32⟩
  | .hbm, ⟨65, _⟩ => ⟨S8x8x2064x2064, .i1⟩
  | .hbm, ⟨66, _⟩ => ⟨S8x8x2064x2064, .f32⟩
  | .hbm, ⟨67, _⟩ => ⟨S8x8x2064x2064, .f32⟩
  | .hbm, ⟨68, _⟩ => ⟨S8x8x2064x64, .f32⟩
  | .hbm, ⟨69, _⟩ => ⟨S8x2064x8x64, .f32⟩
  | .hbm, ⟨70, _⟩ => ⟨S8x2064x512, .f32⟩
  | _, _ => ⟨S8x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel2.lean ====
abbrev S8x2064x1024 : Shape := ⟨3, ![8, 2064, 1024]⟩
abbrev S16x1024 : Shape := ⟨2, ![16, 1024]⟩
abbrev S8x2064x512 : Shape := ⟨3, ![8, 2064, 512]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S8x2048x1024 : Shape := ⟨3, ![8, 2048, 1024]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512x2816 : Shape := ⟨2, ![512, 2816]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x2816x512 : Shape := ⟨3, ![1, 2816, 512]⟩
abbrev S2816x512 : Shape := ⟨2, ![2816, 512]⟩

abbrev nBuf : Space → Nat
  | .hbm => 19
  | .vmem => 21
  | .smem => 0
  | _ => 0

abbrev bufTy : (tb : Table) → Fin (tcTables nBuf tb) → BufTy
  | .hbm, ⟨0, _⟩ => ⟨S8x2064x1024, .f32⟩
  | .hbm, ⟨1, _⟩ => ⟨S16x1024, .f32⟩
  | .hbm, ⟨2, _⟩ => ⟨S8x2064x512, .f32⟩
  | .hbm, ⟨3, _⟩ => ⟨S8x2064x1024, .f32⟩
  | .hbm, ⟨4, _⟩ => ⟨S8x2064x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S1024, .f32⟩
  | .hbm, ⟨11, _⟩ => ⟨S2x512x1024, .bf16⟩
  | .hbm, ⟨12, _⟩ => ⟨S2x1024x1024, .bf16⟩
  | .hbm, ⟨13, _⟩ => ⟨S2x1024x5632, .bf16⟩
  | .hbm, ⟨14, _⟩ => ⟨S2x2816x1024, .bf16⟩
  | .hbm, ⟨15, _⟩ => ⟨S8x2064x512, .bf16⟩
  | .hbm, ⟨16, _⟩ => ⟨S2x1x1024, .f32⟩
  | .hbm, ⟨17, _⟩ => ⟨S1x1024, .f32⟩
  | .hbm, ⟨18, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S16x1024, .f32⟩
  | .local _ .vmem, ⟨3, _⟩ => ⟨S1x512x512, .bf16⟩
  | .local _ .vmem, ⟨4, _⟩ => ⟨S1x512x512, .bf16⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x1024x1024, .bf16⟩
  | .local _ .vmem, ⟨11, _⟩ => ⟨S1x1x1024, .f32⟩
  | .local _ .vmem, ⟨12, _⟩ => ⟨S1x1024x5632, .bf16⟩
  | .local _ .vmem, ⟨13, _⟩ => ⟨S1x2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .f32⟩
  | .local _ .vmem, ⟨19, _⟩ => ⟨S512x1024, .bf16⟩
  | .local _ .vmem, ⟨20, _⟩ => ⟨S512x2816, .bf16⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult2 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult3 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult4 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2064x1024 : Shape := ⟨3, ![8, 2064, 1024]⟩
abbrev S16x1024 : Shape := ⟨2, ![16, 1024]⟩
abbrev S8x2064x512 : Shape := ⟨3, ![8, 2064, 512]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2064x5632 : Shape := ⟨3, ![8, 2064, 5632]⟩
abbrev S8x2064x2816 : Shape := ⟨3, ![8, 2064, 2816]⟩
abbrev S1x2816x1024 : Shape := ⟨3, ![1, 2816, 1024]⟩
abbrev S2816x1024 : Shape := ⟨2, ![2816, 1024]⟩
abbrev S8x2048x1024 : Shape := ⟨3, ![8, 2048, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S16x1024, .f32⟩
  | .hbm, ⟨2, _⟩ => ⟨S8x2064x512, .f32⟩
  | .hbm, ⟨3, _⟩ => ⟨S8x2064x1024, .f32⟩
  | .hbm, ⟨4, _⟩ => ⟨S8x2064x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S8x2064x1024, .f32⟩
  | .hbm, ⟨14, _⟩ => ⟨S8x2064x1024, .f32⟩
  | .hbm, ⟨15, _⟩ => ⟨S8x2064x1024, .f32⟩
  | .hbm, ⟨16, _⟩ => ⟨S1x1024x1024, .f32⟩
  | .hbm, ⟨17, _⟩ => ⟨S1024x1024, .f32⟩
  | .hbm, ⟨18, _⟩ => ⟨S8x2064x1024, .f32⟩
  | .hbm, ⟨19, _⟩ => ⟨S8x2064x1024, .f32⟩
  | .hbm, ⟨20, _⟩ => ⟨S1x1024, .f32⟩
  | .hbm, ⟨21, _⟩ => ⟨S1024, .f32⟩
  | .hbm, ⟨22, _⟩ => ⟨S8x2064x1024, .f32⟩
  | .hbm, ⟨23, _⟩ => ⟨S_, .f32⟩
  | .hbm, ⟨24, _⟩ => ⟨S8x2064, .f32⟩
  | .hbm, ⟨25, _⟩ => ⟨S8x2064x1, .f32⟩
  | .hbm, ⟨26, _⟩ => ⟨S_, .f32⟩
  | .hbm, ⟨27, _⟩ => ⟨S8x2064x1, .f32⟩
  | .hbm, ⟨28, _⟩ => ⟨S8x2064x1, .f32⟩
  | .hbm, ⟨29, _⟩ => ⟨S_, .f32⟩
  | .hbm, ⟨30, _⟩ => ⟨S8x2064x1, .f32⟩
  | .hbm, ⟨31, _⟩ => ⟨S8x2064x1, .f32⟩
  | .hbm, ⟨32, _⟩ => ⟨S8x2064x1, .f32⟩
  | .hbm, ⟨33, _⟩ => ⟨S8x2064x1024, .f32⟩
  | .hbm, ⟨34, _⟩ => ⟨S8x2064x1024, .f32⟩
  | .hbm, ⟨35, _⟩ => ⟨S1x1x1024, .f32⟩
  | .hbm, ⟨36, _⟩ => ⟨S8x2064x1024, .f32⟩
  | .hbm, ⟨37, _⟩ => ⟨S8x2064x1024, .f32⟩
  | .hbm, ⟨38, _⟩ => ⟨S1x1024x5632, .f32⟩
  | .hbm, ⟨39, _⟩ => ⟨S1024x5632, .f32⟩
  | .hbm, ⟨40, _⟩ => ⟨S8x2064x5632, .f32⟩
  | .hbm, ⟨41, _⟩ => ⟨S8x2064x2816, .f32⟩
  | .hbm, ⟨42, _⟩ => ⟨S8x2064x2816, .f32⟩
  | .hbm, ⟨43, _⟩ => ⟨S8x2064x2816, .f32⟩
  | .hbm, ⟨44, _⟩ => ⟨S8x2064x2816, .f32⟩
  | .hbm, ⟨45, _⟩ => ⟨S_, .f32⟩
  | .hbm, ⟨46, _⟩ => ⟨S8x2064x2816, .f32⟩
  | .hbm, ⟨47, _⟩ => ⟨S8x2064x2816, .f32⟩
  | .hbm, ⟨48, _⟩ => ⟨S_, .f32⟩
  | .hbm, ⟨49, _⟩ => ⟨S8x2064x2816, .f32⟩
  | .hbm, ⟨50, _⟩ => ⟨S8x2064x2816, .f32⟩
  | .hbm, ⟨51, _⟩ => ⟨S8x2064x2816, .f32⟩
  | .hbm, ⟨52, _⟩ => ⟨S8x2064x2816, .f32⟩
  | .hbm, ⟨53, _⟩ => ⟨S1x2816x1024, .f32⟩
  | .hbm, ⟨54, _⟩ => ⟨S2816x1024, .f32⟩
  | .hbm, ⟨55, _⟩ => ⟨S8x2064x1024, .f32⟩
  | .hbm, ⟨56, _⟩ => ⟨S8x2064x1024, .f32⟩
  | .hbm, ⟨57, _⟩ => ⟨S8x2064x1024, .f32⟩
  | .hbm, ⟨58, _⟩ => ⟨S_, .f32⟩
  | .hbm, ⟨59, _⟩ => ⟨S8x2064, .f32⟩
  | .hbm, ⟨60, _⟩ => ⟨S8x2064x1, .f32⟩
  | .hbm, ⟨61, _⟩ => ⟨S_, .f32⟩
  | .hbm, ⟨62, _⟩ => ⟨S8x2064x1, .f32⟩
  | .hbm, ⟨63, _⟩ => ⟨S8x2064x1, .f32⟩
  | .hbm, ⟨64, _⟩ => ⟨S_, .f32⟩
  | .hbm, ⟨65, _⟩ => ⟨S8x2064x1, .f32⟩
  | .hbm, ⟨66, _⟩ => ⟨S8x2064x1, .f32⟩
  | .hbm, ⟨67, _⟩ => ⟨S8x2064x1, .f32⟩
  | .hbm, ⟨68, _⟩ => ⟨S8x2064x1024, .f32⟩
  | .hbm, ⟨69, _⟩ => ⟨S8x2064x1024, .f32⟩
  | .hbm, ⟨70, _⟩ => ⟨S1x1x1024, .f32⟩
  | .hbm, ⟨71, _⟩ => ⟨S8x2064x1024, .f32⟩
  | .hbm, ⟨72, _⟩ => ⟨S8x2064x1024, .f32⟩
  | .hbm, ⟨73, _⟩ => ⟨S8x2048x1024, .f32⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Kernel3.lean ====
abbrev S8x2064x1024 : Shape := ⟨3, ![8, 2064, 1024]⟩
abbrev S16x1024 : Shape := ⟨2, ![16, 1024]⟩
abbrev S2x1024 : Shape := ⟨2, ![2, 1024]⟩
abbrev S2x1024x4096 : Shape := ⟨3, ![2, 1024, 4096]⟩
abbrev S2x2048 : Shape := ⟨2, ![2, 2048]⟩
abbrev S2x4x128x128 : Shape := ⟨4, ![2, 4, 128, 128]⟩
abbrev S2x512 : Shape := ⟨2, ![2, 512]⟩
abbrev S2x512x1024 : Shape := ⟨3, ![2, 512, 1024]⟩
abbrev S2x1x1024 : Shape := ⟨3, ![2, 1, 1024]⟩
abbrev S2x1x2048 : Shape := ⟨3, ![2, 1, 2048]⟩
abbrev S2x1x512 : Shape := ⟨3, ![2, 1, 512]⟩
abbrev S16512x1024 : Shape := ⟨2, ![16512, 1024]⟩
abbrev S16512x512 : Shape := ⟨2, ![16512, 512]⟩
abbrev S688x1024 : Shape := ⟨2, ![688, 1024]⟩
abbrev S1x1x1024 : Shape := ⟨3, ![1, 1, 1024]⟩
abbrev S1x1024x4096 : Shape := ⟨3, ![1, 1024, 4096]⟩
abbrev S1x1x2048 : Shape := ⟨3, ![1, 1, 2048]⟩
abbrev S1x4x128x128 : Shape := ⟨4, ![1, 4, 128, 128]⟩
abbrev S1x1x512 : Shape := ⟨3, ![1, 1, 512]⟩
abbrev S1x512x1024 : Shape := ⟨3, ![1, 512, 1024]⟩
abbrev S688x512 : Shape := ⟨2, ![688, 512]⟩
abbrev S704x512 : Shape := ⟨2, ![704, 512]⟩
abbrev S16x512 : Shape := ⟨2, ![16, 512]⟩
abbrev S1x1024 : Shape := ⟨2, ![1, 1024]⟩
abbrev S688 : Shape := ⟨1, ![688]⟩
abbrev S688x1 : Shape := ⟨2, ![688, 1]⟩
abbrev S1x1024x512 : Shape := ⟨3, ![1, 1024, 512]⟩
abbrev S1024x512 : Shape := ⟨2, ![1024, 512]⟩
abbrev S1x512 : Shape := ⟨2, ![1, 512]⟩
abbrev S688x128 : Shape := ⟨2, ![688, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S1x512x512 : Shape := ⟨3, ![1, 512, 512]⟩
abbrev S512x512 : Shape := ⟨2, ![512, 512]⟩

abbrev nBuf : Space → Nat
  | .hbm => 20
  | .vmem => 22
  | .smem => 0
  | _ => 0

abbrev bufTy : (tb : Table) → Fin (tcTables nBuf tb) → BufTy
  | .hbm, ⟨0, _⟩ => ⟨S8x2064x1024, .f32⟩
  | .hbm, ⟨1, _⟩ => ⟨S16x1024, .f32⟩
  | .hbm, ⟨2, _⟩ => ⟨S2x1024, .f32⟩
  | .hbm, ⟨3, _⟩ => ⟨S2x1024x4096, .f32⟩
  | .hbm, ⟨4, _⟩ => ⟨S2x2048, .f32⟩
  | .hbm, ⟨5, _⟩ => ⟨S2x4x128x128, .f32⟩
  | .hbm, ⟨6, _⟩ => ⟨S2x512, .f32⟩
  | .hbm, ⟨7, _⟩ => ⟨S2x512x1024, .f32⟩
  | .hbm, ⟨8, _⟩ => ⟨S2x1024x4096, .bf16⟩
  | .hbm, ⟨9, _⟩ => ⟨S2x4x128x128, .bf16⟩
  | .hbm, ⟨10, _⟩ => ⟨S2x512x1024, .bf16⟩
  | .hbm, ⟨11, _⟩ => ⟨S2x1x1024, .f32⟩
  | .hbm, ⟨12, _⟩ => ⟨S2x1x2048, .f32⟩
  | .hbm, ⟨13, _⟩ => ⟨S2x1x512, .f32⟩
  | .hbm, ⟨14, _⟩ => ⟨S16512x1024, .f32⟩
  | .hbm, ⟨15, _⟩ => ⟨S16512x512, .bf16⟩
  | .hbm, ⟨16, _⟩ => ⟨S16512x512, .bf16⟩
  | .hbm, ⟨17, _⟩ => ⟨S16512x512, .bf16⟩
  | .hbm, ⟨18, _⟩ => ⟨S16512x1024, .f32⟩
  | .hbm, ⟨19, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S16x1024, .f32⟩
  | .local _ .vmem, ⟨3, _⟩ => ⟨S1x1x1024, .f32⟩
  | .local _ .vmem, ⟨4, _⟩ => ⟨S1x1024x4096, .bf16⟩
  | .local _ .vmem, ⟨5, _⟩ => ⟨S1x1x2048, .f32⟩
  | .local _ .vmem, ⟨6, _⟩ => ⟨S1x4x128x128, .bf16⟩
  | .local _ .vmem, ⟨7, _⟩ => ⟨S1x1x512, .f32⟩
  | .local _ .vmem, ⟨8, _⟩ => ⟨S1x512x1024, .bf16⟩
  | .local _ .vmem, ⟨9, _⟩ => ⟨S688x512, .bf16⟩
  | .local _ .vmem, ⟨10, _⟩ => ⟨S688x512, .bf16⟩
  | .local _ .vmem, ⟨11, _⟩ => ⟨S688x512, .bf16⟩
  | .local _ .vmem, ⟨12, _⟩ => ⟨S688x512, .bf16⟩
  | .local _ .vmem, ⟨13, _⟩ => ⟨S688x512, .bf16⟩
  | .local _ .vmem, ⟨14, _⟩ => ⟨S688x512, .bf16⟩
  | .local _ .vmem, ⟨15, _⟩ => ⟨S688x1024, .f32⟩
  | .local _ .vmem, ⟨16, _⟩ => ⟨S688x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .bf16⟩
  | .local _ .vmem, ⟨20, _⟩ => ⟨S704x512, .f32⟩
  | .local _ .vmem, ⟨21, _⟩ => ⟨S688x512, .bf16⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x2064x1024 : Shape := ⟨3, ![8, 2064, 1024]⟩
abbrev S16x1024 : Shape := ⟨2, ![16, 1024]⟩
abbrev S2x1024 : Shape := ⟨2, ![2, 1024]⟩
abbrev S2x1024x4096 : Shape := ⟨3, ![2, 1024, 4096]⟩
abbrev S2x2048 : Shape := ⟨2, ![2, 2048]⟩
abbrev S2x4x128x128 : Shape := ⟨4, ![2, 4, 128, 128]⟩
abbrev S2x512 : Shape := ⟨2, ![2, 512]⟩
abbrev S2x512x1024 : Shape := ⟨3, ![2, 512, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2064x4096 : Shape := ⟨3, ![8, 2064, 4096]⟩
abbrev S8x2064x512 : Shape := ⟨3, ![8, 2064, 512]⟩
abbrev S8x2064x2048 : Shape := ⟨3, ![8, 2064, 2048]⟩
abbrev S1x2048 : Shape := ⟨2, ![1, 2048]⟩
abbrev S2048 : Shape := ⟨1, ![2048]⟩
abbrev S1x1x2048 : Shape := ⟨3, ![1, 1, 2048]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S8x2065x512 : Shape := ⟨3, ![8, 2065, 512]⟩
abbrev S2064 : Shape := ⟨1, ![2064]⟩
abbrev S8x2065x128 : Shape := ⟨3, ![8, 2065, 128]⟩
abbrev S8x2064x128 : Shape := ⟨3, ![8, 2064, 128]⟩
abbrev S8x2066x128 : Shape := ⟨3, ![8, 2066, 128]⟩
abbrev S1x2064x1 : Shape := ⟨3, ![1, 2064, 1]⟩
abbrev S8x2068x128 : Shape := ⟨3, ![8, 2068, 128]⟩
abbrev S8x2072x128 : Shape := ⟨3, ![8, 2072, 128]⟩
abbrev S8x2080x128 : Shape := ⟨3, ![8, 2080, 128]⟩
abbrev S8x2064x1x128 : Shape := ⟨4, ![8, 2064, 1, 128]⟩
abbrev S8x2064x4x128 : Shape := ⟨4, ![8, 2064, 4, 128]⟩
abbrev S4x128x8x2064 : Shape := ⟨4, ![4, 128, 8, 2064]⟩
abbrev S1x1x512 : Shape := ⟨3, ![1, 1, 512]⟩
abbrev S16512x512 : Shape := ⟨2, ![16512, 512]⟩
abbrev S1x512x1024 : Shape := ⟨3, ![1, 512, 1024]⟩
abbrev S512x1024 : Shape := ⟨2, ![512, 1024]⟩
abbrev S16512x1024 : Shape := ⟨2, ![16512, 1024]⟩

abbrev nBuf : Space → Nat
  | .hbm => 156
  | .vmem => 0
  | .smem => 0
  | _ => 0

abbrev hbmTy0_0 (i : Nat) : BufTy := match i % 128 with
  | 0 => ⟨S8x2064x1024, .f32⟩
  | 1 => ⟨S16x1024, .f32⟩
  | 2 => ⟨S2x1024, .f32⟩
  | 3 => ⟨S2x1024x4096, .f32⟩
  | 4 => ⟨S2x2048, .f32⟩
  | 5 => ⟨S2x4x128x128, .f32⟩
  | 6 => ⟨S2x512, .f32⟩
  | 7 => ⟨S2x512x1024, .f32⟩
  | 8 => ⟨S1x1024, .f32⟩
  | 9 => ⟨S1024, .f32⟩
  | 10 => ⟨S8x2064x1024, .f32⟩
  | 11 => ⟨S_, .f32⟩
  | 12 => ⟨S8x2064, .f32⟩
  | 13 => ⟨S8x2064x1, .f32⟩
  | 14 => ⟨S_, .f32⟩
  | 15 => ⟨S8x2064x1, .f32⟩
  | 16 => ⟨S8x2064x1, .f32⟩
  | 17 => ⟨S_, .f32⟩
  | 18 => ⟨S8x2064x1, .f32⟩
  | 19 => ⟨S8x2064x1, .f32⟩
  | 20 => ⟨S8x2064x1, .f32⟩
  | 21 => ⟨S8x2064x1024, .f32⟩
  | 22 => ⟨S8x2064x1024, .f32⟩
  | 23 => ⟨S1x1x1024, .f32⟩
  | 24 => ⟨S8x2064x1024, .f32⟩
  | 25 => ⟨S8x2064x1024, .f32⟩
  | 26 => ⟨S1x1024x4096, .f32⟩
  | 27 => ⟨S1024x4096, .f32⟩
  | 28 => ⟨S8x2064x4096, .f32⟩
  | 29 => ⟨S8x2064x512, .f32⟩
  | 30 => ⟨S8x2064x512, .f32⟩
  | 31 => ⟨S8x2064x512, .f32⟩
  | 32 => ⟨S8x2064x512, .f32⟩
  | 33 => ⟨S8x2064x2048, .f32⟩
  | 34 => ⟨S1x2048, .f32⟩
  | 35 => ⟨S2048, .f32⟩
  | 36 => ⟨S1x1x2048, .f32⟩
  | 37 => ⟨S8x2064x2048, .f32⟩
  | 38 => ⟨S8x2064x2048, .f32⟩
  | 39 => ⟨S8x2064x2048, .f32⟩
  | 40 => ⟨S8x2064x2048, .f32⟩
  | 41 => ⟨S_, .f32⟩
  | 42 => ⟨S8x2064x2048, .f32⟩
  | 43 => ⟨S8x2064x2048, .f32⟩
  | 44 => ⟨S_, .f32⟩
  | 45 => ⟨S8x2064x2048, .f32⟩
  | 46 => ⟨S8x2064x2048, .f32⟩
  | 47 => ⟨S8x2064x1024, .f32⟩
  | 48 => ⟨S8x2064x1024, .f32⟩
  | 49 => ⟨S1x4x128x128, .f32⟩
  | 50 => ⟨S4x128x128, .f32⟩
  | 51 => ⟨S1x512, .f32⟩
  | 52 => ⟨S512, .f32⟩
  | 53 => ⟨S_, .f32⟩
  | 54 => ⟨S_, .f32⟩
  | 55 => ⟨S8x2064x512, .f32⟩
  | 56 => ⟨S_, .i32⟩
  | 57 => ⟨S_, .f32⟩
  | 58 => ⟨S8x2065x512, .f32⟩
  | 59 => ⟨S2064, .i32⟩
  | 60 => ⟨S8x2065x128, .f32⟩
  | 61 => ⟨S8x2064x128, .f32⟩
  | 62 => ⟨S_, .i32⟩
  | 63 => ⟨S_, .f32⟩
  | 64 => ⟨S8x2066x128, .f32⟩
  | 65 => ⟨S8x2064x128, .f32⟩
  | 66 => ⟨S_, .i32⟩
  | 67 => ⟨S2064, .i32⟩
  | 68 => ⟨S2064, .i32⟩
  | 69 => ⟨S_, .i32⟩
  | 70 => ⟨S2064, .i32⟩
  | 71 => ⟨S2064, .i32⟩
  | 72 => ⟨S2064, .f32⟩
  | 73 => ⟨S1x2064x1, .f32⟩
  | 74 => ⟨S8x2064x128, .f32⟩
  | 75 => ⟨S8x2064x128, .f32⟩
  | 76 => ⟨S8x2064x128, .f32⟩
  | 77 => ⟨S8x2065x128, .f32⟩
  | 78 => ⟨S8x2064x128, .f32⟩
  | 79 => ⟨S_, .i32⟩
  | 80 => ⟨S_, .f32⟩
  | 81 => ⟨S8x2068x128, .f32⟩
  | 82 => ⟨S8x2064x128, .f32⟩
  | 83 => ⟨S_, .i32⟩
  | 84 => ⟨S2064, .i32⟩
  | 85 => ⟨S2064, .i32⟩
  | 86 => ⟨S_, .i32⟩
  | 87 => ⟨S2064, .i32⟩
  | 88 => ⟨S2064, .i32⟩
  | 89 => ⟨S2064, .f32⟩
  | 90 => ⟨S1x2064x1, .f32⟩
  | 91 => ⟨S8x2064x128, .f32⟩
  | 92 => ⟨S8x2064x128, .f32⟩
  | 93 => ⟨S8x2064x128, .f32⟩
  | 94 => ⟨S8x2065x128, .f32⟩
  | 95 => ⟨S8x2064x128, .f32⟩
  | 96 => ⟨S_, .i32⟩
  | 97 => ⟨S_, .f32⟩
  | 98 => ⟨S8x2072x128, .f32⟩
  | 99 => ⟨S8x2064x128, .f32⟩
  | 100 => ⟨S_, .i32⟩
  | 101 => ⟨S2064, .i32⟩
  | 102 => ⟨S2064, .i32⟩
  | 103 => ⟨S_, .i32⟩
  | 104 => ⟨S2064, .i32⟩
  | 105 => ⟨S2064, .i32⟩
  | 106 => ⟨S2064, .f32⟩
  | 107 => ⟨S1x2064x1, .f32⟩
  | 108 => ⟨S8x2064x128, .f32⟩
  | 109 => ⟨S8x2064x128, .f32⟩
  | 110 => ⟨S8x2064x128, .f32⟩
  | 111 => ⟨S8x2065x128, .f32⟩
  | 112 => ⟨S8x2064x128, .f32⟩
  | 113 => ⟨S_, .i32⟩
  | 114 => ⟨S_, .f32⟩
  | 115 => ⟨S8x2080x128, .f32⟩
  | 116 => ⟨S8x2064x128, .f32⟩
  | 117 => ⟨S_, .i32⟩
  | 118 => ⟨S2064, .i32⟩
  | 119 => ⟨S2064, .i32⟩
  | 120 => ⟨S_, .i32⟩
  | 121 => ⟨S2064, .i32⟩
  | 122 => ⟨S2064, .i32⟩
  | 123 => ⟨S2064, .f32⟩
  | 124 => ⟨S1x2064x1, .f32⟩
  | 125 => ⟨S8x2064x128, .f32⟩
  | 126 => ⟨S8x2064x128, .f32⟩
  | 127 => ⟨S8x2064x128, .f32⟩
  | _ => ⟨S8x2064x1024, .f32⟩

abbrev hbmTy0_1 (i : Nat) : BufTy := match i % 128 with
  | 0 => ⟨S8x2064x1x128, .f32⟩
  | 1 => ⟨S8x2064x1x128, .f32⟩
  | 2 => ⟨S8x2064x1x128, .f32⟩
  | 3 => ⟨S8x2064x1x128, .f32⟩
  | 4 => ⟨S8x2064x4x128, .f32⟩
  | 5 => ⟨S8x2064x4x128, .f32⟩
  | 6 => ⟨S8x2064x4x128, .f32⟩
  | 7 => ⟨S4x128x8x2064, .f32⟩
  | 8 => ⟨S8x2064x4x128, .f32⟩
  | 9 => ⟨S8x2064x512, .f32⟩
  | 10 => ⟨S1x1x512, .f32⟩
  | 11 => ⟨S8x2064x512, .f32⟩
  | 12 => ⟨S8x2064x512, .f32⟩
  | 13 => ⟨S_, .f32⟩
  | 14 => ⟨S8x2064x512, .f32⟩
  | 15 => ⟨S8x2064x512, .f32⟩
  | 16 => ⟨S16512x512, .f32⟩
  | 17 => ⟨S16512x512, .bf16⟩
  | 18 => ⟨S16512x512, .f32⟩
  | 19 => ⟨S16512x512, .bf16⟩
  | 20 => ⟨S16512x512, .f32⟩
  | 21 => ⟨S16512x512, .bf16⟩
  | 22 => ⟨S1x512x1024, .f32⟩
  | 23 => ⟨S512x1024, .f32⟩
  | 24 => ⟨S8x2064x1024, .f32⟩
  | 25 => ⟨S8x2064x1024, .f32⟩
  | 26 => ⟨S16512x1024, .f32⟩
  | 27 => ⟨S16512x1024, .f32⟩
  | _ => ⟨S8x2064x1024, .f32⟩

abbrev hbmTy (i : Nat) : BufTy := match i / 128 with
  | 0 => hbmTy0_0 i
  | 1 => hbmTy0_1 i
  | _ => ⟨S8x2064x1024, .f32⟩

abbrev bufTy : (tb : Table) → Fin (tcTables nBuf tb) → BufTy
  | .hbm, ⟨i, _⟩ => hbmTy i
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_call0_cst : Ref sig .tc := ⟨.hbm, 53, rfl⟩
abbrev main_call0_call0_v0 : Ref sig .tc := ⟨.hbm, 54, rfl⟩
abbrev main_v40 : Ref sig .tc := ⟨.hbm, 55, rfl⟩
abbrev main_c : Ref sig .tc := ⟨.hbm, 56, rfl⟩
abbrev main_call1_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_4 : Ref sig .tc := ⟨.hbm, 62, rfl⟩
abbrev main_call2_v0 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_7 : Ref sig .tc := ⟨.hbm, 79, rfl⟩
abbrev main_call3_v0 : Ref sig .tc := ⟨.hbm, 80, rfl⟩
abbrev main_v58 : Ref sig .tc := ⟨.hbm, 81, rfl⟩
abbrev main_v59 : Ref sig .tc := ⟨.hbm, 82, rfl⟩
abbrev main_c_8 : Ref sig .tc := ⟨.hbm, 83, rfl⟩
abbrev main_v60 : Ref sig .tc := ⟨.hbm, 84, rfl⟩
abbrev main_v61 : Ref sig .tc := ⟨.hbm, 85, rfl⟩
abbrev main_c_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_10 : Ref sig .tc := ⟨.hbm, 96, rfl⟩
abbrev main_call4_v0 : Ref sig .tc := ⟨.hbm, 97, rfl⟩
abbrev main_v71 : Ref sig .tc := ⟨.hbm, 98, rfl⟩
abbrev main_v72 : Ref sig .tc := ⟨.hbm, 99, rfl⟩
abbrev main_c_11 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_13 : Ref sig .tc := ⟨.hbm, 113, rfl⟩
abbrev main_call5_v0 : Ref sig .tc := ⟨.hbm, 114, rfl⟩
abbrev main_v84 : Ref sig .tc := ⟨.hbm, 115, rfl⟩
abbrev main_v85 : Ref sig .tc := ⟨.hbm, 116, rfl⟩
abbrev main_c_14 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_16 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩

abbrev nD : Nat := 1
abbrev τ : Topo := Topo.v7x

variable {F : FTy → Type} [FloatOps F]
-- ==== Kernel4.lean ====
abbrev S8x2048x1024 : Shape := ⟨3, ![8, 2048, 1024]⟩
abbrev S16x1024 : Shape := ⟨2, ![16, 1024]⟩
abbrev S8x2064x512 : Shape := ⟨3, ![8, 2064, 512]⟩
abbrev S8x2064x1024 : Shape := ⟨3, ![8, 2064, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1x688x1024 : Shape := ⟨3, ![1, 688, 1024]⟩
abbrev S1x688x512 : Shape := ⟨3, ![1, 688, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S688x1024 : Shape := ⟨2, ![688, 1024]⟩
abbrev S688x2816 : Shape := ⟨2, ![688, 2816]⟩
abbrev S688x512 : Shape := ⟨2, ![688, 512]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S16x512 : Shape := ⟨2, ![16, 512]⟩
abbrev S1x16x512 : Shape := ⟨3, ![1, 16, 512]⟩
abbrev S1x672x512 : Shape := ⟨3, ![1, 672, 512]⟩
abbrev S672x512 : Shape := ⟨2, ![672, 512]⟩
abbrev S688 : Shape := ⟨1, ![688]⟩
abbrev S688x1 : Shape := ⟨2, ![688, 1]⟩
abbrev S1x1024x256 : Shape := ⟨3, ![1, 1024, 256]⟩
abbrev S1024x256 : Shape := ⟨2, ![1024, 256]⟩
abbrev S688x256 : Shape := ⟨2, ![688, 256]⟩
abbrev S1x2816x512 : Shape := ⟨3, ![1, 2816, 512]⟩
abbrev S2816x512 : Shape := ⟨2, ![2816, 512]⟩

abbrev nBuf : Space → Nat
  | .hbm => 19
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S8x2064x512, .f32⟩
  | .hbm, ⟨3, _⟩ => ⟨S8x2064x1024, .f32⟩
  | .hbm, ⟨4, _⟩ => ⟨S8x2064x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S1024, .f32⟩
  | .hbm, ⟨11, _⟩ => ⟨S2x512x1024, .bf16⟩
  | .hbm, ⟨12, _⟩ => ⟨S2x1024x1024, .bf16⟩
  | .hbm, ⟨13, _⟩ => ⟨S2x1024x5632, .bf16⟩
  | .hbm, ⟨14, _⟩ => ⟨S2x2816x1024, .bf16⟩
  | .hbm, ⟨15, _⟩ => ⟨S8x2064x512, .bf16⟩
  | .hbm, ⟨16, _⟩ => ⟨S2x1x1024, .f32⟩
  | .hbm, ⟨17, _⟩ => ⟨S1x1024, .f32⟩
  | .hbm, ⟨18, _⟩ => ⟨S8x2064x1024, .f32⟩
  | .local _ .vmem, ⟨0, _⟩ => ⟨S1x688x1024, .f32⟩
  | .local _ .vmem, ⟨1, _⟩ => ⟨S1x688x1024, .f32⟩
  | .local _ .vmem, ⟨2, _⟩ => ⟨S16x1024, .f32⟩
  | .local _ .vmem, ⟨3, _⟩ => ⟨S1x688x512, .bf16⟩
  | .local _ .vmem, ⟨4, _⟩ => ⟨S1x688x512, .bf16⟩
  | .local _ .vmem, ⟨5, _⟩ => ⟨S1x688x1024, .f32⟩
  | .local _ .vmem, ⟨6, _⟩ => ⟨S1x688x1024, .f32⟩
  | .local _ .vmem, ⟨7, _⟩ => ⟨S1x688x1024, .f32⟩
  | .local _ .vmem, ⟨8, _⟩ => ⟨S1x688x1024, .f32⟩
  | .local _ .vmem, ⟨9, _⟩ => ⟨S1x512x1024, .bf16⟩
  | .local _ .vmem, ⟨10, _⟩ => ⟨S1x1024x1024, .bf16⟩
  | .local _ .vmem, ⟨11, _⟩ => ⟨S1x1x1024, .f32⟩
  | .local _ .vmem, ⟨12, _⟩ => ⟨S1x1024x5632, .bf16⟩
  | .local _ .vmem, ⟨13, _⟩ => ⟨S1x2816x1024, .bf16⟩
  | .local _ .vmem, ⟨14, _⟩ => ⟨S1x1024, .f32⟩
  | .local _ .vmem, ⟨15, _⟩ => ⟨S1x688x1024, .f32⟩
  | .local _ .vmem, ⟨16, _⟩ => ⟨S1x688x1024, .f32⟩
  | .local _ .vmem, ⟨17, _⟩ => ⟨S688x1024, .bf16⟩
  | .local _ .vmem, ⟨18, _⟩ => ⟨S688x1024, .f32⟩
  | .local _ .vmem, ⟨19, _⟩ => ⟨S688x1024, .bf16⟩
  | .local _ .vmem, ⟨20, _⟩ => ⟨S688x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c688_i32 : BitVec 32 := 688#32
  let v0 : BitVec 32 := Scalar.muli arg1 c688_i32
  let c16_i32 : BitVec 32 := 16#32
  let v1 : BitVec 32 := Scalar.subi v0 c16_i32
  let c0_i32 : BitVec 32 := 0#32
  let v2 : BitVec 32 := Scalar.maxsi v1 c0_i32
  v2
def cc0_transform_0 (i : grid0.Coords) : Fin 3 → Nat :=
  let arg0 : BitVec 32 := BitVec.ofNat 32 (i 0).val
  let arg1 : BitVec 32 := BitVec.ofNat 32 (i 1).val
  let c688_i32 : BitVec 32 := 688#32
  let v0 : BitVec 32 := Scalar.muli arg1 c688_i32
  let c16_i32 : BitVec 32 := 16#32
  let v1 : BitVec 32 := Scalar.subi v0 c16_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8x2048x1024 : Shape := ⟨3, ![8, 2048, 1024]⟩
abbrev S16x1024 : Shape := ⟨2, ![16, 1024]⟩
abbrev S8x2064x512 : Shape := ⟨3, ![8, 2064, 512]⟩
abbrev S8x2064x1024 : Shape := ⟨3, ![8, 2064, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x16x1024 : Shape := ⟨3, ![1, 16, 1024]⟩
abbrev S8x16x1024 : Shape := ⟨3, ![8, 16, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2064x5632 : Shape := ⟨3, ![8, 2064, 5632]⟩
abbrev S8x2064x2816 : Shape := ⟨3, ![8, 2064, 2816]⟩
abbrev S1x2816x1024 : Shape := ⟨3, ![1, 2816, 1024]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S8x2064x512, .f32⟩
  | .hbm, ⟨3, _⟩ => ⟨S8x2064x1024, .f32⟩
  | .hbm, ⟨4, _⟩ => ⟨S8x2064x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S1024, .f32⟩
  | .hbm, ⟨11, _⟩ => ⟨S1x16x1024, .f32⟩
  | .hbm, ⟨12, _⟩ => ⟨S8x16x1024, .f32⟩
  | .hbm, ⟨13, _⟩ => ⟨S8x2064x1024, .f32⟩
  | .hbm, ⟨14, _⟩ => ⟨S1x512x1024, .f32⟩
  | .hbm, ⟨15, _⟩ => ⟨S512x1024, .f32⟩
  | .hbm, ⟨16, _⟩ => ⟨S8x2064x1024, .f32⟩
  | .hbm, ⟨17, _⟩ => ⟨S8x2064x1024, .f32⟩
  | .hbm, ⟨18, _⟩ => ⟨S8x2064x1024, .f32⟩
  | .hbm, ⟨19, _⟩ => ⟨S1x1024x1024, .f32⟩
  | .hbm, ⟨20, _⟩ => ⟨S1024x1024, .f32⟩
  | .hbm, ⟨21, _⟩ => ⟨S8x2064x1024, .f32⟩
  | .hbm, ⟨22, _⟩ => ⟨S8x2064x1024, .f32⟩
  | .hbm, ⟨23, _⟩ => ⟨S1x1024, .f32⟩
  | .hbm, ⟨24, _⟩ => ⟨S1024, .f32⟩
  | .hbm, ⟨25, _⟩ => ⟨S8x2064x1024, .f32⟩
  | .hbm, ⟨26, _⟩ => ⟨S_, .f32⟩
  | .hbm, ⟨27, _⟩ => ⟨S8x2064, .f32⟩
  | .hbm, ⟨28, _⟩ => ⟨S8x2064x1, .f32⟩
  | .hbm, ⟨29, _⟩ => ⟨S_, .f32⟩
  | .hbm, ⟨30, _⟩ => ⟨S8x2064x1, .f32⟩
  | .hbm, ⟨31, _⟩ => ⟨S8x2064x1, .f32⟩
  | .hbm, ⟨32, _⟩ => ⟨S_, .f32⟩
  | .hbm, ⟨33, _⟩ => ⟨S8x2064x1, .f32⟩
  | .hbm, ⟨34, _⟩ => ⟨S8x2064x1, .f32⟩
  | .hbm, ⟨35, _⟩ => ⟨S8x2064x1, .f32⟩
  | .hbm, ⟨36, _⟩ => ⟨S8x2064x1024, .f32⟩
  | .hbm, ⟨37, _⟩ => ⟨S8x2064x1024, .f32⟩
  | .hbm, ⟨38, _⟩ => ⟨S1x1x1024, .f32⟩
  | .hbm, ⟨39, _⟩ => ⟨S8x2064x1024, .f32⟩
  | .hbm, ⟨40, _⟩ => ⟨S8x2064x1024, .f32⟩
  | .hbm, ⟨41, _⟩ => ⟨S1x1024x5632, .f32⟩
  | .hbm, ⟨42, _⟩ => ⟨S1024x5632, .f32⟩
  | .hbm, ⟨43, _⟩ => ⟨S8x2064x5632, .f32⟩
  | .hbm, ⟨44, _⟩ => ⟨S8x2064x2816, .f32⟩
  | .hbm, ⟨45, _⟩ => ⟨S8x2064x2816, .f32⟩
  | .hbm, ⟨46, _⟩ => ⟨S8x2064x2816, .f32⟩
  | .hbm, ⟨47, _⟩ => ⟨S8x2064x2816, .f32⟩
  | .hbm, ⟨48, _⟩ => ⟨S_, .f32⟩
  | .hbm, ⟨49, _⟩ => ⟨S8x2064x2816, .f32⟩
  | .hbm, ⟨50, _⟩ => ⟨S8x2064x2816, .f32⟩
  | .hbm, ⟨51, _⟩ => ⟨S_, .f32⟩
  | .hbm, ⟨52, _⟩ => ⟨S8x2064x2816, .f32⟩
  | .hbm, ⟨53, _⟩ => ⟨S8x2064x2816, .f32⟩
  | .hbm, ⟨54, _⟩ => ⟨S8x2064x2816, .f32⟩
  | .hbm, ⟨55, _⟩ => ⟨S8x2064x2816, .f32⟩
  | .hbm, ⟨56, _⟩ => ⟨S1x2816x1024, .f32⟩
  | .hbm, ⟨57, _⟩ => ⟨S2816x1024, .f32⟩
  | .hbm, ⟨58, _⟩ => ⟨S8x2064x1024, .f32⟩
  | .hbm, ⟨59, _⟩ => ⟨S8x2064x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Kernel5.lean ====
abbrev S8x2048x1024 : Shape := ⟨3, ![8, 2048, 1024]⟩
abbrev S16x1024 : Shape := ⟨2, ![16, 1024]⟩
abbrev S2x1024 : Shape := ⟨2, ![2, 1024]⟩
abbrev S2x1024x4096 : Shape := ⟨3, ![2, 1024, 4096]⟩
abbrev S2x2048 : Shape := ⟨2, ![2, 2048]⟩
abbrev S2x4x128x128 : Shape := ⟨4, ![2, 4, 128, 128]⟩
abbrev S2x512 : Shape := ⟨2, ![2, 512]⟩
abbrev S2x512x1024 : Shape := ⟨3, ![2, 512, 1024]⟩
abbrev S2x1x1024 : Shape := ⟨3, ![2, 1, 1024]⟩
abbrev S2x1x2048 : Shape := ⟨3, ![2, 1, 2048]⟩
abbrev S2x1x512 : Shape := ⟨3, ![2, 1, 512]⟩
abbrev S16512x512 : Shape := ⟨2, ![16512, 512]⟩
abbrev S16512x1024 : Shape := ⟨2, ![16512, 1024]⟩
abbrev S1x688x1024 : Shape := ⟨3, ![1, 688, 1024]⟩
abbrev S1x1x1024 : Shape := ⟨3, ![1, 1, 1024]⟩
abbrev S1x1024x4096 : Shape := ⟨3, ![1, 1024, 4096]⟩
abbrev S1x1x2048 : Shape := ⟨3, ![1, 1, 2048]⟩
abbrev S1x4x128x128 : Shape := ⟨4, ![1, 4, 128, 128]⟩
abbrev S1x1x512 : Shape := ⟨3, ![1, 1, 512]⟩
abbrev S1x512x1024 : Shape := ⟨3, ![1, 512, 1024]⟩
abbrev S688x512 : Shape := ⟨2, ![688, 512]⟩
abbrev S688x1024 : Shape := ⟨2, ![688, 1024]⟩
abbrev S704x512 : Shape := ⟨2, ![704, 512]⟩
abbrev S16x512 : Shape := ⟨2, ![16, 512]⟩
abbrev S1x16x1024 : Shape := ⟨3, ![1, 16, 1024]⟩
abbrev S1x672x1024 : Shape := ⟨3, ![1, 672, 1024]⟩
abbrev S672x1024 : Shape := ⟨2, ![672, 1024]⟩
abbrev S1x1024 : Shape := ⟨2, ![1, 1024]⟩
abbrev S16 : Shape := ⟨1, ![16]⟩
abbrev S16x1 : Shape := ⟨2, ![16, 1]⟩
abbrev S672 : Shape := ⟨1, ![672]⟩
abbrev S672x1 : Shape := ⟨2, ![672, 1]⟩
abbrev S1x1024x512 : Shape := ⟨3, ![1, 1024, 512]⟩
abbrev S1024x512 : Shape := ⟨2, ![1024, 512]⟩
abbrev S688x1 : Shape := ⟨2, ![688, 1]⟩
abbrev S1x512 : Shape := ⟨2, ![1, 512]⟩
abbrev S688x128 : Shape := ⟨2, ![688, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S1x512x512 : Shape := ⟨3, ![1, 512, 512]⟩
abbrev S512x512 : Shape := ⟨2, ![512, 512]⟩

abbrev nBuf : Space → Nat
  | .hbm => 19
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S2x1024, .f32⟩
  | .hbm, ⟨3, _⟩ => ⟨S2x1024x4096, .f32⟩
  | .hbm, ⟨4, _⟩ => ⟨S2x2048, .f32⟩
  | .hbm, ⟨5, _⟩ => ⟨S2x4x128x128, .f32⟩
  | .hbm, ⟨6, _⟩ => ⟨S2x512, .f32⟩
  | .hbm, ⟨7, _⟩ => ⟨S2x512x1024, .f32⟩
  | .hbm, ⟨8, _⟩ => ⟨S2x1024x4096, .bf16⟩
  | .hbm, ⟨9, _⟩ => ⟨S2x4x128x128, .bf16⟩
  | .hbm, ⟨10, _⟩ => ⟨S2x512x1024, .bf16⟩
  | .hbm, ⟨11, _⟩ => ⟨S2x1x1024, .f32⟩
  | .hbm, ⟨12, _⟩ => ⟨S2x1x2048, .f32⟩
  | .hbm, ⟨13, _⟩ => ⟨S2x1x512, .f32⟩
  | .hbm, ⟨14, _⟩ => ⟨S16512x512, .bf16⟩
  | .hbm, ⟨15, _⟩ => ⟨S16512x512, .bf16⟩
  | .hbm, ⟨16, _⟩ => ⟨S16512x512, .bf16⟩
  | .hbm, ⟨17, _⟩ => ⟨S16512x1024, .f32⟩
  | .hbm, ⟨18, _⟩ => ⟨S16512x1024, .f32⟩
  | .local _ .vmem, ⟨0, _⟩ => ⟨S1x688x1024, .f32⟩
  | .local _ .vmem, ⟨1, _⟩ => ⟨S1x688x1024, .f32⟩
  | .local _ .vmem, ⟨2, _⟩ => ⟨S16x1024, .f32⟩
  | .local _ .vmem, ⟨3, _⟩ => ⟨S1x1x1024, .f32⟩
  | .local _ .vmem, ⟨4, _⟩ => ⟨S1x1024x4096, .bf16⟩
  | .local _ .vmem, ⟨5, _⟩ => ⟨S1x1x2048, .f32⟩
  | .local _ .vmem, ⟨6, _⟩ => ⟨S1x4x128x128, .bf16⟩
  | .local _ .vmem, ⟨7, _⟩ => ⟨S1x1x512, .f32⟩
  | .local _ .vmem, ⟨8, _⟩ => ⟨S1x512x1024, .bf16⟩
  | .local _ .vmem, ⟨9, _⟩ => ⟨S688x512, .bf16⟩
  | .local _ .vmem, ⟨10, _⟩ => ⟨S688x512, .bf16⟩
  | .local _ .vmem, ⟨11, _⟩ => ⟨S688x512, .bf16⟩
  | .local _ .vmem, ⟨12, _⟩ => ⟨S688x512, .bf16⟩
  | .local _ .vmem, ⟨13, _⟩ => ⟨S688x512, .bf16⟩
  | .local _ .vmem, ⟨14, _⟩ => ⟨S688x512, .bf16⟩
  | .local _ .vmem, ⟨15, _⟩ => ⟨S688x1024, .f32⟩
  | .local _ .vmem, ⟨16, _⟩ => ⟨S688x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .bf16⟩
  | .local _ .vmem, ⟨20, _⟩ => ⟨S704x512, .f32⟩
  | .local _ .vmem, ⟨21, _⟩ => ⟨S688x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![24], ![false]⟩

def k0_mult1 (i : grid0.Coords) : BitVec 32 :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c688_i32 : BitVec 32 := 688#32
  let v27 : BitVec 32 := Scalar.muli v26 c688_i32
  let c16_i32 : BitVec 32 := 16#32
  let v28 : BitVec 32 := Scalar.subi v27 c16_i32
  let c0_i32_10 : BitVec 32 := 0#32
  let v29 : BitVec 32 := Scalar.maxsi v28 c0_i32_10
  v29
def cc0_transform_0 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c688_i32 : BitVec 32 := 688#32
  let v27 : BitVec 32 := Scalar.muli v26 c688_i32
  let c16_i32 : BitVec 32 := 16#32
  let v28 : BitVec 32 := Scalar.subi v27 c16_i32
  let c0_i32_10 : BitVec 32 := 0#32
  let v29 : BitVec 32 := Scalar.maxsi v28 c0_i32_10
  let v30 : BitVec 32 := v29
  let c0_i32_11 : BitVec 32 := 0#32
  let c0_i32_12 : BitVec 32 := 0#32
  ![v16.toNat, v30.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8x2048x1024 : Shape := ⟨3, ![8, 2048, 1024]⟩
abbrev S16x1024 : Shape := ⟨2, ![16, 1024]⟩
abbrev S2x1024 : Shape := ⟨2, ![2, 1024]⟩
abbrev S2x1024x4096 : Shape := ⟨3, ![2, 1024, 4096]⟩
abbrev S2x2048 : Shape := ⟨2, ![2, 2048]⟩
abbrev S2x4x128x128 : Shape := ⟨4, ![2, 4, 128, 128]⟩
abbrev S2x512 : Shape := ⟨2, ![2, 512]⟩
abbrev S2x512x1024 : Shape := ⟨3, ![2, 512, 1024]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2064x4096 : Shape := ⟨3, ![8, 2064, 4096]⟩
abbrev S8x2064x512 : Shape := ⟨3, ![8, 2064, 512]⟩
abbrev S8x2064x2048 : Shape := ⟨3, ![8, 2064, 2048]⟩
abbrev S1x2048 : Shape := ⟨2, ![1, 2048]⟩
abbrev S2048 : Shape := ⟨1, ![2048]⟩
abbrev S1x1x2048 : Shape := ⟨3, ![1, 1, 2048]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S8x2065x512 : Shape := ⟨3, ![8, 2065, 512]⟩
abbrev S2064 : Shape := ⟨1, ![2064]⟩
abbrev S8x2065x128 : Shape := ⟨3, ![8, 2065, 128]⟩
abbrev S8x2064x128 : Shape := ⟨3, ![8, 2064, 128]⟩
abbrev S8x2066x128 : Shape := ⟨3, ![8, 2066, 128]⟩
abbrev S1x2064x1 : Shape := ⟨3, ![1, 2064, 1]⟩
abbrev S8x2068x128 : Shape := ⟨3, ![8, 2068, 128]⟩
abbrev S8x2072x128 : Shape := ⟨3, ![8, 2072, 128]⟩
abbrev S8x2080x128 : Shape := ⟨3, ![8, 2080, 128]⟩
abbrev S8x2064x1x128 : Shape := ⟨4, ![8, 2064, 1, 128]⟩
abbrev S8x2064x4x128 : Shape := ⟨4, ![8, 2064, 4, 128]⟩
abbrev S4x128x8x2064 : Shape := ⟨4, ![4, 128, 8, 2064]⟩
abbrev S1x1x512 : Shape := ⟨3, ![1, 1, 512]⟩
abbrev S16512x512 : Shape := ⟨2, ![16512, 512]⟩
abbrev S1x512x1024 : Shape := ⟨3, ![1, 512, 1024]⟩
abbrev S512x1024 : Shape := ⟨2, ![512, 1024]⟩
abbrev S16512x1024 : Shape := ⟨2, ![16512, 1024]⟩

abbrev nBuf : Space → Nat
  | .hbm => 150
  | .vmem => 0
  | .smem => 0
  | _ => 0

abbrev hbmTy0_0 (i : Nat) : BufTy := match i % 128 with
  | 0 => ⟨S8x2048x1024, .f32⟩
  | 1 => ⟨S16x1024, .f32⟩
  | 2 => ⟨S2x1024, .f32⟩
  | 3 => ⟨S2x1024x4096, .f32⟩
  | 4 => ⟨S2x2048, .f32⟩
  | 5 => ⟨S2x4x128x128, .f32⟩
  | 6 => ⟨S2x512, .f32⟩
  | 7 => ⟨S2x512x1024, .f32⟩
  | 8 => ⟨S1x16x1024, .f32⟩
  | 9 => ⟨S8x16x1024, .f32⟩
  | 10 => ⟨S8x2064x1024, .f32⟩
  | 11 => ⟨S1x1024, .f32⟩
  | 12 => ⟨S1024, .f32⟩
  | 13 => ⟨S8x2064x1024, .f32⟩
  | 14 => ⟨S_, .f32⟩
  | 15 => ⟨S8x2064, .f32⟩
  | 16 => ⟨S8x2064x1, .f32⟩
  | 17 => ⟨S_, .f32⟩
  | 18 => ⟨S8x2064x1, .f32⟩
  | 19 => ⟨S8x2064x1, .f32⟩
  | 20 => ⟨S_, .f32⟩
  | 21 => ⟨S8x2064x1, .f32⟩
  | 22 => ⟨S8x2064x1, .f32⟩
  | 23 => ⟨S8x2064x1, .f32⟩
  | 24 => ⟨S8x2064x1024, .f32⟩
  | 25 => ⟨S8x2064x1024, .f32⟩
  | 26 => ⟨S1x1x1024, .f32⟩
  | 27 => ⟨S8x2064x1024, .f32⟩
  | 28 => ⟨S8x2064x1024, .f32⟩
  | 29 => ⟨S1x1024x4096, .f32⟩
  | 30 => ⟨S1024x4096, .f32⟩
  | 31 => ⟨S8x2064x4096, .f32⟩
  | 32 => ⟨S8x2064x512, .f32⟩
  | 33 => ⟨S8x2064x512, .f32⟩
  | 34 => ⟨S8x2064x512, .f32⟩
  | 35 => ⟨S8x2064x512, .f32⟩
  | 36 => ⟨S8x2064x2048, .f32⟩
  | 37 => ⟨S1x2048, .f32⟩
  | 38 => ⟨S2048, .f32⟩
  | 39 => ⟨S1x1x2048, .f32⟩
  | 40 => ⟨S8x2064x2048, .f32⟩
  | 41 => ⟨S8x2064x2048, .f32⟩
  | 42 => ⟨S8x2064x2048, .f32⟩
  | 43 => ⟨S8x2064x2048, .f32⟩
  | 44 => ⟨S_, .f32⟩
  | 45 => ⟨S8x2064x2048, .f32⟩
  | 46 => ⟨S8x2064x2048, .f32⟩
  | 47 => ⟨S_, .f32⟩
  | 48 => ⟨S8x2064x2048, .f32⟩
  | 49 => ⟨S8x2064x2048, .f32⟩
  | 50 => ⟨S8x2064x1024, .f32⟩
  | 51 => ⟨S8x2064x1024, .f32⟩
  | 52 => ⟨S1x4x128x128, .f32⟩
  | 53 => ⟨S4x128x128, .f32⟩
  | 54 => ⟨S1x512, .f32⟩
  | 55 => ⟨S512, .f32⟩
  | 56 => ⟨S_, .f32⟩
  | 57 => ⟨S_, .f32⟩
  | 58 => ⟨S8x2064x512, .f32⟩
  | 59 => ⟨S_, .i32⟩
  | 60 => ⟨S_, .f32⟩
  | 61 => ⟨S8x2065x512, .f32⟩
  | 62 => ⟨S2064, .i32⟩
  | 63 => ⟨S_, .i32⟩
  | 64 => ⟨S2064, .i32⟩
  | 65 => ⟨S2064, .i32⟩
  | 66 => ⟨S8x2065x128, .f32⟩
  | 67 => ⟨S8x2064x128, .f32⟩
  | 68 => ⟨S_, .i32⟩
  | 69 => ⟨S_, .f32⟩
  | 70 => ⟨S8x2066x128, .f32⟩
  | 71 => ⟨S8x2064x128, .f32⟩
  | 72 => ⟨S_, .i32⟩
  | 73 => ⟨S2064, .i32⟩
  | 74 => ⟨S2064, .i32⟩
  | 75 => ⟨S2064, .f32⟩
  | 76 => ⟨S1x2064x1, .f32⟩
  | 77 => ⟨S8x2064x128, .f32⟩
  | 78 => ⟨S8x2064x128, .f32⟩
  | 79 => ⟨S8x2064x128, .f32⟩
  | 80 => ⟨S8x2065x128, .f32⟩
  | 81 => ⟨S8x2064x128, .f32⟩
  | 82 => ⟨S_, .i32⟩
  | 83 => ⟨S_, .f32⟩
  | 84 => ⟨S8x2068x128, .f32⟩
  | 85 => ⟨S8x2064x128, .f32⟩
  | 86 => ⟨S_, .i32⟩
  | 87 => ⟨S2064, .i32⟩
  | 88 => ⟨S2064, .i32⟩
  | 89 => ⟨S2064, .f32⟩
  | 90 => ⟨S1x2064x1, .f32⟩
  | 91 => ⟨S8x2064x128, .f32⟩
  | 92 => ⟨S8x2064x128, .f32⟩
  | 93 => ⟨S8x2064x128, .f32⟩
  | 94 => ⟨S8x2065x128, .f32⟩
  | 95 => ⟨S8x2064x128, .f32⟩
  | 96 => ⟨S_, .i32⟩
  | 97 => ⟨S_, .f32⟩
  | 98 => ⟨S8x2072x128, .f32⟩
  | 99 => ⟨S8x2064x128, .f32⟩
  | 100 => ⟨S_, .i32⟩
  | 101 => ⟨S2064, .i32⟩
  | 102 => ⟨S2064, .i32⟩
  | 103 => ⟨S2064, .f32⟩
  | 104 => ⟨S1x2064x1, .f32⟩
  | 105 => ⟨S8x2064x128, .f32⟩
  | 106 => ⟨S8x2064x128, .f32⟩
  | 107 => ⟨S8x2064x128, .f32⟩
  | 108 => ⟨S8x2065x128, .f32⟩
  | 109 => ⟨S8x2064x128, .f32⟩
  | 110 => ⟨S_, .i32⟩
  | 111 => ⟨S_, .f32⟩
  | 112 => ⟨S8x2080x128, .f32⟩
  | 113 => ⟨S8x2064x128, .f32⟩
  | 114 => ⟨S_, .i32⟩
  | 115 => ⟨S2064, .i32⟩
  | 116 => ⟨S2064, .i32⟩
  | 117 => ⟨S2064, .f32⟩
  | 118 => ⟨S1x2064x1, .f32⟩
  | 119 => ⟨S8x2064x128, .f32⟩
  | 120 => ⟨S8x2064x128, .f32⟩
  | 121 => ⟨S8x2064x128, .f32⟩
  | 122 => ⟨S8x2064x1x128, .f32⟩
  | 123 => ⟨S8x2064x1x128, .f32⟩
  | 124 => ⟨S8x2064x1x128, .f32⟩
  | 125 => ⟨S8x2064x1x128, .f32⟩
  | 126 => ⟨S8x2064x4x128, .f32⟩
  | 127 => ⟨S8x2064x4x128, .f32⟩
  | _ => ⟨S8x2048x1024, .f32⟩

abbrev hbmTy0_1 (i : Nat) : BufTy := match i % 128 with
  | 0 => ⟨S8x2064x4x128, .f32⟩
  | 1 => ⟨S4x128x8x2064, .f32⟩
  | 2 => ⟨S8x2064x4x128, .f32⟩
  | 3 => ⟨S8x2064x512, .f32⟩
  | 4 => ⟨S1x1x512, .f32⟩
  | 5 => ⟨S8x2064x512, .f32⟩
  | 6 => ⟨S8x2064x512, .f32⟩
  | 7 => ⟨S_, .f32⟩
  | 8 => ⟨S8x2064x512, .f32⟩
  | 9 => ⟨S8x2064x512, .f32⟩
  | 10 => ⟨S16512x512, .f32⟩
  | 11 => ⟨S16512x512, .bf16⟩
  | 12 => ⟨S16512x512, .f32⟩
  | 13 => ⟨S16512x512, .bf16⟩
  | 14 => ⟨S16512x512, .f32⟩
  | 15 => ⟨S16512x512, .bf16⟩
  | 16 => ⟨S1x512x1024, .f32⟩
  | 17 => ⟨S512x1024, .f32⟩
  | 18 => ⟨S8x2064x1024, .f32⟩
  | 19 => ⟨S8x2064x1024, .f32⟩
  | 20 => ⟨S16512x1024, .f32⟩
  | 21 => ⟨S16512x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_call0_cst : Ref sig .tc := ⟨.hbm, 56, rfl⟩
abbrev main_call0_call0_v0 : Ref sig .tc := ⟨.hbm, 57, rfl⟩
abbrev main_v43 : Ref sig .tc := ⟨.hbm, 58, rfl⟩
abbrev main_c : Ref sig .tc := ⟨.hbm, 59, rfl⟩
abbrev main_call1_v0 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_call2_v0 : Ref sig .tc := ⟨.hbm, 69, rfl⟩
abbrev main_v50 : Ref sig .tc := ⟨.hbm, 70, rfl⟩
abbrev main_v51 : Ref sig .tc := ⟨.hbm, 71, rfl⟩
abbrev main_c_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_7 : Ref sig .tc := ⟨.hbm, 82, rfl⟩
abbrev main_call3_v0 : Ref sig .tc := ⟨.hbm, 83, rfl⟩
abbrev main_v61 : Ref sig .tc := ⟨.hbm, 84, rfl⟩
abbrev main_v62 : Ref sig .tc := ⟨.hbm, 85, rfl⟩
abbrev main_c_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_9 : Ref sig .tc := ⟨.hbm, 96, rfl⟩
abbrev main_call4_v0 : Ref sig .tc := ⟨.hbm, 97, rfl⟩
abbrev main_v72 : Ref sig .tc := ⟨.hbm, 98, rfl⟩
abbrev main_v73 : Ref sig .tc := ⟨.hbm, 99, rfl⟩
abbrev main_c_10 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_11 : Ref sig .tc := ⟨.hbm, 110, rfl⟩
abbrev main_call5_v0 : Ref sig .tc := ⟨.hbm, 111, rfl⟩
abbrev main_v83 : Ref sig .tc := ⟨.hbm, 112, rfl⟩
abbrev main_v84 : Ref sig .tc := ⟨.hbm, 113, rfl⟩
abbrev main_c_12 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_13 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩

abbrev nD : Nat := 1
abbrev τ : Topo := Topo.v7x

variable {F : FTy → Type} [FloatOps F]
-- ==== Proof.Slab.lean ====
/-
  Memory held as whole arrays and as stacks of slabs: what a load of a window and a store of a window do to
  the contents of a memref that is owned whole.
-/
module

public import Idealize.ShloMosaic.Lib.Pipeline.FrameBody
public import Idealize.ShloMosaic.Lib.VecWindow
public import Idealize.ShloMosaic.Lib.Writes
public import Idealize.ShloMosaic.Lib.Updates.Own
public import Idealize.ShloMosaic.Lib.LaneScatter.Own
public import Idealize.ShloMosaic.Lib.Pipeline.Value
public import Idealize.ShloMosaic.Lib.Tactic

@[expose] public section

set_option maxRecDepth 16384

noncomputable section

namespace Cert.Slab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {α : Type}

local notation "𝕄" => MT nD τ sig Ix Val Name U Lvl

/-- A load of a window of a memref owned at `X` continues at that window of `X`. -/
theorem wp_load_owns {𝒱 : Variants} {c : Thread nD τ} {bd : Option 𝒱.V} {E : Set Name} {cs : CoreSpace} {s : Shape} {e : EltTy}
    {M : Memref sig c.2.kind cs s e} {off size : Fin s.rank → ℕ} {inb : ∀ a, off a + size a ≤ s.size a}
    {hl : M.view.LoadsAt (Rect.unit off size inb).toLoadRect} {X : s.Idx → Val e}
    {k : ((Rect.unit off size inb).toLoadRect.shape.Idx → Val e) → Prog (TpuEff nD τ sig Val Λ c.2) α} {Q : α → sProp 𝕄} :
    (owns c M fullShare X : sProp 𝕄) ⊢ iprop((owns c M fullShare X -∗ wp frame (wpE defs 𝒱 c bd) E (k (window X off size inb)) Q)
      -∗ wp frame (wpE defs 𝒱 c bd) E (.op (.load M (Rect.unit off size inb).toLoadRect hl) k) Q) := by
  iintro H Hk
  icases (Updates.owns_read c M X) $$ H with ⟨%f, H, %hf⟩
  iapply (wp_load 𝒱 c bd E (m := M) (S := M.view.set) (f := f) (q := fullShare) (View.setOn_subset_set _ _)) $$ H
  iintro H
  rw [View.readAt_unit M.view f inb rfl inb, hf]
  iapply Hk
  iapply (LaneScatter.raw_owns c M hf) $$ H

/-- A store of a window of a memref owned at `X` continues with the window put into `X`. -/
theorem wp_store_owns {𝒱 : Variants} {c : Thread nD τ} {bd : Option 𝒱.V} {E : Set Name} {cs : CoreSpace} {s : Shape} {e : EltTy}
    {M : Memref sig c.2.kind cs s e} {off size : Fin s.rank → ℕ} {inb : ∀ a, off a + size a ≤ s.size a}
    {w : (Rect.unit off size inb).shape.Idx → Val e}
    {hx : (M.access (Rect.unit off size inb)).Stores Finset.univ} {hm : Finset.univ = Finset.univ ∨ ∀ a, (Rect.unit off size inb).stride a = 1}
    {X : s.Idx → Val e}
    {k : PUnit → Prog (TpuEff nD τ sig Val Λ c.2) α} {Q : α → sProp 𝕄} :
    (owns c M fullShare X : sProp 𝕄) ⊢ iprop((owns c M fullShare (put X off size w) -∗ wp frame (wpE defs 𝒱 c bd) E (k ⟨⟩) Q)
      -∗ wp frame (wpE defs 𝒱 c bd) E (.op (.store M (Rect.unit off size inb) w Finset.univ hx hm) k) Q) := by
  iintro H Hk
  icases (Updates.owns_read c M X) $$ H with ⟨%f, H, %hf⟩
  iapply (wp_store_writes₀ 𝒱 c bd E (m := M) (S := M.view.set) (f := f) (hx := hx) (hm := hm) (k := k)
    (Memref.setOn_access_subset M _ _)) $$ H
  iintro H
  iapply Hk
  iapply (LaneScatter.raw_owns c M (x := put X off size w)
    (by rw [View.read_writes_cons_put M.view f inb w [] rfl, View.writes_nil, hf])) $$ H

/-! ## Stacks of slabs -/

section Stack

variable {β : Type} {N a b : ℕ}

/-- The rank-3 array whose slab at `n` is `X n`. -/
def stack (X : ℕ → (⟨2, ![a, b]⟩ : Shape).Idx → β) : (⟨3, ![N, a, b]⟩ : Shape).Idx → β :=
  fun x => X (x 0).val (fun j => x j.succ)

/-- A whole window of an array is the array. -/
theorem window_full {s : Shape} (X : s.Idx → β) (off : Fin s.rank → ℕ) (inb : ∀ a, off a + s.size a ≤ s.size a) :
    window X off s.size inb = X := by
  funext y
  exact congrArg X (Rect.emb_unit_full inb y)

/-- Every array of `N` slabs is a stack. -/
theorem exists_stack (Z : (⟨3, ![N, a, b]⟩ : Shape).Idx → β) (hN : 0 < N) : ∃ X, Z = stack X := by
  refine ⟨fun n y => Z (Fin.cons (⟨n % N, Nat.mod_lt _ hN⟩ : Fin N) y), funext fun x => ?_⟩
  unfold stack
  congr 1
  funext j
  refine Fin.cases ?_ (fun j => rfl) j
  exact Fin.ext (Nat.mod_eq_of_lt (x 0).isLt).symm

/-- A window inside one slab, read without its unit axis, is a window of the slab. -/
theorem cast_window (X : ℕ → (⟨2, ![a, b]⟩ : Shape).Idx → β) (n r0 c0 h w : ℕ)
    (inb : ∀ j, (![n, r0, c0] : Fin 3 → ℕ) j + (![1, h, w] : Fin 3 → ℕ) j ≤ (![N, a, b] : Fin 3 → ℕ) j)
    (inb' : ∀ j, (![r0, c0] : Fin 2 → ℕ) j + (![h, w] : Fin 2 → ℕ) j ≤ (![a, b] : Fin 2 → ℕ) j)
    (hc : (⟨3, ![1, h, w]⟩ : Shape).ShapeCasts ⟨2, ![h, w]⟩) :
    shapeCast ⟨2, ![h, w]⟩ (window (s := ⟨3, ![N, a, b]⟩) (stack X) ![n, r0, c0] ![1, h, w] inb) hc
      = window (s := ⟨2, ![a, b]⟩) (X n) ![r0, c0] ![h, w] inb' := by
  funext y
  refine (shapeCast_dropUnit_apply ![h, w] _ hc y).trans ?_
  unfold window stack
  congr 1

/-- A whole slab, read without its unit axis. -/
theorem cast_slab (X : ℕ → (⟨2, ![a, b]⟩ : Shape).Idx → β) (n : ℕ)
    (inb : ∀ j, (![n, 0, 0] : Fin 3 → ℕ) j + (![1, a, b] : Fin 3 → ℕ) j ≤ (![N, a, b] : Fin 3 → ℕ) j)
    (hc : (⟨3, ![1, a, b]⟩ : Shape).ShapeCasts ⟨2, ![a, b]⟩) :
    shapeCast ⟨2, ![a, b]⟩ (window (s := ⟨3, ![N, a, b]⟩) (stack X) ![n, 0, 0] ![1, a, b] inb) hc = X n := by
  rw [cast_window X n 0 0 a b inb (by intro j; fin_cases j <;> simp) hc]
  exact window_full (s := ⟨2, ![a, b]⟩) (X n) _ _

/-- A window put inside one slab changes that slab. -/
theorem put_stack (X : ℕ → (⟨2, ![a, b]⟩ : Shape).Idx → β) (n r0 c0 h w : ℕ) (v : (⟨2, ![h, w]⟩ : Shape).Idx → β)
    (hc : (⟨2, ![h, w]⟩ : Shape).ShapeCasts ⟨3, ![1, h, w]⟩) :
    put (s := ⟨3, ![N, a, b]⟩) (stack X) ![n, r0, c0] ![1, h, w] (shapeCast ⟨3, ![1, h, w]⟩ v hc)
      = stack (Function.update X n (put (s := ⟨2, ![a, b]⟩) (X n) ![r0, c0] ![h, w] v)) := by
  funext y
  unfold put stack
  by_cases hn : (y 0).val = n
  · rw [hn, Function.update_self]
    by_cases hr : ∀ j : Fin 2, (![r0, c0] : Fin 2 → ℕ) j ≤ (y j.succ).val ∧ (y j.succ).val < (![r0, c0] : Fin 2 → ℕ) j + (![h, w] : Fin 2 → ℕ) j
    · have h3 : ∀ j : Fin 3, (![n, r0, c0] : Fin 3 → ℕ) j ≤ (y j).val ∧ (y j).val < (![n, r0, c0] : Fin 3 → ℕ) j + (![1, h, w] : Fin 3 → ℕ) j := by
        intro j
        refine Fin.cases ?_ (fun j => hr j) j
        show n ≤ (y 0).val ∧ (y 0).val < n + 1
        omega
      refine (dif_pos h3).trans ?_
      refine Eq.trans ?_ (dif_pos hr).symm
      refine (shapeCast_addUnit_apply ![h, w] v hc _).trans ?_
      congr 1
    · have h3 : ¬ ∀ j : Fin 3, (![n, r0, c0] : Fin 3 → ℕ) j ≤ (y j).val ∧ (y j).val < (![n, r0, c0] : Fin 3 → ℕ) j + (![1, h, w] : Fin 3 → ℕ) j :=
        fun h3 => hr fun j => h3 j.succ
      refine (dif_neg h3).trans ?_
      refine Eq.trans ?_ (dif_neg hr).symm
      rfl
  · have h3 : ¬ ∀ j : Fin 3, (![n, r0, c0] : Fin 3 → ℕ) j ≤ (y j).val ∧ (y j).val < (![n, r0, c0] : Fin 3 → ℕ) j + (![1, h, w] : Fin 3 → ℕ) j := by
      intro h3
      have h0 : n ≤ (y 0).val ∧ (y 0).val < n + 1 := h3 0
      omega
    refine (dif_neg h3).trans ?_
    rw [Function.update_of_ne hn]

/-- A whole put is its payload. -/
theorem put_full {s : Shape} (X w : s.Idx → β) (off : Fin s.rank → ℕ) (h0 : ∀ a, off a = 0) : put X off s.size w = w := by
  funext y
  unfold put
  have h : ∀ a, off a ≤ (y a).val ∧ (y a).val < off a + s.size a := fun a => by
    have := h0 a; have := (y a).isLt; omega
  rw [dif_pos h]
  exact congrArg w (funext fun a => Fin.ext (by
    show (y a).val - off a = (y a).val
    have := h0 a; omega))

/-- A whole slab put in place. -/
theorem put_slab (X : ℕ → (⟨2, ![a, b]⟩ : Shape).Idx → β) (n : ℕ) (v : (⟨2, ![a, b]⟩ : Shape).Idx → β)
    (hc : (⟨2, ![a, b]⟩ : Shape).ShapeCasts ⟨3, ![1, a, b]⟩) :
    put (s := ⟨3, ![N, a, b]⟩) (stack X) ![n, 0, 0] ![1, a, b] (shapeCast ⟨3, ![1, a, b]⟩ v hc)
      = stack (Function.update X n v) := by
  rw [put_stack X n 0 0 a b v hc]
  congr 2
  exact put_full (s := ⟨2, ![a, b]⟩) (X n) v ![0, 0] (by intro j; fin_cases j <;> rfl)

end Stack

end Cert.Slab
end
-- ==== Proof.Model.lean ====
/-
  The attention body as pure steps on its memory: what each stage of the pipelined schedule leaves in the arrays it
  writes, and the order in which the body runs the stages.
-/
module

public import proofs.«01_k».proof.Proof.Gen.KernelIdeal
public import proofs.«01_k».proof.Proof.Slab
public import Idealize.ShloMosaic.Lib.Pointwise.Index

@[expose] public section

set_option maxRecDepth 16384

noncomputable section

namespace Cert.KernelIdeal.Attn

open Cert.KernelIdeal Cert.KernelIdeal.Gen Idealize.ShloMosaic Idealize.SL.Sem

variable {F : FTy → Type} [FloatOps F] [Named F]

/-- The memory of one grid point: the blocks of queries, keys and values, the two tables, the output block, and the
    scratch arrays as slabs. -/
structure St (F : FTy → Type) where
  q : Vec F S1x2064x128 .bf16
  k : Vec F S1x2064x128 .bf16
  v : Vec F S1x2064x128 .bf16
  tri : Vec F S256x256 .bf16
  eye : Vec F S256x128 .bf16
  o : Vec F S1x2064x128 .bf16
  mask : ℕ → Vec F S128x256 .bf16
  qs : ℕ → Vec F S256x128 .bf16
  kt : ℕ → Vec F S128x128 .bf16
  vc : ℕ → Vec F S128x128 .bf16
  acc : ℕ → Vec F S256x128 .f32
  z : ℕ → Vec F S256x256 .f32
  sp : ℕ → Vec F S256x256 .bf16
  incl : ℕ → Vec F S256x256 .f32
  w : ℕ → Vec F S256x256 .bf16

/-- One stage of the body. -/
inductive Op where
  | mask (kd : ℕ)
  | init (i : ℕ)
  | zero
  | raw (i c kd sl : ℕ)
  | softplus (sl : ℕ)
  | suffix (sl : ℕ)
  | weights (sl : ℕ)
  | accum (i c sl : ℕ)
  | out (i : ℕ)
  deriving DecidableEq

def lane : IVec S128x128 32 := iota .tc S128x128 32 [1] iota_S128x128_d1_w32

/-- The mask of one kind: zero where the key takes part, the masked value elsewhere. -/
def causal (lo off : BitVec 32) : FVec F S128x256 .bf16 :=
  truncf .bf16 (select (andi (cmpi .sge (iota .tc S128x256 32 [1] iota_S128x256_d1_w32) (broadcast S128x256 lo))
      (cmpi .slt (iota .tc S128x256 32 [1] iota_S128x256_d1_w32) (addi (iota .tc S128x256 32 [0] iota_S128x256_d0_w32) (broadcast S128x256 off))))
    (broadcast S128x256 (Scalar.ofBits .f32 0x00000000#32 : F .f32)) (broadcast S128x256 (Named.named κ "masked" 0xF149F2CA#32 : F .f32))) bitsLt_bf16_f32

def maskOf : ℕ → FVec F S128x256 .bf16
  | 0 => broadcast S128x256 (Scalar.ofBits .bf16 0x0000#16 : F .bf16)
  | 1 => causal 0#32 0#32
  | 2 => causal 0#32 128#32
  | _ => causal 128#32 128#32

/-- Rows `128 i …` of a block, zero past its end. -/
def chunk (x : Vec F S1x2064x128 .bf16) (i : ℕ) : FVec F S128x128 .bf16 := fun y =>
  if h : 128 * i + (y 0).val < 2064 then x (ix3 (0 : Fin 1) ⟨128 * i + (y 0).val, h⟩ (y 1)) else (Scalar.ofBits .bf16 0x0000#16 : F .bf16)

def qLo (q : FVec F S128x128 .bf16) : FVec F S128x128 .bf16 :=
  select (cmpi .slt lane (broadcast S128x128 64#32)) q (broadcast S128x128 (Scalar.ofBits .bf16 0x0000#16 : F .bf16))
def qHi (q : FVec F S128x128 .bf16) : FVec F S128x128 .bf16 :=
  select (cmpi .sge lane (broadcast S128x128 64#32)) q (broadcast S128x128 (Scalar.ofBits .bf16 0x0000#16 : F .bf16))

def qStack (x : Vec F S256x128 .bf16) (q : FVec F S128x128 .bf16) : Vec F S256x128 .bf16 :=
  VecWindow.put (s := S256x128) (VecWindow.put (s := S256x128) x ![0, 0] ![128, 128] (qLo q)) ![128, 0] ![128, 128] (qHi q)

def kT (k : FVec F S128x128 .bf16) : FVec F S128x128 .bf16 := transpose S128x128 [1, 0] k transposes_S128x128_p1_0_S128x128

def zOf (q : FVec F S256x128 .bf16) (eye : FVec F S256x128 .bf16) (k0 k1 : FVec F S128x128 .bf16) (m : FVec F S128x256 .bf16) : FVec F S256x256 .f32 :=
  matmul dot_S256x256_S256x256_S256x256_1_0_0_1_n_n none
    (concatenate S256x256 1 [⟨S256x128, q⟩, ⟨S256x128, eye⟩] concatenates_S256x128_S256x128_S256x256_d1)
    (concatenate S256x256 0 [⟨S128x256, concatenate S128x256 1 [⟨S128x128, k0⟩, ⟨S128x128, k1⟩] concatenates_S128x128_S128x128_S128x256_d1⟩, ⟨S128x256, m⟩]
      concatenates_S128x256_S128x256_S256x256_d0)
    (constant S256x256 .f32 0x00000000#32)

def spOf (z : FVec F S256x256 .f32) : FVec F S256x256 .bf16 :=
  addf (maximumf (truncf .bf16 z bitsLt_bf16_f32) (broadcast S256x256 (Scalar.ofBits .bf16 0x0000#16 : F .bf16)))
    (log (addf (broadcast S256x256 (Scalar.ofBits .bf16 0x3F80#16 : F .bf16))
      (exp (subf (broadcast S256x256 (Scalar.ofBits .bf16 0x0000#16 : F .bf16)) (absf (truncf .bf16 z bitsLt_bf16_f32))))))

def inclOf (sp tri : FVec F S256x256 .bf16) : FVec F S256x256 .f32 :=
  matmul dot_S256x256_S256x256_S256x256_1_0_0_1_n_n none sp tri (constant S256x256 .f32 0x00000000#32)

def wOf (z incl : FVec F S256x256 .f32) : FVec F S256x256 .bf16 := truncf .bf16 (exp (addf z incl)) bitsLt_bf16_f32

def accRaw (acc : FVec F S256x128 .f32) (dec : FVec F S256x1 .f32) (w : FVec F S256x256 .bf16) (v0 v1 : FVec F S128x128 .bf16) : FVec F S256x128 .f32 :=
  addf (mulf acc (broadcastTo S256x128 (exp dec) broadcasts_S256x1_S256x128))
    (matmul dot_S256x256_S256x128_S256x128_1_0_0_1_n_n none w
      (concatenate S256x128 0 [⟨S128x128, v0⟩, ⟨S128x128, v1⟩] concatenates_S128x128_S128x128_S256x128_d0) (constant S256x128 .f32 0x00000000#32))

def accOf (acc : FVec F S256x128 .f32) (incl : FVec F S256x256 .f32) (w : FVec F S256x256 .bf16) (v0 v1 : FVec F S128x128 .bf16) : FVec F S256x128 .f32 :=
  accRaw acc (VecWindow.window (s := S256x256) incl ![0, 0] ![256, 1] (by decide) : FVec F S256x1 .f32) w v0 v1

def outOf (acc : FVec F S256x128 .f32) : FVec F S128x128 .bf16 :=
  truncf .bf16 (select (cmpi .slt lane (broadcast S128x128 64#32)) (extractStridedSlice S128x128 ![0, 0] acc slices_S256x128_o0_0_S128x128)
    (extractStridedSlice S128x128 ![128, 0] acc slices_S256x128_o128_0_S128x128)) bitsLt_bf16_f32

/-- The output block with rows `128 i …` replaced. -/
def setOut (o : Vec F S1x2064x128 .bf16) (i : ℕ) (x : FVec F S128x128 .bf16) : Vec F S1x2064x128 .bf16 := fun y =>
  if h : 128 * i ≤ (y 1).val ∧ (y 1).val < 128 * i + 128 then x (ix2 (⟨(y 1).val - 128 * i, by omega⟩ : Fin 128) (y 2)) else o y

def step (s : St F) : Op → St F
  | .mask kd => { s with mask := Function.update s.mask kd (maskOf kd) }
  | .init i => { s with
      qs := Function.update s.qs i (qStack (s.qs i) (chunk s.q i))
      kt := Function.update s.kt i (kT (chunk s.k i))
      vc := Function.update s.vc i (chunk s.v i) }
  | .zero => { s with acc := fun _ => broadcast S256x128 (Scalar.ofBits .f32 0x00000000#32 : F .f32) }
  | .raw i c kd sl => { s with z := Function.update s.z sl (zOf (s.qs i) s.eye (s.kt c) (s.kt (c + 1)) (s.mask kd)) }
  | .softplus sl => { s with sp := Function.update s.sp sl (spOf (s.z sl)) }
  | .suffix sl => { s with incl := Function.update s.incl sl (inclOf (s.sp sl) s.tri) }
  | .weights sl => { s with w := Function.update s.w sl (wOf (s.z sl) (s.incl sl)) }
  | .accum i c sl => { s with acc := Function.update s.acc i (accOf (s.acc i) (s.incl sl) (s.w sl) (s.vc c) (s.vc (c + 1))) }
  | .out i => { s with o := setOut s.o i (outOf (s.acc i)) }

/-- The memory after a list of stages. -/
def steps (s : St F) (L : List Op) : St F := L.foldl step s

/-- The number of key blocks of query block `i`. -/
def nKeys (i : ℕ) : ℕ := i / 2 + 1

/-- The blocks of the schedule: query block, first key chunk, mask kind. -/
def blocks : List (ℕ × ℕ × ℕ) := (List.range 17).flatMap fun i =>
  (List.range (nKeys i)).map fun j =>
    if j + 1 < nKeys i then (i, 2 * j, 0) else if i = 16 then (16, 15, 3) else (i, 2 * j, 1 + i % 2)

/-- Stage `r` of block `b`. -/
def stageOp (b r : ℕ) : Op :=
  match blocks.getD b (0, 0, 0), r with
  | (i, c, kd), 0 => .raw i c kd (b % 11)
  | _, 1 => .softplus (b % 11)
  | _, 2 => .suffix (b % 11)
  | _, 3 => .weights (b % 11)
  | (i, c, _), _ => .accum i c (b % 11)

/-- The stages run at one trip of the pipeline. -/
def trip (t : ℕ) : List Op := [4, 3, 2, 1, 0].filterMap fun r => if r ≤ t ∧ t - r < 81 then some (stageOp (t - r) r) else none

/-- Everything the body does, in order. -/
def schedule : List Op :=
  (List.range 4).map Op.mask ++ (List.range 17).map Op.init ++ [Op.zero] ++ (List.range 85).flatMap trip ++ (List.range 17).map Op.out

end Cert.KernelIdeal.Attn
end
-- ==== Proof.Walk.lean ====
/-
  The body of the attention kernel, stage by stage: a program that starts with the loads and the stores of one stage
  takes the memory to what that stage leaves (`Model.lean`) and goes on.
-/
module

public import proofs.«01_k».proof.Proof.Model
public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The memrefs the body runs on. -/
structure Refs where
  q : Memref sig .tc .vmem S1x2064x128 .bf16
  k : Memref sig .tc .vmem S1x2064x128 .bf16
  v : Memref sig .tc .vmem S1x2064x128 .bf16
  tri : Memref sig .tc .vmem S256x256 .bf16
  eye : Memref sig .tc .vmem S256x128 .bf16
  o : Memref sig .tc .vmem S1x2064x128 .bf16
  mask : Memref sig .tc .vmem S4x128x256 .bf16
  qs : Memref sig .tc .vmem S17x256x128 .bf16
  kt : Memref sig .tc .vmem S17x128x128 .bf16
  vc : Memref sig .tc .vmem S17x128x128 .bf16
  acc : Memref sig .tc .vmem S17x256x128 .f32
  z : Memref sig .tc .vmem S11x256x256 .f32
  sp : Memref sig .tc .vmem S11x256x256 .bf16
  incl : Memref sig .tc .vmem S11x256x256 .f32
  w : Memref sig .tc .vmem S11x256x256 .bf16

/-- Every memref is owned whole, at the memory `s`. -/
def Own (c : Dev nD) (A : Refs) (s : St F) : sProp 𝕄 :=
  iprop(owns (c : Thread nD τ) A.q fullShare s.q
    ∗ owns (c : Thread nD τ) A.k fullShare s.k
    ∗ owns (c : Thread nD τ) A.v fullShare s.v
    ∗ owns (c : Thread nD τ) A.tri fullShare s.tri
    ∗ owns (c : Thread nD τ) A.eye fullShare s.eye
    ∗ owns (c : Thread nD τ) A.o fullShare s.o
    ∗ owns (c : Thread nD τ) A.mask fullShare (stack s.mask)
    ∗ owns (c : Thread nD τ) A.qs fullShare (stack s.qs)
    ∗ owns (c : Thread nD τ) A.kt fullShare (stack s.kt)
    ∗ owns (c : Thread nD τ) A.vc fullShare (stack s.vc)
    ∗ owns (c : Thread nD τ) A.acc fullShare (stack s.acc)
    ∗ owns (c : Thread nD τ) A.z fullShare (stack s.z)
    ∗ owns (c : Thread nD τ) A.sp fullShare (stack s.sp)
    ∗ owns (c : Thread nD τ) A.incl fullShare (stack s.incl)
    ∗ owns (c : Thread nD τ) A.w fullShare (stack s.w))

/-- The program takes every memory to what the stages `L` leave. -/
structure Tri (c : Dev nD) (A : Refs) (P : Prog (TpuEff nD τ sig (Elt F) Λ₀ .tc) PUnit) (L : List Op) : Prop where
  run : ∀ (s : St F) (K : PUnit → sProp 𝕄), iprop(Own c A s ∗ (Own c A (steps s L) -∗ K ⟨⟩))
    ⊢ wp frame (wpE (defs₀ (F := F)) Variants.none (c : Thread nD τ) none) Set.univ P K

variable {c : Dev nD} {A : Refs} {L : List Op}

theorem Tri.done : Tri (F := F) c A (.ret ⟨⟩) [] := by
  refine ⟨fun s K => ?_⟩
  iintro ⟨H, HK⟩
  rw [wp_ret]
  imodintro
  iapply HK
  iexact H

theorem chunk_window (x : Vec F S1x2064x128 .bf16) (i : ℕ) (inb) :
    shapeCast S128x128 (VecWindow.window (s := S1x2064x128) x ![0, 128 * i, 0] ![1, 128, 128] inb) shapeCasts_S1x128x128_S128x128 = chunk x i := by
  funext y
  refine (shapeCast_dropUnit_apply ![128, 128] _ _ y).trans ?_
  have h1 : 128 * i + 128 ≤ 2064 := inb 1
  have hy : (y 0).val < 128 := (y 0).isLt
  have h : 128 * i + (y 0).val < 2064 := by omega
  unfold chunk
  rw [dif_pos h]
  refine congrArg x (funext fun j => Fin.ext ?_)
  fin_cases j
  · rfl
  · show 128 * i + 1 * (y 0).val = 128 * i + (y 0).val
    omega
  · show 0 + 1 * (y 1).val = (y 1).val
    omega

theorem chunk_last (x : Vec F S1x2064x128 .bf16) (inb) :
    concatenate S128x128 0 [⟨S16x128, shapeCast S16x128 (VecWindow.window (s := S1x2064x128) x ![0, 2048, 0] ![1, 16, 128] inb) shapeCasts_S1x16x128_S16x128⟩,
      ⟨S112x128, broadcast S112x128 (Scalar.ofBits .bf16 0x0000#16 : F .bf16)⟩] concatenates_S16x128_S112x128_S128x128_d0 = chunk x 16 := by
  funext y
  have hy : (y 0).val < 128 := (y 0).isLt
  refine (concatenate_pair_apply (s₁ := S16x128) (s₂ := S112x128) (t := S128x128) 0 _ _ concatenates_S16x128_S112x128_S128x128_d0 y).trans ?_
  unfold chunk
  by_cases h : (y 0).val < 16
  · refine (dif_pos h).trans ((shapeCast_dropUnit_apply ![16, 128] _ _ _).trans (Eq.trans ?_ (dif_pos (by omega)).symm))
    refine congrArg x (funext fun j => Fin.ext ?_)
    fin_cases j
    · rfl
    · show 2048 + 1 * (y 0).val = 128 * 16 + (y 0).val
      omega
    · show 0 + 1 * (y 1).val = (y 1).val
      omega
  · refine (dif_neg h).trans ?_
    rw [dif_neg (by omega)]
    rfl

theorem put_out (o : Vec F S1x2064x128 .bf16) (i : ℕ) (x : FVec F S128x128 .bf16) :
    VecWindow.put (s := S1x2064x128) o ![0, 128 * i, 0] ![1, 128, 128] (shapeCast S1x128x128 x shapeCasts_S128x128_S1x128x128) = setOut o i x := by
  funext y
  have hy : (y 2).val < 128 := (y 2).isLt
  have hy0 : (y 0).val < 1 := (y 0).isLt
  unfold VecWindow.put setOut
  by_cases h : 128 * i ≤ (y 1).val ∧ (y 1).val < 128 * i + 128
  · have hp : ∀ a : Fin 3, (![0, 128 * i, 0] : Fin 3 → ℕ) a ≤ (y a).val ∧ (y a).val < (![0, 128 * i, 0] : Fin 3 → ℕ) a + (![1, 128, 128] : Fin 3 → ℕ) a := by
      intro a
      fin_cases a
      · exact ⟨Nat.zero_le _, by show (y 0).val < 0 + 1; omega⟩
      · exact h
      · exact ⟨Nat.zero_le _, by show (y 2).val < 0 + 128; omega⟩
    refine (dif_pos hp).trans ((shapeCast_addUnit_apply ![128, 128] x _ _).trans (Eq.trans ?_ (dif_pos h).symm))
    refine congrArg x (funext fun j => Fin.ext ?_)
    fin_cases j
    · rfl
    · rfl
  · have hp : ¬ ∀ a : Fin 3, (![0, 128 * i, 0] : Fin 3 → ℕ) a ≤ (y a).val ∧ (y a).val < (![0, 128 * i, 0] : Fin 3 → ℕ) a + (![1, 128, 128] : Fin 3 → ℕ) a :=
      fun hp => h (hp 1)
    refine (dif_neg hp).trans ?_
    rw [dif_neg h]

theorem put_outLast (o : Vec F S1x2064x128 .bf16) (x : FVec F S128x128 .bf16) :
    VecWindow.put (s := S1x2064x128) o ![0, 2048, 0] ![1, 16, 128]
      (shapeCast S1x16x128 (extractStridedSlice S16x128 ![0, 0] x slices_S128x128_o0_0_S16x128) shapeCasts_S16x128_S1x16x128) = setOut o 16 x := by
  funext y
  have hy : (y 2).val < 128 := (y 2).isLt
  have hy0 : (y 0).val < 1 := (y 0).isLt
  have hy1 : (y 1).val < 2064 := (y 1).isLt
  unfold VecWindow.put setOut
  by_cases h : 2048 ≤ (y 1).val
  · have hp : ∀ a : Fin 3, (![0, 2048, 0] : Fin 3 → ℕ) a ≤ (y a).val ∧ (y a).val < (![0, 2048, 0] : Fin 3 → ℕ) a + (![1, 16, 128] : Fin 3 → ℕ) a := by
      intro a
      fin_cases a
      · exact ⟨Nat.zero_le _, by show (y 0).val < 0 + 1; omega⟩
      · exact ⟨h, by show (y 1).val < 2048 + 16; omega⟩
      · exact ⟨Nat.zero_le _, by show (y 2).val < 0 + 128; omega⟩
    have h' : 128 * 16 ≤ (y 1).val ∧ (y 1).val < 128 * 16 + 128 := by omega
    refine (dif_pos hp).trans ((shapeCast_addUnit_apply ![16, 128] _ _ _).trans (Eq.trans ?_ (dif_pos h').symm))
    refine congrArg x (funext fun j => Fin.ext ?_)
    fin_cases j
    · show 0 + ((y 1).val - 2048) = (y 1).val - 128 * 16
      omega
    · show 0 + ((y 2).val - 0) = (y 2).val
      omega
  · have hp : ¬ ∀ a : Fin 3, (![0, 2048, 0] : Fin 3 → ℕ) a ≤ (y a).val ∧ (y a).val < (![0, 2048, 0] : Fin 3 → ℕ) a + (![1, 16, 128] : Fin 3 → ℕ) a :=
      fun hp => h (hp 1).1
    have h' : ¬ (128 * 16 ≤ (y 1).val ∧ (y 1).val < 128 * 16 + 128) := by omega
    refine (dif_neg hp).trans ?_
    rw [dif_neg h']

/-- The softplus stage. -/
theorem Tri.softplus {sl : ℕ} {inb0} {hl0} {inb1} {hl1} {inb2} {hx2} {hm2}
    {k : Vec F S1x256x256 .f32 → Vec F S1x256x256 .bf16 → PUnit → Prog (TpuEff nD τ sig (Elt F) Λ₀ .tc) PUnit} (h : ∀ x y u2, Tri c A (k x y u2) L) :
    Tri (F := F) c A
      (.op (.load A.z (Rect.unit (s := S11x256x256) ![sl, 0, 0] S1x256x256.size inb0).toLoadRect hl0) fun (x : Vec F S1x256x256 .f32) =>
      .op (.load A.sp (Rect.unit (s := S11x256x256) ![sl, 0, 0] S1x256x256.size inb1).toLoadRect hl1) fun (y : Vec F S1x256x256 .bf16) =>
      .op (.store A.sp (Rect.unit (s := S11x256x256) ![sl, 0, 0] S1x256x256.size inb2) (shapeCast S1x256x256 (spOf (shapeCast S256x256 x shapeCasts_S1x256x256_S256x256)) shapeCasts_S256x256_S1x256x256) Finset.univ hx2 hm2) fun u2 =>
      k x y u2) (.softplus sl :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hz; iintro Hz
  iapply wp_load_owns $$ Hsp; iintro Hsp
  iapply wp_store_owns $$ Hsp; iintro Hsp
  rw [cast_slab, put_slab]
  iapply ((h _ _ _).run (step s (.softplus sl)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The suffix-sum stage. -/
theorem Tri.suffix {sl : ℕ} {inb0} {hl0} {inb1} {hl1} {inb2} {hl2} {inb3} {hx3} {hm3}
    {k : Vec F S1x256x256 .bf16 → Vec F S256x256 .bf16 → Vec F S1x256x256 .f32 → PUnit → Prog (TpuEff nD τ sig (Elt F) Λ₀ .tc) PUnit} (h : ∀ x t y u3, Tri c A (k x t y u3) L) :
    Tri (F := F) c A
      (.op (.load A.sp (Rect.unit (s := S11x256x256) ![sl, 0, 0] S1x256x256.size inb0).toLoadRect hl0) fun (x : Vec F S1x256x256 .bf16) =>
      .op (.load A.tri (Rect.unit (s := S256x256) ![0, 0] S256x256.size inb1).toLoadRect hl1) fun (t : Vec F S256x256 .bf16) =>
      .op (.load A.incl (Rect.unit (s := S11x256x256) ![sl, 0, 0] S1x256x256.size inb2).toLoadRect hl2) fun (y : Vec F S1x256x256 .f32) =>
      .op (.store A.incl (Rect.unit (s := S11x256x256) ![sl, 0, 0] S1x256x256.size inb3) (shapeCast S1x256x256 (inclOf (shapeCast S256x256 x shapeCasts_S1x256x256_S256x256) (shapeCast S256x256 t shapeCasts_S256x256_S256x256)) shapeCasts_S256x256_S1x256x256) Finset.univ hx3 hm3) fun u3 =>
      k x t y u3) (.suffix sl :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hsp; iintro Hsp
  iapply wp_load_owns $$ Htri; iintro Htri
  iapply wp_load_owns $$ Hincl; iintro Hincl
  iapply wp_store_owns $$ Hincl; iintro Hincl
  rw [cast_slab, put_slab, window_full (s := S256x256), shapeCast_self]
  iapply ((h _ _ _ _).run (step s (.suffix sl)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The weights stage. -/
theorem Tri.weights {sl : ℕ} {inb0} {hl0} {inb1} {hl1} {inb2} {hl2} {inb3} {hx3} {hm3}
    {k : Vec F S1x256x256 .f32 → Vec F S1x256x256 .f32 → Vec F S1x256x256 .bf16 → PUnit → Prog (TpuEff nD τ sig (Elt F) Λ₀ .tc) PUnit} (h : ∀ x t y u3, Tri c A (k x t y u3) L) :
    Tri (F := F) c A
      (.op (.load A.z (Rect.unit (s := S11x256x256) ![sl, 0, 0] S1x256x256.size inb0).toLoadRect hl0) fun (x : Vec F S1x256x256 .f32) =>
      .op (.load A.incl (Rect.unit (s := S11x256x256) ![sl, 0, 0] S1x256x256.size inb1).toLoadRect hl1) fun (t : Vec F S1x256x256 .f32) =>
      .op (.load A.w (Rect.unit (s := S11x256x256) ![sl, 0, 0] S1x256x256.size inb2).toLoadRect hl2) fun (y : Vec F S1x256x256 .bf16) =>
      .op (.store A.w (Rect.unit (s := S11x256x256) ![sl, 0, 0] S1x256x256.size inb3) (shapeCast S1x256x256 (wOf (shapeCast S256x256 x shapeCasts_S1x256x256_S256x256) (shapeCast S256x256 t shapeCasts_S1x256x256_S256x256)) shapeCasts_S256x256_S1x256x256) Finset.univ hx3 hm3) fun u3 =>
      k x t y u3) (.weights sl :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hz; iintro Hz
  iapply wp_load_owns $$ Hincl; iintro Hincl
  iapply wp_load_owns $$ Hw; iintro Hw
  iapply wp_store_owns $$ Hw; iintro Hw
  rw [cast_slab, cast_slab, put_slab]
  iapply ((h _ _ _ _).run (step s (.weights sl)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The score stage. -/
theorem Tri.raw {i c₁ c₂ kd sl : ℕ} {inb0} {hl0} {inb1} {hl1} {inb2} {hl2} {inb3} {hl3} {inb4} {hl4} {inb5} {hl5} {inb6} {hx6} {hm6}
    {k : Vec F S1x256x128 .bf16 → Vec F S256x128 .bf16 → Vec F S1x128x128 .bf16 → Vec F S1x128x128 .bf16 → Vec F S1x128x256 .bf16 → Vec F S1x256x256 .f32 → PUnit → Prog (TpuEff nD τ sig (Elt F) Λ₀ .tc) PUnit} (h : ∀ x e a b d y u6, Tri c A (k x e a b d y u6) L) (hc : c₂ = c₁ + 1) :
    Tri (F := F) c A
      (.op (.load A.qs (Rect.unit (s := S17x256x128) ![i, 0, 0] S1x256x128.size inb0).toLoadRect hl0) fun (x : Vec F S1x256x128 .bf16) =>
      .op (.load A.eye (Rect.unit (s := S256x128) ![0, 0] S256x128.size inb1).toLoadRect hl1) fun (e : Vec F S256x128 .bf16) =>
      .op (.load A.kt (Rect.unit (s := S17x128x128) ![c₁, 0, 0] S1x128x128.size inb2).toLoadRect hl2) fun (a : Vec F S1x128x128 .bf16) =>
      .op (.load A.kt (Rect.unit (s := S17x128x128) ![c₂, 0, 0] S1x128x128.size inb3).toLoadRect hl3) fun (b : Vec F S1x128x128 .bf16) =>
      .op (.load A.mask (Rect.unit (s := S4x128x256) ![kd, 0, 0] S1x128x256.size inb4).toLoadRect hl4) fun (d : Vec F S1x128x256 .bf16) =>
      .op (.load A.z (Rect.unit (s := S11x256x256) ![sl, 0, 0] S1x256x256.size inb5).toLoadRect hl5) fun (y : Vec F S1x256x256 .f32) =>
      .op (.store A.z (Rect.unit (s := S11x256x256) ![sl, 0, 0] S1x256x256.size inb6) (shapeCast S1x256x256 (zOf (shapeCast S256x128 x shapeCasts_S1x256x128_S256x128) (shapeCast S256x128 e shapeCasts_S256x128_S256x128) (shapeCast S128x128 a shapeCasts_S1x128x128_S128x128) (shapeCast S128x128 b shapeCasts_S1x128x128_S128x128) (shapeCast S128x256 d shapeCasts_S1x128x256_S128x256)) shapeCasts_S256x256_S1x256x256) Finset.univ hx6 hm6) fun u6 =>
      k x e a b d y u6) (.raw i c₁ kd sl :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hqs; iintro Hqs
  iapply wp_load_owns $$ Heye; iintro Heye
  iapply wp_load_owns $$ Hkt; iintro Hkt
  iapply wp_load_owns $$ Hkt; iintro Hkt
  iapply wp_load_owns $$ Hmask; iintro Hmask
  iapply wp_load_owns $$ Hz; iintro Hz
  iapply wp_store_owns $$ Hz; iintro Hz
  subst hc
  rw [put_slab]; simp only [cast_slab]; rw [window_full (s := S256x128), shapeCast_self]
  iapply ((h _ _ _ _ _ _ _).run (step s (.raw i c₁ kd sl)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The accumulation stage. -/
theorem Tri.accum {i c₁ c₂ sl : ℕ} {inb0} {hl0} {inb1} {hl1} {inb2} {hl2} {inb3} {hl3} {inb4} {hl4} {inb5} {hl5} {inb6} {hx6} {hm6}
    {k : Vec F S1x256x1 .f32 → Vec F S1x128x128 .bf16 → Vec F S1x128x128 .bf16 → Vec F S1x256x128 .f32 → Vec F S1x256x256 .bf16 → Vec F S1x256x128 .f32 → PUnit → Prog (TpuEff nD τ sig (Elt F) Λ₀ .tc) PUnit} (h : ∀ x a b e d y u6, Tri c A (k x a b e d y u6) L) (hc : c₂ = c₁ + 1) :
    Tri (F := F) c A
      (.op (.load A.incl (Rect.unit (s := S11x256x256) ![sl, 0, 0] S1x256x1.size inb0).toLoadRect hl0) fun (x : Vec F S1x256x1 .f32) =>
      .op (.load A.vc (Rect.unit (s := S17x128x128) ![c₁, 0, 0] S1x128x128.size inb1).toLoadRect hl1) fun (a : Vec F S1x128x128 .bf16) =>
      .op (.load A.vc (Rect.unit (s := S17x128x128) ![c₂, 0, 0] S1x128x128.size inb2).toLoadRect hl2) fun (b : Vec F S1x128x128 .bf16) =>
      .op (.load A.acc (Rect.unit (s := S17x256x128) ![i, 0, 0] S1x256x128.size inb3).toLoadRect hl3) fun (e : Vec F S1x256x128 .f32) =>
      .op (.load A.w (Rect.unit (s := S11x256x256) ![sl, 0, 0] S1x256x256.size inb4).toLoadRect hl4) fun (d : Vec F S1x256x256 .bf16) =>
      .op (.load A.acc (Rect.unit (s := S17x256x128) ![i, 0, 0] S1x256x128.size inb5).toLoadRect hl5) fun (y : Vec F S1x256x128 .f32) =>
      .op (.store A.acc (Rect.unit (s := S17x256x128) ![i, 0, 0] S1x256x128.size inb6) (shapeCast S1x256x128 (accRaw (shapeCast S256x128 e shapeCasts_S1x256x128_S256x128) (shapeCast S256x1 x shapeCasts_S1x256x1_S256x1) (shapeCast S256x256 d shapeCasts_S1x256x256_S256x256) (shapeCast S128x128 a shapeCasts_S1x128x128_S128x128) (shapeCast S128x128 b shapeCasts_S1x128x128_S128x128)) shapeCasts_S256x128_S1x256x128) Finset.univ hx6 hm6) fun u6 =>
      k x a b e d y u6) (.accum i c₁ sl :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hincl; iintro Hincl
  iapply wp_load_owns $$ Hvc; iintro Hvc
  iapply wp_load_owns $$ Hvc; iintro Hvc
  iapply wp_load_owns $$ Hacc; iintro Hacc
  iapply wp_load_owns $$ Hw; iintro Hw
  iapply wp_load_owns $$ Hacc; iintro Hacc
  iapply wp_store_owns $$ Hacc; iintro Hacc
  subst hc
  rw [put_slab]; simp only [cast_slab]; rw [cast_window _ _ _ _ _ _ _ (by decide)]
  iapply ((h _ _ _ _ _ _ _).run (step s (.accum i c₁ sl)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- One mask is stored. -/
theorem Tri.mask {kd : ℕ} {inb0} {hl0} {inb1} {hx1} {hm1} {m : FVec F S128x256 .bf16}
    {k : Vec F S1x128x256 .bf16 → PUnit → Prog (TpuEff nD τ sig (Elt F) Λ₀ .tc) PUnit} (h : ∀ x u1, Tri c A (k x u1) L) (hm : m = maskOf kd) :
    Tri (F := F) c A
      (.op (.load A.mask (Rect.unit (s := S4x128x256) ![kd, 0, 0] S1x128x256.size inb0).toLoadRect hl0) fun (x : Vec F S1x128x256 .bf16) =>
      .op (.store A.mask (Rect.unit (s := S4x128x256) ![kd, 0, 0] S1x128x256.size inb1) (shapeCast S1x128x256 m shapeCasts_S128x256_S1x128x256) Finset.univ hx1 hm1) fun u1 =>
      k x u1) (.mask kd :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hmask; iintro Hmask
  iapply wp_store_owns $$ Hmask; iintro Hmask
  subst hm
  rw [put_slab]
  iapply ((h _ _).run (step s (.mask kd)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The accumulators are cleared. -/
theorem Tri.zero {inb0} {hl0} {inb1} {hx1} {hm1}
    {k : Vec F S17x256x128 .f32 → PUnit → Prog (TpuEff nD τ sig (Elt F) Λ₀ .tc) PUnit} (h : ∀ x u1, Tri c A (k x u1) L) :
    Tri (F := F) c A
      (.op (.load A.acc (Rect.unit (s := S17x256x128) ![0, 0, 0] S17x256x128.size inb0).toLoadRect hl0) fun (x : Vec F S17x256x128 .f32) =>
      .op (.store A.acc (Rect.unit (s := S17x256x128) ![0, 0, 0] S17x256x128.size inb1) (shapeCast S17x256x128 (broadcast S17x256x128 (Scalar.ofBits .f32 0x00000000#32 : F .f32)) shapeCasts_S17x256x128_S17x256x128) Finset.univ hx1 hm1) fun u1 =>
      k x u1) (.zero :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hacc; iintro Hacc
  iapply wp_store_owns $$ Hacc; iintro Hacc
  rw [put_full (s := S17x256x128) _ _ ![0, 0, 0] (by intro j; fin_cases j <;> rfl), shapeCast_self]
  iapply ((h _ _).run (step s (.zero)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- One chunk of queries, keys and values is laid out. -/
theorem Tri.init {i j : ℕ} {inb0} {hl0} {inb1} {hl1} {inb2} {hx2} {hm2} {inb3} {hl3} {inb4} {hx4} {hm4} {inb5} {hl5} {inb6} {hl6} {inb7} {hx7} {hm7} {inb8} {hl8} {inb9} {hl9} {inb10} {hx10} {hm10}
    {k : Vec F S1x128x128 .bf16 → Vec F S1x128x128 .bf16 → PUnit → Vec F S1x128x128 .bf16 → PUnit → Vec F S1x128x128 .bf16 → Vec F S1x128x128 .bf16 → PUnit → Vec F S1x128x128 .bf16 → Vec F S1x128x128 .bf16 → PUnit → Prog (TpuEff nD τ sig (Elt F) Λ₀ .tc) PUnit} (h : ∀ a y u2 y₂ u4 b y₃ u7 d y₄ u10, Tri c A (k a y u2 y₂ u4 b y₃ u7 d y₄ u10) L) (hj : j = 128 * i) :
    Tri (F := F) c A
      (.op (.load A.q (Rect.unit (s := S1x2064x128) ![0, j, 0] S1x128x128.size inb0).toLoadRect hl0) fun (a : Vec F S1x128x128 .bf16) =>
      .op (.load A.qs (Rect.unit (s := S17x256x128) ![i, 0, 0] S1x128x128.size inb1).toLoadRect hl1) fun (y : Vec F S1x128x128 .bf16) =>
      .op (.store A.qs (Rect.unit (s := S17x256x128) ![i, 0, 0] S1x128x128.size inb2) (shapeCast S1x128x128 (qLo (shapeCast S128x128 a shapeCasts_S1x128x128_S128x128)) shapeCasts_S128x128_S1x128x128) Finset.univ hx2 hm2) fun u2 =>
      .op (.load A.qs (Rect.unit (s := S17x256x128) ![i, 128, 0] S1x128x128.size inb3).toLoadRect hl3) fun (y₂ : Vec F S1x128x128 .bf16) =>
      .op (.store A.qs (Rect.unit (s := S17x256x128) ![i, 128, 0] S1x128x128.size inb4) (shapeCast S1x128x128 (qHi (shapeCast S128x128 a shapeCasts_S1x128x128_S128x128)) shapeCasts_S128x128_S1x128x128) Finset.univ hx4 hm4) fun u4 =>
      .op (.load A.k (Rect.unit (s := S1x2064x128) ![0, j, 0] S1x128x128.size inb5).toLoadRect hl5) fun (b : Vec F S1x128x128 .bf16) =>
      .op (.load A.kt (Rect.unit (s := S17x128x128) ![i, 0, 0] S1x128x128.size inb6).toLoadRect hl6) fun (y₃ : Vec F S1x128x128 .bf16) =>
      .op (.store A.kt (Rect.unit (s := S17x128x128) ![i, 0, 0] S1x128x128.size inb7) (shapeCast S1x128x128 (kT (shapeCast S128x128 b shapeCasts_S1x128x128_S128x128)) shapeCasts_S128x128_S1x128x128) Finset.univ hx7 hm7) fun u7 =>
      .op (.load A.v (Rect.unit (s := S1x2064x128) ![0, j, 0] S1x128x128.size inb8).toLoadRect hl8) fun (d : Vec F S1x128x128 .bf16) =>
      .op (.load A.vc (Rect.unit (s := S17x128x128) ![i, 0, 0] S1x128x128.size inb9).toLoadRect hl9) fun (y₄ : Vec F S1x128x128 .bf16) =>
      .op (.store A.vc (Rect.unit (s := S17x128x128) ![i, 0, 0] S1x128x128.size inb10) (shapeCast S1x128x128 (shapeCast S128x128 d shapeCasts_S1x128x128_S128x128) shapeCasts_S128x128_S1x128x128) Finset.univ hx10 hm10) fun u10 =>
      k a y u2 y₂ u4 b y₃ u7 d y₄ u10) (.init i :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hq; iintro Hq
  iapply wp_load_owns $$ Hqs; iintro Hqs
  iapply wp_store_owns $$ Hqs; iintro Hqs
  iapply wp_load_owns $$ Hqs; iintro Hqs
  iapply wp_store_owns $$ Hqs; iintro Hqs
  iapply wp_load_owns $$ Hk; iintro Hk
  iapply wp_load_owns $$ Hkt; iintro Hkt
  iapply wp_store_owns $$ Hkt; iintro Hkt
  iapply wp_load_owns $$ Hv; iintro Hv
  iapply wp_load_owns $$ Hvc; iintro Hvc
  iapply wp_store_owns $$ Hvc; iintro Hvc
  subst hj
  rw [put_stack, put_stack, put_slab, put_slab, Function.update_idem, Function.update_self, chunk_window, chunk_window, chunk_window]
  iapply ((h _ _ _ _ _ _ _ _ _ _ _).run (step s (.init i)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The last chunk, sixteen rows and padding. -/
theorem Tri.initLast {i j : ℕ} {inb0} {hl0} {inb1} {hl1} {inb2} {hx2} {hm2} {inb3} {hl3} {inb4} {hx4} {hm4} {inb5} {hl5} {inb6} {hl6} {inb7} {hx7} {hm7} {inb8} {hl8} {inb9} {hl9} {inb10} {hx10} {hm10}
    {k : Vec F S1x16x128 .bf16 → Vec F S1x128x128 .bf16 → PUnit → Vec F S1x128x128 .bf16 → PUnit → Vec F S1x16x128 .bf16 → Vec F S1x128x128 .bf16 → PUnit → Vec F S1x16x128 .bf16 → Vec F S1x128x128 .bf16 → PUnit → Prog (TpuEff nD τ sig (Elt F) Λ₀ .tc) PUnit} (h : ∀ a y u2 y₂ u4 b y₃ u7 d y₄ u10, Tri c A (k a y u2 y₂ u4 b y₃ u7 d y₄ u10) L) (hi : i = 16) (hj : j = 2048) :
    Tri (F := F) c A
      (.op (.load A.q (Rect.unit (s := S1x2064x128) ![0, j, 0] S1x16x128.size inb0).toLoadRect hl0) fun (a : Vec F S1x16x128 .bf16) =>
      .op (.load A.qs (Rect.unit (s := S17x256x128) ![i, 0, 0] S1x128x128.size inb1).toLoadRect hl1) fun (y : Vec F S1x128x128 .bf16) =>
      .op (.store A.qs (Rect.unit (s := S17x256x128) ![i, 0, 0] S1x128x128.size inb2) (shapeCast S1x128x128 (qLo (concatenate S128x128 0 [⟨S16x128, (shapeCast S16x128 a shapeCasts_S1x16x128_S16x128)⟩, ⟨S112x128, broadcast S112x128 (Scalar.ofBits .bf16 0x0000#16 : F .bf16)⟩] concatenates_S16x128_S112x128_S128x128_d0)) shapeCasts_S128x128_S1x128x128) Finset.univ hx2 hm2) fun u2 =>
      .op (.load A.qs (Rect.unit (s := S17x256x128) ![i, 128, 0] S1x128x128.size inb3).toLoadRect hl3) fun (y₂ : Vec F S1x128x128 .bf16) =>
      .op (.store A.qs (Rect.unit (s := S17x256x128) ![i, 128, 0] S1x128x128.size inb4) (shapeCast S1x128x128 (qHi (concatenate S128x128 0 [⟨S16x128, (shapeCast S16x128 a shapeCasts_S1x16x128_S16x128)⟩, ⟨S112x128, broadcast S112x128 (Scalar.ofBits .bf16 0x0000#16 : F .bf16)⟩] concatenates_S16x128_S112x128_S128x128_d0)) shapeCasts_S128x128_S1x128x128) Finset.univ hx4 hm4) fun u4 =>
      .op (.load A.k (Rect.unit (s := S1x2064x128) ![0, j, 0] S1x16x128.size inb5).toLoadRect hl5) fun (b : Vec F S1x16x128 .bf16) =>
      .op (.load A.kt (Rect.unit (s := S17x128x128) ![i, 0, 0] S1x128x128.size inb6).toLoadRect hl6) fun (y₃ : Vec F S1x128x128 .bf16) =>
      .op (.store A.kt (Rect.unit (s := S17x128x128) ![i, 0, 0] S1x128x128.size inb7) (shapeCast S1x128x128 (kT (concatenate S128x128 0 [⟨S16x128, (shapeCast S16x128 b shapeCasts_S1x16x128_S16x128)⟩, ⟨S112x128, broadcast S112x128 (Scalar.ofBits .bf16 0x0000#16 : F .bf16)⟩] concatenates_S16x128_S112x128_S128x128_d0)) shapeCasts_S128x128_S1x128x128) Finset.univ hx7 hm7) fun u7 =>
      .op (.load A.v (Rect.unit (s := S1x2064x128) ![0, j, 0] S1x16x128.size inb8).toLoadRect hl8) fun (d : Vec F S1x16x128 .bf16) =>
      .op (.load A.vc (Rect.unit (s := S17x128x128) ![i, 0, 0] S1x128x128.size inb9).toLoadRect hl9) fun (y₄ : Vec F S1x128x128 .bf16) =>
      .op (.store A.vc (Rect.unit (s := S17x128x128) ![i, 0, 0] S1x128x128.size inb10) (shapeCast S1x128x128 (concatenate S128x128 0 [⟨S16x128, (shapeCast S16x128 d shapeCasts_S1x16x128_S16x128)⟩, ⟨S112x128, broadcast S112x128 (Scalar.ofBits .bf16 0x0000#16 : F .bf16)⟩] concatenates_S16x128_S112x128_S128x128_d0) shapeCasts_S128x128_S1x128x128) Finset.univ hx10 hm10) fun u10 =>
      k a y u2 y₂ u4 b y₃ u7 d y₄ u10) (.init i :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hq; iintro Hq
  iapply wp_load_owns $$ Hqs; iintro Hqs
  iapply wp_store_owns $$ Hqs; iintro Hqs
  iapply wp_load_owns $$ Hqs; iintro Hqs
  iapply wp_store_owns $$ Hqs; iintro Hqs
  iapply wp_load_owns $$ Hk; iintro Hk
  iapply wp_load_owns $$ Hkt; iintro Hkt
  iapply wp_store_owns $$ Hkt; iintro Hkt
  iapply wp_load_owns $$ Hv; iintro Hv
  iapply wp_load_owns $$ Hvc; iintro Hvc
  iapply wp_store_owns $$ Hvc; iintro Hvc
  subst hi hj
  rw [put_stack, put_stack, put_slab, put_slab, Function.update_idem, Function.update_self, chunk_last, chunk_last, chunk_last]
  iapply ((h _ _ _ _ _ _ _ _ _ _ _).run (step s (.init  16)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- One block of the result is stored. -/
theorem Tri.out {i j : ℕ} {inb0} {hl0} {inb1} {hl1} {inb2} {hx2} {hm2}
    {k : Vec F S1x256x128 .f32 → Vec F S1x128x128 .bf16 → PUnit → Prog (TpuEff nD τ sig (Elt F) Λ₀ .tc) PUnit} (h : ∀ a y u2, Tri c A (k a y u2) L) (hj : j = 128 * i) :
    Tri (F := F) c A
      (.op (.load A.acc (Rect.unit (s := S17x256x128) ![i, 0, 0] S1x256x128.size inb0).toLoadRect hl0) fun (a : Vec F S1x256x128 .f32) =>
      .op (.load A.o (Rect.unit (s := S1x2064x128) ![0, j, 0] S1x128x128.size inb1).toLoadRect hl1) fun (y : Vec F S1x128x128 .bf16) =>
      .op (.store A.o (Rect.unit (s := S1x2064x128) ![0, j, 0] S1x128x128.size inb2) (shapeCast S1x128x128 (outOf (shapeCast S256x128 a shapeCasts_S1x256x128_S256x128)) shapeCasts_S128x128_S1x128x128) Finset.univ hx2 hm2) fun u2 =>
      k a y u2) (.out i :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hacc; iintro Hacc
  iapply wp_load_owns $$ Ho; iintro Ho
  iapply wp_store_owns $$ Ho; iintro Ho
  subst hj
  rw [cast_slab, put_out]
  iapply ((h _ _ _).run (step s (.out i)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

/-- The last block of the result, sixteen rows. -/
theorem Tri.outLast {i j : ℕ} {inb0} {hl0} {inb1} {hl1} {inb2} {hx2} {hm2}
    {k : Vec F S1x256x128 .f32 → Vec F S1x16x128 .bf16 → PUnit → Prog (TpuEff nD τ sig (Elt F) Λ₀ .tc) PUnit} (h : ∀ a y u2, Tri c A (k a y u2) L) (hi : i = 16) (hj : j = 2048) :
    Tri (F := F) c A
      (.op (.load A.acc (Rect.unit (s := S17x256x128) ![i, 0, 0] S1x256x128.size inb0).toLoadRect hl0) fun (a : Vec F S1x256x128 .f32) =>
      .op (.load A.o (Rect.unit (s := S1x2064x128) ![0, j, 0] S1x16x128.size inb1).toLoadRect hl1) fun (y : Vec F S1x16x128 .bf16) =>
      .op (.store A.o (Rect.unit (s := S1x2064x128) ![0, j, 0] S1x16x128.size inb2) (shapeCast S1x16x128 (extractStridedSlice S16x128 ![0, 0] (outOf (shapeCast S256x128 a shapeCasts_S1x256x128_S256x128)) slices_S128x128_o0_0_S16x128) shapeCasts_S16x128_S1x16x128) Finset.univ hx2 hm2) fun u2 =>
      k a y u2) (.out i :: L) := by
  refine ⟨fun s K => ?_⟩
  unfold Own
  iintro ⟨⟨Hq, Hk, Hv, Htri, Heye, Ho, Hmask, Hqs, Hkt, Hvc, Hacc, Hz, Hsp, Hincl, Hw⟩, HK⟩
  iapply wp_load_owns $$ Hacc; iintro Hacc
  iapply wp_load_owns $$ Ho; iintro Ho
  iapply wp_store_owns $$ Ho; iintro Ho
  subst hi hj
  rw [cast_slab, put_outLast]
  iapply ((h _ _ _).run (step s (.out  16)) K)
  isplitr [HK]
  · unfold Own
    isplitl [Hq]; · iexact Hq
    isplitl [Hk]; · iexact Hk
    isplitl [Hv]; · iexact Hv
    isplitl [Htri]; · iexact Htri
    isplitl [Heye]; · iexact Heye
    isplitl [Ho]; · iexact Ho
    isplitl [Hmask]; · iexact Hmask
    isplitl [Hqs]; · iexact Hqs
    isplitl [Hkt]; · iexact Hkt
    isplitl [Hvc]; · iexact Hvc
    isplitl [Hacc]; · iexact Hacc
    isplitl [Hz]; · iexact Hz
    isplitl [Hsp]; · iexact Hsp
    isplitl [Hincl]; · iexact Hincl
    iexact Hw
  iexact HK

end Cert.KernelIdeal.Attn
end
-- ==== Proof.Body.lean ====
/-
  The whole body of the attention kernel runs its schedule of stages.
-/
module

public import proofs.«01_k».proof.Proof.Walk

@[expose] public section

set_option maxRecDepth 16384

noncomputable section

namespace Cert.KernelIdeal.Attn

open Cert.KernelIdeal Cert.KernelIdeal.Gen Cert.Slab
open Idealize.ShloMosaic Idealize.ShloMosaic.TcCoe
open Idealize.SL.Sem

variable {F : FTy → Type} [FloatOps F] [Named F]

set_option maxHeartbeats 4000000 in
theorem body_runs (c : Dev nD) (i : grid0.Coords) (A : Refs) (h2 : A.q.IsWhole) (h3 : A.k.IsWhole) (h4 : A.v.IsWhole) (h5 : A.tri.IsWhole)
    (h6 : A.eye.IsWhole) (h7 : A.o.IsWhole) (h8 : A.mask.IsWhole) (h9 : A.qs.IsWhole) (h10 : A.kt.IsWhole) (h11 : A.vc.IsWhole)
    (h12 : A.acc.IsWhole) (h13 : A.z.IsWhole) (h14 : A.sp.IsWhole) (h15 : A.incl.IsWhole) (h16 : A.w.IsWhole) :
    Tri (F := F) c A (cc0_stick_breaking_attention i A.q h2 A.k h3 A.v h4 A.tri h5 A.eye h6 A.o h7 A.mask h8 A.qs h9 A.kt h10 A.vc h11
      A.acc h12 A.z h13 A.sp h14 A.incl h15 A.w h16) schedule := by
  have key : ∃ L, L = schedule ∧ Tri (F := F) c A (cc0_stick_breaking_attention i A.q h2 A.k h3 A.v h4 A.tri h5 A.eye h6 A.o h7 A.mask h8 A.qs h9 A.kt h10 A.vc h11
      A.acc h12 A.z h13 A.sp h14 A.incl h15 A.w h16) L := by
    apply Exists.intro
    apply And.intro
    on_goal 2 =>
      apply Tri.mask; (on_goal 2 => rfl); intro _ _
      apply Tri.mask; (on_goal 2 => rfl); intro _ _
      apply Tri.mask; (on_goal 2 => rfl); intro _ _
      apply Tri.mask; (on_goal 2 => rfl); intro _ _
      iterate 16 (apply Tri.init; (on_goal 2 => rfl); intro _ _ _ _ _ _ _ _ _ _ _)
      apply Tri.initLast; (on_goal 2 => rfl); (on_goal 2 => rfl); intro _ _ _ _ _ _ _ _ _ _ _
      apply Tri.zero; intro _ _
      repeat (first
        | (apply Tri.raw; (on_goal 2 => rfl); intro _ _ _ _ _ _ _)
        | (apply Tri.softplus; intro _ _ _)
        | (apply Tri.suffix; intro _ _ _ _)
        | (apply Tri.weights; intro _ _ _ _)
        | (apply Tri.accum; (on_goal 2 => rfl); intro _ _ _ _ _ _ _))
      iterate 16 (apply Tri.out; (on_goal 2 => rfl); intro _ _ _)
      apply Tri.outLast; (on_goal 2 => rfl); (on_goal 2 => rfl); intro _ _ _
      exact Tri.done
    decide
  obtain ⟨L, rfl, h⟩ := key
  exact h

end Cert.KernelIdeal.Attn
end
-- ==== Proof.Schedule.lean ====
/-
  What the pipelined schedule leaves in the output block. Five counters, the number of blocks each of the five stages
  has done, say at every moment what the ring of buffers holds; after the last trip every query block has folded its
  key blocks one after the other, as if there had been no pipeline.
-/
module

public import proofs.«01_k».proof.Proof.Model

@[expose] public section

set_option maxRecDepth 16384

noncomputable section

namespace Cert.KernelIdeal.Attn

open Cert.KernelIdeal Cert.KernelIdeal.Gen Idealize.ShloMosaic Idealize.SL.Sem

variable {F : FTy → Type} [FloatOps F] [Named F]

/-- The two halves of a chunk's lanes, one above the other. -/
def qBoth (q : FVec F S128x128 .bf16) : FVec F S256x128 .bf16 := fun y =>
  if h : (y 0).val < 128 then qLo q (ix2 (⟨(y 0).val, h⟩ : Fin 128) (y 1))
  else qHi q (ix2 (⟨(y 0).val - 128, by have h1 : (y 0).val < 256 := (y 0).isLt; omega⟩ : Fin 128) (y 1))

theorem qStack_eq (x : Vec F S256x128 .bf16) (q : FVec F S128x128 .bf16) : qStack x q = qBoth q := by
  funext y
  have h0 : (y 0).val < 256 := (y 0).isLt
  have h1 : (y 1).val < 128 := (y 1).isLt
  unfold qStack qBoth VecWindow.put
  by_cases h : (y 0).val < 128
  · have hn : ¬ ∀ a : Fin 2, (![128, 0] : Fin 2 → ℕ) a ≤ (y a).val ∧ (y a).val < (![128, 0] : Fin 2 → ℕ) a + (![128, 128] : Fin 2 → ℕ) a := by
      intro hh
      have : 128 ≤ (y 0).val := (hh 0).1
      omega
    have hp : ∀ a : Fin 2, (![0, 0] : Fin 2 → ℕ) a ≤ (y a).val ∧ (y a).val < (![0, 0] : Fin 2 → ℕ) a + (![128, 128] : Fin 2 → ℕ) a := by
      intro a
      fin_cases a
      · exact ⟨Nat.zero_le _, by show (y 0).val < 0 + 128; omega⟩
      · exact ⟨Nat.zero_le _, by show (y 1).val < 0 + 128; omega⟩
    refine (dif_neg hn).trans ((dif_pos hp).trans ?_)
    rw [dif_pos h]
    refine congrArg (qLo q) (funext fun a => Fin.ext ?_)
    fin_cases a <;> rfl
  · have hp : ∀ a : Fin 2, (![128, 0] : Fin 2 → ℕ) a ≤ (y a).val ∧ (y a).val < (![128, 0] : Fin 2 → ℕ) a + (![128, 128] : Fin 2 → ℕ) a := by
      intro a
      fin_cases a
      · exact ⟨by show 128 ≤ (y 0).val; omega, by show (y 0).val < 128 + 128; omega⟩
      · exact ⟨Nat.zero_le _, by show (y 1).val < 0 + 128; omega⟩
    refine (dif_pos hp).trans ?_
    rw [dif_neg h]
    refine congrArg (qHi q) (funext fun a => Fin.ext ?_)
    fin_cases a <;> rfl

/-- The arrays that a grid point reads. -/
structure Ins (F : FTy → Type) where
  q : Vec F S1x2064x128 .bf16
  k : Vec F S1x2064x128 .bf16
  v : Vec F S1x2064x128 .bf16
  tri : Vec F S256x256 .bf16
  eye : Vec F S256x128 .bf16

/-- What a memory reads. -/
def St.ins (s : St F) : Ins F := ⟨s.q, s.k, s.v, s.tri, s.eye⟩

namespace Ins

variable (x : Ins F)

/-- The scores of one block. -/
def Z (b : ℕ × ℕ × ℕ) : FVec F S256x256 .f32 :=
  zOf (qBoth (chunk x.q b.1)) x.eye (kT (chunk x.k b.2.1)) (kT (chunk x.k (b.2.1 + 1))) (maskOf b.2.2)

/-- Their softplus. -/
def SP (b : ℕ × ℕ × ℕ) : FVec F S256x256 .bf16 := spOf (x.Z b)

/-- Its negated sums over the later keys of the block. -/
def INCL (b : ℕ × ℕ × ℕ) : FVec F S256x256 .f32 := inclOf (x.SP b) x.tri

/-- The weights of one block. -/
def W (b : ℕ × ℕ × ℕ) : FVec F S256x256 .bf16 := wOf (x.Z b) (x.INCL b)

/-- One block folded into the accumulator. -/
def fold (a : FVec F S256x128 .f32) (b : ℕ × ℕ × ℕ) : FVec F S256x128 .f32 :=
  accOf a (x.INCL b) (x.W b) (chunk x.v b.2.1) (chunk x.v (b.2.1 + 1))

/-- The empty accumulator. -/
def acc0 : FVec F S256x128 .f32 := broadcast S256x128 (Scalar.ofBits .f32 0x00000000#32 : F .f32)

/-- Query block `i` after the blocks of a list: its own are folded. -/
def accL (i : ℕ) (L : List (ℕ × ℕ × ℕ)) : FVec F S256x128 .f32 :=
  L.foldl (fun a b => if b.1 = i then x.fold a b else a) acc0

/-- Query block `i` after all its key blocks. -/
def acc (i : ℕ) : FVec F S256x128 .f32 := ((blocks.filter fun b => b.1 = i)).foldl x.fold acc0

/-- The output block. -/
def out : Vec F S1x2064x128 .bf16 := fun y =>
  outOf (x.acc ((y 1).val / 128)) (ix2 (⟨(y 1).val % 128, Nat.mod_lt _ (by decide)⟩ : Fin 128) (y 2))

end Ins

/-- Block `b` of the schedule. -/
def blk (b : ℕ) : ℕ × ℕ × ℕ := blocks.getD b (0, 0, 0)

theorem blk_lt : ∀ b < 81, (blk b).1 < 17 ∧ (blk b).2.1 + 1 < 17 ∧ (blk b).2.2 < 4 := by decide +kernel

theorem blocks_eq : blocks = (List.range 81).map blk := by decide +kernel

theorem stage0 (b : ℕ) : stageOp b 0 = .raw (blk b).1 (blk b).2.1 (blk b).2.2 (b % 11) := rfl
theorem stage1 (b : ℕ) : stageOp b 1 = .softplus (b % 11) := rfl
theorem stage2 (b : ℕ) : stageOp b 2 = .suffix (b % 11) := rfl
theorem stage3 (b : ℕ) : stageOp b 3 = .weights (b % 11) := rfl
theorem stage4 (b : ℕ) : stageOp b 4 = .accum (blk b).1 (blk b).2.1 (b % 11) := rfl

/-- What the memory holds when stage `r` has done `nᵣ` blocks. -/
structure Inv (x : Ins F) (n0 n1 n2 n3 n4 : ℕ) (s : St F) : Prop where
  ins : s.ins = x
  mask : ∀ kd < 4, s.mask kd = maskOf kd
  qs : ∀ i < 17, s.qs i = qBoth (chunk x.q i)
  kt : ∀ i < 17, s.kt i = kT (chunk x.k i)
  vc : ∀ i < 17, s.vc i = chunk x.v i
  z : ∀ b < n0, n0 ≤ b + 11 → s.z (b % 11) = x.Z (blk b)
  sp : ∀ b < n1, n1 ≤ b + 11 → s.sp (b % 11) = x.SP (blk b)
  incl : ∀ b < n2, n2 ≤ b + 11 → s.incl (b % 11) = x.INCL (blk b)
  w : ∀ b < n3, n3 ≤ b + 11 → s.w (b % 11) = x.W (blk b)
  acc : ∀ i, s.acc i = x.accL i ((List.range n4).map blk)

variable {x : Ins F} {n0 n1 n2 n3 n4 : ℕ} {s : St F}

theorem ring_ne {b n : ℕ} (h : b < n) (h' : n + 1 ≤ b + 11) : b % 11 ≠ n % 11 := by omega

theorem Inv.raw (h : Inv x n0 n1 n2 n3 n4 s) (hn : n0 < 81) : Inv x (n0 + 1) n1 n2 n3 n4 (step s (stageOp n0 0)) := by
  rw [stage0]
  obtain ⟨h1, h2, h3⟩ := blk_lt n0 hn
  refine ⟨h.ins, h.mask, h.qs, h.kt, h.vc, fun b hb hb' => ?_, h.sp, h.incl, h.w, h.acc⟩
  show Function.update s.z (n0 % 11) _ (b % 11) = _
  rcases Nat.lt_succ_iff_lt_or_eq.mp hb with hlt | rfl
  · rw [Function.update_of_ne (ring_ne hlt hb')]
    exact h.z b hlt (by omega)
  · rw [Function.update_self, h.qs _ h1, h.kt _ (by omega), h.kt _ h2, h.mask _ h3, ← h.ins]
    rfl

theorem Inv.softplus (h : Inv x n0 n1 n2 n3 n4 s) (hn : n1 < n0) (hn' : n0 ≤ n1 + 11) :
    Inv x n0 (n1 + 1) n2 n3 n4 (step s (stageOp n1 1)) := by
  rw [stage1]
  refine ⟨h.ins, h.mask, h.qs, h.kt, h.vc, h.z, fun b hb hb' => ?_, h.incl, h.w, h.acc⟩
  show Function.update s.sp (n1 % 11) _ (b % 11) = _
  rcases Nat.lt_succ_iff_lt_or_eq.mp hb with hlt | rfl
  · rw [Function.update_of_ne (ring_ne hlt hb')]
    exact h.sp b hlt (by omega)
  · rw [Function.update_self, h.z _ hn hn']
    rfl

theorem Inv.suffix (h : Inv x n0 n1 n2 n3 n4 s) (hn : n2 < n1) (hn' : n1 ≤ n2 + 11) :
    Inv x n0 n1 (n2 + 1) n3 n4 (step s (stageOp n2 2)) := by
  rw [stage2]
  refine ⟨h.ins, h.mask, h.qs, h.kt, h.vc, h.z, h.sp, fun b hb hb' => ?_, h.w, h.acc⟩
  show Function.update s.incl (n2 % 11) _ (b % 11) = _
  rcases Nat.lt_succ_iff_lt_or_eq.mp hb with hlt | rfl
  · rw [Function.update_of_ne (ring_ne hlt hb')]
    exact h.incl b hlt (by omega)
  · rw [Function.update_self, h.sp _ hn hn', ← h.ins]
    rfl

theorem Inv.weights (h : Inv x n0 n1 n2 n3 n4 s) (hn : n3 < n0) (hn' : n0 ≤ n3 + 11) (hm : n3 < n2) (hm' : n2 ≤ n3 + 11) :
    Inv x n0 n1 n2 (n3 + 1) n4 (step s (stageOp n3 3)) := by
  rw [stage3]
  refine ⟨h.ins, h.mask, h.qs, h.kt, h.vc, h.z, h.sp, h.incl, fun b hb hb' => ?_, h.acc⟩
  show Function.update s.w (n3 % 11) _ (b % 11) = _
  rcases Nat.lt_succ_iff_lt_or_eq.mp hb with hlt | rfl
  · rw [Function.update_of_ne (ring_ne hlt hb')]
    exact h.w b hlt (by omega)
  · rw [Function.update_self, h.z _ hn hn', h.incl _ hm hm']
    rfl

theorem Inv.accum (h : Inv x n0 n1 n2 n3 n4 s) (hn : n4 < n2) (hn' : n2 ≤ n4 + 11) (hm : n4 < n3) (hm' : n3 ≤ n4 + 11) (h81 : n4 < 81) :
    Inv x n0 n1 n2 n3 (n4 + 1) (step s (stageOp n4 4)) := by
  rw [stage4]
  obtain ⟨h1, h2, h3⟩ := blk_lt n4 h81
  refine ⟨h.ins, h.mask, h.qs, h.kt, h.vc, h.z, h.sp, h.incl, h.w, fun i => ?_⟩
  show Function.update s.acc (blk n4).1 _ i = _
  rw [List.range_succ, List.map_append]
  unfold Ins.accL
  rw [List.foldl_append]
  show _ = (if (blk n4).1 = i then _ else _)
  by_cases hi : (blk n4).1 = i
  · rw [if_pos hi]
    subst hi
    rw [Function.update_self, h.incl _ hn hn', h.w _ hm hm', h.vc _ (by omega), h.vc _ h2, h.acc]
    rfl
  · rw [if_neg hi, Function.update_of_ne (Ne.symm hi)]
    exact h.acc i

/-- Stage `r` of trip `t`, where there is one. -/
def go (t r : ℕ) (s : St F) : St F := if r ≤ t ∧ t - r < 81 then step s (stageOp (t - r) r) else s

theorem steps_filter (t : ℕ) (L : List ℕ) : ∀ s : St F,
    steps s (L.filterMap fun r => if r ≤ t ∧ t - r < 81 then some (stageOp (t - r) r) else none) = L.foldl (fun s r => go t r s) s := by
  induction L with
  | nil => exact fun _ => rfl
  | cons r L ih =>
    intro s
    rw [List.filterMap_cons, List.foldl_cons]
    by_cases h : r ≤ t ∧ t - r < 81
    · have e : go t r s = step s (stageOp (t - r) r) := if_pos h
      rw [e, ← ih, if_pos h]
      rfl
    · have e : go t r s = s := if_neg h
      rw [e, ← ih, if_neg h]

theorem steps_trip (s : St F) (t : ℕ) : steps s (trip t) = go t 0 (go t 1 (go t 2 (go t 3 (go t 4 s)))) :=
  steps_filter t [4, 3, 2, 1, 0] s

/-- How many blocks stage `r` has done after `t` trips. -/
def done (r t : ℕ) : ℕ := min (t - r) 81

theorem Inv.trip {t : ℕ} (h : Inv x (done 0 t) (done 1 t) (done 2 t) (done 3 t) (done 4 t) s) :
    Inv x (done 0 (t + 1)) (done 1 (t + 1)) (done 2 (t + 1)) (done 3 (t + 1)) (done 4 (t + 1)) (steps s (trip t)) := by
  rw [steps_trip]
  have hy : ∀ r, r ≤ t ∧ t - r < 81 → done r t = t - r ∧ done r (t + 1) = t - r + 1 := fun r hr => by unfold done; omega
  have hno : ∀ r, ¬ (r ≤ t ∧ t - r < 81) → done r (t + 1) = done r t := fun r hr => by unfold done; omega
  have h4 : Inv x (done 0 t) (done 1 t) (done 2 t) (done 3 t) (done 4 (t + 1)) (go t 4 s) := by
    unfold go
    split_ifs with hc
    · rw [(hy 4 hc).2]; rw [(hy 4 hc).1] at h
      exact h.accum (by unfold done; omega) (by unfold done; omega) (by unfold done; omega) (by unfold done; omega) hc.2
    · rw [hno 4 hc]; exact h
  have h3 : Inv x (done 0 t) (done 1 t) (done 2 t) (done 3 (t + 1)) (done 4 (t + 1)) (go t 3 (go t 4 s)) := by
    generalize go t 4 s = s at h4 ⊢
    unfold go
    split_ifs with hc
    · rw [(hy 3 hc).2]; rw [(hy 3 hc).1] at h4
      exact h4.weights (by unfold done; omega) (by unfold done; omega) (by unfold done; omega) (by unfold done; omega)
    · rw [hno 3 hc]; exact h4
  have h2 : Inv x (done 0 t) (done 1 t) (done 2 (t + 1)) (done 3 (t + 1)) (done 4 (t + 1)) (go t 2 (go t 3 (go t 4 s))) := by
    generalize go t 3 (go t 4 s) = s at h3 ⊢
    unfold go
    split_ifs with hc
    · rw [(hy 2 hc).2]; rw [(hy 2 hc).1] at h3
      exact h3.suffix (by unfold done; omega) (by unfold done; omega)
    · rw [hno 2 hc]; exact h3
  have h1 : Inv x (done 0 t) (done 1 (t + 1)) (done 2 (t + 1)) (done 3 (t + 1)) (done 4 (t + 1)) (go t 1 (go t 2 (go t 3 (go t 4 s)))) := by
    generalize go t 2 (go t 3 (go t 4 s)) = s at h2 ⊢
    unfold go
    split_ifs with hc
    · rw [(hy 1 hc).2]; rw [(hy 1 hc).1] at h2
      exact h2.softplus (by unfold done; omega) (by unfold done; omega)
    · rw [hno 1 hc]; exact h2
  generalize go t 1 (go t 2 (go t 3 (go t 4 s))) = s at h1 ⊢
  unfold go
  split_ifs with hc
  · rw [(hy 0 hc).2]; rw [(hy 0 hc).1] at h1
    exact h1.raw hc.2
  · rw [hno 0 hc]; exact h1

theorem steps_append (s : St F) (L M : List Op) : steps s (L ++ M) = steps (steps s L) M := List.foldl_append

theorem Inv.trips (h : Inv x 0 0 0 0 0 s) (t : ℕ) :
    Inv x (done 0 t) (done 1 t) (done 2 t) (done 3 t) (done 4 t) (steps s ((List.range t).flatMap Attn.trip)) := by
  induction t with
  | zero => exact h
  | succ t ih =>
    rw [List.range_succ, List.flatMap_append, steps_append]
    simpa using ih.trip

/-! ## Before the trips -/

theorem steps_masks (s : St F) (n : ℕ) : ∃ m, steps s ((List.range n).map Op.mask) = { s with mask := m } ∧ ∀ kd < n, m kd = maskOf kd := by
  induction n with
  | zero => exact ⟨s.mask, rfl, fun kd h => absurd h (Nat.not_lt_zero _)⟩
  | succ n ih =>
    obtain ⟨m, h, hm⟩ := ih
    refine ⟨Function.update m n (maskOf n), ?_, fun kd hk => ?_⟩
    · rw [List.range_succ, List.map_append, steps_append, h]
      rfl
    · rcases Nat.lt_succ_iff_lt_or_eq.mp hk with hlt | rfl
      · rw [Function.update_of_ne (by omega)]; exact hm kd hlt
      · exact Function.update_self ..

theorem steps_inits (s : St F) (n : ℕ) : ∃ a b d, steps s ((List.range n).map Op.init) = { s with qs := a, kt := b, vc := d }
    ∧ ∀ i < n, a i = qBoth (chunk s.q i) ∧ b i = kT (chunk s.k i) ∧ d i = chunk s.v i := by
  induction n with
  | zero => exact ⟨s.qs, s.kt, s.vc, rfl, fun i h => absurd h (Nat.not_lt_zero _)⟩
  | succ n ih =>
    obtain ⟨a, b, d, h, hi⟩ := ih
    refine ⟨Function.update a n (qStack (a n) (chunk s.q n)), Function.update b n (kT (chunk s.k n)), Function.update d n (chunk s.v n), ?_, fun i hk => ?_⟩
    · rw [List.range_succ, List.map_append, steps_append, h]
      rfl
    · rcases Nat.lt_succ_iff_lt_or_eq.mp hk with hlt | rfl
      · rw [Function.update_of_ne (by omega), Function.update_of_ne (by omega), Function.update_of_ne (by omega)]; exact hi i hlt
      · rw [Function.update_self, Function.update_self, Function.update_self]
        exact ⟨qStack_eq .., rfl, rfl⟩

theorem inv_start (s : St F) :
    Inv s.ins 0 0 0 0 0 (steps s ((List.range 4).map Op.mask ++ (List.range 17).map Op.init ++ [Op.zero])) := by
  rw [steps_append, steps_append]
  obtain ⟨m, hm, hm'⟩ := steps_masks s 4
  rw [hm]
  obtain ⟨a, b, d, hi, hi'⟩ := steps_inits { s with mask := m } 17
  rw [hi]
  exact ⟨rfl, hm', fun i h => (hi' i h).1, fun i h => (hi' i h).2.1, fun i h => (hi' i h).2.2,
    fun b h => absurd h (Nat.not_lt_zero _), fun b h => absurd h (Nat.not_lt_zero _), fun b h => absurd h (Nat.not_lt_zero _),
    fun b h => absurd h (Nat.not_lt_zero _), fun i => rfl⟩

/-! ## After the trips -/

theorem foldl_filter {α β : Type} (p : β → Prop) [DecidablePred p] (f : α → β → α) (a : α) (L : List β) :
    L.foldl (fun a b => if p b then f a b else a) a = (L.filter fun b => decide (p b)).foldl f a := by
  rw [List.foldl_filter]
  simp

theorem steps_outs (s : St F) (n : ℕ) : ∃ o, steps s ((List.range n).map Op.out) = { s with o := o }
    ∧ ∀ y : S1x2064x128.Idx, (y 1).val < 128 * n →
      o y = outOf (s.acc ((y 1).val / 128)) (ix2 (⟨(y 1).val % 128, Nat.mod_lt _ (by decide)⟩ : Fin 128) (y 2)) := by
  induction n with
  | zero => exact ⟨s.o, rfl, fun y h => absurd h (Nat.not_lt_zero _)⟩
  | succ n ih =>
    obtain ⟨o, h, ho⟩ := ih
    refine ⟨setOut o n (outOf (s.acc n)), ?_, fun y hy => ?_⟩
    · rw [List.range_succ, List.map_append, steps_append, h]
      rfl
    · unfold setOut
      split_ifs with hc
      · have e : (y 1).val / 128 = n := by omega
        rw [e]
        refine congrArg (outOf (s.acc n)) ?_
        congr 1
        exact Fin.ext (by show (y 1).val - 128 * n = (y 1).val % 128; omega)
      · exact ho y (by omega)

/-- The body leaves the output block that the inputs alone determine. -/
theorem steps_schedule (s : St F) : ∃ s', steps s schedule = s' ∧ s'.ins = s.ins ∧ s'.o = s.ins.out := by
  refine ⟨_, rfl, ?_⟩
  unfold schedule
  rw [steps_append, steps_append]
  have h := (inv_start s).trips 85
  generalize steps (steps s _) ((List.range 85).flatMap trip) = s₁ at h ⊢
  obtain ⟨o, ho, ho'⟩ := steps_outs s₁ 17
  rw [ho]
  refine ⟨h.ins, funext fun y => ?_⟩
  have hy : (y 1).val < 2064 := (y 1).isLt
  refine (ho' y (by omega)).trans ?_
  unfold Ins.out
  rw [h.acc]
  have e : s.ins.accL ((y 1).val / 128) ((List.range (done 4 85)).map blk) = s.ins.acc ((y 1).val / 128) := by
    unfold Ins.accL Ins.acc
    rw [show done 4 85 = 81 from rfl, ← blocks_eq]
    exact foldl_filter _ _ _ _
  rw [e]

/-- Query block `i` folds its key blocks in order; the last is masked. -/
theorem blocks_of : ∀ i < 17, (blocks.filter fun b => b.1 = i)
    = (List.range (nKeys i)).map fun j => if j + 1 < nKeys i then (i, 2 * j, 0) else if i = 16 then (16, 15, 3) else (i, 2 * j, 1 + i % 2) := by
  decide +kernel

end Cert.KernelIdeal.Attn
end
-- ==== Proof.Run.lean ====
/-
  The run of the attention kernel: at every grid point the body leaves the block that its inputs determine
  (`Ins.out`), so that the whole program ends with the array made of these blocks.
-/
module

public import proofs.«01_k».proof.Proof.Body
public import proofs.«01_k».proof.Proof.Schedule
public import proofs.«01_k».proof.Proof.Gen.KernelIdeal.Frame.Runs
public import Idealize.ShloMosaic.Lib.Claim

@[expose] public section

set_option maxRecDepth 16384

noncomputable section

namespace Cert.KernelIdeal.Attn

open Cert.KernelIdeal Cert.KernelIdeal.Gen Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body reads at point `t`. -/
def insAt (c : Dev nD) (t : Fin cfg0.N) : Ins F := ⟨iblk m c 0 t, iblk m c 1 t, iblk m c 2 t, iblk m c 3 t, iblk m c 4 t⟩

/-- The pipeline's data: every input block stays, the output block is the one that they determine. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (insAt m c t).out
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (insAt m c t).out := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The memrefs of point `t`. -/
def refsAt (t : Fin cfg0.N) : Refs :=
  ⟨ms0_0 t, ms0_1 t, ms0_2 t, ms0_3 t, ms0_4 t, ms0_5 t, scM0_0, scM0_1, scM0_2, scM0_3, scM0_4, scM0_5, scM0_6, scM0_7, scM0_8⟩

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body leaves its inputs, and the output block that they determine, whatever the scratch arrays held. -/
theorem body_leaves (c : Dev nD) (i : grid0.Coords) (A : Refs) {P : Prog (TpuEff nD τ sig (Elt F) Λ₀ .tc) PUnit} (h : Tri (F := F) c A P schedule)
    (s : St F) (K : PUnit → sProp 𝕄) :
    iprop(Own c A s ∗ (∀ s' : St F, ⌜s'.ins = s.ins ∧ s'.o = s.ins.out⌝ -∗ Own c A s' -∗ K ⟨⟩))
      ⊢ wp frame (wpE (defs₀ (F := F)) Variants.none (c : Thread nD τ) none) Set.univ P K := by
  obtain ⟨s', hs, hi, ho⟩ := steps_schedule s
  have hr := h.run s K
  rw [hs] at hr
  iintro ⟨H, HK⟩
  iapply hr
  isplitl [H]; · iexact H
  iapply HK
  ipureintro
  exact ⟨hi, ho⟩

theorem body_at (c : Dev nD) (t : Fin cfg0.N) : Tri (F := F) c (refsAt t) (bodyAt0 t) schedule :=
  body_runs c (grid0.coords t) (refsAt t) (hs0_0 t) (hs0_1 t) (hs0_2 t) (hs0_3 t) (hs0_4 t) (hs0_5 t)
    (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _)

theorem own_at (c : Dev nD) (t : Fin cfg0.N) (s : St F) : (Own c (refsAt t) s : sProp 𝕄) =
    iprop(owns (c : Thread nD τ) (ms0_0 t) fullShare s.q
    ∗ owns (c : Thread nD τ) (ms0_1 t) fullShare s.k
    ∗ owns (c : Thread nD τ) (ms0_2 t) fullShare s.v
    ∗ owns (c : Thread nD τ) (ms0_3 t) fullShare s.tri
    ∗ owns (c : Thread nD τ) (ms0_4 t) fullShare s.eye
    ∗ owns (c : Thread nD τ) (ms0_5 t) fullShare s.o
    ∗ owns (c : Thread nD τ) scM0_0 fullShare (stack s.mask)
    ∗ owns (c : Thread nD τ) scM0_1 fullShare (stack s.qs)
    ∗ owns (c : Thread nD τ) scM0_2 fullShare (stack s.kt)
    ∗ owns (c : Thread nD τ) scM0_3 fullShare (stack s.vc)
    ∗ owns (c : Thread nD τ) scM0_4 fullShare (stack s.acc)
    ∗ owns (c : Thread nD τ) scM0_5 fullShare (stack s.z)
    ∗ owns (c : Thread nD τ) scM0_6 fullShare (stack s.sp)
    ∗ owns (c : Thread nD τ) scM0_7 fullShare (stack s.incl)
    ∗ owns (c : Thread nD τ) scM0_8 fullShare (stack s.w)) := rfl

set_option maxHeartbeats 4000000 in
/-- The body at a generic point, from whatever its scratch arrays hold. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA0_eq]
  iintro ⟨⟨⟨⟨%x0, HS0⟩, ⟨%x1, HS1⟩, ⟨%x2, HS2⟩, ⟨%x3, HS3⟩, ⟨%x4, HS4⟩, ⟨%x5, HS5⟩, ⟨%x6, HS6⟩, ⟨%x7, HS7⟩, ⟨%x8, HS8⟩⟩, Hg⟩, Ho,
    ⟨%d0, H0⟩, ⟨%d1, H1⟩, ⟨%d2, H2⟩, ⟨%d3, H3⟩, ⟨%d4, H4⟩, ⟨%d5, H5⟩⟩
  obtain ⟨y0, rfl⟩ := exists_stack x0 (by decide)
  obtain ⟨y1, rfl⟩ := exists_stack x1 (by decide)
  obtain ⟨y2, rfl⟩ := exists_stack x2 (by decide)
  obtain ⟨y3, rfl⟩ := exists_stack x3 (by decide)
  obtain ⟨y4, rfl⟩ := exists_stack x4 (by decide)
  obtain ⟨y5, rfl⟩ := exists_stack x5 (by decide)
  obtain ⟨y6, rfl⟩ := exists_stack x6 (by decide)
  obtain ⟨y7, rfl⟩ := exists_stack x7 (by decide)
  obtain ⟨y8, rfl⟩ := exists_stack x8 (by decide)
  iapply (body_leaves c (grid0.coords t) (refsAt t) (body_at c t)
    (⟨iblk m c 0 t, iblk m c 1 t, iblk m c 2 t, iblk m c 3 t, iblk m c 4 t, (dats m 0 c).before 5 t d5, y0, y1, y2, y3, y4, y5, y6, y7, y8⟩ : St F) _)
  isplitr [Hg Ho]
  · rw [own_at]
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro %s' %hs'
  obtain ⟨hi, ho⟩ := hs'
  have e0 : s'.q = iblk m c 0 t := congrArg Ins.q hi
  have e1 : s'.k = iblk m c 1 t := congrArg Ins.k hi
  have e2 : s'.v = iblk m c 2 t := congrArg Ins.v hi
  have e3 : s'.tri = iblk m c 3 t := congrArg Ins.tri hi
  have e4 : s'.eye = iblk m c 4 t := congrArg Ins.eye hi
  have e5 : s'.o = (insAt m c t).out := ho
  rw [own_at, e0, e1, e2, e3, e4, e5]
  iintro ⟨H0, H1, H2, H3, H4, H5, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      iexists _; iexact HS8
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The program ends with every array at what the data say, and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame of the ideal kernel, at any float values. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.KernelIdeal.Attn
end
-- ==== Proof.Math.lean ====
/-
  Stick-breaking over the extended reals. One query has a score `z s` for every key `s` before it; the weight of a key
  is the exponential of its score plus the sum, over the keys from it on, of minus the softplus of the scores. Folding
  the keys block after block, each time scaling what is there by the exponential of the block's whole sum, gives the
  same total as taking all keys at once.
-/
module

public import Idealize.ShloMosaic.PureOps.Ideal
public import Idealize.ShloMosaic.Lib.IdealHost

@[expose] public section

noncomputable section

namespace Cert.Stick

open Idealize.ShloMosaic
open scoped BigOperators

/-- Softplus. -/
def sp (z : EReal) : EReal := max z 0 + Ideal.log (1 + Ideal.exp (-(max z (-z))))

theorem exp_bot : Ideal.exp ⊥ = 0 := rfl

theorem exp_top : Ideal.exp ⊤ = ⊤ := rfl

theorem exp_coe (r : ℝ) : Ideal.exp r = (Real.exp r : EReal) := rfl

theorem exp_zero : Ideal.exp 0 = 1 := by
  rw [← EReal.coe_zero, exp_coe, Real.exp_zero, EReal.coe_one]

theorem exp_add (x y : EReal) : Ideal.exp (x + y) = Ideal.exp x * Ideal.exp y := by
  induction x using EReal.rec with
  | bot => rw [EReal.bot_add, exp_bot, zero_mul]
  | top =>
    induction y using EReal.rec with
    | bot => rw [EReal.add_bot, exp_bot, mul_zero]
    | top => rw [EReal.top_add_top, exp_top, EReal.top_mul_top]
    | coe r => rw [EReal.top_add_coe, exp_top, exp_coe, EReal.top_mul_coe_of_pos (Real.exp_pos r)]
  | coe q =>
    induction y using EReal.rec with
    | bot => rw [EReal.add_bot, exp_bot, mul_zero]
    | top => rw [EReal.coe_add_top, exp_top, exp_coe, EReal.coe_mul_top_of_pos (Real.exp_pos q)]
    | coe r => rw [← EReal.coe_add, exp_coe, exp_coe, exp_coe, Real.exp_add, EReal.coe_mul]

theorem exp_nonneg (x : EReal) : 0 ≤ Ideal.exp x := by
  induction x using EReal.rec with
  | bot => exact le_rfl
  | top => exact le_top
  | coe r => rw [exp_coe]; exact_mod_cast (Real.exp_pos r).le

theorem exp_ne_top {x : EReal} (h : x ≤ 0) : Ideal.exp x ≠ ⊤ := by
  induction x using EReal.rec with
  | bot => rw [exp_bot]; exact EReal.zero_ne_top
  | top => simp at h
  | coe r => rw [exp_coe]; exact EReal.coe_ne_top _

theorem log_nonneg {x : EReal} (h : 0 ≤ x) : 0 ≤ Ideal.log (1 + x) := by
  induction x using EReal.rec with
  | bot => simp at h
  | top => rw [EReal.add_top_of_ne_bot (by rw [← EReal.coe_one]; exact EReal.coe_ne_bot 1)]; exact le_top
  | coe r =>
    have hr : (0 : ℝ) ≤ r := by exact_mod_cast h
    have e : (1 : EReal) + (r : EReal) = ((1 + r : ℝ) : EReal) := by push_cast; rfl
    rw [e]
    show (0 : EReal) ≤ if 1 + r ≤ 0 then ⊥ else (Real.log (1 + r) : EReal)
    rw [if_neg (by linarith)]
    exact_mod_cast Real.log_nonneg (by linarith)

theorem sp_nonneg (z : EReal) : 0 ≤ sp z := add_nonneg (le_max_right _ _) (log_nonneg (exp_nonneg _))

theorem log_one : Ideal.log (1 + 0) = 0 := by
  have e : (1 : EReal) + 0 = ((1 : ℝ) : EReal) := by simp
  rw [e]
  show (if (1 : ℝ) ≤ 0 then (⊥ : EReal) else (Real.log 1 : EReal)) = 0
  rw [if_neg (by norm_num), Real.log_one]; rfl

theorem log_one' : Ideal.log 1 = 0 := by rw [← log_one, add_zero]

theorem sp_bot : sp ⊥ = 0 := by
  simp only [sp, EReal.neg_bot, max_eq_right (bot_le : (⊥ : EReal) ≤ _), EReal.neg_top, exp_bot, log_one, log_one', add_zero]

theorem sp_top : sp ⊤ = ⊤ := by
  simp only [sp, EReal.neg_top, max_eq_left (le_top : _ ≤ (⊤ : EReal)), exp_bot, log_one, log_one', add_zero]

/-- The real softplus. -/
def spR (z : ℝ) : ℝ := max z 0 + Real.log (1 + Real.exp (-(max z (-z))))

theorem coe_max (a b : ℝ) : ((max a b : ℝ) : EReal) = max (a : EReal) (b : EReal) :=
  Monotone.map_max (fun _ _ h => EReal.coe_le_coe_iff.2 h)

theorem sp_coe (z : ℝ) : sp z = spR z := by
  have e : (max (z : EReal) (-(z : EReal))) = ((max z (-z) : ℝ) : EReal) := by
    rw [coe_max, EReal.coe_neg]
  have e0 : (max (z : EReal) 0) = ((max z 0 : ℝ) : EReal) := by rw [coe_max]; rfl
  have e1 : (1 : EReal) + Ideal.exp (-((max z (-z) : ℝ) : EReal)) = ((1 + Real.exp (-(max z (-z))) : ℝ) : EReal) := by
    rw [← EReal.coe_neg, exp_coe, EReal.coe_add]; rfl
  have hp : ¬ 1 + Real.exp (-(max z (-z))) ≤ 0 := by
    have := Real.exp_pos (-(max z (-z)))
    linarith
  have e2 : Ideal.log ((1 + Real.exp (-(max z (-z))) : ℝ) : EReal) = (Real.log (1 + Real.exp (-(max z (-z)))) : EReal) :=
    if_neg hp
  rw [sp, e, e0, e1, e2, spR, EReal.coe_add]

theorem spR_neg (z : ℝ) : -spR (-z) = z - spR z := by
  have e : max (-z) (- -z) = max z (-z) := by rw [neg_neg, max_comm]
  have e' : max (-z) 0 = max z 0 - z := by
    rcases le_total z 0 with h | h
    · rw [max_eq_left (by linarith), max_eq_right h]; ring
    · rw [max_eq_right (by linarith), max_eq_left h]; ring
  simp only [spR, e, e']; ring

/-- The exponent as the reference has it, and as the kernel has it: `g` is the key's own term and `C` the later keys'. -/
theorem exponent (z C : EReal) (hC : C ≤ 0) : -sp (-z) + ((-sp z + C) - -sp z) = z + (-sp z + C) := by
  induction z using EReal.rec with
  | bot => simp [sp_top, sp_bot]
  | top => simp [sp_top, sp_bot]
  | coe r =>
    rw [← EReal.coe_neg, sp_coe, sp_coe, ← EReal.coe_neg, ← EReal.coe_neg, spR_neg]
    have h1 : ((-spR r : ℝ) : EReal) + C - ((-spR r : ℝ) : EReal) = C := by
      rw [add_comm, EReal.add_sub_cancel_right]
    rw [h1, ← add_assoc, ← EReal.coe_add, sub_eq_add_neg]

theorem sum_mul {ι : Type} (S : Finset ι) (f : ι → EReal) {a : EReal} (h0 : 0 ≤ a) (h1 : a ≠ ⊤) : (∑ i ∈ S, f i) * a = ∑ i ∈ S, f i * a := by
  classical
  induction S using Finset.induction_on with
  | empty => simp
  | insert i S hi ih => rw [Finset.sum_insert hi, Finset.sum_insert hi, EReal.right_distrib_of_nonneg_of_ne_top h0 h1, ih]

section Query

variable (t : ℕ) (z v : ℕ → EReal)

/-- Minus the softplus of a key's score, for the keys that take part. -/
def g (s : ℕ) : EReal := if s < t then -sp (z s) else 0

theorem g_nonpos (s : ℕ) : g t z s ≤ 0 := by
  unfold g
  split
  · rw [EReal.neg_le, neg_zero]; exact sp_nonneg _
  · exact le_rfl

/-- Its sum over the keys from `a` up to `b`. -/
def C (a b : ℕ) : EReal := ∑ u ∈ Finset.Ico a b, g t z u

theorem C_nonpos (a b : ℕ) : C t z a b ≤ 0 := Finset.sum_nonpos fun u _ => g_nonpos t z u

theorem C_split {a b c : ℕ} (h : a ≤ b) (h' : b ≤ c) : C t z a c = C t z a b + C t z b c :=
  (Finset.sum_Ico_consecutive _ h h').symm

theorem C_from {a b : ℕ} (h : a < b) : C t z a b = g t z a + C t z (a + 1) b :=
  Finset.sum_eq_sum_Ico_succ_bot h _

/-- The weight of key `s` when the keys up to `b` are taken. -/
def wt (b s : ℕ) : EReal := if s < t then Ideal.exp (z s + C t z s b) else 0

/-- The weighted sum of the values over the keys up to `b`. -/
def A (b : ℕ) : EReal := ∑ s ∈ Finset.range b, wt t z b s * v s

theorem wt_more {b b' s : ℕ} (h : s ≤ b) (h' : b ≤ b') : wt t z b' s = wt t z b s * Ideal.exp (C t z b b') := by
  unfold wt
  split
  · rw [C_split t z h h', ← add_assoc, exp_add]
  · rw [zero_mul]

theorem A_zero : A t z v 0 = 0 := by simp [A]

/-- One more block of keys. -/
theorem A_more {b b' : ℕ} (h : b ≤ b') :
    A t z v b' = A t z v b * Ideal.exp (C t z b b') + ∑ s ∈ Finset.Ico b b', wt t z b' s * v s := by
  unfold A
  rw [sum_mul _ _ (exp_nonneg _) (exp_ne_top (C_nonpos t z b b')), Finset.range_eq_Ico, Finset.range_eq_Ico,
    ← Finset.sum_Ico_consecutive _ (Nat.zero_le b) h]
  congr 1
  refine Finset.sum_congr rfl fun s hs => ?_
  rw [wt_more t z (Finset.mem_Ico.1 hs).2.le h, mul_right_comm]

theorem C_enough {a b b' : ℕ} (h : t ≤ b) (h' : b ≤ b') (ha : a ≤ b) : C t z a b' = C t z a b := by
  rw [C_split t z ha h']
  have : C t z b b' = 0 := Finset.sum_eq_zero fun u hu => if_neg (by have := (Finset.mem_Ico.1 hu).1; omega)
  rw [this, add_zero]

/-- Keys past the query do not count. -/
theorem A_enough {b b' : ℕ} (h : t ≤ b) (h' : b ≤ b') : A t z v b' = A t z v b := by
  have h0 : C t z b b' = 0 := Finset.sum_eq_zero fun u hu => if_neg (by have := (Finset.mem_Ico.1 hu).1; omega)
  rw [A_more t z v h', h0]
  have h2 : ∑ s ∈ Finset.Ico b b', wt t z b' s * v s = 0 := Finset.sum_eq_zero fun u hu => by
    rw [wt, if_neg (by have := (Finset.mem_Ico.1 hu).1; omega), zero_mul]
  rw [exp_zero, h2, mul_one, add_zero]

/-- The reference's weight of a key. -/
theorem wt_ref {b s : ℕ} (h : s < t) (hb : s < b) :
    wt t z b s = Ideal.exp (-sp (-z s) + (C t z s b - g t z s)) := by
  rw [wt, if_pos h, C_from t z hb]
  have hg : g t z s = -sp (z s) := if_pos h
  rw [hg, exponent _ _ (C_nonpos t z _ _)]

/-- A block of 256 columns, starting at key `o`, of which the keys from `b` on take part. -/
theorem block_sum (o b : ℕ) (ho : o ≤ b) (hb : o = b ∨ t ≤ o + 256) (f : ℕ → EReal) (hf : ∀ s, t ≤ s → f s = 0) :
    (∑ l : Fin 256, if b ≤ o + l.val ∧ o + l.val < t then f (o + l.val) else 0) = ∑ s ∈ Finset.Ico b (b + 256), f s := by
  rw [Finset.sum_fin_eq_sum_range]
  have e : ∀ l ∈ Finset.range 256, (if h : l < 256 then if b ≤ o + (⟨l, h⟩ : Fin 256).val ∧ o + (⟨l, h⟩ : Fin 256).val < t then f (o + (⟨l, h⟩ : Fin 256).val) else 0 else 0)
      = if b ≤ o + l then f (o + l) else 0 := fun l hl => by
    rw [dif_pos (Finset.mem_range.1 hl)]
    by_cases h1 : b ≤ o + l
    · by_cases h2 : o + l < t
      · rw [if_pos ⟨h1, h2⟩, if_pos h1]
      · rw [if_neg (fun h => h2 h.2), if_pos h1, hf _ (by omega)]
    · rw [if_neg (fun h => h1 h.1), if_neg h1]
  rw [Finset.sum_congr rfl e, Finset.sum_ite, Finset.sum_const_zero, add_zero]
  rcases hb with rfl | hb
  · rw [Finset.filter_true_of_mem (fun l _ => Nat.le_add_right _ _), Finset.sum_Ico_eq_sum_range]
    congr 2; omega
  · rw [Finset.sum_Ico_eq_sum_range]
    have e2 : b + 256 - b = 256 := by omega
    rw [e2, ← Finset.sum_filter_add_sum_filter_not (Finset.range 256) (fun l => b + l < t)]
    have e3 : ∑ x ∈ Finset.range 256 with ¬ b + x < t, f (b + x) = 0 :=
      Finset.sum_eq_zero fun l hl => hf _ (by have := (Finset.mem_filter.1 hl).2; omega)
    rw [e3, add_zero, ← Finset.sum_filter_add_sum_filter_not (Finset.filter (fun l => b ≤ o + l) (Finset.range 256)) (fun l => o + l < t)]
    have e4 : ∑ x ∈ Finset.filter (fun l => b ≤ o + l) (Finset.range 256) with ¬ o + x < t, f (o + x) = 0 :=
      Finset.sum_eq_zero fun l hl => hf _ (by have := (Finset.mem_filter.1 hl).2; omega)
    rw [e4, add_zero]
    refine Finset.sum_bij' (fun l _ => l + o - b) (fun l _ => l + b - o) ?_ ?_ ?_ ?_ ?_
    · intro l hl; simp only [Finset.mem_filter, Finset.mem_range] at hl ⊢; omega
    · intro l hl; simp only [Finset.mem_filter, Finset.mem_range] at hl ⊢; omega
    · intro l hl; simp only [Finset.mem_filter, Finset.mem_range] at hl ⊢; omega
    · intro l hl; simp only [Finset.mem_filter, Finset.mem_range] at hl ⊢; omega
    · intro l hl; simp only [Finset.mem_filter, Finset.mem_range] at hl ⊢; congr 1; omega

end Query

end Cert.Stick
end
-- ==== Proof.Spec.lean ====
/-
  The attention as one formula of its queries, keys and values: what both programs are shown to compute.
-/
module

public import proofs.«01_k».proof.Proof.Math
public import Idealize.ShloMosaic.Lib.Pointwise

@[expose] public section

noncomputable section

namespace Cert.Stick

open Idealize.ShloMosaic
open scoped BigOperators

/-- Queries, keys or values: sequences of 2064 frames of eight heads of 64 lanes. -/
abbrev Arr : Type := (⟨3, ![8, 2064, 512]⟩ : Shape).Idx → EReal

/-- An eighth, the scale of the scores. -/
def eighth : EReal := Ideal.ofBits .f32 0x3E000000#32

theorem eighth_eq : eighth = (((1 : ℝ) / 8 : ℝ) : EReal) := by
  simp [eighth, Ideal.ofBits, Ideal.ieee, -EReal.coe_mul]
  norm_num

theorem eighth_nonneg : 0 ≤ eighth := by
  rw [eighth_eq]; exact_mod_cast (by norm_num : (0 : ℝ) ≤ 1 / 8)

theorem eighth_ne_top : eighth ≠ ⊤ := by
  rw [eighth_eq]; exact EReal.coe_ne_top _

/-- The score of key `s` for query `t` in head `h` of sequence `b`. -/
def score (q k : Arr) (b h : Fin 8) (t : Fin 2064) (s : ℕ) : EReal :=
  if hs : s < 2064 then
    (∑ d : Fin 64, q (ix3 b t ⟨h.val * 64 + d.val, by omega⟩) * k (ix3 b ⟨s, hs⟩ ⟨h.val * 64 + d.val, by omega⟩)) * eighth
  else 0

/-- Lane `n` of the values. -/
def value (v : Arr) (b : Fin 8) (n : Fin 512) (s : ℕ) : EReal := if hs : s < 2064 then v (ix3 b ⟨s, hs⟩ n) else 0

/-- The attention. -/
def attn (q k v : Arr) (b : Fin 8) (t : Fin 2064) (n : Fin 512) : EReal :=
  A t.val (score q k b ⟨n.val / 64, by omega⟩ t) (value v b n) 2064

end Cert.Stick
end
-- ==== Proof.Read.lean ====
/-
  The kernel's blocks over the extended reals: what each quantity of a block is at an index, and that folding a query
  block's key blocks gives the attention formula.
-/
module

public import proofs.«01_k».proof.Proof.Spec
public import proofs.«01_k».proof.Proof.Schedule
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen Idealize.ShloMosaic Idealize.SL.Sem
open Cert.Stick
open scoped BigOperators

/-- Frame `t` of a block, zero past its end. -/
def row (y : FVec Ideal S1x2064x128 .bf16) (t : ℕ) (d : Fin 128) : EReal :=
  if h : t < 2064 then y (ix3 (0 : Fin 1) ⟨t, h⟩ d) else 0

theorem chunk_at (y : FVec Ideal S1x2064x128 .bf16) (i : ℕ) (a d : Fin 128) : chunk (F := Ideal) y i (ix2 a d) = row y (128 * i + a.val) d := by
  unfold chunk row
  by_cases h : 128 * i + a.val < 2064
  · rw [dif_pos h]
    exact dif_pos h
  · rw [dif_neg h]
    exact (dif_neg h).trans Ideal.ofBits_zero_bf16

/-- Which columns of a block take part, by its kind. -/
def part : ℕ → ℕ → ℕ → Prop
  | 0, _, _ => True
  | 1, a, l => l < a
  | 2, a, l => l < a + 128
  | _, a, l => 128 ≤ l ∧ l < a + 128

instance (kd a l : ℕ) : Decidable (part kd a l) := by
  unfold part; split <;> infer_instance

theorem causal_at (lo off : ℕ) (hlo : lo < 1000) (hoff : off < 1000) (a : Fin 128) (l : Fin 256) :
    (causal (BitVec.ofNat 32 lo) (BitVec.ofNat 32 off) : FVec Ideal S128x256 .bf16) (ix2 a l) = if lo ≤ l.val ∧ l.val < a.val + off then 0 else ⊥ := by
  have e : (Named.named κ "masked" 0xF149F2CA#32 : Ideal .f32) = ⊥ := rfl
  unfold causal
  pointwise
  have e2 : IntOp.addi (BitVec.ofNat 32 a.val) (BitVec.ofNat 32 off) = BitVec.ofNat 32 (a.val + off) := (BitVec.ofNat_add a.val off).symm
  have ha : a.val < 128 := a.isLt
  have hl : l.val < 256 := l.isLt
  rw [e, e2]
  word_cmp

theorem mask_at (kd : ℕ) (a : Fin 128) (l : Fin 256) :
    (maskOf kd : FVec Ideal S128x256 .bf16) (ix2 a l) = if part kd a.val l.val then 0 else ⊥ := by
  match kd with
  | 0 => exact Ideal.ofBits_zero_bf16.trans (if_pos trivial).symm
  | 1 => exact (causal_at 0 0 (by omega) (by omega) a l).trans (if_congr (by show _ ↔ l.val < a.val; omega) rfl rfl)
  | 2 => exact (causal_at 0 128 (by omega) (by omega) a l).trans (if_congr (by show _ ↔ l.val < a.val + 128; omega) rfl rfl)
  | n + 3 => exact (causal_at 128 128 (by omega) (by omega) a l).trans (if_congr Iff.rfl rfl rfl)

theorem qLo_at (q : FVec Ideal S128x128 .bf16) (a d : Fin 128) : qLo q (ix2 a d) = if d.val < 64 then q (ix2 a d) else 0 := by
  unfold qLo lane
  pointwise
  word_cmp

theorem qHi_at (q : FVec Ideal S128x128 .bf16) (a d : Fin 128) : qHi q (ix2 a d) = if 64 ≤ d.val then q (ix2 a d) else 0 := by
  unfold qHi lane
  pointwise
  word_cmp

theorem qBoth_at (q : FVec Ideal S128x128 .bf16) (r : Fin 256) (d : Fin 128) :
    qBoth q (ix2 r d) = if d.val / 64 = r.val / 128 then q (ix2 (⟨r.val % 128, by omega⟩ : Fin 128) d) else 0 := by
  have hr : r.val < 256 := r.isLt
  have hd : d.val < 128 := d.isLt
  unfold qBoth
  by_cases h : r.val < 128
  · refine (dif_pos h).trans ((qLo_at q ⟨r.val, h⟩ d).trans ?_)
    have e : (⟨r.val, h⟩ : Fin 128) = ⟨r.val % 128, by omega⟩ := Fin.ext (by show r.val = r.val % 128; omega)
    rw [e]
    exact if_congr (by omega) rfl rfl
  · refine (dif_neg h).trans ((qHi_at q ⟨r.val - 128, by omega⟩ d).trans ?_)
    have e : (⟨r.val - 128, by omega⟩ : Fin 128) = ⟨r.val % 128, by omega⟩ := Fin.ext (by show r.val - 128 = r.val % 128; omega)
    rw [e]
    exact if_congr (by omega) rfl rfl

namespace Ins

variable (x : Ins Ideal)

/-- The score of key `s` for query `t` in half `h` of the lanes. -/
def zz (h t s : ℕ) : EReal := ∑ d : Fin 128, if d.val / 64 = h then row x.q t d * row x.k s d else 0

/-- The tables: the lower triangle of minus ones, and two unit matrices one above the other. -/
structure Tables : Prop where
  tri : ∀ k l : Fin 256, x.tri (ix2 k l) = if l.val ≤ k.val then (-1 : EReal) else 0
  eye : ∀ (r : Fin 256) (a : Fin 128), x.eye (ix2 r a) = if r.val % 128 = a.val then (1 : EReal) else 0

variable {x} (hx : x.Tables)
include hx

theorem Z_at (b : ℕ × ℕ × ℕ) (r l : Fin 256) :
    x.Z b (ix2 r l) = if part b.2.2 (r.val % 128) l.val then x.zz (r.val / 128) (128 * b.1 + r.val % 128) (128 * b.2.1 + l.val) else ⊥ := by
  unfold Z zOf
  pointwise
  have e1 : ∀ d : Fin 128, (qBoth (chunk x.q b.1) (ix2 r d) : EReal) * (if h : l.val < 128 then kT (chunk x.k b.2.1) (ix2 d ⟨l.val, h⟩)
        else kT (chunk x.k (b.2.1 + 1)) (ix2 d ⟨l.val - 128, by omega⟩))
      = if d.val / 64 = r.val / 128 then row x.q (128 * b.1 + r.val % 128) d * row x.k (128 * b.2.1 + l.val) d else 0 := fun d => by
    rw [qBoth_at, chunk_at]
    have e : (if h : l.val < 128 then kT (chunk x.k b.2.1) (ix2 d ⟨l.val, h⟩)
        else kT (chunk x.k (b.2.1 + 1)) (ix2 d ⟨l.val - 128, by omega⟩)) = row x.k (128 * b.2.1 + l.val) d := by
      by_cases h : l.val < 128
      · rw [dif_pos h]
        unfold kT
        pointwise
        rw [chunk_at]
      · rw [dif_neg h]
        unfold kT
        pointwise
        rw [chunk_at]
        congr 1
        show 128 * (b.2.1 + 1) + (l.val - 128) = _
        omega
    rw [e]
    split
    · rfl
    · exact zero_mul _
  have e2 : (∑ a : Fin 128, (x.eye (ix2 r a) : EReal) * (maskOf b.2.2 : FVec Ideal S128x256 .bf16) (ix2 a l)) = if part b.2.2 (r.val % 128) l.val then 0 else ⊥ := by
    rw [Finset.sum_eq_single (⟨r.val % 128, by omega⟩ : Fin 128)]
    · rw [hx.eye, if_pos rfl, one_mul, mask_at]
    · intro a _ ha
      rw [hx.eye, if_neg (fun h => ha (Fin.ext h.symm)), zero_mul]
    · intro h; exact absurd (Finset.mem_univ _) h
  refine (congrArg₂ (· + ·) (Finset.sum_congr rfl fun d _ => e1 d) e2).trans ?_
  show (x.zz _ _ _ : EReal) + _ = _
  split
  · exact add_zero _
  · exact EReal.add_bot _

omit hx in
theorem SP_at (b : ℕ × ℕ × ℕ) (r l : Fin 256) : x.SP b (ix2 r l) = sp (x.Z b (ix2 r l)) := by
  unfold SP spOf
  pointwise
  rw [sub_eq_add_neg, zero_add]
  rfl

theorem INCL_at (b : ℕ × ℕ × ℕ) (r l : Fin 256) :
    x.INCL b (ix2 r l) = ∑ k : Fin 256, if l.val ≤ k.val then -sp (x.Z b (ix2 r k)) else 0 := by
  unfold INCL inclOf
  pointwise
  refine Finset.sum_congr rfl fun k _ => ?_
  rw [SP_at, hx.tri]
  split
  · rw [mul_neg, mul_one]
  · rw [mul_zero]

omit hx in
theorem W_at (b : ℕ × ℕ × ℕ) (r l : Fin 256) : x.W b (ix2 r l) = Ideal.exp (x.Z b (ix2 r l) + x.INCL b (ix2 r l)) := by
  unfold W wOf
  pointwise

omit hx in
theorem fold_at (a : FVec Ideal S256x128 .f32) (b : ℕ × ℕ × ℕ) (r : Fin 256) (d : Fin 128) :
    x.fold a b (ix2 r d) = a (ix2 r d) * Ideal.exp (x.INCL b (ix2 r 0)) + ∑ l : Fin 256, x.W b (ix2 r l) * row x.v (128 * b.2.1 + l.val) d := by
  have e : (VecWindow.window (s := S256x256) (x.INCL b) ![0, 0] ![256, 1] (by decide) : FVec Ideal S256x1 .f32) (ix2 r 0) = x.INCL b (ix2 r 0) := by
    refine congrArg (x.INCL b) (funext fun a => Fin.ext ?_)
    fin_cases a
    · show 0 + 1 * r.val = r.val; omega
    · rfl
  unfold fold accOf accRaw
  pointwise [chunk_at]
  rw [e]
  refine congrArg (fun e : EReal => a (ix2 r d) * Ideal.exp (x.INCL b (ix2 r 0)) + e) ?_
  rw [Fin.sum_univ_two_halves 128 128 rfl (fun l => x.W b (ix2 r l) * row x.v (128 * b.2.1 + l.val) d)]
  refine congrArg₂ (· + ·) (Finset.sum_congr rfl fun l _ => rfl) (Finset.sum_congr rfl fun l _ => ?_)
  refine congrArg (fun n => (x.W b (ix2 r ⟨128 + l.val, by omega⟩) : EReal) * row x.v n d) ?_
  show 128 * (b.2.1 + 1) + l.val = 128 * b.2.1 + (128 + l.val)
  omega

/-- A block `(i, c, kd)` whose keys that take part are those from `256 j` on. -/
structure Keys (b : ℕ × ℕ × ℕ) (j : ℕ) : Prop where
  start : 128 * b.2.1 ≤ 256 * j
  whole : b.2.1 = 2 * j ∨ b.1 ≤ b.2.1 + 1
  part : ∀ a l : ℕ, a < 128 → l < 256 → (part b.2.2 a l ↔ 256 * j ≤ 128 * b.2.1 + l ∧ 128 * b.2.1 + l < 128 * b.1 + a)

section Block

variable {b : ℕ × ℕ × ℕ} {j : ℕ} (hb : Keys b j) (r : Fin 256)
include hb

omit hx in
theorem whole' : 128 * b.2.1 = 256 * j ∨ (128 * b.1 + r.val % 128) ≤ 128 * b.2.1 + 256 := by
  have h := hb.whole
  omega

theorem Z_key (l : Fin 256) :
    x.Z b (ix2 r l) = if 256 * j ≤ 128 * b.2.1 + l.val ∧ 128 * b.2.1 + l.val < (128 * b.1 + r.val % 128) then (x.zz (r.val / 128) (128 * b.1 + r.val % 128)) (128 * b.2.1 + l.val) else ⊥ :=
  (Z_at hx b r l).trans (if_congr (hb.part _ _ (Nat.mod_lt _ (by decide)) l.isLt) rfl rfl)

theorem sp_key (l : Fin 256) :
    -sp (x.Z b (ix2 r l)) = if 256 * j ≤ 128 * b.2.1 + l.val ∧ 128 * b.2.1 + l.val < (128 * b.1 + r.val % 128) then g (128 * b.1 + r.val % 128) (x.zz (r.val / 128) (128 * b.1 + r.val % 128)) (128 * b.2.1 + l.val) else 0 := by
  rw [Z_key hx hb r l]
  split
  · rename_i h
    rw [g, if_pos h.2]
  · rw [sp_bot, neg_zero]

theorem INCL_key (l : Fin 256) :
    x.INCL b (ix2 r l) = C (128 * b.1 + r.val % 128) (x.zz (r.val / 128) (128 * b.1 + r.val % 128)) (max (128 * b.2.1 + l.val) (256 * j)) (256 * j + 256) := by
  have hl : l.val < 256 := l.isLt
  have hs := hb.start
  rw [INCL_at hx]
  have e : ∀ k : Fin 256, (if l.val ≤ k.val then -sp (x.Z b (ix2 r k)) else 0)
      = if 256 * j ≤ 128 * b.2.1 + k.val ∧ 128 * b.2.1 + k.val < (128 * b.1 + r.val % 128) then
          (if 128 * b.2.1 + l.val ≤ 128 * b.2.1 + k.val then g (128 * b.1 + r.val % 128) (x.zz (r.val / 128) (128 * b.1 + r.val % 128)) (128 * b.2.1 + k.val) else 0) else 0 := fun k => by
    rw [sp_key hx hb r k]
    by_cases h : l.val ≤ k.val
    · rw [if_pos h, if_pos (by omega : 128 * b.2.1 + l.val ≤ 128 * b.2.1 + k.val)]
    · rw [if_neg h, if_neg (by omega : ¬ 128 * b.2.1 + l.val ≤ 128 * b.2.1 + k.val), ite_self]
  rw [Finset.sum_congr rfl fun k _ => e k,
    block_sum (128 * b.1 + r.val % 128) (128 * b.2.1) (256 * j) hb.start (whole' hb r) (fun u => if 128 * b.2.1 + l.val ≤ u then g (128 * b.1 + r.val % 128) (x.zz (r.val / 128) (128 * b.1 + r.val % 128)) u else 0)
      (fun u hu => by
        have e0 : g (128 * b.1 + r.val % 128) (x.zz (r.val / 128) (128 * b.1 + r.val % 128)) u = 0 := if_neg (by omega)
        rw [e0, ite_self])]
  rw [← Finset.sum_filter, C]
  refine Finset.sum_congr (Finset.ext fun u => ?_) fun _ _ => rfl
  simp only [Finset.mem_filter, Finset.mem_Ico]
  omega

theorem decay_key : x.INCL b (ix2 r 0) = C (128 * b.1 + r.val % 128) (x.zz (r.val / 128) (128 * b.1 + r.val % 128)) (256 * j) (256 * j + 256) := by
  have hs := hb.start
  rw [INCL_key hx hb r 0]
  congr 1
  show max (128 * b.2.1 + 0) (256 * j) = 256 * j
  omega

theorem W_key (l : Fin 256) :
    x.W b (ix2 r l) = if 256 * j ≤ 128 * b.2.1 + l.val ∧ 128 * b.2.1 + l.val < (128 * b.1 + r.val % 128) then wt (128 * b.1 + r.val % 128) (x.zz (r.val / 128) (128 * b.1 + r.val % 128)) (256 * j + 256) (128 * b.2.1 + l.val) else 0 := by
  rw [W_at, Z_key hx hb r l, INCL_key hx hb r l]
  split
  · rename_i h
    rw [wt, if_pos h.2, max_eq_left h.1]
  · rw [EReal.bot_add, exp_bot]

/-- Folding a block takes 256 more keys. -/
theorem fold_key (a : FVec Ideal S256x128 .f32) (d : Fin 128) (v : ℕ → EReal) (hv : v = fun s => row x.v s d)
    (ha : a (ix2 r d) = A (128 * b.1 + r.val % 128) (x.zz (r.val / 128) (128 * b.1 + r.val % 128)) v (256 * j)) : x.fold a b (ix2 r d) = A (128 * b.1 + r.val % 128) (x.zz (r.val / 128) (128 * b.1 + r.val % 128)) v (256 * j + 256) := by
  subst hv
  rw [fold_at, ha, decay_key hx hb r, A_more (128 * b.1 + r.val % 128) (x.zz (r.val / 128) (128 * b.1 + r.val % 128)) _ (Nat.le_add_right (256 * j) 256)]
  refine congrArg₂ (· + ·) rfl ?_
  rw [← block_sum (128 * b.1 + r.val % 128) (128 * b.2.1) (256 * j) hb.start (whole' hb r) (fun u => wt (128 * b.1 + r.val % 128) (x.zz (r.val / 128) (128 * b.1 + r.val % 128)) (256 * j + 256) u * row x.v u d)
      (fun u hu => by rw [wt, if_neg (by omega), zero_mul])]
  refine Finset.sum_congr rfl fun l _ => ?_
  rw [W_key hx hb r l]
  split
  · rfl
  · exact zero_mul _

end Block

/-- Key block `j` of query block `i`. -/
def keyBlock (i j : ℕ) : ℕ × ℕ × ℕ := if j + 1 < nKeys i then (i, 2 * j, 0) else if i = 16 then (16, 15, 3) else (i, 2 * j, 1 + i % 2)

omit hx in
theorem keyBlock_fst (i j : ℕ) : (keyBlock i j).1 = i := by
  unfold keyBlock
  split
  · rfl
  · split
    · rename_i h; exact h.symm
    · rfl

omit hx in
theorem keys (i j : ℕ) (hi : i < 17) (hj : j < nKeys i) : Keys (keyBlock i j) j := by
  unfold keyBlock
  unfold nKeys at hj ⊢
  by_cases h1 : j + 1 < i / 2 + 1
  · rw [if_pos h1]
    refine ⟨?_, Or.inl rfl, fun a l ha hl => ?_⟩
    · show 128 * (2 * j) ≤ 256 * j; omega
    · show True ↔ 256 * j ≤ 128 * (2 * j) + l ∧ 128 * (2 * j) + l < 128 * i + a
      rw [true_iff]; omega
  · rw [if_neg h1]
    by_cases h2 : i = 16
    · rw [if_pos h2]
      refine ⟨?_, Or.inr (by decide), fun a l ha hl => ?_⟩
      · show 128 * 15 ≤ 256 * j; omega
      · show (128 ≤ l ∧ l < a + 128) ↔ 256 * j ≤ 128 * 15 + l ∧ 128 * 15 + l < 128 * 16 + a
        omega
    · rw [if_neg h2]
      rcases Nat.mod_two_eq_zero_or_one i with h3 | h3
      · rw [h3]
        refine ⟨?_, Or.inl rfl, fun a l ha hl => ?_⟩
        · show 128 * (2 * j) ≤ 256 * j; omega
        · show l < a ↔ 256 * j ≤ 128 * (2 * j) + l ∧ 128 * (2 * j) + l < 128 * i + a
          omega
      · rw [h3]
        refine ⟨?_, Or.inl rfl, fun a l ha hl => ?_⟩
        · show 128 * (2 * j) ≤ 256 * j; omega
        · show l < a + 128 ↔ 256 * j ≤ 128 * (2 * j) + l ∧ 128 * (2 * j) + l < 128 * i + a
          omega

/-- A query block after `n` of its key blocks. -/
theorem folds (i : ℕ) (hi : i < 17) (r : Fin 256) (d : Fin 128) (n : ℕ) (hn : n ≤ nKeys i) :
    ((List.range n).map (keyBlock i)).foldl x.fold acc0 (ix2 r d)
      = A (128 * i + r.val % 128) (x.zz (r.val / 128) (128 * i + r.val % 128)) (fun s => row x.v s d) (256 * n) := by
  induction n with
  | zero => exact Ideal.ofBits_zero_f32.trans (A_zero _ _ _).symm
  | succ n ih =>
    rw [List.range_succ, List.map_append, List.foldl_append]
    have h := fold_key hx (keys i n hi (by omega)) r (((List.range n).map (keyBlock i)).foldl x.fold acc0) d _ rfl
    rw [keyBlock_fst] at h
    exact h (ih (by omega))

/-- A query block after all its key blocks. -/
theorem acc_at (i : ℕ) (hi : i < 17) (r : Fin 256) (d : Fin 128) (ht : 128 * i + r.val % 128 < 2064) :
    x.acc i (ix2 r d)
      = A (128 * i + r.val % 128) (x.zz (r.val / 128) (128 * i + r.val % 128)) (fun s => row x.v s d) 2064 := by
  have e : x.acc i = ((List.range (nKeys i)).map (keyBlock i)).foldl x.fold acc0 := by
    unfold acc; rw [blocks_of i hi]; rfl
  rw [e, folds hx i hi r d (nKeys i) le_rfl]
  have hr : r.val % 128 < 128 := Nat.mod_lt _ (by decide)
  have h1 : 128 * i + r.val % 128 ≤ 256 * nKeys i := by unfold nKeys; omega
  rw [← A_enough _ _ _ h1 (Nat.le_max_left _ 2064), ← A_enough _ _ _ ht.le (Nat.le_max_right (256 * nKeys i) 2064)]

/-- The output block at an index. -/
theorem out_at (t : Fin 2064) (n : Fin 128) :
    x.out (ix3 (0 : Fin 1) t n) = A t.val (x.zz (n.val / 64) t.val) (fun s => row x.v s n) 2064 := by
  have ht : t.val < 2064 := t.isLt
  have hn : n.val < 128 := n.isLt
  have key : ∀ (r : Fin 256), r.val % 128 = t.val % 128 → r.val / 128 = n.val / 64 →
      x.acc (t.val / 128) (ix2 r n) = A t.val (x.zz (n.val / 64) t.val) (fun s => row x.v s n) 2064 := fun r h1 h2 => by
    rw [acc_at hx (t.val / 128) (by omega) r n (by omega), h1, h2, Nat.div_add_mod]
  show outOf (x.acc (t.val / 128)) (ix2 (⟨t.val % 128, _⟩ : Fin 128) n) = _
  unfold outOf lane
  pointwise
  word_cmp
  by_cases h : n.val < 64
  · rw [if_pos h]
    exact key _ (Nat.mod_mod _ _) (by show t.val % 128 / 128 = _; omega)
  · rw [if_neg h]
    exact key _ (by show (128 + t.val % 128) % 128 = _; omega) (by show (128 + t.val % 128) / 128 = _; omega)

end Ins

end Cert.KernelIdeal.Attn
end
-- ==== Proof.Value.lean ====
/-
  What the attention kernel's run leaves, over the extended reals: the attention of its arguments.
-/
module

public import proofs.«01_k».proof.Proof.Run
public import proofs.«01_k».proof.Proof.Read
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.ShloMosaic.StableHlo Idealize.SL.Sem
open Cert.Stick
open scoped BigOperators

variable (m : (ℓ : Loc nD τ sig) → Buf (Elt Ideal) ℓ) (c : Dev nD)

/-- The queries. -/
def argQ : FVec Ideal S8x2064x512 .f32 := m ((c.tc : Thread nD τ).loc main_arg0)
/-- The keys. -/
def argK : FVec Ideal S8x2064x512 .f32 := m ((c.tc : Thread nD τ).loc main_arg1)
/-- The values. -/
def argV : FVec Ideal S8x2064x512 .f32 := m ((c.tc : Thread nD τ).loc main_arg2)

/-- Every window's block at every point. -/
theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![0, 0]
    ∧ win0_4.index t = ![0, 0]
    ∧ win0_5.index t = ![(grid0.coords t 0).val, 0, (grid0.coords t 1).val] := (by decide +kernel : ∀ t : Fin grid0.N, _)

theorem entry_q : V m c main_v2 = (truncf .bf16 (mulf (argQ m c)
    (broadcastInDim S8x2064x512 ![] bcast_S_S8x2064x512 (constant S_ .f32 0x3E000000#32))) bitsLt_bf16_f32 : FVec Ideal S8x2064x512 .bf16) := by
  simp only [V, V0, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  rfl

theorem entry_k : V m c main_v3 = (truncf .bf16 (argK m c) bitsLt_bf16_f32 : FVec Ideal S8x2064x512 .bf16) := by
  simp only [V, V0, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  rfl

theorem entry_v : V m c main_v4 = (truncf .bf16 (argV m c) bitsLt_bf16_f32 : FVec Ideal S8x2064x512 .bf16) := by
  simp only [V, V0, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  rfl

/-- The lower triangle of minus ones. -/
def triTable : FVec Ideal S256x256 .bf16 :=
  truncf .bf16 (select (cmpi .sge (iotaInDim S256x256 32 0) (iotaInDim S256x256 32 1))
    (broadcastInDim S256x256 ![] bcast_S_S256x256 (constant S_ .f32 0xBF800000#32))
    (broadcastInDim S256x256 ![] bcast_S_S256x256 (constant S_ .f32 0x00000000#32))) bitsLt_bf16_f32

/-- Two unit matrices, one above the other. -/
def eyeTable : FVec Ideal S256x128 .bf16 :=
  truncf .bf16 (select (ori (cmpi .eq (iotaInDim S256x128 32 0) (iotaInDim S256x128 32 1))
      (cmpi .eq (iotaInDim S256x128 32 0) (addi (iotaInDim S256x128 32 1) (broadcastInDim S256x128 ![] bcast_S_S256x128 (constantI S_ 32 128#32)))))
    (broadcastInDim S256x128 ![] bcast_S_S256x128 (constant S_ .f32 0x3F800000#32))
    (broadcastInDim S256x128 ![] bcast_S_S256x128 (constant S_ .f32 0x00000000#32))) bitsLt_bf16_f32

theorem entry_tri : V m c main_v9 = triTable := by
  simp only [V, V0, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  rfl

theorem entry_eye : V m c main_v18 = eyeTable := by
  simp only [V, V0, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  rfl

theorem neg_one : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

theorem tri_at (k l : Fin 256) : triTable (ix2 k l) = if l.val ≤ k.val then (-1 : EReal) else 0 := by
  have hk : k.val < 256 := k.isLt
  have hl : l.val < 256 := l.isLt
  unfold triTable
  pointwise
  rw [neg_one]
  word_cmp

theorem eye_at (r : Fin 256) (a : Fin 128) : eyeTable (ix2 r a) = if r.val % 128 = a.val then (1 : EReal) else 0 := by
  have hr : r.val < 256 := r.isLt
  have ha : a.val < 128 := a.isLt
  have e2 : IntOp.addi (BitVec.ofNat 32 a.val) 128#32 = BitVec.ofNat 32 (a.val + 128) := (BitVec.ofNat_add a.val 128).symm
  unfold eyeTable
  pointwise
  rw [e2]
  word_cmp
  exact if_congr (by omega) rfl rfl

/-- The tables reach every grid point. -/
theorem tables (t : Fin cfg0.N) : (insAt m c t).Tables where
  tri k l := by
    show iblk m c 3 t (ix2 k l) = _
    rw [← tri_at, ← entry_tri m c]
    blk_ext [iblk, idx t]
  eye r a := by
    show iblk m c 4 t (ix2 r a) = _
    rw [← eye_at, ← entry_eye m c]
    blk_ext [iblk, idx t]

/-- The sequence of a grid point. -/
def seqOf (t : Fin cfg0.N) : Fin 8 := ⟨(grid0.coords t 0).val, (grid0.coords t 0).isLt⟩

theorem pair_lt (t : Fin cfg0.N) : (grid0.coords t 1).val < 4 := (grid0.coords t 1).isLt

/-- A lane of a grid point's block among all lanes. -/
def laneOf (t : Fin cfg0.N) (d : Fin 128) : Fin 512 := ⟨(grid0.coords t 1).val * 128 + d.val, by have := pair_lt t; omega⟩

theorem q_at (t : Fin cfg0.N) (s : ℕ) (hs : s < 2064) (d : Fin 128) :
    row (insAt m c t).q s d = argQ m c (ix3 (seqOf t) ⟨s, hs⟩ (laneOf t d)) * eighth := by
  unfold row
  rw [dif_pos hs]
  show iblk m c 0 t (ix3 (0 : Fin 1) ⟨s, hs⟩ d) = _
  have e : ∀ i, (V m c main_v2 : FVec Ideal S8x2064x512 .bf16) i = argQ m c i * eighth := fun i => by
    rw [entry_q]; pointwise; rfl
  rw [← e]
  unfold seqOf laneOf
  blk_ext [iblk, idx t]

theorem k_at (t : Fin cfg0.N) (s : ℕ) (hs : s < 2064) (d : Fin 128) :
    row (insAt m c t).k s d = argK m c (ix3 (seqOf t) ⟨s, hs⟩ (laneOf t d)) := by
  unfold row
  rw [dif_pos hs]
  show iblk m c 1 t (ix3 (0 : Fin 1) ⟨s, hs⟩ d) = _
  have e : ∀ i, (V m c main_v3 : FVec Ideal S8x2064x512 .bf16) i = argK m c i := fun i => by
    rw [entry_k]; rfl
  rw [← e]
  unfold seqOf laneOf
  blk_ext [iblk, idx t]

theorem v_at (t : Fin cfg0.N) (s : ℕ) (hs : s < 2064) (d : Fin 128) :
    row (insAt m c t).v s d = argV m c (ix3 (seqOf t) ⟨s, hs⟩ (laneOf t d)) := by
  unfold row
  rw [dif_pos hs]
  show iblk m c 2 t (ix3 (0 : Fin 1) ⟨s, hs⟩ d) = _
  have e : ∀ i, (V m c main_v4 : FVec Ideal S8x2064x512 .bf16) i = argV m c i := fun i => by
    rw [entry_v]; rfl
  rw [← e]
  unfold seqOf laneOf
  blk_ext [iblk, idx t]

/-- A sum over the lanes of one half. -/
theorem half_sum (h : ℕ) (hh : h < 2) (f : Fin 128 → EReal) :
    (∑ d : Fin 128, if d.val / 64 = h then f d else 0) = ∑ d : Fin 64, f ⟨h * 64 + d.val, by omega⟩ := by
  rw [Fin.sum_univ_two_halves 64 64 rfl]
  have e0 : ∀ d : Fin 64, d.val / 64 = 0 := fun d => by omega
  have e1 : ∀ d : Fin 64, (64 + d.val) / 64 = 1 := fun d => by omega
  obtain rfl | rfl : h = 0 ∨ h = 1 := by omega
  · rw [Finset.sum_congr rfl fun d _ => if_pos (e0 d),
      Finset.sum_eq_zero (f := fun d : Fin 64 => if (64 + d.val) / 64 = 0 then f ⟨64 + d.val, by omega⟩ else 0) fun d _ => if_neg (by have := e1 d; omega), add_zero]
    refine Finset.sum_congr rfl fun d _ => congrArg f (Fin.ext ?_)
    show d.val = 0 * 64 + d.val
    omega
  · rw [Finset.sum_eq_zero (f := fun d : Fin 64 => if d.val / 64 = 1 then f ⟨d.val, by omega⟩ else 0) fun d _ => if_neg (by have := e0 d; omega), zero_add]
    refine Finset.sum_congr rfl fun d _ => (if_pos (e1 d)).trans (congrArg f (Fin.ext ?_))
    show 64 + d.val = 1 * 64 + d.val
    omega

theorem zz_at (t : Fin cfg0.N) (n : Fin 128) (u : Fin 2064) :
    (insAt m c t).zz (n.val / 64) u.val
      = score (argQ m c) (argK m c) (seqOf t) ⟨(laneOf t n).val / 64, by have := (laneOf t n).isLt; omega⟩ u := by
  have hp := pair_lt t
  funext s
  unfold Ins.zz score
  by_cases hs : s < 2064
  · rw [dif_pos hs, half_sum (n.val / 64) (by omega), sum_mul _ _ eighth_nonneg eighth_ne_top]
    refine Finset.sum_congr rfl fun d _ => ?_
    rw [q_at m c t u.val u.isLt, k_at m c t s hs, mul_right_comm]
    have e : laneOf t ⟨n.val / 64 * 64 + d.val, by omega⟩ = ⟨(laneOf t n).val / 64 * 64 + d.val, by have := (laneOf t n).isLt; omega⟩ := by
      refine Fin.ext ?_
      show (grid0.coords t 1).val * 128 + (n.val / 64 * 64 + d.val) = ((grid0.coords t 1).val * 128 + n.val) / 64 * 64 + d.val
      omega
    rw [e]
  · rw [dif_neg hs]
    refine Finset.sum_eq_zero fun d _ => ?_
    have e : row (insAt m c t).k s d = 0 := dif_neg hs
    rw [e, mul_zero, ite_self]

/-- The block that a grid point leaves. -/
theorem point (t : Fin cfg0.N) (u : Fin 2064) (n : Fin 128) :
    (insAt m c t).out (ix3 (0 : Fin 1) u n) = attn (argQ m c) (argK m c) (argV m c) (seqOf t) u (laneOf t n) := by
  have e : (fun s => row (insAt m c t).v s n) = value (argV m c) (seqOf t) (laneOf t n) := by
    funext s
    unfold value
    by_cases hs : s < 2064
    · rw [dif_pos hs, v_at m c t s hs]
    · rw [dif_neg hs]
      exact dif_neg hs
  rw [Ins.out_at (tables m c t), zz_at, e]
  rfl

/-- The attention as an array. -/
def whole : FVec Ideal S8x2064x512 .bf16 := fun y => attn (argQ m c) (argK m c) (argV m c) (y 0) (y 1) (y 2)

/-- The array that the kernel leaves. -/
theorem final : (dats m 0 c).arrAt 5 (cfgs 0).N = whole m c := by
  refine (dats m 0 c).arrAt_eq_of_covers 5 _ (by decide +kernel) fun t hf y => ?_
  blk_simp
  rw [after5]
  idx_vars y
  obtain rfl : y0 = 0 := Subsingleton.elim _ _
  refine (point m c t y1 y2).trans ?_
  show whole m c (ix3 (seqOf t) y1 (laneOf t y2)) = _
  refine congrArg (whole m c) ?_
  unfold seqOf laneOf
  blk_ext [iblk, idx t]

/-- The program's result is the kernel's array. -/
theorem result_eq : Pipeline.afterTail₀ cfgs (dats m) 0 (V0 m) [hostOps1] c main_v20 = whole m c := by
  unfold Pipeline.afterTail₀
  simp only [hostOps1, List.flatten_cons, List.flatten_nil, List.append_nil, List.nil_append, List.cons_append, TRef.unary]
  after_results_simp
  have e : Pipeline.withArrays (cfgs 0).spec c (V0 m c) (fun w => (dats m 0 c).arrAt w (cfgs 0).N) (Proc.tc.devRef main_v19)
      = whole m c :=
    (Pipeline.withArrays_arr (cfgs 0).spec (by decide +kernel) c (V0 m c) (fun w => (dats m 0 c).arrAt w (cfgs 0).N) 5).trans (final m c)
  rw [e]
  rfl

/-- The program leaves the attention of its arguments. -/
theorem leaves (ρ : Dev nD → PrngReg) : θ_run defs (onTc (τ := τ) (main (F := Ideal))) ⟨m, fun _ => 0, ρ⟩ (fun r => ∀ c : Dev nD,
      r.2.mem ((c.tc : Thread nD τ).loc main_v20) = whole m c) := by
  run_from (run m ρ)
  exact result_eq m c

end Cert.KernelIdeal.Attn
end
-- ==== Proof.RefValue.lean ====
/-
  The reference at an index: the attention formula.
-/
module

public import proofs.«01_k».proof.Proof.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem
open Cert.Stick
open scoped BigOperators

abbrev Sq : Type := FVec Ideal S8x8x2064x2064 .f32

/-- The zero of the scores' shape. -/
def zeros : Sq := broadcastInDim S8x8x2064x2064 ![] bcast_S_S8x8x2064x2064 (constant S_ .f32 0x00000000#32)

/-- Heads split off and moved in front. -/
def heads (x : FVec Ideal S8x2064x512 .f32) : FVec Ideal S8x8x2064x64 .f32 :=
  transpose S8x8x2064x64 [0, 2, 1, 3] (shapeCast S8x2064x8x64 x shapeCasts_S8x2064x512_S8x2064x8x64) transposes_S8x2064x8x64_S8x8x2064x64_0_2_1_3

/-- The scores. -/
def scores (q k : FVec Ideal S8x2064x512 .f32) : Sq :=
  mulf (Host.dotGeneral dot_S8x8x2064x64_S8x8x2064x64_S8x8x2064x2064_3_3_2_2_01_01 none (heads q) (heads k))
    (broadcastInDim S8x8x2064x2064 ![] bcast_S_S8x8x2064x2064 (constant S_ .f32 0x3E000000#32))

/-- Softplus as it is written. -/
def softplus (x : Sq) : Sq :=
  select (cmpf .une (subf x zeros) (subf x zeros)) (addf x zeros)
    (addf (maximumf x zeros) (Host.log1p (Host.exp (Host.negf (Host.absf (subf x zeros))))))

/-- Which keys take part. -/
def causal : IVec S8x8x2064x2064 1 := broadcastInDim S8x8x2064x2064 ![2, 3] bcast_S2064x2064_S8x8x2064x2064_2_3
  (cmpi .slt (broadcastInDim S2064x2064 ![0, 1] bcast_S1x2064_S2064x2064_0_1 (broadcastInDim S1x2064 ![1] bcast_S2064_S1x2064_1 (iotaInDim S2064 32 0)))
    (broadcastInDim S2064x2064 ![0, 1] bcast_S2064x1_S2064x2064_0_1 (broadcastInDim S2064x1 ![0] bcast_S2064_S2064x1_0 (iotaInDim S2064 32 0))))

/-- What each key leaves of the stick. -/
def keep (z : Sq) : Sq := select causal (Host.negf (softplus (Host.negf (Host.negf z))))
  (broadcastInDim S8x8x2064x2064 ![] bcast_S_S8x8x2064x2064 (id (constant S_ .f32 0x00000000#32)))

/-- Its sums over the later keys. -/
def sums (x : Sq) : Sq := Host.reduceWindowAdd ![1, 1, 1, 2064] ![1, 1, 1, 1] ![0, 0, 0, 0] ![0, 0, 0, 2063] x
  (broadcastInDim S_ ![] bcast_S_S_ (constant S_ .f32 0x00000000#32) : FVec Ideal S_ .f32)
  reduceWindows_S8x8x2064x2064_S8x8x2064x2064_w1s1p0_0_w1s1p0_0_w1s1p0_0_w2064s1p0_2063 h_S_

/-- The weights. -/
def weights (z : Sq) : Sq := select causal (Host.exp (addf (Host.negf (softplus (Host.negf z))) (subf (sums (keep z)) (keep z))))
  (broadcastInDim S8x8x2064x2064 ![] bcast_S_S8x8x2064x2064 (id (constant S_ .f32 0x00000000#32)))

/-- The result. -/
def result (q k v : FVec Ideal S8x2064x512 .f32) : FVec Ideal S8x2064x512 .f32 :=
  shapeCast S8x2064x512 (transpose S8x2064x8x64 [0, 2, 1, 3]
    (Host.dotGeneral dot_S8x8x2064x2064_S8x8x2064x64_S8x8x2064x64_3_2_2_3_01_01 none (weights (scores q k)) (heads v))
    transposes_S8x8x2064x64_S8x2064x8x64_0_2_1_3) shapeCasts_S8x2064x8x64_S8x2064x512

theorem res_eq (m : (ℓ : Loc nD τ sig) → Buf (Elt Ideal) ℓ) (c : Dev nD) :
    res_main_v26 m c = result (m ((c.tc : Thread nD τ).loc main_arg0)) (m ((c.tc : Thread nD τ).loc main_arg1)) (m ((c.tc : Thread nD τ).loc main_arg2)) := rfl

theorem scores_at (q k : FVec Ideal S8x2064x512 .f32) (b h : Fin 8) (t s : Fin 2064) :
    scores q k (ix4 b h t s) = score q k b h t s.val := by
  unfold scores heads score
  rw [dif_pos s.isLt]
  pointwise
  rfl

theorem softplus_at (x : Sq) (b h : Fin 8) (t s : Fin 2064) : softplus x (ix4 b h t s) = sp (x (ix4 b h t s)) := by
  unfold softplus zeros sp
  pointwise
  rw [if_neg (fun h => h rfl)]
  rfl

theorem keep_at (z : Sq) (b h : Fin 8) (t s : Fin 2064) :
    keep z (ix4 b h t s) = if s.val < t.val then -sp (z (ix4 b h t s)) else 0 := by
  unfold keep causal
  pointwise [softplus_at]
  word_cmp
  have e : (id (constant (F := Ideal) S_ .f32 0x00000000#32) : FVec Ideal S_ .f32) ix0 = 0 := Ideal.ofBits_zero_f32
  rw [neg_neg]
  exact congrArg _ e

theorem foldl_add {ι : Type} (f : ι → EReal) (L : List ι) (v : EReal) : L.foldl (fun r n => r + f n) v = v + (L.map f).sum := by
  induction L generalizing v with
  | nil => simp
  | cons a L ih => rw [List.foldl_cons, ih, List.map_cons, List.sum_cons, add_assoc]

/-- A window's sum, over the positions of the window. -/
theorem reduceWindow_sum {s t u : Shape} (window strides lo hi : Fin s.rank → ℕ) (x : s.Idx → EReal) (init : u.Idx → EReal)
    (h : s.ReduceWindows window strides lo hi t) (hu : 0 < u.numel) (j : t.Idx) :
    Host.reduceWindow (· + ·) window strides lo hi x init h hu j = init (Shape.Idx.first hu)
      + ∑ i : (⟨s.rank, window⟩ : Shape).Idx,
        if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else init (Shape.Idx.first hu) := by
  refine (foldl_add _ _ _).trans (congrArg _ ?_)
  rw [← Fin.sum_univ_def]
  refine Eq.trans ?_ ((⟨s.rank, window⟩ : Shape).rowMajor.symm.sum_comp (fun i : (⟨s.rank, window⟩ : Shape).Idx =>
    if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else init (Shape.Idx.first hu)))
  refine Finset.sum_congr rfl fun n _ => ?_
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

theorem sums_at (x : Sq) (b h : Fin 8) (t s : Fin 2064) :
    sums x (ix4 b h t s) = ∑ w : Fin 2064, if hw : s.val + w.val < 2064 then x (ix4 b h t ⟨s.val + w.val, hw⟩) else 0 := by
  have e : (broadcastInDim S_ ![] bcast_S_S_ (constant S_ .f32 0x00000000#32) : FVec Ideal S_ .f32) (Shape.Idx.first h_S_) = 0 := by pointwise
  have e1 : sums x = Host.reduceWindow (· + ·) ![1, 1, 1, 2064] ![1, 1, 1, 1] ![0, 0, 0, 0] ![0, 0, 0, 2063] x
      (fun _ : (⟨0, ![]⟩ : Shape).Idx => (0 : EReal)) reduceWindows_S8x8x2064x2064_S8x8x2064x2064_w1s1p0_0_w1s1p0_0_w1s1p0_0_w2064s1p0_2063 (by decide) := by
    unfold sums Host.reduceWindowAdd
    rw [e]
    show Ideal.hostReduceWindowAdd _ _ _ _ _ _ _ = _
    unfold Ideal.hostReduceWindowAdd
    rfl
  rw [e1, reduceWindow_sum, zero_add]
  refine (sum_idx4 (n0 := 1) (n1 := 1) (n2 := 1) (n3 := 2064) _).trans ?_
  rw [Fin.sum_univ_one, Fin.sum_univ_one, Fin.sum_univ_one]
  refine Finset.sum_congr rfl fun w _ => ?_
  have hc : ∀ a : Fin 4, (![b.val, h.val, t.val, s.val + w.val] : Fin 4 → ℕ) a
      = (ix4 b h t s (a.cast rfl)).val * (![1, 1, 1, 1] : Fin 4 → ℕ) a + (ix4 (0 : Fin 1) (0 : Fin 1) (0 : Fin 1) w a).val - (![0, 0, 0, 0] : Fin 4 → ℕ) a := by
    intro a
    fin_cases a
    · show b.val = b.val * 1 + 0 - 0; omega
    · show h.val = h.val * 1 + 0 - 0; omega
    · show t.val = t.val * 1 + 0 - 0; omega
    · show s.val + w.val = s.val * 1 + w.val - 0; omega
  by_cases hw : s.val + w.val < 2064
  · rw [dif_pos hw]
    refine (dif_pos ?_).trans (congrArg x (funext fun a => Fin.ext ?_))
    · intro a
      refine ⟨?_, lt_of_eq_of_lt (hc a).symm ?_⟩
      · fin_cases a <;> exact Nat.zero_le _
      · fin_cases a
        · exact b.isLt
        · exact h.isLt
        · exact t.isLt
        · exact hw
    · refine (hc a).symm.trans ?_
      fin_cases a <;> rfl
  · rw [dif_neg hw]
    refine dif_neg fun hh => hw ?_
    exact lt_of_eq_of_lt (hc 3) (hh 3).2

/-- The sums of the keys' shares are those of the formula. -/
theorem sums_keep (q k : FVec Ideal S8x2064x512 .f32) (b h : Fin 8) (t s : Fin 2064) :
    sums (keep (scores q k)) (ix4 b h t s) = C t.val (score q k b h t) s.val 2064 := by
  rw [sums_at, C, Finset.sum_Ico_eq_sum_range]
  refine (Finset.sum_fin_eq_sum_range _).trans ?_
  have hs : s.val < 2064 := s.isLt
  rw [← Finset.sum_subset (Finset.range_subset_range.2 (Nat.sub_le 2064 s.val))]
  · refine Finset.sum_congr rfl fun w hw => ?_
    have hw' : w < 2064 - s.val := Finset.mem_range.1 hw
    rw [dif_pos (by omega : w < 2064)]
    refine (dif_pos (show s.val + w < 2064 by omega)).trans ?_
    rw [keep_at, scores_at]
    rfl
  · intro w hw hw'
    have h1 : w < 2064 := Finset.mem_range.1 hw
    have h2 : ¬ w < 2064 - s.val := fun h => hw' (Finset.mem_range.2 h)
    rw [dif_pos h1]
    exact dif_neg (show ¬ s.val + w < 2064 by omega)

theorem weights_at (q k : FVec Ideal S8x2064x512 .f32) (b h : Fin 8) (t s : Fin 2064) :
    weights (scores q k) (ix4 b h t s) = wt t.val (score q k b h t) 2064 s.val := by
  unfold weights causal
  pointwise [softplus_at, sums_keep, keep_at, scores_at]
  word_cmp
  by_cases hs : s.val < t.val
  · rw [if_pos hs, if_pos hs, wt_ref t.val _ hs s.isLt, g, if_pos hs]
  · rw [if_neg hs, wt, if_neg hs]
    exact Ideal.ofBits_zero_f32

/-- The reference computes the attention. -/
theorem result_at (q k v : FVec Ideal S8x2064x512 .f32) (b : Fin 8) (t : Fin 2064) (n : Fin 512) :
    result q k v (ix3 b t n) = attn q k v b t n := by
  unfold result heads attn A
  pointwise [weights_at]
  rw [← Fin.sum_univ_eq_sum_range (fun s => wt t.val (score q k b ⟨n.val / 64, by omega⟩ t) 2064 s * value v b n s)]
  refine Finset.sum_congr rfl fun s _ => ?_
  rw [value, dif_pos s.isLt]

end Cert.ReferenceIdeal.Attn
end
-- ==== Proof.OutSpec.lean ====
/-
  The output stage of a layer as a function of one row: the gated merge of the two branches, the output projection
  onto the residual, and the feed-forward part between two norms.
-/
module

public import Idealize.ShloMosaic.PureOps.Ideal
public import Idealize.ShloMosaic.Lib.ValueIdx

@[expose] public section

noncomputable section

namespace Cert.OutStage

open Idealize.ShloMosaic
open scoped BigOperators

/-- A norm's number of entries, 1024. -/
def width : EReal := Ideal.ofBits .f32 0x44800000#32

/-- The norms' small addend. -/
def eps : EReal := Ideal.ofBits .f32 0x358637BD#32

/-- The number one. -/
def one : EReal := Ideal.ofBits .f32 0x3F800000#32

/-- The root mean square norm of a row with a gain. -/
def rms (x g : Fin 1024 → EReal) (n : Fin 1024) : EReal :=
  x n * Ideal.rsqrt (Ideal.div (∑ k, x k * x k) width + eps) * g n

/-- A row times a matrix. -/
def times {a b : ℕ} (x : Fin a → EReal) (w : Fin a → Fin b → EReal) (n : Fin b) : EReal := ∑ k, x k * w k n

/-- The gated linear unit of two entries. -/
def gated (x y : EReal) : EReal := x * Ideal.div one (one + Ideal.exp (-x)) * y

/-- The two branches merged: the pooling branch is gated already. -/
def merged (s : Fin 512 → EReal) (p g : Fin 1024 → EReal) (wb : Fin 512 → Fin 1024 → EReal) (n : Fin 1024) : EReal :=
  p n + g n * times s wb n

/-- The residual after the merged branches. -/
def joined (x : Fin 1024 → EReal) (s : Fin 512 → EReal) (p g : Fin 1024 → EReal) (wb : Fin 512 → Fin 1024 → EReal)
    (wo : Fin 1024 → Fin 1024 → EReal) (n : Fin 1024) : EReal := x n + times (merged s p g wb) wo n

/-- A hidden entry of the feed-forward part: entry `n` of the first half of the projection gates that of the second. -/
def inside (h : Fin 1024 → EReal) (wi : Fin 1024 → Fin 5632 → EReal) (n : Fin 2816) : EReal :=
  gated (times h wi ⟨n.val, by omega⟩) (times h wi ⟨2816 + n.val, by omega⟩)

/-- The feed-forward part, added to the residual. -/
def forward (y g : Fin 1024 → EReal) (wi : Fin 1024 → Fin 5632 → EReal) (wf : Fin 2816 → Fin 1024 → EReal) (n : Fin 1024) : EReal :=
  y n + times (inside (rms y g) wi) wf n

/-- The whole stage, with the final norm. -/
def stage (x : Fin 1024 → EReal) (s : Fin 512 → EReal) (p g : Fin 1024 → EReal) (wb : Fin 512 → Fin 1024 → EReal)
    (wo : Fin 1024 → Fin 1024 → EReal) (g2 : Fin 1024 → EReal) (wi : Fin 1024 → Fin 5632 → EReal)
    (wf : Fin 2816 → Fin 1024 → EReal) (gf : Fin 1024 → EReal) (n : Fin 1024) : EReal :=
  rms (forward (joined x s p g wb wo) g2 wi wf) gf n

end Cert.OutStage
end
-- ==== Proof.OutBlock.lean ====
/-
  What one body of the output stage leaves in its result block, at an index: the stage's function of the row.
-/
module

public import proofs.«01_k».proof.Proof.OutSpec
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Cert.OutStage
open scoped BigOperators

/-! ## Buffers written by columns -/

section Cols

variable {Val : EltTy → Type} [∀ e, Nonempty (Val e)] {e : EltTy} {a n k : ℕ}

theorem canon_hit (o : ℕ) (inb : ∀ x, (![0, o] : Fin 2 → ℕ) x + (⟨2, ![a, k]⟩ : Shape).size x ≤ (⟨2, ![a, n]⟩ : Shape).size x)
    (w : (⟨2, ![a, k]⟩ : Shape).Idx → Val e) (L : List (View.Piece Val (⟨2, ![a, n]⟩ : Shape) e)) (r : Fin a) (j : Fin k) (q : Fin n)
    (hq : q.val = o + j.val) :
    View.canon ((⟨Rect.unit (s := (⟨2, ![a, n]⟩ : Shape)) ![0, o] (⟨2, ![a, k]⟩ : Shape).size inb, w⟩ : View.Piece Val (⟨2, ![a, n]⟩ : Shape) e) :: L)
      (ix2 r q) = w (ix2 r j) := by
  have he : (Rect.unit (s := (⟨2, ![a, n]⟩ : Shape)) ![0, o] (⟨2, ![a, k]⟩ : Shape).size inb).emb (ix2 r j) = ix2 r q := by
    funext x
    apply Fin.ext
    fin_cases x
    · show 0 + 1 * r.val = r.val; omega
    · show o + 1 * j.val = q.val; omega
  rw [← he]
  exact View.canon_cons_emb (Rect.unit (s := (⟨2, ![a, n]⟩ : Shape)) ![0, o] (⟨2, ![a, k]⟩ : Shape).size inb) w L (ix2 r j)

theorem canon_miss (o : ℕ) (inb : ∀ x, (![0, o] : Fin 2 → ℕ) x + (⟨2, ![a, k]⟩ : Shape).size x ≤ (⟨2, ![a, n]⟩ : Shape).size x)
    (w : (⟨2, ![a, k]⟩ : Shape).Idx → Val e) (L : List (View.Piece Val (⟨2, ![a, n]⟩ : Shape) e)) (r : Fin a) (q : Fin n)
    (hq : q.val < o ∨ o + k ≤ q.val) :
    View.canon ((⟨Rect.unit (s := (⟨2, ![a, n]⟩ : Shape)) ![0, o] (⟨2, ![a, k]⟩ : Shape).size inb, w⟩ : View.Piece Val (⟨2, ![a, n]⟩ : Shape) e) :: L)
      (ix2 r q) = View.canon L (ix2 r q) := by
  refine View.canon_cons_of_not_mem _ L fun hm => ?_
  have h2 : o ≤ q.val ∧ q.val < o + k := (Rect.mem_set_unit (inb := inb)).mp hm 1
  omega

/-- One more piece to the right of what the earlier ones fill. -/
theorem canon_step {G : Fin a → Fin n → Val e} (o b : ℕ) (hb : o + k = b)
    (inb : ∀ x, (![0, o] : Fin 2 → ℕ) x + (⟨2, ![a, k]⟩ : Shape).size x ≤ (⟨2, ![a, n]⟩ : Shape).size x)
    (w : (⟨2, ![a, k]⟩ : Shape).Idx → Val e) (L : List (View.Piece Val (⟨2, ![a, n]⟩ : Shape) e))
    (hw : ∀ r j (h : o + j.val < n), w (ix2 r j) = G r ⟨o + j.val, h⟩) (hL : ∀ r (q : Fin n), q.val < o → View.canon L (ix2 r q) = G r q) :
    ∀ r (q : Fin n), q.val < b → View.canon ((⟨Rect.unit (s := (⟨2, ![a, n]⟩ : Shape)) ![0, o] (⟨2, ![a, k]⟩ : Shape).size inb, w⟩ :
      View.Piece Val (⟨2, ![a, n]⟩ : Shape) e) :: L) (ix2 r q) = G r q := by
  intro r q hq
  by_cases h : q.val < o
  · exact (canon_miss o inb w L r q (.inl h)).trans (hL r q h)
  · have hj : q.val - o < k := by omega
    have hn : o + (q.val - o) < n := by have := q.isLt; omega
    refine (canon_hit o inb w L r ⟨q.val - o, hj⟩ q (by show _ = o + (q.val - o); omega)).trans ((hw r ⟨q.val - o, hj⟩ hn).trans ?_)
    exact congrArg (G r) (Fin.ext (by show o + (q.val - o) = q.val; omega))

/-- A load of columns reads what the pieces left. -/
theorem readCov_cols {sig : RefSig} {κ : Kind} {sp : Space} (v : View sig κ sp (⟨2, ![a, n]⟩ : Shape) e)
    (L : List (View.Piece Val (⟨2, ![a, n]⟩ : Shape) e)) (o : ℕ)
    (inb : ∀ x, (![0, o] : Fin 2 → ℕ) x + (⟨2, ![a, k]⟩ : Shape).size x ≤ (⟨2, ![a, n]⟩ : Shape).size x) (r : Fin a) (j : Fin k) (q : Fin n)
    (hq : q.val = o + j.val) :
    v.readCov L (Rect.unit (s := (⟨2, ![a, n]⟩ : Shape)) ![0, o] (⟨2, ![a, k]⟩ : Shape).size inb).toLoadRect (ix2 r j) = View.canon L (ix2 r q) := by
  rw [View.readCov_eq_canon']
  refine congrArg (View.canon L) ?_
  funext x
  apply Fin.ext
  fin_cases x
  · show 0 + 1 * r.val = r.val; omega
  · show o + 1 * j.val = q.val; omega

/-- A load of columns of an input's block. -/
theorem load_cols {sig : RefSig} {sp : Space} (M : Memref sig .tc sp (⟨3, ![1, a, n]⟩ : Shape) e) (h : M.IsWhole)
    (x : (⟨3, ![1, a, n]⟩ : Shape).Idx → Val e) (o : ℕ)
    (inb : ∀ x, (![0, 0, o] : Fin 3 → ℕ) x + (⟨3, ![1, a, k]⟩ : Shape).size x ≤ (⟨3, ![1, a, n]⟩ : Shape).size x) (r : Fin a) (j : Fin k) (q : Fin n)
    (hq : q.val = o + j.val) :
    View.readAt Val M.view (Rect.unit (s := (⟨3, ![1, a, n]⟩ : Shape)) ![0, 0, o] (⟨3, ![1, a, k]⟩ : Shape).size inb).toLoadRect (h.unread x) (ix3 (0 : Fin 1) r j)
      = x (ix3 (0 : Fin 1) r q) := by
  rw [View.readAt_eq_ld, h.read_unread]
  refine congrArg x ?_
  funext y
  apply Fin.ext
  fin_cases y
  · rfl
  · show 0 + 1 * r.val = r.val; omega
  · show o + 1 * j.val = q.val; omega

end Cols

/-- The one batch's rows of a block. -/
abbrev row3 {a b : ℕ} (x : (⟨3, ![1, a, b]⟩ : Shape).Idx → EReal) (r : Fin a) : Fin b → EReal := fun k => x (ix3 (0 : Fin 1) r k)

/-! ## The stored values -/

theorem merge_at (s : FVec Ideal S1x512x512 .bf16) (p g : FVec Ideal S1x512x512 .f32) (w : FVec Ideal S1x512x512 .bf16) (r j : Fin 512) :
    k0_pay3 (F := Ideal) s p g w (ix2 r j) = row3 p r j + row3 g r j * times (row3 s r) (row3 w) j := by
  unfold k0_pay3 k0_pay2 times
  pointwise

theorem join_at (u : FVec Ideal S512x1024 .bf16) (w : FVec Ideal S1x1024x512 .bf16) (x : FVec Ideal S1x512x512 .f32) (r j : Fin 512) :
    k0_pay5 (F := Ideal) u w x (ix2 r j) = row3 x r j + times (fun k => u (ix2 r k)) (row3 w) j := by
  unfold k0_pay5 times
  pointwise

theorem rms_at (x : FVec Ideal S512x1024 .f32) (g : FVec Ideal S1x1x1024 .f32) (r : Fin 512) (n : Fin 1024) :
    k0_pay9 (F := Ideal) x (k0_pay7 g) (k0_pay8 x) (ix2 r n) = rms (fun k => x (ix2 r k)) (row3 g 0) n := by
  unfold k0_pay9 k0_pay7 k0_pay8 rms width eps
  pointwise

theorem gate_at (u : FVec Ideal S512x1024 .bf16) (w w' : FVec Ideal S1x1024x256 .bf16) (r : Fin 512) (j : Fin 256) :
    k0_pay10 (F := Ideal) u w w' (ix2 r j) = gated (times (fun k => u (ix2 r k)) (row3 w) j) (times (fun k => u (ix2 r k)) (row3 w') j) := by
  unfold k0_pay10 gated one times
  pointwise
  rw [zero_sub]

theorem fed_at (u : FVec Ideal S512x2816 .bf16) (y : FVec Ideal S512x512 .f32) (w : FVec Ideal S1x2816x512 .bf16) (r j : Fin 512) :
    k0_pay32 (F := Ideal) u y w (ix2 r j) = y (ix2 r j) + times (fun k => u (ix2 r k)) (row3 w) j := by
  unfold k0_pay32 times
  pointwise

theorem out_at (x : FVec Ideal S512x1024 .f32) (g : FVec Ideal S1x1024 .f32) (r : Fin 512) (n : Fin 1024) :
    k0_pay1 (F := Ideal) x (k0_pay34 g) (ix3 (0 : Fin 1) r n) = rms (fun k => x (ix2 r k)) (fun k => g (ix2 (0 : Fin 1) k)) n := by
  unfold k0_pay1 k0_pay34 rms width eps
  pointwise

/-! ## The buffers of one body -/

variable (c : Dev nD) (i : grid0.Coords)
  (arg2 : Memref sig .tc .vmem S1x512x1024 .f32) (harg2 : arg2.IsWhole)
  (arg3 : Memref sig .tc .vmem S16x1024 .f32) (harg3 : arg3.IsWhole)
  (arg4 : Memref sig .tc .vmem S1x512x512 .bf16) (harg4 : arg4.IsWhole)
  (arg5 : Memref sig .tc .vmem S1x512x1024 .f32) (harg5 : arg5.IsWhole)
  (arg6 : Memref sig .tc .vmem S1x512x1024 .f32) (harg6 : arg6.IsWhole)
  (arg7 : Memref sig .tc .vmem S1x512x1024 .bf16) (harg7 : arg7.IsWhole)
  (arg8 : Memref sig .tc .vmem S1x1024x1024 .bf16) (harg8 : arg8.IsWhole)
  (arg9 : Memref sig .tc .vmem S1x1x1024 .f32) (harg9 : arg9.IsWhole)
  (arg10 : Memref sig .tc .vmem S1x1024x5632 .bf16) (harg10 : arg10.IsWhole)
  (arg11 : Memref sig .tc .vmem S1x2816x1024 .bf16) (harg11 : arg11.IsWhole)
  (arg12 : Memref sig .tc .vmem S1x1024 .f32) (harg12 : arg12.IsWhole)
  (arg13 : Memref sig .tc .vmem S1x512x1024 .f32) (harg13 : arg13.IsWhole)
  (arg14 : Memref sig .tc .vmem S512x1024 .bf16) (harg14 : arg14.IsWhole)
  (arg15 : Memref sig .tc .vmem S512x1024 .f32) (harg15 : arg15.IsWhole)
  (arg16 : Memref sig .tc .vmem S512x1024 .bf16) (harg16 : arg16.IsWhole)
  (arg17 : Memref sig .tc .vmem S512x2816 .bf16) (harg17 : arg17.IsWhole)
  (x0 : Vec Ideal S1x512x1024 .f32) (x1 : Vec Ideal S16x1024 .f32) (x2 : Vec Ideal S1x512x512 .bf16) (x3 : Vec Ideal S1x512x1024 .f32) (x4 : Vec Ideal S1x512x1024 .f32) (x5 : Vec Ideal S1x512x1024 .bf16) (x6 : Vec Ideal S1x1024x1024 .bf16) (x7 : Vec Ideal S1x1x1024 .f32) (x8 : Vec Ideal S1x1024x5632 .bf16) (x9 : Vec Ideal S1x2816x1024 .bf16) (x10 : Vec Ideal S1x1024 .f32)

/-- The merged branches of a row. -/
abbrev mergedRow (r : Fin 512) : Fin 1024 → EReal := merged (row3 x2 r) (row3 x3 r) (row3 x4 r) (row3 x5)
/-- The residual of a row after them. -/
abbrev joinedRow (r : Fin 512) : Fin 1024 → EReal := joined (row3 x0 r) (row3 x2 r) (row3 x3 r) (row3 x4 r) (row3 x5) (row3 x6)
/-- The hidden row of the feed-forward part. -/
abbrev insideRow (r : Fin 512) : Fin 2816 → EReal := inside (rms (joinedRow x0 x2 x3 x4 x5 x6 r) (row3 x7 0)) (row3 x8)

theorem whole_block {e : EltTy} {a b : ℕ} {sp : Space} (M : Memref sig .tc sp (⟨3, ![1, a, b]⟩ : Shape) e) (h : M.IsWhole)
    (x : (⟨3, ![1, a, b]⟩ : Shape).Idx → Elt Ideal e)
    (inb : ∀ y, (![0, 0, 0] : Fin 3 → ℕ) y + (⟨3, ![1, a, b]⟩ : Shape).size y ≤ (⟨3, ![1, a, b]⟩ : Shape).size y) (r : Fin a) (j : Fin b) :
    View.readAt (Elt Ideal) M.view (Rect.unit (s := (⟨3, ![1, a, b]⟩ : Shape)) ![0, 0, 0] (⟨3, ![1, a, b]⟩ : Shape).size inb).toLoadRect (h.unread x)
      (ix3 (0 : Fin 1) r j) = x (ix3 (0 : Fin 1) r j) := load_cols M h x 0 inb r j j (Nat.zero_add _).symm

theorem m_at (r : Fin 512) (n : Fin 1024) : kernelRun0_A.sl.v28 (F := Ideal) c arg4 harg4 arg5 harg5 arg6 harg6 arg7 harg7 arg14 x2 x3 x4 x5 (ix2 r n) = mergedRow x2 x3 x4 x5 r n := by
  unfold kernelRun0_A.sl.v28 kernelRun0_A.sl.HS0_2
  refine (readCov_cols arg14.view _ 0 _ r n n (Nat.zero_add _).symm).trans ?_
  have piece (o : ℕ) (inb1 inb2) (r j : Fin 512) (h : o + j.val < 1024) :
      k0_pay3 (F := Ideal) (View.readAt (Elt Ideal) arg4.view (Rect.unit (s := S1x512x512) ![0, 0, 0] S1x512x512.size inb_S1x512x512_S1x512x512_0_0_0).toLoadRect (harg4.unread x2))
        (View.readAt (Elt Ideal) arg5.view (Rect.unit (s := S1x512x1024) ![0, 0, o] S1x512x512.size inb1).toLoadRect (harg5.unread x3))
        (View.readAt (Elt Ideal) arg6.view (Rect.unit (s := S1x512x1024) ![0, 0, o] S1x512x512.size inb1).toLoadRect (harg6.unread x4))
        (View.readAt (Elt Ideal) arg7.view (Rect.unit (s := S1x512x1024) ![0, 0, o] S1x512x512.size inb2).toLoadRect (harg7.unread x5)) (ix2 r j)
      = mergedRow x2 x3 x4 x5 r ⟨o + j.val, h⟩ := by
    refine (merge_at _ _ _ _ r j).trans ?_
    unfold mergedRow merged times
    refine congrArg₂ (· + ·) (load_cols arg5 harg5 x3 o inb1 r j ⟨o + j.val, h⟩ rfl) (congrArg₂ (· * ·) (load_cols arg6 harg6 x4 o inb1 r j ⟨o + j.val, h⟩ rfl) ?_)
    exact Finset.sum_congr rfl fun k _ => congrArg₂ (· * ·) (whole_block arg4 harg4 x2 _ r k) (load_cols arg7 harg7 x5 o inb2 k j ⟨o + j.val, h⟩ rfl)
  refine canon_step (Val := Elt Ideal) (e := .bf16) (k := 512) (G := mergedRow x2 x3 x4 x5) 512 1024 rfl _ _ _ ?_
    (canon_step (k := 512) 0 512 rfl _ _ _ ?_ fun _ _ h => absurd h (Nat.not_lt_zero _)) r n n.isLt
  exacts [piece 512 _ _,
    piece 0 _ _]

theorem x_canon (r : Fin 512) (n : Fin 1024) : View.canon (kernelRun0_A.sl.HS1_2 (F := Ideal) c arg2 harg2 arg4 harg4 arg5 harg5 arg6 harg6 arg7 harg7 arg8 harg8 arg14 x0 x2 x3 x4 x5 x6) (ix2 r n) = joinedRow x0 x2 x3 x4 x5 x6 r n := by
  unfold kernelRun0_A.sl.HS1_2
  have piece (o : ℕ) (inb1 inb2) (r j : Fin 512) (h : o + j.val < 1024) :
      k0_pay5 (F := Ideal) (kernelRun0_A.sl.v28 (F := Ideal) c arg4 harg4 arg5 harg5 arg6 harg6 arg7 harg7 arg14 x2 x3 x4 x5)
        (View.readAt (Elt Ideal) arg8.view (Rect.unit (s := S1x1024x1024) ![0, 0, o] S1x1024x512.size inb1).toLoadRect (harg8.unread x6))
        (View.readAt (Elt Ideal) arg2.view (Rect.unit (s := S1x512x1024) ![0, 0, o] S1x512x512.size inb2).toLoadRect (harg2.unread x0)) (ix2 r j)
      = joinedRow x0 x2 x3 x4 x5 x6 r ⟨o + j.val, h⟩ := by
    refine (join_at _ _ _ r j).trans ?_
    unfold joinedRow joined
    refine congrArg₂ (· + ·) (load_cols arg2 harg2 x0 o inb2 r j ⟨o + j.val, h⟩ rfl) ?_
    exact Finset.sum_congr rfl fun k _ => congrArg₂ (· * ·) (m_at c arg4 harg4 arg5 harg5 arg6 harg6 arg7 harg7 arg14 x2 x3 x4 x5 r k) (load_cols arg8 harg8 x6 o inb1 k j ⟨o + j.val, h⟩ rfl)
  refine canon_step (Val := Elt Ideal) (e := .f32) (k := 512) (G := joinedRow x0 x2 x3 x4 x5 x6) 512 1024 rfl _ _ _ ?_
    (canon_step (k := 512) 0 512 rfl _ _ _ ?_ fun _ _ h => absurd h (Nat.not_lt_zero _)) r n n.isLt
  exacts [piece 512 _ _,
    piece 0 _ _]

theorem x_at (r : Fin 512) (n : Fin 1024) : kernelRun0_A.sl.v47 (F := Ideal) c arg2 harg2 arg4 harg4 arg5 harg5 arg6 harg6 arg7 harg7 arg8 harg8 arg14 arg15 x0 x2 x3 x4 x5 x6 (ix2 r n) = joinedRow x0 x2 x3 x4 x5 x6 r n := by
  unfold kernelRun0_A.sl.v47
  exact (readCov_cols arg15.view _ 0 _ r n n (Nat.zero_add _).symm).trans (x_canon c arg2 harg2 arg4 harg4 arg5 harg5 arg6 harg6 arg7 harg7 arg8 harg8 arg14 x0 x2 x3 x4 x5 x6 r n)

theorem h_at (r : Fin 512) (n : Fin 1024) : kernelRun0_A.sl.v66 (F := Ideal) c arg2 harg2 arg4 harg4 arg5 harg5 arg6 harg6 arg7 harg7 arg8 harg8 arg9 harg9 arg14 arg15 arg16 x0 x2 x3 x4 x5 x6 x7 (ix2 r n) = rms (joinedRow x0 x2 x3 x4 x5 x6 r) (row3 x7 0) n := by
  unfold kernelRun0_A.sl.v66 kernelRun0_A.sl.HS2_1 kernelRun0_A.sl.r kernelRun0_A.sl.r_1
  refine (readCov_cols arg16.view _ 0 _ r n n (Nat.zero_add _).symm).trans ((canon_hit 0 _ _ _ r n n (Nat.zero_add _).symm).trans ((rms_at _ _ r n).trans ?_))
  exact congrArg₂ (fun a b => rms a b n) (funext fun k => x_at c arg2 harg2 arg4 harg4 arg5 harg5 arg6 harg6 arg7 harg7 arg8 harg8 arg14 arg15 x0 x2 x3 x4 x5 x6 r k)
    (funext fun k => whole_block arg9 harg9 x7 _ 0 k)

theorem a_at (r : Fin 512) (n : Fin 2816) : kernelRun0_A.sl.v276 (F := Ideal) c arg2 harg2 arg4 harg4 arg5 harg5 arg6 harg6 arg7 harg7 arg8 harg8 arg9 harg9 arg10 harg10 arg14 arg15 arg16 arg17 x0 x2 x3 x4 x5 x6 x7 x8 (ix2 r n) = insideRow x0 x2 x3 x4 x5 x6 x7 x8 r n := by
  unfold kernelRun0_A.sl.v276 kernelRun0_A.sl.HS3_11
  refine (readCov_cols arg17.view _ 0 _ r n n (Nat.zero_add _).symm).trans ?_
  have piece (o o' : ℕ) (ho : o' = 2816 + o) (inb1 inb2) (r : Fin 512) (j : Fin 256) (h : o + j.val < 2816) :
      k0_pay10 (F := Ideal) (kernelRun0_A.sl.v66 (F := Ideal) c arg2 harg2 arg4 harg4 arg5 harg5 arg6 harg6 arg7 harg7 arg8 harg8 arg9 harg9 arg14 arg15 arg16 x0 x2 x3 x4 x5 x6 x7)
        (View.readAt (Elt Ideal) arg10.view (Rect.unit (s := S1x1024x5632) ![0, 0, o] S1x1024x256.size inb1).toLoadRect (harg10.unread x8))
        (View.readAt (Elt Ideal) arg10.view (Rect.unit (s := S1x1024x5632) ![0, 0, o'] S1x1024x256.size inb2).toLoadRect (harg10.unread x8)) (ix2 r j)
      = insideRow x0 x2 x3 x4 x5 x6 x7 x8 r ⟨o + j.val, h⟩ := by
    refine (gate_at _ _ _ r j).trans ?_
    unfold insideRow inside
    refine congrArg₂ gated ?_ ?_
    · exact Finset.sum_congr rfl fun k _ => congrArg₂ (· * ·) (h_at c arg2 harg2 arg4 harg4 arg5 harg5 arg6 harg6 arg7 harg7 arg8 harg8 arg9 harg9 arg14 arg15 arg16 x0 x2 x3 x4 x5 x6 x7 r k)
        (load_cols arg10 harg10 x8 o inb1 k j ⟨o + j.val, by omega⟩ rfl)
    · exact Finset.sum_congr rfl fun k _ => congrArg₂ (· * ·) (h_at c arg2 harg2 arg4 harg4 arg5 harg5 arg6 harg6 arg7 harg7 arg8 harg8 arg9 harg9 arg14 arg15 arg16 x0 x2 x3 x4 x5 x6 x7 r k)
        (load_cols arg10 harg10 x8 o' inb2 k j ⟨2816 + (o + j.val), by omega⟩ (by subst ho; show 2816 + (o + j.val) = 2816 + o + j.val; omega))
  refine canon_step (Val := Elt Ideal) (e := .bf16) (k := 256) (G := insideRow x0 x2 x3 x4 x5 x6 x7 x8) 2560 2816 rfl _ _ _ ?_
    (canon_step (k := 256) 2304 2560 rfl _ _ _ ?_
    (canon_step (k := 256) 2048 2304 rfl _ _ _ ?_
    (canon_step (k := 256) 1792 2048 rfl _ _ _ ?_
    (canon_step (k := 256) 1536 1792 rfl _ _ _ ?_
    (canon_step (k := 256) 1280 1536 rfl _ _ _ ?_
    (canon_step (k := 256) 1024 1280 rfl _ _ _ ?_
    (canon_step (k := 256) 768 1024 rfl _ _ _ ?_
    (canon_step (k := 256) 512 768 rfl _ _ _ ?_
    (canon_step (k := 256) 256 512 rfl _ _ _ ?_
    (canon_step (k := 256) 0 256 rfl _ _ _ ?_ fun _ _ h => absurd h (Nat.not_lt_zero _))))))))))) r n n.isLt
  exacts [piece 2560 5376 rfl _ _,
    piece 2304 5120 rfl _ _,
    piece 2048 4864 rfl _ _,
    piece 1792 4608 rfl _ _,
    piece 1536 4352 rfl _ _,
    piece 1280 4096 rfl _ _,
    piece 1024 3840 rfl _ _,
    piece 768 3584 rfl _ _,
    piece 512 3328 rfl _ _,
    piece 256 3072 rfl _ _,
    piece 0 2816 rfl _ _]

/-- The residual's left half as the feed-forward part reads it. -/
theorem left_at (r j : Fin 512) : kernelRun0_A.sl.v277 (F := Ideal) c arg2 harg2 arg4 harg4 arg5 harg5 arg6 harg6 arg7 harg7 arg8 harg8 arg14 arg15 x0 x2 x3 x4 x5 x6 (ix2 r j) = joinedRow x0 x2 x3 x4 x5 x6 r ⟨0 + j.val, by omega⟩ := by
  unfold kernelRun0_A.sl.v277
  exact (readCov_cols arg15.view _ 0 _ r j _ rfl).trans (x_canon c arg2 harg2 arg4 harg4 arg5 harg5 arg6 harg6 arg7 harg7 arg8 harg8 arg14 x0 x2 x3 x4 x5 x6 r _)

/-- Its right half, read after the left half is stored over. -/
theorem right_at (r j : Fin 512) : kernelRun0_A.sl.v285 (F := Ideal) c arg2 harg2 arg4 harg4 arg5 harg5 arg6 harg6 arg7 harg7 arg8 harg8 arg9 harg9 arg10 harg10 arg11 harg11 arg14 arg15 arg16 arg17 x0 x2 x3 x4 x5 x6 x7 x8 x9 (ix2 r j) = joinedRow x0 x2 x3 x4 x5 x6 r ⟨512 + j.val, by omega⟩ := by
  unfold kernelRun0_A.sl.v285 kernelRun0_A.sl.HS1_3
  exact (readCov_cols arg15.view _ 512 _ r j ⟨512 + j.val, by omega⟩ rfl).trans ((canon_miss 0 _ _ _ r _ (.inr (by show 0 + 512 ≤ 512 + j.val; omega))).trans
    (x_canon c arg2 harg2 arg4 harg4 arg5 harg5 arg6 harg6 arg7 harg7 arg8 harg8 arg14 x0 x2 x3 x4 x5 x6 r _))

theorem y_at (r : Fin 512) (n : Fin 1024) : kernelRun0_A.sl.v293 (F := Ideal) c arg2 harg2 arg4 harg4 arg5 harg5 arg6 harg6 arg7 harg7 arg8 harg8 arg9 harg9 arg10 harg10 arg11 harg11 arg14 arg15 arg16 arg17 x0 x2 x3 x4 x5 x6 x7 x8 x9 (ix2 r n)
    = forward (joinedRow x0 x2 x3 x4 x5 x6 r) (row3 x7 0) (row3 x8) (row3 x9) n := by
  unfold kernelRun0_A.sl.v293 kernelRun0_A.sl.HS1_4 kernelRun0_A.sl.HS1_3
  refine (readCov_cols arg15.view _ 0 _ r n n (Nat.zero_add _).symm).trans ?_
  have piece (o : ℕ) (inb1) (y : FVec Ideal S512x512 .f32) (hy : ∀ r (j : Fin 512) h, y (ix2 r j) = joinedRow x0 x2 x3 x4 x5 x6 r ⟨o + j.val, h⟩)
      (r j : Fin 512) (h : o + j.val < 1024) :
      k0_pay32 (F := Ideal) (kernelRun0_A.sl.v276 (F := Ideal) c arg2 harg2 arg4 harg4 arg5 harg5 arg6 harg6 arg7 harg7 arg8 harg8 arg9 harg9 arg10 harg10 arg14 arg15 arg16 arg17 x0 x2 x3 x4 x5 x6 x7 x8) y
        (View.readAt (Elt Ideal) arg11.view (Rect.unit (s := S1x2816x1024) ![0, 0, o] S1x2816x512.size inb1).toLoadRect (harg11.unread x9)) (ix2 r j)
      = forward (joinedRow x0 x2 x3 x4 x5 x6 r) (row3 x7 0) (row3 x8) (row3 x9) ⟨o + j.val, h⟩ := by
    refine (fed_at _ _ _ r j).trans ?_
    unfold forward
    refine congrArg₂ (· + ·) (hy r j h) ?_
    exact Finset.sum_congr rfl fun k _ => congrArg₂ (· * ·)
      (a_at c arg2 harg2 arg4 harg4 arg5 harg5 arg6 harg6 arg7 harg7 arg8 harg8 arg9 harg9 arg10 harg10 arg14 arg15 arg16 arg17 x0 x2 x3 x4 x5 x6 x7 x8 r k) (load_cols arg11 harg11 x9 o inb1 k j ⟨o + j.val, h⟩ rfl)
  refine canon_step (Val := Elt Ideal) (e := .f32) (k := 512) (G := fun r => forward (joinedRow x0 x2 x3 x4 x5 x6 r) (row3 x7 0) (row3 x8) (row3 x9)) 512 1024 rfl _ _ _
    ?_
    (canon_step (k := 512) 0 512 rfl _ _ _ ?_
      fun _ _ h => absurd h (Nat.not_lt_zero _)) r n n.isLt
  exacts [piece 512 _ _ fun r j h => right_at c arg2 harg2 arg4 harg4 arg5 harg5 arg6 harg6 arg7 harg7 arg8 harg8 arg9 harg9 arg10 harg10 arg11 harg11 arg14 arg15 arg16 arg17 x0 x2 x3 x4 x5 x6 x7 x8 x9 r j,
    piece 0 _ _ fun r j h => left_at c arg2 harg2 arg4 harg4 arg5 harg5 arg6 harg6 arg7 harg7 arg8 harg8 arg14 arg15 x0 x2 x3 x4 x5 x6 r j]

/-- What the body leaves. -/
theorem block_at (r : Fin 512) (n : Fin 1024) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix3 (0 : Fin 1) r n)
    = stage (row3 x0 r) (row3 x2 r) (row3 x3 r) (row3 x4 r) (row3 x5) (row3 x6) (row3 x7 0) (row3 x8) (row3 x9)
        (fun k => x10 (ix2 (0 : Fin 1) k)) n := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10)]
  unfold kernelRun0_A
  dsimp only
  rw [View.canon_unit_zero (by decide : (![0, 0, 0] : Fin 3 → ℕ) = fun _ => 0)]
  unfold kernelRun0_A.sl.r_12
  refine (out_at _ _ r n).trans ?_
  unfold stage
  refine congrArg₂ (fun a b => rms a b n) (funext fun k => y_at c arg2 harg2 arg4 harg4 arg5 harg5 arg6 harg6 arg7 harg7 arg8 harg8 arg9 harg9 arg10 harg10 arg11 harg11 arg14 arg15 arg16 arg17 x0 x2 x3 x4 x5 x6 x7 x8 x9 r k) (funext fun k => ?_)
  rw [View.readAt_eq_ld, harg12.read_unread, View.ld_unit_zero (by decide : (![0, 0] : Fin 2 → ℕ) = fun _ => 0)]

end Cert.Kernel2Ideal.Out
end
-- ==== Proof.OutValue.lean ====
/-
  What the output stage's kernel leaves, over the extended reals: the stage of its arguments, a row at a time.
-/
module

public import proofs.«01_k».proof.Proof.Gen.Kernel2Ideal.Value
public import proofs.«01_k».proof.Proof.OutBlock
public import proofs.«01_k».proof.Proof.OutSpec
public import Idealize.ShloMosaic.Lib.Pipeline.ValueKit
public import Idealize.ShloMosaic.Lib.Pointwise

@[expose] public section

set_option maxRecDepth 16384

noncomputable section

namespace Cert.Kernel2Ideal.Out

open Cert.Kernel2Ideal Cert.Kernel2Ideal.Gen Cert.Kernel2Ideal.Value Idealize.ShloMosaic Idealize.ShloMosaic.TcCoe Idealize.ShloMosaic.StableHlo Idealize.SL.Sem
open Cert.OutStage

variable (m : (ℓ : Loc nD τ sig) → Buf (Elt Ideal) ℓ) (c : Dev nD)

/-- The activations. -/
def argX : FVec Ideal S8x2064x1024 .f32 := m ((c.tc : Thread nD τ).loc main_arg0)
/-- The attention's output. -/
def argS : FVec Ideal S8x2064x512 .f32 := m ((c.tc : Thread nD τ).loc main_arg2)
/-- The pooled branch. -/
def argP : FVec Ideal S8x2064x1024 .f32 := m ((c.tc : Thread nD τ).loc main_arg3)
/-- The gate. -/
def argG : FVec Ideal S8x2064x1024 .f32 := m ((c.tc : Thread nD τ).loc main_arg4)
/-- The attention's way back to the width. -/
def argB : FVec Ideal S2x512x1024 .f32 := m ((c.tc : Thread nD τ).loc main_arg5)
/-- The output matrix. -/
def argO : FVec Ideal S2x1024x1024 .f32 := m ((c.tc : Thread nD τ).loc main_arg6)
/-- The second norm's weights. -/
def argN : FVec Ideal S2x1024 .f32 := m ((c.tc : Thread nD τ).loc main_arg7)
/-- The feed-forward's first matrix. -/
def argI : FVec Ideal S2x1024x5632 .f32 := m ((c.tc : Thread nD τ).loc main_arg8)
/-- The feed-forward's second matrix. -/
def argF : FVec Ideal S2x2816x1024 .f32 := m ((c.tc : Thread nD τ).loc main_arg9)
/-- The last norm's weights. -/
def argL : FVec Ideal S1024 .f32 := m ((c.tc : Thread nD τ).loc main_arg10)

/-- The windows that follow the rows, at every point. -/
theorem idx_rows : ∀ t : Fin cfg0.N,
    win0_0.index t = ![(grid0.coords t 0).val, 16 + (grid0.coords t 1).val * 512, 0]
    ∧ win0_2.index t = ![(grid0.coords t 0).val, 16 + (grid0.coords t 1).val * 512, 0]
    ∧ win0_3.index t = ![(grid0.coords t 0).val, 16 + (grid0.coords t 1).val * 512, 0]
    ∧ win0_4.index t = ![(grid0.coords t 0).val, 16 + (grid0.coords t 1).val * 512, 0]
    ∧ win0_11.index t = ![(grid0.coords t 0).val, (grid0.coords t 1).val, 0] := (by decide +kernel : ∀ t : Fin grid0.N, _)

/-- The windows of the weights, at every point. -/
theorem idx_weights : ∀ t : Fin cfg0.N,
    win0_5.index t = ![1, 0, 0] ∧ win0_6.index t = ![1, 0, 0] ∧ win0_7.index t = ![1, 0, 0] ∧ win0_8.index t = ![1, 0, 0]
    ∧ win0_9.index t = ![1, 0, 0] ∧ win0_10.index t = ![0, 0] := (by decide +kernel : ∀ t : Fin grid0.N, _)

theorem entry_x : V m c main_arg0 = argX m c := by
  simp only [V, hostOps0, TRef.unary, TRef.toBuf, TRef.ofBuf, cast_eq]
  after_results_simp
  rfl

theorem entry_s : V m c main_v4 = (truncf .bf16 (argS m c) bitsLt_bf16_f32 : FVec Ideal S8x2064x512 .bf16) := by
  simp only [V, hostOps0, TRef.unary, TRef.toBuf, TRef.ofBuf, cast_eq]
  after_results_simp
  rfl

theorem entry_p : V m c main_arg3 = argP m c := by
  simp only [V, hostOps0, TRef.unary, TRef.toBuf, TRef.ofBuf, cast_eq]
  after_results_simp
  rfl

theorem entry_g : V m c main_arg4 = argG m c := by
  simp only [V, hostOps0, TRef.unary, TRef.toBuf, TRef.ofBuf, cast_eq]
  after_results_simp
  rfl

theorem entry_b : V m c main_v0 = (truncf .bf16 (argB m c) bitsLt_bf16_f32 : FVec Ideal S2x512x1024 .bf16) := by
  simp only [V, hostOps0, TRef.unary, TRef.toBuf, TRef.ofBuf, cast_eq]
  after_results_simp
  rfl

theorem entry_o : V m c main_v1 = (truncf .bf16 (argO m c) bitsLt_bf16_f32 : FVec Ideal S2x1024x1024 .bf16) := by
  simp only [V, hostOps0, TRef.unary, TRef.toBuf, TRef.ofBuf, cast_eq]
  after_results_simp
  rfl

theorem entry_n : V m c main_v5 = (broadcastInDim S2x1x1024 ![0, 2] bcast_S2x1024_S2x1x1024_0_2 (argN m c) : FVec Ideal S2x1x1024 .f32) := by
  simp only [V, hostOps0, TRef.unary, TRef.toBuf, TRef.ofBuf, cast_eq]
  after_results_simp
  rfl

theorem entry_i : V m c main_v2 = (truncf .bf16 (argI m c) bitsLt_bf16_f32 : FVec Ideal S2x1024x5632 .bf16) := by
  simp only [V, hostOps0, TRef.unary, TRef.toBuf, TRef.ofBuf, cast_eq]
  after_results_simp
  rfl

theorem entry_f : V m c main_v3 = (truncf .bf16 (argF m c) bitsLt_bf16_f32 : FVec Ideal S2x2816x1024 .bf16) := by
  simp only [V, hostOps0, TRef.unary, TRef.toBuf, TRef.ofBuf, cast_eq]
  after_results_simp
  rfl

theorem entry_l : V m c main_v6 = (broadcastInDim S1x1024 ![1] bcast_S1024_S1x1024_1 (argL m c) : FVec Ideal S1x1024 .f32) := by
  simp only [V, hostOps0, TRef.unary, TRef.toBuf, TRef.ofBuf, cast_eq]
  after_results_simp
  rfl

/-- The sequence of a grid point. -/
def seqOf (t : Fin cfg0.N) : Fin 8 := ⟨(grid0.coords t 0).val, (grid0.coords t 0).isLt⟩

theorem tile_lt (t : Fin cfg0.N) : (grid0.coords t 1).val < 4 := (grid0.coords t 1).isLt

/-- A row of a grid point's block among the rows of the result. -/
def outOf (t : Fin cfg0.N) (r : Fin 512) : Fin 2048 := ⟨(grid0.coords t 1).val * 512 + r.val, by have := tile_lt t; omega⟩

/-- The same row among the rows of the arguments, which begin with sixteen more. -/
def rowOf (u : Fin 2048) : Fin 2064 := ⟨16 + u.val, by omega⟩

/-- An index of a block of the windows that follow the rows, placed in the window's array. -/
theorem rows_place (t : Fin cfg0.N) :
    (∀ y a, ((((View.whole main_arg0).slice (win0_0.rect t)).emb y a : Fin _) : ℕ) = win0_0.index t a + (y a).val)
    ∧ (∀ y a, ((((View.whole main_v4).slice (win0_2.rect t)).emb y a : Fin _) : ℕ) = win0_2.index t a + (y a).val)
    ∧ (∀ y a, ((((View.whole main_arg3).slice (win0_3.rect t)).emb y a : Fin _) : ℕ) = win0_3.index t a + (y a).val)
    ∧ (∀ y a, ((((View.whole main_arg4).slice (win0_4.rect t)).emb y a : Fin _) : ℕ) = win0_4.index t a + (y a).val) :=
  ⟨fun y a => ValueKit.rect_emb_unit_val _ _ _ y a, fun y a => ValueKit.rect_emb_unit_val _ _ _ y a,
    fun y a => ValueKit.rect_emb_unit_val _ _ _ y a, fun y a => ValueKit.rect_emb_unit_val _ _ _ y a⟩

theorem read_x (t : Fin cfg0.N) (r : Fin 512) (k : Fin 1024) :
    iblk m c 0 t (ix3 (0 : Fin 1) r k) = argX m c (ix3 (seqOf t) (rowOf (outOf t r)) k) := by
  rw [← entry_x]
  unfold seqOf rowOf outOf
  blk_ext [iblk]
  all_goals
    refine ((rows_place t).1 _ _).trans ?_
    rw [(idx_rows t).1]
    simp [ix3]
    try omega

theorem read_s (t : Fin cfg0.N) (r : Fin 512) (k : Fin 512) :
    iblk m c 2 t (ix3 (0 : Fin 1) r k) = argS m c (ix3 (seqOf t) (rowOf (outOf t r)) k) := by
  have e : ∀ i, (V m c main_v4 : FVec Ideal S8x2064x512 .bf16) i = argS m c i := fun i => by rw [entry_s]; rfl
  rw [← e]
  unfold seqOf rowOf outOf
  blk_ext [iblk]
  all_goals
    refine ((rows_place t).2.1 _ _).trans ?_
    rw [(idx_rows t).2.1]
    simp [ix3]
    try omega

theorem read_p (t : Fin cfg0.N) (r : Fin 512) (k : Fin 1024) :
    iblk m c 3 t (ix3 (0 : Fin 1) r k) = argP m c (ix3 (seqOf t) (rowOf (outOf t r)) k) := by
  rw [← entry_p]
  unfold seqOf rowOf outOf
  blk_ext [iblk]
  all_goals
    refine ((rows_place t).2.2.1 _ _).trans ?_
    rw [(idx_rows t).2.2.1]
    simp [ix3]
    try omega

theorem read_g (t : Fin cfg0.N) (r : Fin 512) (k : Fin 1024) :
    iblk m c 4 t (ix3 (0 : Fin 1) r k) = argG m c (ix3 (seqOf t) (rowOf (outOf t r)) k) := by
  rw [← entry_g]
  unfold seqOf rowOf outOf
  blk_ext [iblk]
  all_goals
    refine ((rows_place t).2.2.2 _ _).trans ?_
    rw [(idx_rows t).2.2.2.1]
    simp [ix3]
    try omega

theorem read_b (t : Fin cfg0.N) (k : Fin 512) (i : Fin 1024) :
    iblk m c 5 t (ix3 (0 : Fin 1) k i) = argB m c (ix3 (1 : Fin 2) k i) := by
  have e : ∀ i, (V m c main_v0 : FVec Ideal S2x512x1024 .bf16) i = argB m c i := fun i => by rw [entry_b]; rfl
  rw [← e]
  blk_ext [iblk, idx_weights t]

theorem read_o (t : Fin cfg0.N) (k i : Fin 1024) :
    iblk m c 6 t (ix3 (0 : Fin 1) k i) = argO m c (ix3 (1 : Fin 2) k i) := by
  have e : ∀ i, (V m c main_v1 : FVec Ideal S2x1024x1024 .bf16) i = argO m c i := fun i => by rw [entry_o]; rfl
  rw [← e]
  blk_ext [iblk, idx_weights t]

theorem read_n (t : Fin cfg0.N) (k : Fin 1024) :
    iblk m c 7 t (ix3 (0 : Fin 1) (0 : Fin 1) k) = argN m c (ix2 (1 : Fin 2) k) := by
  have e : (V m c main_v5 : FVec Ideal S2x1x1024 .f32) (ix3 (1 : Fin 2) (0 : Fin 1) k) = argN m c (ix2 (1 : Fin 2) k) := by
    rw [entry_n]; pointwise
  rw [← e]
  blk_ext [iblk, idx_weights t]

theorem read_i (t : Fin cfg0.N) (k : Fin 1024) (i : Fin 5632) :
    iblk m c 8 t (ix3 (0 : Fin 1) k i) = argI m c (ix3 (1 : Fin 2) k i) := by
  have e : ∀ i, (V m c main_v2 : FVec Ideal S2x1024x5632 .bf16) i = argI m c i := fun i => by rw [entry_i]; rfl
  rw [← e]
  blk_ext [iblk, idx_weights t]

theorem read_f (t : Fin cfg0.N) (k : Fin 2816) (i : Fin 1024) :
    iblk m c 9 t (ix3 (0 : Fin 1) k i) = argF m c (ix3 (1 : Fin 2) k i) := by
  have e : ∀ i, (V m c main_v3 : FVec Ideal S2x2816x1024 .bf16) i = argF m c i := fun i => by rw [entry_f]; rfl
  rw [← e]
  blk_ext [iblk, idx_weights t]

theorem read_l (t : Fin cfg0.N) (k : Fin 1024) :
    iblk m c 10 t (ix2 (0 : Fin 1) k) = argL m c (ix1 k) := by
  have e : (V m c main_v6 : FVec Ideal S1x1024 .f32) (ix2 (0 : Fin 1) k) = argL m c (ix1 k) := by
    rw [entry_l]; pointwise
  rw [← e]
  blk_ext [iblk, idx_weights t]

/-- The stage of the arguments, at a row and a lane. -/
def value (b : Fin 8) (u : Fin 2048) (n : Fin 1024) : EReal :=
  stage (fun k => argX m c (ix3 b (rowOf u) k)) (fun k => argS m c (ix3 b (rowOf u) k)) (fun k => argP m c (ix3 b (rowOf u) k))
    (fun k => argG m c (ix3 b (rowOf u) k)) (fun k i => argB m c (ix3 (1 : Fin 2) k i)) (fun k i => argO m c (ix3 (1 : Fin 2) k i))
    (fun k => argN m c (ix2 (1 : Fin 2) k)) (fun k i => argI m c (ix3 (1 : Fin 2) k i)) (fun k i => argF m c (ix3 (1 : Fin 2) k i))
    (fun k => argL m c (ix1 k)) n

/-- The block that a grid point leaves. -/
theorem point (t : Fin cfg0.N) (r : Fin 512) (n : Fin 1024) :
    outsAt0 m c t (ix3 (0 : Fin 1) r n) = value m c (seqOf t) (outOf t r) n := by
  unfold outsAt0
  refine (block_at _ _ _ _ _ _ _ _ _ _ _ _ _ _ _ _ _ _ _ _ _ _ _ _ _ _ _ _ _ _ _ _ _ _ _ _ _ _ _ _ _ _ _ _ _ r n).trans ?_
  unfold value
  congr 1
  · exact funext fun k => read_x m c t r k
  · exact funext fun k => read_s m c t r k
  · exact funext fun k => read_p m c t r k
  · exact funext fun k => read_g m c t r k
  · exact funext fun k => funext fun i => read_b m c t k i
  · exact funext fun k => funext fun i => read_o m c t k i
  · exact funext fun k => read_n m c t k
  · exact funext fun k => funext fun i => read_i m c t k i
  · exact funext fun k => funext fun i => read_f m c t k i
  · exact funext fun k => read_l m c t k

/-- The stage as an array. -/
def whole : FVec Ideal S8x2048x1024 .f32 := fun y => value m c (y 0) (y 1) (y 2)

/-- The array that the kernel leaves. -/
theorem final : (dats m 0 c).arrAt 11 cfg0.N = whole m c := by
  refine (dats m 0 c).arrAt_eq_of_covers 11 _ (by decide +kernel) fun t hf y => ?_
  blk_simp
  rw [after0_11]
  idx_vars y
  obtain rfl : y0 = 0 := Subsingleton.elim _ _
  refine (point m c t y1 y2).trans ?_
  show whole m c (ix3 (seqOf t) (outOf t y1) y2) = _
  refine congrArg (whole m c) ?_
  unfold seqOf outOf
  blk_ext [iblk, idx_rows t]

end Cert.Kernel2Ideal.Out
end
-- ==== Proof.OutRef.lean ====
/-
  The reference of the output stage at an index: the stage's function of its row.
-/
module

public import proofs.«01_k».proof.Proof.OutSpec
public import proofs.«01_k».proof.Proof.Gen.Reference2Ideal.Run
public import Idealize.ShloMosaic.Lib.Pointwise

@[expose] public section

set_option maxRecDepth 16384

noncomputable section

namespace Cert.Reference2Ideal.Out

open Cert.Reference2Ideal Cert.Reference2Ideal.Gen Cert.Reference2Ideal.Value Idealize.ShloMosaic Idealize.ShloMosaic.TcCoe Idealize.SL.Sem
open Cert.OutStage
open scoped BigOperators

abbrev Rows : Type := FVec Ideal S8x2064x1024 .f32

/-- A norm as it is written. -/
def normed (x : Rows) (g : FVec Ideal S1024 .f32) : Rows :=
  mulf (mulf x (broadcastInDim S8x2064x1024 ![0, 1, 2] bcast_S8x2064x1_S8x2064x1024_0_1_2
      (Host.rsqrt (addf (Host.divf (broadcastInDim S8x2064x1 ![0, 1] bcast_S8x2064_S8x2064x1_0_1
          (Host.reduceAdd (mulf x x) (constant S_ .f32 0x00000000#32) reducesTo_S8x2064x1024_S8x2064_d2 h_S_))
        (broadcastInDim S8x2064x1 ![] bcast_S_S8x2064x1 (constant S_ .f32 0x44800000#32)))
        (broadcastInDim S8x2064x1 ![] bcast_S_S8x2064x1 (constant S_ .f32 0x358637BD#32))))))
    (broadcastInDim S8x2064x1024 ![0, 1, 2] bcast_S1x1x1024_S8x2064x1024_0_1_2 (broadcastInDim S1x1x1024 ![2] bcast_S1024_S1x1x1024_2 g))

/-- The residual after the merged branches, as it is written. -/
def resid (x : Rows) (s : FVec Ideal S8x2064x512 .f32) (p g : Rows) (wb : FVec Ideal S2x512x1024 .f32) (wo : FVec Ideal S2x1024x1024 .f32) : Rows :=
  addf x (Host.dotGeneral dot_S8x2064x1024_S1024x1024_S8x2064x1024_2_0_01_1_n_n none
    (addf p (mulf g (Host.dotGeneral dot_S8x2064x512_S512x1024_S8x2064x1024_2_0_01_1_n_n none s
      (shapeCast _ (extractStridedSlice S1x512x1024 ![1, 0, 0] wb slices_S2x512x1024_S1x512x1024_1_0_0) shapeCasts_S1x512x1024_S512x1024))))
    (shapeCast _ (extractStridedSlice S1x1024x1024 ![1, 0, 0] wo slices_S2x1024x1024_S1x1024x1024_1_0_0) shapeCasts_S1x1024x1024_S1024x1024))

/-- The projection to both halves of the gated linear unit. -/
def halves (h : Rows) (wi : FVec Ideal S2x1024x5632 .f32) : FVec Ideal S8x2064x5632 .f32 :=
  Host.dotGeneral dot_S8x2064x1024_S1024x5632_S8x2064x5632_2_0_01_1_n_n none h
    (shapeCast _ (extractStridedSlice S1x1024x5632 ![1, 0, 0] wi slices_S2x1024x5632_S1x1024x5632_1_0_0) shapeCasts_S1x1024x5632_S1024x5632)

/-- The gated linear unit as it is written. -/
def unit (z : FVec Ideal S8x2064x5632 .f32) : FVec Ideal S8x2064x2816 .f32 :=
  mulf (mulf (extractStridedSlice S8x2064x2816 ![0, 0, 0] z slices_S8x2064x5632_S8x2064x2816_0_0_0)
    (Host.divf (broadcastInDim S8x2064x2816 ![] bcast_S_S8x2064x2816 (constant S_ .f32 0x3F800000#32))
      (addf (broadcastInDim S8x2064x2816 ![] bcast_S_S8x2064x2816 (constant S_ .f32 0x3F800000#32))
        (Host.exp (Host.negf (extractStridedSlice S8x2064x2816 ![0, 0, 0] z slices_S8x2064x5632_S8x2064x2816_0_0_0))))))
    (extractStridedSlice S8x2064x2816 ![0, 0, 2816] z slices_S8x2064x5632_S8x2064x2816_0_0_2816)

/-- The feed-forward part as it is written. -/
def fed (y : Rows) (g : FVec Ideal S2x1024 .f32) (wi : FVec Ideal S2x1024x5632 .f32) (wf : FVec Ideal S2x2816x1024 .f32) : Rows :=
  addf y (Host.dotGeneral dot_S8x2064x2816_S2816x1024_S8x2064x1024_2_0_01_1_n_n none
    (unit (halves (normed y (shapeCast _ (extractStridedSlice S1x1024 ![1, 0] g slices_S2x1024_S1x1024_1_0) shapeCasts_S1x1024_S1024)) wi))
    (shapeCast _ (extractStridedSlice S1x2816x1024 ![1, 0, 0] wf slices_S2x2816x1024_S1x2816x1024_1_0_0) shapeCasts_S1x2816x1024_S2816x1024))

theorem normed_at (x : Rows) (g : FVec Ideal S1024 .f32) (b : Fin 8) (t : Fin 2064) (n : Fin 1024) :
    normed x g (ix3 b t n) = rms (fun k => x (ix3 b t k)) (fun k => g (ix1 k)) n := by
  unfold normed rms width eps
  pointwise

theorem resid_at (x : Rows) (s : FVec Ideal S8x2064x512 .f32) (p g : Rows) (wb : FVec Ideal S2x512x1024 .f32) (wo : FVec Ideal S2x1024x1024 .f32)
    (b : Fin 8) (t : Fin 2064) (n : Fin 1024) :
    resid x s p g wb wo (ix3 b t n) = joined (fun k => x (ix3 b t k)) (fun k => s (ix3 b t k)) (fun k => p (ix3 b t k)) (fun k => g (ix3 b t k))
      (fun k i => wb (ix3 1 k i)) (fun k i => wo (ix3 1 k i)) n := by
  unfold resid joined merged times
  pointwise

theorem halves_at (h : Rows) (wi : FVec Ideal S2x1024x5632 .f32) (b : Fin 8) (t : Fin 2064) (n : Fin 5632) :
    halves h wi (ix3 b t n) = times (fun k => h (ix3 b t k)) (fun k i => wi (ix3 1 k i)) n := by
  unfold halves times
  pointwise

theorem unit_at (z : FVec Ideal S8x2064x5632 .f32) (b : Fin 8) (t : Fin 2064) (n : Fin 2816) :
    unit z (ix3 b t n) = gated (z (ix3 b t ⟨n.val, by omega⟩)) (z (ix3 b t ⟨2816 + n.val, by omega⟩)) := by
  unfold unit gated one
  pointwise

theorem fed_at (y : Rows) (g : FVec Ideal S2x1024 .f32) (wi : FVec Ideal S2x1024x5632 .f32) (wf : FVec Ideal S2x2816x1024 .f32)
    (b : Fin 8) (t : Fin 2064) (n : Fin 1024) :
    fed y g wi wf (ix3 b t n) = forward (fun k => y (ix3 b t k)) (fun k => g (ix2 1 k)) (fun k i => wi (ix3 1 k i)) (fun k i => wf (ix3 1 k i)) n := by
  unfold fed forward times inside
  pointwise
  have hg : (fun k : Fin 1024 => (shapeCast _ (extractStridedSlice S1x1024 ![1, 0] g slices_S2x1024_S1x1024_1_0) shapeCasts_S1x1024_S1024 : FVec Ideal S1024 .f32) (ix1 k))
      = fun k => g (ix2 1 k) := funext fun k => by pointwise
  simp only [unit_at, halves_at, normed_at, hg]

variable (m : (ℓ : Loc nD τ sig) → Buf (Elt Ideal) ℓ) (c : Dev nD)

theorem res_eq : res_main_v48 m c = extractStridedSlice S8x2048x1024 ![0, 16, 0] (normed (fed
    (resid (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)))
    (m ((c.tc : Thread nD τ).loc main_arg7)) (m ((c.tc : Thread nD τ).loc main_arg8)) (m ((c.tc : Thread nD τ).loc main_arg9)))
    (m ((c.tc : Thread nD τ).loc main_arg10))) slices_S8x2064x1024_S8x2048x1024_0_16_0 := rfl

/-- The reference at an index. -/
theorem res_at (b : Fin 8) (t : Fin 2048) (n : Fin 1024) : (res_main_v48 m c : FVec Ideal S8x2048x1024 .f32) (ix3 b t n)
    = stage (fun k => (m ((c.tc : Thread nD τ).loc main_arg0) : Rows) (ix3 b ⟨16 + t.val, by omega⟩ k))
        (fun k => (m ((c.tc : Thread nD τ).loc main_arg2) : FVec Ideal S8x2064x512 .f32) (ix3 b ⟨16 + t.val, by omega⟩ k))
        (fun k => (m ((c.tc : Thread nD τ).loc main_arg3) : Rows) (ix3 b ⟨16 + t.val, by omega⟩ k))
        (fun k => (m ((c.tc : Thread nD τ).loc main_arg4) : Rows) (ix3 b ⟨16 + t.val, by omega⟩ k))
        (fun k i => (m ((c.tc : Thread nD τ).loc main_arg5) : FVec Ideal S2x512x1024 .f32) (ix3 1 k i))
        (fun k i => (m ((c.tc : Thread nD τ).loc main_arg6) : FVec Ideal S2x1024x1024 .f32) (ix3 1 k i))
        (fun k => (m ((c.tc : Thread nD τ).loc main_arg7) : FVec Ideal S2x1024 .f32) (ix2 1 k))
        (fun k i => (m ((c.tc : Thread nD τ).loc main_arg8) : FVec Ideal S2x1024x5632 .f32) (ix3 1 k i))
        (fun k i => (m ((c.tc : Thread nD τ).loc main_arg9) : FVec Ideal S2x2816x1024 .f32) (ix3 1 k i))
        (fun k => (m ((c.tc : Thread nD τ).loc main_arg10) : FVec Ideal S1024 .f32) (ix1 k)) n := by
  rw [res_eq]
  unfold stage
  generalize (m ((c.tc : Thread nD τ).loc main_arg10) : FVec Ideal S1024 .f32) = a10
  generalize hy : fed _ _ _ _ = y
  pointwise
  rw [normed_at]
  subst hy
  simp only [fed_at, resid_at]

end Cert.Reference2Ideal.Out
end
-- ==== Proof.Out4Block.lean ====
/-
  What one body of the first layer's output stage leaves in its result block, at an index: the row's residual after the
  merged branches, with the feed-forward part added. The body takes its residual's rows from the frames, shifted by the
  meta rows in the first tile of a sequence.
-/
module

public import proofs.«01_k».proof.Proof.OutSpec
public import proofs.«01_k».proof.Proof.OutBlock
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Kernel4Ideal.Out

open Cert.Kernel4Ideal Cert.Kernel4Ideal.Gen Idealize.ShloMosaic Idealize.ShloMosaic.TcCoe Idealize.SL.Sem
open Cert.OutStage
open Cert.Kernel2Ideal.Out (canon_hit canon_miss canon_step readCov_cols load_cols row3)
open scoped BigOperators

/-! ## Buffers written by rows and columns -/

section Rects

variable {Val : EltTy → Type} [∀ e, Nonempty (Val e)] {e : EltTy} {a n h k : ℕ}

/-- One more piece, at rows from `p` and columns from `o`, over what the earlier ones hold where `Q` says. -/
theorem canon_put {G : Fin a → Fin n → Val e} {Q : Fin a → Fin n → Prop} (p o : ℕ)
    (inb : ∀ x, (![p, o] : Fin 2 → ℕ) x + (⟨2, ![h, k]⟩ : Shape).size x ≤ (⟨2, ![a, n]⟩ : Shape).size x)
    (w : (⟨2, ![h, k]⟩ : Shape).Idx → Val e) (L : List (View.Piece Val (⟨2, ![a, n]⟩ : Shape) e))
    (hw : ∀ (r : Fin h) (j : Fin k) (hr : p + r.val < a) (hj : o + j.val < n), w (ix2 r j) = G ⟨p + r.val, hr⟩ ⟨o + j.val, hj⟩)
    (hL : ∀ r q, Q r q → View.canon L (ix2 r q) = G r q) :
    ∀ r q, ((p ≤ r.val ∧ r.val < p + h ∧ o ≤ q.val ∧ q.val < o + k) ∨ Q r q) →
      View.canon ((⟨Rect.unit (s := (⟨2, ![a, n]⟩ : Shape)) ![p, o] (⟨2, ![h, k]⟩ : Shape).size inb, w⟩ :
        View.Piece Val (⟨2, ![a, n]⟩ : Shape) e) :: L) (ix2 r q) = G r q := by
  intro r q hq
  by_cases hin : p ≤ r.val ∧ r.val < p + h ∧ o ≤ q.val ∧ q.val < o + k
  · obtain ⟨h1, h2, h3, h4⟩ := hin
    have hr : r.val - p < h := by omega
    have hj : q.val - o < k := by omega
    have he : (Rect.unit (s := (⟨2, ![a, n]⟩ : Shape)) ![p, o] (⟨2, ![h, k]⟩ : Shape).size inb).emb (ix2 ⟨r.val - p, hr⟩ ⟨q.val - o, hj⟩) = ix2 r q := by
      funext x
      apply Fin.ext
      fin_cases x
      · show p + 1 * (r.val - p) = r.val; omega
      · show o + 1 * (q.val - o) = q.val; omega
    have hv := hw ⟨r.val - p, hr⟩ ⟨q.val - o, hj⟩ (by show p + (r.val - p) < a; have := r.isLt; omega) (by show o + (q.val - o) < n; have := q.isLt; omega)
    rw [← he]
    refine (View.canon_cons_emb (Rect.unit (s := (⟨2, ![a, n]⟩ : Shape)) ![p, o] (⟨2, ![h, k]⟩ : Shape).size inb) w L _).trans (hv.trans ?_)
    exact congrArg₂ G (Fin.ext (by show p + (r.val - p) = r.val; omega)) (Fin.ext (by show o + (q.val - o) = q.val; omega))
  · refine (View.canon_cons_of_not_mem _ L fun hm => hin ?_).trans (hL r q (hq.resolve_left hin))
    have h1 : p ≤ r.val ∧ r.val < p + h := (Rect.mem_set_unit (inb := inb)).mp hm 0
    have h2 : o ≤ q.val ∧ q.val < o + k := (Rect.mem_set_unit (inb := inb)).mp hm 1
    exact ⟨h1.1, h1.2, h2.1, h2.2⟩

/-- The same for a block of one sequence's rows, written by columns. -/
theorem canon_put3 {G : Fin a → Fin n → Val e} {Q : Fin a → Fin n → Prop} (o : ℕ)
    (inb : ∀ x, (![0, 0, o] : Fin 3 → ℕ) x + (⟨3, ![1, a, k]⟩ : Shape).size x ≤ (⟨3, ![1, a, n]⟩ : Shape).size x)
    (w : (⟨3, ![1, a, k]⟩ : Shape).Idx → Val e) (L : List (View.Piece Val (⟨3, ![1, a, n]⟩ : Shape) e))
    (hw : ∀ (r : Fin a) (j : Fin k) (hj : o + j.val < n), w (ix3 (0 : Fin 1) r j) = G r ⟨o + j.val, hj⟩)
    (hL : ∀ r q, Q r q → View.canon L (ix3 (0 : Fin 1) r q) = G r q) :
    ∀ r q, ((o ≤ q.val ∧ q.val < o + k) ∨ Q r q) →
      View.canon ((⟨Rect.unit (s := (⟨3, ![1, a, n]⟩ : Shape)) ![0, 0, o] (⟨3, ![1, a, k]⟩ : Shape).size inb, w⟩ :
        View.Piece Val (⟨3, ![1, a, n]⟩ : Shape) e) :: L) (ix3 (0 : Fin 1) r q) = G r q := by
  intro r q hq
  by_cases hin : o ≤ q.val ∧ q.val < o + k
  · obtain ⟨h3, h4⟩ := hin
    have hj : q.val - o < k := by omega
    have he : (Rect.unit (s := (⟨3, ![1, a, n]⟩ : Shape)) ![0, 0, o] (⟨3, ![1, a, k]⟩ : Shape).size inb).emb (ix3 (0 : Fin 1) r ⟨q.val - o, hj⟩) = ix3 (0 : Fin 1) r q := by
      funext x
      apply Fin.ext
      fin_cases x
      · rfl
      · show 0 + 1 * r.val = r.val; omega
      · show o + 1 * (q.val - o) = q.val; omega
    have hv := hw r ⟨q.val - o, hj⟩ (by show o + (q.val - o) < n; have := q.isLt; omega)
    rw [← he]
    refine (View.canon_cons_emb (Rect.unit (s := (⟨3, ![1, a, n]⟩ : Shape)) ![0, 0, o] (⟨3, ![1, a, k]⟩ : Shape).size inb) w L _).trans (hv.trans ?_)
    exact congrArg (G r) (Fin.ext (by show o + (q.val - o) = q.val; omega))
  · refine (View.canon_cons_of_not_mem _ L fun hm => hin ?_).trans (hL r q (hq.resolve_left hin))
    exact (Rect.mem_set_unit (inb := inb)).mp hm 2

/-- A load of rows and columns of an input's block. -/
theorem load_rect {sig : RefSig} {sp : Space} (M : Memref sig .tc sp (⟨3, ![1, a, n]⟩ : Shape) e) (hM : M.IsWhole)
    (x : (⟨3, ![1, a, n]⟩ : Shape).Idx → Val e) (p o : ℕ)
    (inb : ∀ x, (![0, p, o] : Fin 3 → ℕ) x + (⟨3, ![1, h, k]⟩ : Shape).size x ≤ (⟨3, ![1, a, n]⟩ : Shape).size x) (r : Fin h) (j : Fin k)
    (u : Fin a) (q : Fin n) (hu : u.val = p + r.val) (hq : q.val = o + j.val) :
    View.readAt Val M.view (Rect.unit (s := (⟨3, ![1, a, n]⟩ : Shape)) ![0, p, o] (⟨3, ![1, h, k]⟩ : Shape).size inb).toLoadRect (hM.unread x) (ix3 (0 : Fin 1) r j)
      = x (ix3 (0 : Fin 1) u q) := by
  rw [View.readAt_eq_ld, hM.read_unread]
  refine congrArg x ?_
  funext y
  apply Fin.ext
  fin_cases y
  · rfl
  · show p + 1 * r.val = u.val; omega
  · show o + 1 * j.val = q.val; omega

/-- A load of columns of an input's matrix. -/
theorem load_matrix {sig : RefSig} {sp : Space} (M : Memref sig .tc sp (⟨2, ![a, n]⟩ : Shape) e) (hM : M.IsWhole)
    (x : (⟨2, ![a, n]⟩ : Shape).Idx → Val e) (o : ℕ)
    (inb : ∀ x, (![0, o] : Fin 2 → ℕ) x + (⟨2, ![a, k]⟩ : Shape).size x ≤ (⟨2, ![a, n]⟩ : Shape).size x) (r : Fin a) (j : Fin k)
    (u : Fin a) (q : Fin n) (hu : u.val = r.val) (hq : q.val = o + j.val) :
    View.readAt Val M.view (Rect.unit (s := (⟨2, ![a, n]⟩ : Shape)) ![0, o] (⟨2, ![a, k]⟩ : Shape).size inb).toLoadRect (hM.unread x) (ix2 r j)
      = x (ix2 u q) := by
  rw [View.readAt_eq_ld, hM.read_unread]
  refine congrArg x ?_
  funext y
  apply Fin.ext
  fin_cases y
  · show 0 + 1 * r.val = u.val; omega
  · show o + 1 * j.val = q.val; omega

end Rects

/-! ## The stored values -/

theorem merge_at (s : FVec Ideal S1x688x512 .bf16) (p g : FVec Ideal S1x688x512 .f32) (w : FVec Ideal S1x512x512 .bf16) (r : Fin 688) (j : Fin 512) :
    k0_pay5 (F := Ideal) s p g w (ix2 r j) = row3 p r j + row3 g r j * times (row3 s r) (row3 w) j := by
  unfold k0_pay5 k0_pay4 times
  pointwise

theorem proj_at (u : FVec Ideal S688x1024 .bf16) (w : FVec Ideal S1x1024x512 .bf16) (r : Fin 688) (j : Fin 512) :
    k0_pay10 (F := Ideal) u w (ix2 r j) = times (fun k => u (ix2 r k)) (row3 w) j := by
  unfold k0_pay10 times
  pointwise

theorem head_at (z : FVec Ideal S688x512 .f32) (b : BitVec 1) (u : FVec Ideal S16x512 .f32) (v : FVec Ideal S1x16x512 .f32) (r : Fin 16) (j : Fin 512)
    (R : Fin 688) (hR : R.val = r.val) :
    k0_pay11 (F := Ideal) z b u v (ix2 r j) = (if b = 1#1 then u (ix2 r j) else v (ix3 (0 : Fin 1) r j)) + z (ix2 R j) := by
  have hr : r.val < 688 := by have := r.isLt; omega
  obtain rfl : R = ⟨r.val, hr⟩ := Fin.ext hR
  unfold k0_pay11
  by_cases hb : b = 1#1
  · have hs : ∀ x y : Vec Ideal S16x512 .f32, Scalar.select b x y = x := fun x y => if_pos hb
    simp only [hs]
    rw [if_pos hb]
    pointwise
  · have hs : ∀ x y : Vec Ideal S16x512 .f32, Scalar.select b x y = y := fun x y => if_neg hb
    simp only [hs]
    rw [if_neg hb]
    pointwise

theorem rest_at (z : FVec Ideal S688x512 .f32) (b : BitVec 1) (u v : FVec Ideal S1x672x512 .f32) (r : Fin 672) (j : Fin 512)
    (R : Fin 688) (hR : R.val = 16 + r.val) :
    k0_pay12 (F := Ideal) z b u v (ix2 r j) = (if b = 1#1 then u (ix3 (0 : Fin 1) r j) else v (ix3 (0 : Fin 1) r j)) + z (ix2 R j) := by
  have hr : 16 + r.val < 688 := by have := r.isLt; omega
  obtain rfl : R = ⟨16 + r.val, hr⟩ := Fin.ext hR
  unfold k0_pay12
  by_cases hb : b = 1#1
  · have hs : ∀ x y : Vec Ideal S672x512 .f32, Scalar.select b x y = x := fun x y => if_pos hb
    simp only [hs]
    rw [if_pos hb]
    pointwise
  · have hs : ∀ x y : Vec Ideal S672x512 .f32, Scalar.select b x y = y := fun x y => if_neg hb
    simp only [hs]
    rw [if_neg hb]
    pointwise

theorem rms_at (x : FVec Ideal S688x1024 .f32) (g : FVec Ideal S1x1x1024 .f32) (r : Fin 688) (n : Fin 1024) :
    k0_pay14 (k0_pay13 (F := Ideal) x g) (ix2 r n) = rms (fun k => x (ix2 r k)) (row3 g 0) n := by
  unfold k0_pay14 k0_pay13 rms width eps
  pointwise

theorem gate_at (u : FVec Ideal S688x1024 .bf16) (w w' : FVec Ideal S1x1024x256 .bf16) (r : Fin 688) (j : Fin 256) :
    k0_pay15 (F := Ideal) u w w' (ix2 r j) = gated (times (fun k => u (ix2 r k)) (row3 w) j) (times (fun k => u (ix2 r k)) (row3 w') j) := by
  unfold k0_pay15 gated one times
  pointwise
  rw [zero_sub]

theorem fed_at (u : FVec Ideal S688x2816 .bf16) (y : FVec Ideal S688x512 .f32) (w : FVec Ideal S1x2816x512 .bf16) (r : Fin 688) (j : Fin 512) :
    k0_pay2 (F := Ideal) u y w (ix3 (0 : Fin 1) r j) = y (ix2 r j) + times (fun k => u (ix2 r k)) (row3 w) j := by
  unfold k0_pay2 times
  pointwise

/-! ## The buffers of one body -/

variable (c : Dev nD) (i : grid0.Coords)
  (arg2 : Memref sig .tc .vmem S1x688x1024 .f32) (harg2 : arg2.IsWhole)
  (arg3 : Memref sig .tc .vmem S16x1024 .f32) (harg3 : arg3.IsWhole)
  (arg4 : Memref sig .tc .vmem S1x688x512 .bf16) (harg4 : arg4.IsWhole)
  (arg5 : Memref sig .tc .vmem S1x688x1024 .f32) (harg5 : arg5.IsWhole)
  (arg6 : Memref sig .tc .vmem S1x688x1024 .f32) (harg6 : arg6.IsWhole)
  (arg7 : Memref sig .tc .vmem S1x512x1024 .bf16) (harg7 : arg7.IsWhole)
  (arg8 : Memref sig .tc .vmem S1x1024x1024 .bf16) (harg8 : arg8.IsWhole)
  (arg9 : Memref sig .tc .vmem S1x1x1024 .f32) (harg9 : arg9.IsWhole)
  (arg10 : Memref sig .tc .vmem S1x1024x5632 .bf16) (harg10 : arg10.IsWhole)
  (arg11 : Memref sig .tc .vmem S1x2816x1024 .bf16) (harg11 : arg11.IsWhole)
  (arg12 : Memref sig .tc .vmem S1x1024 .f32) (harg12 : arg12.IsWhole)
  (arg13 : Memref sig .tc .vmem S1x688x1024 .f32) (harg13 : arg13.IsWhole)
  (arg14 : Memref sig .tc .vmem S688x1024 .bf16) (harg14 : arg14.IsWhole)
  (arg15 : Memref sig .tc .vmem S688x1024 .f32) (harg15 : arg15.IsWhole)
  (arg16 : Memref sig .tc .vmem S688x1024 .bf16) (harg16 : arg16.IsWhole)
  (arg17 : Memref sig .tc .vmem S688x2816 .bf16) (harg17 : arg17.IsWhole)
  (x0 : Vec Ideal S1x688x1024 .f32) (x1 : Vec Ideal S16x1024 .f32) (x2 : Vec Ideal S1x688x512 .bf16) (x3 : Vec Ideal S1x688x1024 .f32) (x4 : Vec Ideal S1x688x1024 .f32) (x5 : Vec Ideal S1x512x1024 .bf16) (x6 : Vec Ideal S1x1024x1024 .bf16) (x7 : Vec Ideal S1x1x1024 .f32) (x8 : Vec Ideal S1x1024x5632 .bf16) (x9 : Vec Ideal S1x2816x1024 .bf16) (x10 : Vec Ideal S1x1024 .f32)

/-- Whether a body's tile is the first of its sequence. -/
abbrev firstTile : BitVec 1 := Scalar.cmpi .eq (BitVec.ofNat 32 (i 1).val) 0#32

/-- The residual's row: in the first tile the meta rows come first and the frames are moved down by as many rows. -/
def source (r : Fin 688) : Fin 1024 → EReal :=
  if firstTile i = 1#1 then (if h : r.val < 16 then fun k => x1 (ix2 (⟨r.val, h⟩ : Fin 16) k) else row3 x0 ⟨r.val - 16, by omega⟩) else row3 x0 r

/-- The merged branches of a row. -/
abbrev mergedRow (r : Fin 688) : Fin 1024 → EReal := merged (row3 x2 r) (row3 x3 r) (row3 x4 r) (row3 x5)
/-- The residual of a row after them. -/
abbrev joinedRow (r : Fin 688) : Fin 1024 → EReal := joined (source i x0 x1 r) (row3 x2 r) (row3 x3 r) (row3 x4 r) (row3 x5) (row3 x6)
/-- The hidden row of the feed-forward part. -/
abbrev insideRow (r : Fin 688) : Fin 2816 → EReal := inside (rms (joinedRow i x0 x1 x2 x3 x4 x5 x6 r) (row3 x7 0)) (row3 x8)

theorem whole_block {e : EltTy} {a b : ℕ} {sp : Space} (M : Memref sig .tc sp (⟨3, ![1, a, b]⟩ : Shape) e) (h : M.IsWhole)
    (x : (⟨3, ![1, a, b]⟩ : Shape).Idx → Elt Ideal e)
    (inb : ∀ y, (![0, 0, 0] : Fin 3 → ℕ) y + (⟨3, ![1, a, b]⟩ : Shape).size y ≤ (⟨3, ![1, a, b]⟩ : Shape).size y) (r : Fin a) (j : Fin b) :
    View.readAt (Elt Ideal) M.view (Rect.unit (s := (⟨3, ![1, a, b]⟩ : Shape)) ![0, 0, 0] (⟨3, ![1, a, b]⟩ : Shape).size inb).toLoadRect (h.unread x)
      (ix3 (0 : Fin 1) r j) = x (ix3 (0 : Fin 1) r j) := load_cols M h x 0 inb r j j (Nat.zero_add _).symm

theorem m_at (r : Fin 688) (n : Fin 1024) : kernelRun0_A.sl.v28 (F := Ideal) c arg4 harg4 arg5 harg5 arg6 harg6 arg7 harg7 arg14 x2 x3 x4 x5 (ix2 r n) = mergedRow x2 x3 x4 x5 r n := by
  unfold kernelRun0_A.sl.v28 kernelRun0_A.sl.HS0_2
  refine (readCov_cols arg14.view _ 0 _ r n n (Nat.zero_add _).symm).trans ?_
  have piece (o : ℕ) (inb1 inb2) (r : Fin 688) (j : Fin 512) (h : o + j.val < 1024) :
      k0_pay5 (F := Ideal) (View.readAt (Elt Ideal) arg4.view (Rect.unit (s := S1x688x512) ![0, 0, 0] S1x688x512.size inb_S1x688x512_S1x688x512_0_0_0).toLoadRect (harg4.unread x2))
        (View.readAt (Elt Ideal) arg5.view (Rect.unit (s := S1x688x1024) ![0, 0, o] S1x688x512.size inb1).toLoadRect (harg5.unread x3))
        (View.readAt (Elt Ideal) arg6.view (Rect.unit (s := S1x688x1024) ![0, 0, o] S1x688x512.size inb1).toLoadRect (harg6.unread x4))
        (View.readAt (Elt Ideal) arg7.view (Rect.unit (s := S1x512x1024) ![0, 0, o] S1x512x512.size inb2).toLoadRect (harg7.unread x5)) (ix2 r j)
      = mergedRow x2 x3 x4 x5 r ⟨o + j.val, h⟩ := by
    refine (merge_at _ _ _ _ r j).trans ?_
    unfold mergedRow merged times
    refine congrArg₂ (· + ·) (load_cols arg5 harg5 x3 o inb1 r j ⟨o + j.val, h⟩ rfl) (congrArg₂ (· * ·) (load_cols arg6 harg6 x4 o inb1 r j ⟨o + j.val, h⟩ rfl) ?_)
    exact Finset.sum_congr rfl fun k _ => congrArg₂ (· * ·) (whole_block arg4 harg4 x2 _ r k) (load_cols arg7 harg7 x5 o inb2 k j ⟨o + j.val, h⟩ rfl)
  refine canon_step (Val := Elt Ideal) (e := .bf16) (k := 512) (G := mergedRow x2 x3 x4 x5) 512 1024 rfl _ _ _ ?_
    (canon_step (k := 512) 0 512 rfl _ _ _ ?_ fun _ _ h => absurd h (Nat.not_lt_zero _)) r n n.isLt
  exacts [piece 512 _ _,
    piece 0 _ _]

/-- The projection of the merged branches at a row. -/
theorem proj_row (o : ℕ) (inb1) (r : Fin 688) (j : Fin 512) (h : o + j.val < 1024) :
    k0_pay10 (F := Ideal) (kernelRun0_A.sl.v28 (F := Ideal) c arg4 harg4 arg5 harg5 arg6 harg6 arg7 harg7 arg14 x2 x3 x4 x5)
      (View.readAt (Elt Ideal) arg8.view (Rect.unit (s := S1x1024x1024) ![0, 0, o] S1x1024x512.size inb1).toLoadRect (harg8.unread x6)) (ix2 r j)
    = times (mergedRow x2 x3 x4 x5 r) (row3 x6) ⟨o + j.val, h⟩ := by
  refine (proj_at _ _ r j).trans ?_
  exact Finset.sum_congr rfl fun k _ => congrArg₂ (· * ·) (m_at c arg4 harg4 arg5 harg5 arg6 harg6 arg7 harg7 arg14 x2 x3 x4 x5 r k) (load_cols arg8 harg8 x6 o inb1 k j ⟨o + j.val, h⟩ rfl)

theorem head_row (o : ℕ) (inb1 inb2 inb3) (r : Fin 16) (j : Fin 512) (hr : 0 + r.val < 688) (h : o + j.val < 1024) :
    k0_pay11 (F := Ideal) (k0_pay10 (kernelRun0_A.sl.v28 (F := Ideal) c arg4 harg4 arg5 harg5 arg6 harg6 arg7 harg7 arg14 x2 x3 x4 x5)
        (View.readAt (Elt Ideal) arg8.view (Rect.unit (s := S1x1024x1024) ![0, 0, o] S1x1024x512.size inb1).toLoadRect (harg8.unread x6))) (firstTile i)
      (View.readAt (Elt Ideal) arg3.view (Rect.unit (s := S16x1024) ![0, o] S16x512.size inb2).toLoadRect (harg3.unread x1))
      (View.readAt (Elt Ideal) arg2.view (Rect.unit (s := S1x688x1024) ![0, 0, o] S1x16x512.size inb3).toLoadRect (harg2.unread x0)) (ix2 r j)
    = joinedRow i x0 x1 x2 x3 x4 x5 x6 ⟨0 + r.val, hr⟩ ⟨o + j.val, h⟩ := by
  refine (head_at _ _ _ _ r j ⟨0 + r.val, hr⟩ (Nat.zero_add _)).trans ?_
  unfold joinedRow joined
  refine congrArg₂ (· + ·) ?_ (proj_row c arg4 harg4 arg5 harg5 arg6 harg6 arg7 harg7 arg8 harg8 arg14 x2 x3 x4 x5 x6 o inb1 _ j h)
  unfold source
  by_cases hb : firstTile i = 1#1
  · rw [if_pos hb, if_pos hb, dif_pos (by show 0 + r.val < 16; omega)]
    exact load_matrix arg3 harg3 x1 o inb2 r j _ _ (Nat.zero_add _) rfl
  · rw [if_neg hb, if_neg hb]
    exact load_rect arg2 harg2 x0 0 o inb3 r j _ _ rfl rfl

theorem rest_row (o : ℕ) (inb1 inb2 inb3) (r : Fin 672) (j : Fin 512) (hr : 16 + r.val < 688) (h : o + j.val < 1024) :
    k0_pay12 (F := Ideal) (k0_pay10 (kernelRun0_A.sl.v28 (F := Ideal) c arg4 harg4 arg5 harg5 arg6 harg6 arg7 harg7 arg14 x2 x3 x4 x5)
        (View.readAt (Elt Ideal) arg8.view (Rect.unit (s := S1x1024x1024) ![0, 0, o] S1x1024x512.size inb1).toLoadRect (harg8.unread x6))) (firstTile i)
      (View.readAt (Elt Ideal) arg2.view (Rect.unit (s := S1x688x1024) ![0, 0, o] S1x672x512.size inb2).toLoadRect (harg2.unread x0))
      (View.readAt (Elt Ideal) arg2.view (Rect.unit (s := S1x688x1024) ![0, 16, o] S1x672x512.size inb3).toLoadRect (harg2.unread x0)) (ix2 r j)
    = joinedRow i x0 x1 x2 x3 x4 x5 x6 ⟨16 + r.val, hr⟩ ⟨o + j.val, h⟩ := by
  refine (rest_at _ _ _ _ r j ⟨16 + r.val, hr⟩ rfl).trans ?_
  unfold joinedRow joined
  refine congrArg₂ (· + ·) ?_ (proj_row c arg4 harg4 arg5 harg5 arg6 harg6 arg7 harg7 arg8 harg8 arg14 x2 x3 x4 x5 x6 o inb1 _ j h)
  unfold source
  by_cases hb : firstTile i = 1#1
  · rw [if_pos hb, if_pos hb, dif_neg (by show ¬ 16 + r.val < 16; omega)]
    exact load_rect arg2 harg2 x0 0 o inb2 r j _ _ (by show 16 + r.val - 16 = 0 + r.val; omega) rfl
  · rw [if_neg hb, if_neg hb]
    exact load_rect arg2 harg2 x0 16 o inb3 r j _ _ rfl rfl

theorem x_canon (r : Fin 688) (n : Fin 1024) : View.canon (kernelRun0_A.sl.HS1_4 (F := Ideal) c i arg2 harg2 arg3 harg3 arg4 harg4 arg5 harg5 arg6 harg6 arg7 harg7 arg8 harg8 arg14 x0 x1 x2 x3 x4 x5 x6) (ix2 r n) = joinedRow i x0 x1 x2 x3 x4 x5 x6 r n := by
  unfold kernelRun0_A.sl.HS1_4
  refine canon_put (Val := Elt Ideal) (e := .f32) (h := 672) (k := 512) (G := joinedRow i x0 x1 x2 x3 x4 x5 x6) 16 512 _ _ _ ?_
    (canon_put (h := 16) (k := 512) 0 512 _ _ _ ?_
    (canon_put (h := 672) (k := 512) 16 0 _ _ _ ?_
    (canon_put (h := 16) (k := 512) (Q := fun _ q => q.val < 0) 0 0 _ _ _ ?_ fun _ _ h => absurd h (Nat.not_lt_zero _)))) r n
    (by have h1 := r.isLt; have h2 := n.isLt; omega)
  exacts [rest_row c i arg2 harg2 arg4 harg4 arg5 harg5 arg6 harg6 arg7 harg7 arg8 harg8 arg14 x0 x1 x2 x3 x4 x5 x6 512 _ _ _,
    head_row c i arg2 harg2 arg3 harg3 arg4 harg4 arg5 harg5 arg6 harg6 arg7 harg7 arg8 harg8 arg14 x0 x1 x2 x3 x4 x5 x6 512 _ _ _,
    rest_row c i arg2 harg2 arg4 harg4 arg5 harg5 arg6 harg6 arg7 harg7 arg8 harg8 arg14 x0 x1 x2 x3 x4 x5 x6 0 _ _ _,
    head_row c i arg2 harg2 arg3 harg3 arg4 harg4 arg5 harg5 arg6 harg6 arg7 harg7 arg8 harg8 arg14 x0 x1 x2 x3 x4 x5 x6 0 _ _ _]

theorem x_at (r : Fin 688) (n : Fin 1024) : kernelRun0_A.sl.v75 (F := Ideal) c i arg2 harg2 arg3 harg3 arg4 harg4 arg5 harg5 arg6 harg6 arg7 harg7 arg8 harg8 arg14 arg15 x0 x1 x2 x3 x4 x5 x6 (ix2 r n) = joinedRow i x0 x1 x2 x3 x4 x5 x6 r n := by
  unfold kernelRun0_A.sl.v75
  exact (readCov_cols arg15.view _ 0 _ r n n (Nat.zero_add _).symm).trans (x_canon c i arg2 harg2 arg3 harg3 arg4 harg4 arg5 harg5 arg6 harg6 arg7 harg7 arg8 harg8 arg14 x0 x1 x2 x3 x4 x5 x6 r n)

theorem h_at (r : Fin 688) (n : Fin 1024) : kernelRun0_A.sl.v94 (F := Ideal) c i arg2 harg2 arg3 harg3 arg4 harg4 arg5 harg5 arg6 harg6 arg7 harg7 arg8 harg8 arg9 harg9 arg14 arg15 arg16 x0 x1 x2 x3 x4 x5 x6 x7 (ix2 r n) = rms (joinedRow i x0 x1 x2 x3 x4 x5 x6 r) (row3 x7 0) n := by
  unfold kernelRun0_A.sl.v94 kernelRun0_A.sl.HS2_1 kernelRun0_A.sl.r_2
  refine (readCov_cols arg16.view _ 0 _ r n n (Nat.zero_add _).symm).trans ((canon_hit 0 _ _ _ r n n (Nat.zero_add _).symm).trans ((rms_at _ _ r n).trans ?_))
  exact congrArg₂ (fun a b => rms a b n) (funext fun k => x_at c i arg2 harg2 arg3 harg3 arg4 harg4 arg5 harg5 arg6 harg6 arg7 harg7 arg8 harg8 arg14 arg15 x0 x1 x2 x3 x4 x5 x6 r k)
    (funext fun k => whole_block arg9 harg9 x7 _ 0 k)

theorem a_at (r : Fin 688) (n : Fin 2816) : kernelRun0_A.sl.v304 (F := Ideal) c i arg2 harg2 arg3 harg3 arg4 harg4 arg5 harg5 arg6 harg6 arg7 harg7 arg8 harg8 arg9 harg9 arg10 harg10 arg14 arg15 arg16 arg17 x0 x1 x2 x3 x4 x5 x6 x7 x8 (ix2 r n) = insideRow i x0 x1 x2 x3 x4 x5 x6 x7 x8 r n := by
  unfold kernelRun0_A.sl.v304 kernelRun0_A.sl.HS3_11
  refine (readCov_cols arg17.view _ 0 _ r n n (Nat.zero_add _).symm).trans ?_
  have piece (o o' : ℕ) (ho : o' = 2816 + o) (inb1 inb2) (r : Fin 688) (j : Fin 256) (h : o + j.val < 2816) :
      k0_pay15 (F := Ideal) (kernelRun0_A.sl.v94 (F := Ideal) c i arg2 harg2 arg3 harg3 arg4 harg4 arg5 harg5 arg6 harg6 arg7 harg7 arg8 harg8 arg9 harg9 arg14 arg15 arg16 x0 x1 x2 x3 x4 x5 x6 x7)
        (View.readAt (Elt Ideal) arg10.view (Rect.unit (s := S1x1024x5632) ![0, 0, o] S1x1024x256.size inb1).toLoadRect (harg10.unread x8))
        (View.readAt (Elt Ideal) arg10.view (Rect.unit (s := S1x1024x5632) ![0, 0, o'] S1x1024x256.size inb2).toLoadRect (harg10.unread x8)) (ix2 r j)
      = insideRow i x0 x1 x2 x3 x4 x5 x6 x7 x8 r ⟨o + j.val, h⟩ := by
    refine (gate_at _ _ _ r j).trans ?_
    unfold insideRow inside
    refine congrArg₂ gated ?_ ?_
    · exact Finset.sum_congr rfl fun k _ => congrArg₂ (· * ·) (h_at c i arg2 harg2 arg3 harg3 arg4 harg4 arg5 harg5 arg6 harg6 arg7 harg7 arg8 harg8 arg9 harg9 arg14 arg15 arg16 x0 x1 x2 x3 x4 x5 x6 x7 r k)
        (load_cols arg10 harg10 x8 o inb1 k j ⟨o + j.val, by omega⟩ rfl)
    · exact Finset.sum_congr rfl fun k _ => congrArg₂ (· * ·) (h_at c i arg2 harg2 arg3 harg3 arg4 harg4 arg5 harg5 arg6 harg6 arg7 harg7 arg8 harg8 arg9 harg9 arg14 arg15 arg16 x0 x1 x2 x3 x4 x5 x6 x7 r k)
        (load_cols arg10 harg10 x8 o' inb2 k j ⟨2816 + (o + j.val), by omega⟩ (by subst ho; show 2816 + (o + j.val) = 2816 + o + j.val; omega))
  refine canon_step (Val := Elt Ideal) (e := .bf16) (k := 256) (G := insideRow i x0 x1 x2 x3 x4 x5 x6 x7 x8) 2560 2816 rfl _ _ _ ?_
    (canon_step (k := 256) 2304 2560 rfl _ _ _ ?_
    (canon_step (k := 256) 2048 2304 rfl _ _ _ ?_
    (canon_step (k := 256) 1792 2048 rfl _ _ _ ?_
    (canon_step (k := 256) 1536 1792 rfl _ _ _ ?_
    (canon_step (k := 256) 1280 1536 rfl _ _ _ ?_
    (canon_step (k := 256) 1024 1280 rfl _ _ _ ?_
    (canon_step (k := 256) 768 1024 rfl _ _ _ ?_
    (canon_step (k := 256) 512 768 rfl _ _ _ ?_
    (canon_step (k := 256) 256 512 rfl _ _ _ ?_
    (canon_step (k := 256) 0 256 rfl _ _ _ ?_ fun _ _ h => absurd h (Nat.not_lt_zero _))))))))))) r n n.isLt
  exacts [piece 2560 5376 rfl _ _,
    piece 2304 5120 rfl _ _,
    piece 2048 4864 rfl _ _,
    piece 1792 4608 rfl _ _,
    piece 1536 4352 rfl _ _,
    piece 1280 4096 rfl _ _,
    piece 1024 3840 rfl _ _,
    piece 768 3584 rfl _ _,
    piece 512 3328 rfl _ _,
    piece 256 3072 rfl _ _,
    piece 0 2816 rfl _ _]

/-- The residual's left half as the feed-forward part reads it. -/
theorem left_at (r : Fin 688) (j : Fin 512) (h : 0 + j.val < 1024) : kernelRun0_A.sl.v305 (F := Ideal) c i arg2 harg2 arg3 harg3 arg4 harg4 arg5 harg5 arg6 harg6 arg7 harg7 arg8 harg8 arg14 arg15 x0 x1 x2 x3 x4 x5 x6 (ix2 r j) = joinedRow i x0 x1 x2 x3 x4 x5 x6 r ⟨0 + j.val, h⟩ := by
  unfold kernelRun0_A.sl.v305
  exact (readCov_cols arg15.view _ 0 _ r j _ rfl).trans (x_canon c i arg2 harg2 arg3 harg3 arg4 harg4 arg5 harg5 arg6 harg6 arg7 harg7 arg8 harg8 arg14 x0 x1 x2 x3 x4 x5 x6 r _)

/-- Its right half. -/
theorem right_at (r : Fin 688) (j : Fin 512) (h : 512 + j.val < 1024) : kernelRun0_A.sl.v313 (F := Ideal) c i arg2 harg2 arg3 harg3 arg4 harg4 arg5 harg5 arg6 harg6 arg7 harg7 arg8 harg8 arg14 arg15 x0 x1 x2 x3 x4 x5 x6 (ix2 r j) = joinedRow i x0 x1 x2 x3 x4 x5 x6 r ⟨512 + j.val, h⟩ := by
  unfold kernelRun0_A.sl.v313
  exact (readCov_cols arg15.view _ 512 _ r j _ rfl).trans (x_canon c i arg2 harg2 arg3 harg3 arg4 harg4 arg5 harg5 arg6 harg6 arg7 harg7 arg8 harg8 arg14 x0 x1 x2 x3 x4 x5 x6 r _)

/-- A column of the result. -/
theorem piece_at (o : ℕ) (inb1) (y : FVec Ideal S688x512 .f32) (hy : ∀ r (j : Fin 512) h, y (ix2 r j) = joinedRow i x0 x1 x2 x3 x4 x5 x6 r ⟨o + j.val, h⟩)
    (r : Fin 688) (j : Fin 512) (h : o + j.val < 1024) :
    k0_pay2 (F := Ideal) (kernelRun0_A.sl.v304 (F := Ideal) c i arg2 harg2 arg3 harg3 arg4 harg4 arg5 harg5 arg6 harg6 arg7 harg7 arg8 harg8 arg9 harg9 arg10 harg10 arg14 arg15 arg16 arg17 x0 x1 x2 x3 x4 x5 x6 x7 x8) y
      (View.readAt (Elt Ideal) arg11.view (Rect.unit (s := S1x2816x1024) ![0, 0, o] S1x2816x512.size inb1).toLoadRect (harg11.unread x9)) (ix3 (0 : Fin 1) r j)
    = forward (joinedRow i x0 x1 x2 x3 x4 x5 x6 r) (row3 x7 0) (row3 x8) (row3 x9) ⟨o + j.val, h⟩ := by
  refine (fed_at _ _ _ r j).trans ?_
  unfold forward
  refine congrArg₂ (· + ·) (hy r j h) ?_
  exact Finset.sum_congr rfl fun k _ => congrArg₂ (· * ·)
    (a_at c i arg2 harg2 arg3 harg3 arg4 harg4 arg5 harg5 arg6 harg6 arg7 harg7 arg8 harg8 arg9 harg9 arg10 harg10 arg14 arg15 arg16 arg17 x0 x1 x2 x3 x4 x5 x6 x7 x8 r k) (load_cols arg11 harg11 x9 o inb1 k j ⟨o + j.val, h⟩ rfl)

/-- What the body leaves. -/
theorem block_at (r : Fin 688) (n : Fin 1024) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix3 (0 : Fin 1) r n)
    = forward (joinedRow i x0 x1 x2 x3 x4 x5 x6 r) (row3 x7 0) (row3 x8) (row3 x9) n := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10)]
  unfold kernelRun0_A
  dsimp only
  refine canon_put3 (Val := Elt Ideal) (e := .f32) (k := 512) (G := fun r => forward (joinedRow i x0 x1 x2 x3 x4 x5 x6 r) (row3 x7 0) (row3 x8) (row3 x9)) 512 _ _ _ ?_
    (canon_put3 (k := 512) (Q := fun _ q => q.val < 0) 0 _ _ _ ?_ fun _ _ h => absurd h (Nat.not_lt_zero _)) r n
    (by have h2 := n.isLt; omega)
  exacts [piece_at c i arg2 harg2 arg3 harg3 arg4 harg4 arg5 harg5 arg6 harg6 arg7 harg7 arg8 harg8 arg9 harg9 arg10 harg10 arg11 harg11 arg14 arg15 arg16 arg17 x0 x1 x2 x3 x4 x5 x6 x7 x8 x9 512 _ _ (right_at c i arg2 harg2 arg3 harg3 arg4 harg4 arg5 harg5 arg6 harg6 arg7 harg7 arg8 harg8 arg14 arg15 x0 x1 x2 x3 x4 x5 x6),
    piece_at c i arg2 harg2 arg3 harg3 arg4 harg4 arg5 harg5 arg6 harg6 arg7 harg7 arg8 harg8 arg9 harg9 arg10 harg10 arg11 harg11 arg14 arg15 arg16 arg17 x0 x1 x2 x3 x4 x5 x6 x7 x8 x9 0 _ _ (left_at c i arg2 harg2 arg3 harg3 arg4 harg4 arg5 harg5 arg6 harg6 arg7 harg7 arg8 harg8 arg14 arg15 x0 x1 x2 x3 x4 x5 x6)]

end Cert.Kernel4Ideal.Out
end
-- ==== Proof.Out4Value.lean ====
/-
  What the first layer's output stage leaves, over the extended reals: the stage of its arguments, a row at a time, the meta
  rows before the frames.
-/
module

public import proofs.«01_k».proof.Proof.Gen.Kernel4Ideal.Value
public import proofs.«01_k».proof.Proof.Out4Block
public import proofs.«01_k».proof.Proof.OutSpec
public import Idealize.ShloMosaic.Lib.Pipeline.ValueKit
public import Idealize.ShloMosaic.Lib.Pointwise

@[expose] public section

set_option maxRecDepth 16384

noncomputable section

namespace Cert.Kernel4Ideal.Out

open Cert.Kernel4Ideal Cert.Kernel4Ideal.Gen Cert.Kernel4Ideal.Value Idealize.ShloMosaic Idealize.ShloMosaic.TcCoe Idealize.ShloMosaic.StableHlo Idealize.SL.Sem
open Cert.OutStage
open Cert.Kernel2Ideal.Out (row3)

variable (m : (ℓ : Loc nD τ sig) → Buf (Elt Ideal) ℓ) (c : Dev nD)

/-- The frames. -/
def argX : FVec Ideal S8x2048x1024 .f32 := m ((c.tc : Thread nD τ).loc main_arg0)
/-- The meta rows. -/
def argM : FVec Ideal S16x1024 .f32 := m ((c.tc : Thread nD τ).loc main_arg1)
/-- The attention's output. -/
def argS : FVec Ideal S8x2064x512 .f32 := m ((c.tc : Thread nD τ).loc main_arg2)
/-- The pooled branch. -/
def argP : FVec Ideal S8x2064x1024 .f32 := m ((c.tc : Thread nD τ).loc main_arg3)
/-- The gate. -/
def argG : FVec Ideal S8x2064x1024 .f32 := m ((c.tc : Thread nD τ).loc main_arg4)
/-- The attention's way back to the width. -/
def argB : FVec Ideal S2x512x1024 .f32 := m ((c.tc : Thread nD τ).loc main_arg5)
/-- The output matrix. -/
def argO : FVec Ideal S2x1024x1024 .f32 := m ((c.tc : Thread nD τ).loc main_arg6)
/-- The second norm's weights. -/
def argN : FVec Ideal S2x1024 .f32 := m ((c.tc : Thread nD τ).loc main_arg7)
/-- The feed-forward's first matrix. -/
def argI : FVec Ideal S2x1024x5632 .f32 := m ((c.tc : Thread nD τ).loc main_arg8)
/-- The feed-forward's second matrix. -/
def argF : FVec Ideal S2x2816x1024 .f32 := m ((c.tc : Thread nD τ).loc main_arg9)
/-- The windows that follow the rows, at every point. -/
theorem idx_rows : ∀ t : Fin cfg0.N,
    win0_0.index t = ![(grid0.coords t 0).val, (grid0.coords t 1).val * 688 - 16, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_11.index t = ![(grid0.coords t 0).val, (grid0.coords t 1).val, 0] := (by decide +kernel : ∀ t : Fin grid0.N, _)

/-- The meta rows' window, at every point. -/
theorem idx_meta : ∀ t : Fin cfg0.N, win0_1.index t = ![0, 0] := (by decide +kernel : ∀ t : Fin grid0.N, _)

/-- The windows of the weights, at every point. -/
theorem idx_weights : ∀ t : Fin cfg0.N,
    win0_5.index t = ![0, 0, 0] ∧ win0_6.index t = ![0, 0, 0] ∧ win0_7.index t = ![0, 0, 0] ∧ win0_8.index t = ![0, 0, 0]
    ∧ win0_9.index t = ![0, 0, 0] := (by decide +kernel : ∀ t : Fin grid0.N, _)

theorem entry_m : V m c main_arg1 = argM m c := by
  simp only [V, hostOps0, TRef.unary, TRef.toBuf, TRef.ofBuf, cast_eq]
  after_results_simp
  rfl

theorem entry_x : V m c main_arg0 = argX m c := by
  simp only [V, hostOps0, TRef.unary, TRef.toBuf, TRef.ofBuf, cast_eq]
  after_results_simp
  rfl

theorem entry_s : V m c main_v4 = (truncf .bf16 (argS m c) bitsLt_bf16_f32 : FVec Ideal S8x2064x512 .bf16) := by
  simp only [V, hostOps0, TRef.unary, TRef.toBuf, TRef.ofBuf, cast_eq]
  after_results_simp
  rfl

theorem entry_p : V m c main_arg3 = argP m c := by
  simp only [V, hostOps0, TRef.unary, TRef.toBuf, TRef.ofBuf, cast_eq]
  after_results_simp
  rfl

theorem entry_g : V m c main_arg4 = argG m c := by
  simp only [V, hostOps0, TRef.unary, TRef.toBuf, TRef.ofBuf, cast_eq]
  after_results_simp
  rfl

theorem entry_b : V m c main_v0 = (truncf .bf16 (argB m c) bitsLt_bf16_f32 : FVec Ideal S2x512x1024 .bf16) := by
  simp only [V, hostOps0, TRef.unary, TRef.toBuf, TRef.ofBuf, cast_eq]
  after_results_simp
  rfl

theorem entry_o : V m c main_v1 = (truncf .bf16 (argO m c) bitsLt_bf16_f32 : FVec Ideal S2x1024x1024 .bf16) := by
  simp only [V, hostOps0, TRef.unary, TRef.toBuf, TRef.ofBuf, cast_eq]
  after_results_simp
  rfl

theorem entry_n : V m c main_v5 = (broadcastInDim S2x1x1024 ![0, 2] bcast_S2x1024_S2x1x1024_0_2 (argN m c) : FVec Ideal S2x1x1024 .f32) := by
  simp only [V, hostOps0, TRef.unary, TRef.toBuf, TRef.ofBuf, cast_eq]
  after_results_simp
  rfl

theorem entry_i : V m c main_v2 = (truncf .bf16 (argI m c) bitsLt_bf16_f32 : FVec Ideal S2x1024x5632 .bf16) := by
  simp only [V, hostOps0, TRef.unary, TRef.toBuf, TRef.ofBuf, cast_eq]
  after_results_simp
  rfl

theorem entry_f : V m c main_v3 = (truncf .bf16 (argF m c) bitsLt_bf16_f32 : FVec Ideal S2x2816x1024 .bf16) := by
  simp only [V, hostOps0, TRef.unary, TRef.toBuf, TRef.ofBuf, cast_eq]
  after_results_simp
  rfl

/-- The sequence of a grid point. -/
def seqOf (t : Fin cfg0.N) : Fin 8 := ⟨(grid0.coords t 0).val, (grid0.coords t 0).isLt⟩

theorem tile_lt (t : Fin cfg0.N) : (grid0.coords t 1).val < 3 := (grid0.coords t 1).isLt

/-- A row of a grid point's block among the rows of the result. -/
def outOf (t : Fin cfg0.N) (r : Fin 688) : Fin 2064 := ⟨(grid0.coords t 1).val * 688 + r.val, by have := tile_lt t; omega⟩

/-- A row of a grid point's block of frames among the frames. -/
def frameOf (t : Fin cfg0.N) (r : Fin 688) : Fin 2048 := ⟨(grid0.coords t 1).val * 688 - 16 + r.val, by have := tile_lt t; omega⟩

/-- The residual's rows: the meta rows, then the frames. -/
def resid (b : Fin 8) (u : Fin 2064) : Fin 1024 → EReal :=
  if h : u.val < 16 then fun k => argM m c (ix2 (⟨u.val, h⟩ : Fin 16) k) else fun k => argX m c (ix3 b ⟨u.val - 16, by omega⟩ k)

theorem rows_place (t : Fin cfg0.N) :
    ∀ y a, ((((View.whole main_arg0).slice (win0_0.rect t)).emb y a : Fin _) : ℕ) = win0_0.index t a + (y a).val :=
  fun y a => ValueKit.rect_emb_unit_val _ _ _ y a

theorem read_x (t : Fin cfg0.N) (r : Fin 688) (k : Fin 1024) :
    iblk m c 0 t (ix3 (0 : Fin 1) r k) = argX m c (ix3 (seqOf t) (frameOf t r) k) := by
  rw [← entry_x]
  unfold seqOf frameOf
  blk_ext [iblk]
  all_goals
    refine (rows_place t _ _).trans ?_
    rw [(idx_rows t).1]
    simp [ix3]
    try omega

theorem read_m (t : Fin cfg0.N) (r : Fin 16) (k : Fin 1024) : iblk m c 1 t (ix2 r k) = argM m c (ix2 r k) := by
  rw [← entry_m]
  blk_ext [iblk, idx_meta t]

theorem first_iff : ∀ j : Fin 3, Scalar.cmpi .eq (BitVec.ofNat 32 j.val) 0#32 = 1#1 ↔ j.val = 0 := by decide

theorem read_resid (t : Fin cfg0.N) (r : Fin 688) : source (grid0.coords t) (iblk m c 0 t) (iblk m c 1 t) r = resid m c (seqOf t) (outOf t r) := by
  have hf : firstTile (grid0.coords t) = 1#1 ↔ (grid0.coords t 1).val = 0 := first_iff ⟨(grid0.coords t 1).val, tile_lt t⟩
  unfold source resid
  by_cases h0 : (grid0.coords t 1).val = 0
  · rw [if_pos (hf.mpr h0)]
    by_cases hr : r.val < 16
    · rw [dif_pos hr, dif_pos (by show (grid0.coords t 1).val * 688 + r.val < 16; omega)]
      funext k
      refine (read_m m c t _ k).trans (congrArg (fun u => argM m c (ix2 u k)) (Fin.ext ?_))
      show r.val = (grid0.coords t 1).val * 688 + r.val
      omega
    · rw [dif_neg hr, dif_neg (by show ¬ (grid0.coords t 1).val * 688 + r.val < 16; omega)]
      funext k
      refine (read_x m c t _ k).trans (congrArg (fun u => argX m c (ix3 (seqOf t) u k)) (Fin.ext ?_))
      show (grid0.coords t 1).val * 688 - 16 + (r.val - 16) = (grid0.coords t 1).val * 688 + r.val - 16
      omega
  · rw [if_neg (fun h => h0 (hf.mp h)), dif_neg (by show ¬ (grid0.coords t 1).val * 688 + r.val < 16; omega)]
    funext k
    refine (read_x m c t _ k).trans (congrArg (fun u => argX m c (ix3 (seqOf t) u k)) (Fin.ext ?_))
    show (grid0.coords t 1).val * 688 - 16 + r.val = (grid0.coords t 1).val * 688 + r.val - 16
    omega

theorem read_s (t : Fin cfg0.N) (r : Fin 688) (k : Fin 512) :
    iblk m c 2 t (ix3 (0 : Fin 1) r k) = argS m c (ix3 (seqOf t) (outOf t r) k) := by
  have e : ∀ i, (V m c main_v4 : FVec Ideal S8x2064x512 .bf16) i = argS m c i := fun i => by rw [entry_s]; rfl
  rw [← e]
  unfold seqOf outOf
  blk_ext [iblk, idx_rows t]

theorem read_p (t : Fin cfg0.N) (r : Fin 688) (k : Fin 1024) :
    iblk m c 3 t (ix3 (0 : Fin 1) r k) = argP m c (ix3 (seqOf t) (outOf t r) k) := by
  rw [← entry_p]
  unfold seqOf outOf
  blk_ext [iblk, idx_rows t]

theorem read_g (t : Fin cfg0.N) (r : Fin 688) (k : Fin 1024) :
    iblk m c 4 t (ix3 (0 : Fin 1) r k) = argG m c (ix3 (seqOf t) (outOf t r) k) := by
  rw [← entry_g]
  unfold seqOf outOf
  blk_ext [iblk, idx_rows t]

theorem read_b (t : Fin cfg0.N) (k : Fin 512) (i : Fin 1024) :
    iblk m c 5 t (ix3 (0 : Fin 1) k i) = argB m c (ix3 (0 : Fin 2) k i) := by
  have e : ∀ i, (V m c main_v0 : FVec Ideal S2x512x1024 .bf16) i = argB m c i := fun i => by rw [entry_b]; rfl
  rw [← e]
  blk_ext [iblk, idx_weights t]

theorem read_o (t : Fin cfg0.N) (k i : Fin 1024) :
    iblk m c 6 t (ix3 (0 : Fin 1) k i) = argO m c (ix3 (0 : Fin 2) k i) := by
  have e : ∀ i, (V m c main_v1 : FVec Ideal S2x1024x1024 .bf16) i = argO m c i := fun i => by rw [entry_o]; rfl
  rw [← e]
  blk_ext [iblk, idx_weights t]

theorem read_n (t : Fin cfg0.N) (k : Fin 1024) :
    iblk m c 7 t (ix3 (0 : Fin 1) (0 : Fin 1) k) = argN m c (ix2 (0 : Fin 2) k) := by
  have e : (V m c main_v5 : FVec Ideal S2x1x1024 .f32) (ix3 (0 : Fin 2) (0 : Fin 1) k) = argN m c (ix2 (0 : Fin 2) k) := by
    rw [entry_n]; pointwise
  rw [← e]
  blk_ext [iblk, idx_weights t]

theorem read_i (t : Fin cfg0.N) (k : Fin 1024) (i : Fin 5632) :
    iblk m c 8 t (ix3 (0 : Fin 1) k i) = argI m c (ix3 (0 : Fin 2) k i) := by
  have e : ∀ i, (V m c main_v2 : FVec Ideal S2x1024x5632 .bf16) i = argI m c i := fun i => by rw [entry_i]; rfl
  rw [← e]
  blk_ext [iblk, idx_weights t]

theorem read_f (t : Fin cfg0.N) (k : Fin 2816) (i : Fin 1024) :
    iblk m c 9 t (ix3 (0 : Fin 1) k i) = argF m c (ix3 (0 : Fin 2) k i) := by
  have e : ∀ i, (V m c main_v3 : FVec Ideal S2x2816x1024 .bf16) i = argF m c i := fun i => by rw [entry_f]; rfl
  rw [← e]
  blk_ext [iblk, idx_weights t]

/-- The stage of the arguments, at a row and a lane. -/
def value (b : Fin 8) (u : Fin 2064) (n : Fin 1024) : EReal :=
  forward (joined (resid m c b u) (fun k => argS m c (ix3 b u k)) (fun k => argP m c (ix3 b u k))
      (fun k => argG m c (ix3 b u k)) (fun k i => argB m c (ix3 (0 : Fin 2) k i)) (fun k i => argO m c (ix3 (0 : Fin 2) k i)))
    (fun k => argN m c (ix2 (0 : Fin 2) k)) (fun k i => argI m c (ix3 (0 : Fin 2) k i)) (fun k i => argF m c (ix3 (0 : Fin 2) k i)) n

/-- The residual after the merged branches, at a row of a grid point's block. -/
theorem read_joined (t : Fin cfg0.N) (r : Fin 688) :
    joinedRow (grid0.coords t) (iblk m c 0 t) (iblk m c 1 t) (iblk m c 2 t) (iblk m c 3 t) (iblk m c 4 t) (iblk m c 5 t) (iblk m c 6 t) r
      = joined (resid m c (seqOf t) (outOf t r)) (fun k => argS m c (ix3 (seqOf t) (outOf t r) k)) (fun k => argP m c (ix3 (seqOf t) (outOf t r) k))
        (fun k => argG m c (ix3 (seqOf t) (outOf t r) k)) (fun k i => argB m c (ix3 (0 : Fin 2) k i)) (fun k i => argO m c (ix3 (0 : Fin 2) k i)) := by
  have h1 := read_resid m c t r
  have h2 : row3 (iblk m c 2 t) r = fun k => argS m c (ix3 (seqOf t) (outOf t r) k) := funext fun k => read_s m c t r k
  have h3 : row3 (iblk m c 3 t) r = fun k => argP m c (ix3 (seqOf t) (outOf t r) k) := funext fun k => read_p m c t r k
  have h4 : row3 (iblk m c 4 t) r = fun k => argG m c (ix3 (seqOf t) (outOf t r) k) := funext fun k => read_g m c t r k
  have h5 : row3 (iblk m c 5 t) = fun k i => argB m c (ix3 (0 : Fin 2) k i) := funext fun k => funext fun i => read_b m c t k i
  have h6 : row3 (iblk m c 6 t) = fun k i => argO m c (ix3 (0 : Fin 2) k i) := funext fun k => funext fun i => read_o m c t k i
  show joined (source (grid0.coords t) (iblk m c 0 t) (iblk m c 1 t) r) (row3 (iblk m c 2 t) r) (row3 (iblk m c 3 t) r) (row3 (iblk m c 4 t) r)
    (row3 (iblk m c 5 t)) (row3 (iblk m c 6 t)) = _
  exact (congrArg (fun f => joined f _ _ _ _ _) h1).trans ((congrArg (fun f => joined _ f _ _ _ _) h2).trans
    ((congrArg (fun f => joined _ _ f _ _ _) h3).trans ((congrArg (fun f => joined _ _ _ f _ _) h4).trans
      ((congrArg (fun f => joined _ _ _ _ f _) h5).trans (congrArg (fun f => joined _ _ _ _ _ f) h6)))))

/-- The block that a grid point leaves. -/
theorem point (t : Fin cfg0.N) (r : Fin 688) (n : Fin 1024) :
    outsAt0 m c t (ix3 (0 : Fin 1) r n) = value m c (seqOf t) (outOf t r) n := by
  unfold outsAt0
  refine (block_at _ _ _ _ _ _ _ _ _ _ _ _ _ _ _ _ _ _ _ _ _ _ _ _ _ _ _ _ _ _ _ _ _ _ _ _ _ _ _ _ _ _ _ _ _ r n).trans ?_
  unfold value
  congr 1
  · exact read_joined m c t r
  · exact funext fun k => read_n m c t k
  · exact funext fun k => funext fun i => read_i m c t k i
  · exact funext fun k => funext fun i => read_f m c t k i

/-- The stage as an array. -/
def whole : FVec Ideal S8x2064x1024 .f32 := fun y => value m c (y 0) (y 1) (y 2)

/-- The array that the kernel leaves. -/
theorem final : (dats m 0 c).arrAt 11 cfg0.N = whole m c := by
  refine (dats m 0 c).arrAt_eq_of_covers 11 _ (by decide +kernel) fun t hf y => ?_
  blk_simp
  rw [after0_11]
  idx_vars y
  obtain rfl : y0 = 0 := Subsingleton.elim _ _
  refine (point m c t y1 y2).trans ?_
  show whole m c (ix3 (seqOf t) (outOf t y1) y2) = _
  refine congrArg (whole m c) ?_
  unfold seqOf outOf
  blk_ext [iblk, idx_rows t]

end Cert.Kernel4Ideal.Out
end
-- ==== Proof.Out4Ref.lean ====
/-
  The reference of the first layer's output stage at an index: the stage's function of its row.
-/
module

public import proofs.«01_k».proof.Proof.OutSpec
public import proofs.«01_k».proof.Proof.Gen.Reference4Ideal.Run
public import Idealize.ShloMosaic.Lib.Pointwise

@[expose] public section

set_option maxRecDepth 16384

noncomputable section

namespace Cert.Reference4Ideal.Out

open Cert.Reference4Ideal Cert.Reference4Ideal.Gen Cert.Reference4Ideal.Value Idealize.ShloMosaic Idealize.ShloMosaic.TcCoe Idealize.SL.Sem
open Cert.OutStage
open scoped BigOperators

abbrev Rows : Type := FVec Ideal S8x2064x1024 .f32

/-- The residual as it is written: the meta rows before the frames. -/
def rows (x : FVec Ideal S8x2048x1024 .f32) (mt : FVec Ideal S16x1024 .f32) : Rows :=
  concatenate S8x2064x1024 1 [⟨S8x16x1024, (broadcastInDim S8x16x1024 ![0, 1, 2] bcast_S1x16x1024_S8x16x1024_0_1_2
    (broadcastInDim S1x16x1024 ![1, 2] bcast_S16x1024_S1x16x1024_1_2 mt))⟩, ⟨S8x2048x1024, x⟩] concatenates_S8x16x1024_S8x2048x1024_S8x2064x1024_d1

theorem rows_at (x : FVec Ideal S8x2048x1024 .f32) (mt : FVec Ideal S16x1024 .f32) (b : Fin 8) (t : Fin 2064) :
    (fun k => rows x mt (ix3 b t k))
      = if h : t.val < 16 then fun k => mt (ix2 (⟨t.val, h⟩ : Fin 16) k) else fun k => x (ix3 b ⟨t.val - 16, by omega⟩ k) := by
  funext k
  unfold rows
  pointwise
  by_cases h : t.val < 16
  · simp [h]
  · simp [h]

/-- A norm as it is written. -/
def normed (x : Rows) (g : FVec Ideal S1024 .f32) : Rows :=
  mulf (mulf x (broadcastInDim S8x2064x1024 ![0, 1, 2] bcast_S8x2064x1_S8x2064x1024_0_1_2
      (Host.rsqrt (addf (Host.divf (broadcastInDim S8x2064x1 ![0, 1] bcast_S8x2064_S8x2064x1_0_1
          (Host.reduceAdd (mulf x x) (constant S_ .f32 0x00000000#32) reducesTo_S8x2064x1024_S8x2064_d2 h_S_))
        (broadcastInDim S8x2064x1 ![] bcast_S_S8x2064x1 (constant S_ .f32 0x44800000#32)))
        (broadcastInDim S8x2064x1 ![] bcast_S_S8x2064x1 (constant S_ .f32 0x358637BD#32))))))
    (broadcastInDim S8x2064x1024 ![0, 1, 2] bcast_S1x1x1024_S8x2064x1024_0_1_2 (broadcastInDim S1x1x1024 ![2] bcast_S1024_S1x1x1024_2 g))

/-- The residual after the merged branches, as it is written. -/
def resid (x : Rows) (s : FVec Ideal S8x2064x512 .f32) (p g : Rows) (wb : FVec Ideal S2x512x1024 .f32) (wo : FVec Ideal S2x1024x1024 .f32) : Rows :=
  addf x (Host.dotGeneral dot_S8x2064x1024_S1024x1024_S8x2064x1024_2_0_01_1_n_n none
    (addf p (mulf g (Host.dotGeneral dot_S8x2064x512_S512x1024_S8x2064x1024_2_0_01_1_n_n none s
      (shapeCast _ (extractStridedSlice S1x512x1024 ![0, 0, 0] wb slices_S2x512x1024_S1x512x1024_0_0_0) shapeCasts_S1x512x1024_S512x1024))))
    (shapeCast _ (extractStridedSlice S1x1024x1024 ![0, 0, 0] wo slices_S2x1024x1024_S1x1024x1024_0_0_0) shapeCasts_S1x1024x1024_S1024x1024))

/-- The projection to both halves of the gated linear unit. -/
def halves (h : Rows) (wi : FVec Ideal S2x1024x5632 .f32) : FVec Ideal S8x2064x5632 .f32 :=
  Host.dotGeneral dot_S8x2064x1024_S1024x5632_S8x2064x5632_2_0_01_1_n_n none h
    (shapeCast _ (extractStridedSlice S1x1024x5632 ![0, 0, 0] wi slices_S2x1024x5632_S1x1024x5632_0_0_0) shapeCasts_S1x1024x5632_S1024x5632)

/-- The gated linear unit as it is written. -/
def unit (z : FVec Ideal S8x2064x5632 .f32) : FVec Ideal S8x2064x2816 .f32 :=
  mulf (mulf (extractStridedSlice S8x2064x2816 ![0, 0, 0] z slices_S8x2064x5632_S8x2064x2816_0_0_0)
    (Host.divf (broadcastInDim S8x2064x2816 ![] bcast_S_S8x2064x2816 (constant S_ .f32 0x3F800000#32))
      (addf (broadcastInDim S8x2064x2816 ![] bcast_S_S8x2064x2816 (constant S_ .f32 0x3F800000#32))
        (Host.exp (Host.negf (extractStridedSlice S8x2064x2816 ![0, 0, 0] z slices_S8x2064x5632_S8x2064x2816_0_0_0))))))
    (extractStridedSlice S8x2064x2816 ![0, 0, 2816] z slices_S8x2064x5632_S8x2064x2816_0_0_2816)

/-- The feed-forward part as it is written. -/
def fed (y : Rows) (g : FVec Ideal S2x1024 .f32) (wi : FVec Ideal S2x1024x5632 .f32) (wf : FVec Ideal S2x2816x1024 .f32) : Rows :=
  addf y (Host.dotGeneral dot_S8x2064x2816_S2816x1024_S8x2064x1024_2_0_01_1_n_n none
    (unit (halves (normed y (shapeCast _ (extractStridedSlice S1x1024 ![0, 0] g slices_S2x1024_S1x1024_0_0) shapeCasts_S1x1024_S1024)) wi))
    (shapeCast _ (extractStridedSlice S1x2816x1024 ![0, 0, 0] wf slices_S2x2816x1024_S1x2816x1024_0_0_0) shapeCasts_S1x2816x1024_S2816x1024))

theorem normed_at (x : Rows) (g : FVec Ideal S1024 .f32) (b : Fin 8) (t : Fin 2064) (n : Fin 1024) :
    normed x g (ix3 b t n) = rms (fun k => x (ix3 b t k)) (fun k => g (ix1 k)) n := by
  unfold normed rms width eps
  pointwise

theorem resid_at (x : Rows) (s : FVec Ideal S8x2064x512 .f32) (p g : Rows) (wb : FVec Ideal S2x512x1024 .f32) (wo : FVec Ideal S2x1024x1024 .f32)
    (b : Fin 8) (t : Fin 2064) (n : Fin 1024) :
    resid x s p g wb wo (ix3 b t n) = joined (fun k => x (ix3 b t k)) (fun k => s (ix3 b t k)) (fun k => p (ix3 b t k)) (fun k => g (ix3 b t k))
      (fun k i => wb (ix3 0 k i)) (fun k i => wo (ix3 0 k i)) n := by
  unfold resid joined merged times
  pointwise

theorem halves_at (h : Rows) (wi : FVec Ideal S2x1024x5632 .f32) (b : Fin 8) (t : Fin 2064) (n : Fin 5632) :
    halves h wi (ix3 b t n) = times (fun k => h (ix3 b t k)) (fun k i => wi (ix3 0 k i)) n := by
  unfold halves times
  pointwise

theorem unit_at (z : FVec Ideal S8x2064x5632 .f32) (b : Fin 8) (t : Fin 2064) (n : Fin 2816) :
    unit z (ix3 b t n) = gated (z (ix3 b t ⟨n.val, by omega⟩)) (z (ix3 b t ⟨2816 + n.val, by omega⟩)) := by
  unfold unit gated one
  pointwise

theorem fed_at (y : Rows) (g : FVec Ideal S2x1024 .f32) (wi : FVec Ideal S2x1024x5632 .f32) (wf : FVec Ideal S2x2816x1024 .f32)
    (b : Fin 8) (t : Fin 2064) (n : Fin 1024) :
    fed y g wi wf (ix3 b t n) = forward (fun k => y (ix3 b t k)) (fun k => g (ix2 0 k)) (fun k i => wi (ix3 0 k i)) (fun k i => wf (ix3 0 k i)) n := by
  unfold fed forward times inside
  pointwise
  have hg : (fun k : Fin 1024 => (shapeCast _ (extractStridedSlice S1x1024 ![0, 0] g slices_S2x1024_S1x1024_0_0) shapeCasts_S1x1024_S1024 : FVec Ideal S1024 .f32) (ix1 k))
      = fun k => g (ix2 0 k) := funext fun k => by pointwise
  simp only [unit_at, halves_at, normed_at, hg]

variable (m : (ℓ : Loc nD τ sig) → Buf (Elt Ideal) ℓ) (c : Dev nD)

theorem res_eq : res_main_v37 m c = fed
    (resid (rows (m ((c.tc : Thread nD τ).loc main_arg0)) (m ((c.tc : Thread nD τ).loc main_arg1))) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)))
    (m ((c.tc : Thread nD τ).loc main_arg7)) (m ((c.tc : Thread nD τ).loc main_arg8)) (m ((c.tc : Thread nD τ).loc main_arg9)) := rfl

/-- The reference at an index. -/
theorem res_at (b : Fin 8) (t : Fin 2064) (n : Fin 1024) : (res_main_v37 m c : FVec Ideal S8x2064x1024 .f32) (ix3 b t n)
    = forward (joined (if h : t.val < 16 then fun k => (m ((c.tc : Thread nD τ).loc main_arg1) : FVec Ideal S16x1024 .f32) (ix2 (⟨t.val, h⟩ : Fin 16) k)
          else fun k => (m ((c.tc : Thread nD τ).loc main_arg0) : FVec Ideal S8x2048x1024 .f32) (ix3 b ⟨t.val - 16, by omega⟩ k))
        (fun k => (m ((c.tc : Thread nD τ).loc main_arg2) : FVec Ideal S8x2064x512 .f32) (ix3 b t k))
        (fun k => (m ((c.tc : Thread nD τ).loc main_arg3) : Rows) (ix3 b t k))
        (fun k => (m ((c.tc : Thread nD τ).loc main_arg4) : Rows) (ix3 b t k))
        (fun k i => (m ((c.tc : Thread nD τ).loc main_arg5) : FVec Ideal S2x512x1024 .f32) (ix3 0 k i))
        (fun k i => (m ((c.tc : Thread nD τ).loc main_arg6) : FVec Ideal S2x1024x1024 .f32) (ix3 0 k i)))
        (fun k => (m ((c.tc : Thread nD τ).loc main_arg7) : FVec Ideal S2x1024 .f32) (ix2 0 k))
        (fun k i => (m ((c.tc : Thread nD τ).loc main_arg8) : FVec Ideal S2x1024x5632 .f32) (ix3 0 k i))
        (fun k i => (m ((c.tc : Thread nD τ).loc main_arg9) : FVec Ideal S2x2816x1024 .f32) (ix3 0 k i)) n := by
  rw [res_eq]
  refine (fed_at _ _ _ _ b t n).trans ?_
  rw [← rows_at]
  refine congrArg (fun y => forward y _ _ _ n) (funext fun k => ?_)
  exact resid_at _ _ _ _ _ _ b t k

end Cert.Reference4Ideal.Out
end
-- ==== Proof.InSpec.lean ====
/-
  The input stage of a layer as a function of the rows of one sequence: the norm, the projections, the gates, and the
  pooling branch, whose averages reach back over the rows before.
-/
module

public import proofs.«01_k».proof.Proof.OutSpec
public import Idealize.ShloMosaic.Lib.Pointwise

@[expose] public section

noncomputable section

namespace Cert.InStage

open Idealize.ShloMosaic Cert.OutStage
open scoped BigOperators

/-- The scale of the queries, 1/8. -/
def eighth : EReal := Ideal.ofBits .f32 0x3E000000#32

/-- The logistic function. -/
def sigm (z : EReal) : EReal := Ideal.div one (one + Ideal.exp (-z))

/-- The number of rows averaged at position `p` with a window of `w`: the smaller of `p + 1` and `w`. -/
def many (p w : BitVec 32) : EReal := FloatOps.sitofp (F := Ideal) .f32 (IntOp.minsi (p + 1#32) w)

/-- The sum of the last `w` rows up to position `l` of a column `u`, rows before the first being zero. -/
def wsum (u : ℕ → EReal) (w l : ℕ) : EReal := ∑ d ∈ Finset.range w, if d ≤ l then u (l - d) else 0

/-- The same over a buffer, whose rows go on before. -/
def bsum (u : ℕ → EReal) (w R : ℕ) : EReal := ∑ d ∈ Finset.range w, u (R - d)

/-- The window of a group of 128 columns. -/
def win (g : ℕ) : ℕ := 2 ^ (g + 1)

/-- One entry of a pooled group: the averages less the row, mixed and scaled. -/
def mixed (d : Fin 128 → EReal) (mix : Fin 128 → EReal) (s : EReal) : EReal := (∑ k, d k * mix k) * s

/-- The word of a row's position: tile `p` of its sequence, row `r` of the tile. -/
def posw (p : BitVec 32) (r : ℕ) : BitVec 32 := Scalar.muli p 688#32 + BitVec.ofNat 32 r

/-- The buffer of one column: sixteen rows before the tile's, then the tile's. -/
def buf (halo : Fin 16 → Fin 512 → EReal) (u : Fin 688 → Fin 512 → EReal) (q : Fin 512) (R : ℕ) : EReal :=
  if h : R < 16 then halo ⟨R, h⟩ q else if h' : R - 16 < 688 then u ⟨R - 16, h'⟩ q else 0

/-! ## The stage of whole sequences -/

section Whole

variable (X : Fin 8 → Fin 2064 → Fin 1024 → EReal) (g : Fin 1024 → EReal) (W : Fin 1024 → Fin 4096 → EReal) (bg : Fin 2048 → EReal)
  (mix : Fin 4 → Fin 128 → Fin 128 → EReal) (sc : Fin 512 → EReal) (wb : Fin 512 → Fin 1024 → EReal)

/-- The projection of the normed row. -/
def proj (b : Fin 8) (l : Fin 2064) (n : Fin 4096) : EReal := times (rms (X b l) g) W n

/-- A column of what is pooled, by position. -/
def ucol (b : Fin 8) (q : Fin 512) (l : ℕ) : EReal := if h : l < 2064 then proj X g W b ⟨l, h⟩ ⟨1536 + q.val, by omega⟩ else 0

/-- A column of a group. -/
def col (g : Fin 4) (k : Fin 128) : Fin 512 := ⟨128 * g.val + k.val, by omega⟩

/-- A pooled entry of a group: each column's average over its window less the row, mixed and scaled. -/
def pooledIn (b : Fin 8) (l : Fin 2064) (a : Fin 4) (j : Fin 128) : EReal :=
  mixed (fun k => Ideal.div (wsum (ucol X g W b (col a k)) (win a.val) l.val) (many (BitVec.ofNat 32 l.val) (BitVec.ofNat 32 (win a.val)))
    - ucol X g W b (col a k) l.val) (fun k => mix a k j) (sc (col a j))

/-- A pooled entry. -/
def pooled (b : Fin 8) (l : Fin 2064) (q : Fin 512) : EReal :=
  pooledIn X g W mix sc b l ⟨q.val / 128, by omega⟩ ⟨q.val % 128, by omega⟩

/-- A gate's entry. -/
def gateOf (b : Fin 8) (l : Fin 2064) (n : Fin 2048) : EReal := sigm (proj X g W b l ⟨2048 + n.val, by omega⟩ + bg n)

/-- The queries. -/
def outQ (b : Fin 8) (l : Fin 2064) (j : Fin 512) : EReal := proj X g W b l ⟨0 + j.val, by omega⟩ * eighth
/-- The keys. -/
def outK (b : Fin 8) (l : Fin 2064) (j : Fin 512) : EReal := proj X g W b l ⟨512 + j.val, by omega⟩
/-- The values. -/
def outV (b : Fin 8) (l : Fin 2064) (j : Fin 512) : EReal := proj X g W b l ⟨1024 + j.val, by omega⟩
/-- The pooled branch, gated. -/
def outP (b : Fin 8) (l : Fin 2064) (n : Fin 1024) : EReal := gateOf X g W bg b l ⟨n.val, by omega⟩ * times (pooled X g W mix sc b l) wb n
/-- The attention's gate. -/
def outG (b : Fin 8) (l : Fin 2064) (n : Fin 1024) : EReal := gateOf X g W bg b l ⟨1024 + n.val, by omega⟩

end Whole

/-- The sequence of a row of the flattened arrays. -/
def seqAt (R : Fin 16512) : Fin 8 := ⟨R.val / 2064, by omega⟩
/-- Its position there. -/
def rowAt (R : Fin 16512) : Fin 2064 := ⟨R.val % 2064, by omega⟩

theorem win_le (a : Fin 4) : win a.val ≤ 16 := by
  fin_cases a <;> decide

theorem posw_eq (p r : ℕ) : posw (BitVec.ofNat 32 p) r = BitVec.ofNat 32 (688 * p + r) := by
  show BitVec.ofNat 32 p * BitVec.ofNat 32 688 + BitVec.ofNat 32 r = _
  rw [← BitVec.ofNat_mul, ← BitVec.ofNat_add, Nat.mul_comm]

/-- The tile's buffer holds the sequence's rows up to the tile's last, so its sums are the sequence's. -/
theorem buf_eq (halo : Fin 16 → Fin 512 → EReal) (u : Fin 688 → Fin 512 → EReal) (q : Fin 512) (us : ℕ → EReal) (p : ℕ)
    (hu : ∀ r : Fin 688, u r q = us (688 * p + r.val)) (hh : ∀ a : Fin 16, halo a q = if 688 * p + a.val < 16 then 0 else us (688 * p + a.val - 16))
    (r : Fin 688) (d : ℕ) (hd : d ≤ 16) : buf halo u q (16 + r.val - d) = if d ≤ 688 * p + r.val then us (688 * p + r.val - d) else 0 := by
  unfold buf
  by_cases h : 16 + r.val - d < 16
  · rw [dif_pos h, hh]
    by_cases h' : d ≤ 688 * p + r.val
    · rw [if_pos h', if_neg (by show ¬ 688 * p + (16 + r.val - d) < 16; omega)]
      exact congrArg us (by show 688 * p + (16 + r.val - d) - 16 = 688 * p + r.val - d; omega)
    · rw [if_neg h', if_pos (by show 688 * p + (16 + r.val - d) < 16; omega)]
  · have h1 : 16 + r.val - d - 16 < 688 := by omega
    rw [dif_neg h, dif_pos h1, hu, if_pos (by omega)]
    exact congrArg us (by show 688 * p + (16 + r.val - d - 16) = 688 * p + r.val - d; omega)

theorem bsum_eq (halo : Fin 16 → Fin 512 → EReal) (u : Fin 688 → Fin 512 → EReal) (q : Fin 512) (us : ℕ → EReal) (p : ℕ)
    (hu : ∀ r : Fin 688, u r q = us (688 * p + r.val)) (hh : ∀ a : Fin 16, halo a q = if 688 * p + a.val < 16 then 0 else us (688 * p + a.val - 16))
    (r : Fin 688) (w : ℕ) (hw : w ≤ 16) : bsum (buf halo u q) w (16 + r.val) = wsum us w (688 * p + r.val) :=
  Finset.sum_congr rfl fun d hd => buf_eq halo u q us p hu hh r d (by have := Finset.mem_range.1 hd; omega)

end Cert.InStage
end
-- ==== Proof.InPay.lean ====
/-
  The input stage's stored values at an index, and the buffer that carries rows from one tile to the next.
-/
module

public import proofs.«01_k».proof.Proof.OutBlock
public import proofs.«01_k».proof.Proof.InSpec
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.In

open Cert.Kernel3Ideal Cert.Kernel3Ideal.Gen Idealize.ShloMosaic Idealize.ShloMosaic.TcCoe Idealize.SL.Sem
open Cert.OutStage Cert.InStage
open Cert.Kernel2Ideal.Out (canon_hit canon_miss canon_step readCov_cols load_cols row3)
open scoped BigOperators

/-! ## The stored values -/

theorem norm_at (x : FVec Ideal S688x1024 .f32) (g : FVec Ideal S1x1x1024 .f32) (r : Fin 688) (n : Fin 1024) :
    k0_pay5 (F := Ideal) x g (ix2 r n) = rms (fun k => x (ix2 r k)) (row3 g 0) n := by
  unfold k0_pay5 rms width eps
  pointwise

theorem proj_at (h : FVec Ideal S688x1024 .bf16) (w : FVec Ideal S1x1024x512 .bf16) (r : Fin 688) (j : Fin 512) :
    k0_pay6 (F := Ideal) h w (ix2 r j) = times (fun k => h (ix2 r k)) (row3 w) j := by
  unfold k0_pay6 times
  pointwise

theorem q_at (h : FVec Ideal S688x1024 .bf16) (w : FVec Ideal S1x1024x512 .bf16) (r : Fin 688) (j : Fin 512) :
    k0_pay22 (F := Ideal) h w (ix2 r j) = times (fun k => h (ix2 r k)) (row3 w) j * eighth := by
  unfold k0_pay22 times eighth
  pointwise

theorem k_at (h : FVec Ideal S688x1024 .bf16) (w : FVec Ideal S1x1024x512 .bf16) (r : Fin 688) (j : Fin 512) :
    k0_pay23 (F := Ideal) h w (ix2 r j) = times (fun k => h (ix2 r k)) (row3 w) j := by
  unfold k0_pay23 times
  pointwise

theorem v_at (h : FVec Ideal S688x1024 .bf16) (w : FVec Ideal S1x1024x512 .bf16) (r : Fin 688) (j : Fin 512) :
    k0_pay24 (F := Ideal) h w (ix2 r j) = times (fun k => h (ix2 r k)) (row3 w) j := by
  unfold k0_pay24 times
  pointwise

theorem gate8_at (h : FVec Ideal S688x1024 .bf16) (w : FVec Ideal S1x1024x512 .bf16) (b : FVec Ideal S1x1x512 .f32) (r : Fin 688) (j : Fin 512) :
    k0_pay8 (F := Ideal) h w b (ix2 r j) = sigm (times (fun k => h (ix2 r k)) (row3 w) j + row3 b 0 j) := by
  unfold k0_pay8 sigm one times
  pointwise
  rw [zero_sub]

theorem gate12_at (h : FVec Ideal S688x1024 .bf16) (w : FVec Ideal S1x1024x512 .bf16) (b : FVec Ideal S1x1x512 .f32) (r : Fin 688) (j : Fin 512) :
    k0_pay12 (F := Ideal) h w b (ix2 r j) = sigm (times (fun k => h (ix2 r k)) (row3 w) j + row3 b 0 j) := by
  unfold k0_pay12 sigm one times
  pointwise
  rw [zero_sub]

theorem gate18_at (h : FVec Ideal S688x1024 .bf16) (w : FVec Ideal S1x1024x512 .bf16) (b : FVec Ideal S1x1x512 .f32) (r : Fin 688) (j : Fin 512) :
    k0_pay18 (F := Ideal) h w b (ix2 r j) = sigm (times (fun k => h (ix2 r k)) (row3 w) j + row3 b 0 j) := by
  unfold k0_pay18 sigm one times
  pointwise
  rw [zero_sub]

theorem gate14_at (h : FVec Ideal S688x1024 .bf16) (w : FVec Ideal S1x1024x512 .bf16) (b : FVec Ideal S1x1x512 .f32) (r : Fin 688) (j : Fin 512) :
    k0_pay15 (F := Ideal) (k0_pay14 h w b) (Scalar.ofBits (F := Ideal) .f32 0x00000000#32) (ix2 r j) = sigm (times (fun k => h (ix2 r k)) (row3 w) j + row3 b 0 j) := by
  unfold k0_pay15 k0_pay14 sigm one times
  pointwise
  rw [zero_sub]

theorem p1_at (a : FVec Ideal S688x512 .bf16) (g : FVec Ideal S688x512 .f32) (w : FVec Ideal S1x512x512 .bf16) (r : Fin 688) (j : Fin 512) :
    k0_pay1 (F := Ideal) a g w (ix2 r j) = g (ix2 r j) * times (fun k => a (ix2 r k)) (row3 w) j := by
  unfold k0_pay1 times
  pointwise

theorem p2_at (a : FVec Ideal S688x512 .bf16) (g : FVec Ideal S688x512 .f32) (w : FVec Ideal S1x512x512 .bf16) (r : Fin 688) (j : Fin 512) :
    k0_pay2 (F := Ideal) a g w (ix2 r j) = g (ix2 r j) * times (fun k => a (ix2 r k)) (row3 w) j := by
  unfold k0_pay2 times
  pointwise

theorem zero_at (r : Fin 16) (j : Fin 512) : k0_pay3 (F := Ideal) (ix2 r j) = 0 := by
  unfold k0_pay3
  pointwise

theorem keep_at (x : FVec Ideal S16x512 .f32) (r : Fin 16) (j : Fin 512) : k0_pay4 (F := Ideal) x (ix2 r j) = x (ix2 r j) := by
  unfold k0_pay4
  pointwise

/-- The averages less the row. -/
def less (p w : BitVec 32) (s row : EReal) : EReal := Ideal.div s (many p w) - row

theorem pool0_at (a b : FVec Ideal S688x128 .f32) (p : BitVec 32) (mix : FVec Ideal S1x1x128x128 .bf16) (s : FVec Ideal S1x1x128 .f32) (r : Fin 688) (j : Fin 128) :
    k0_pay11 (F := Ideal) a (k0_pay9 a b) (k0_pay10 p) 2#32 mix s (ix2 r j)
      = mixed (fun k => less (posw p r.val) 2#32 (a (ix2 r k) + b (ix2 r k)) (a (ix2 r k))) (fun k => mix (ix4 (0 : Fin 1) (0 : Fin 1) k j)) (row3 s 0 j) := by
  unfold k0_pay11 k0_pay9 k0_pay10 k0_pay7 mixed less many posw
  pointwise
  rfl

theorem pool1_at (a b c d : FVec Ideal S688x128 .f32) (p : BitVec 32) (mix : FVec Ideal S1x1x128x128 .bf16) (s : FVec Ideal S1x1x128 .f32) (r : Fin 688) (j : Fin 128) :
    k0_pay13 (F := Ideal) (k0_pay7 p) a b c d mix s (ix2 r j)
      = mixed (fun k => less (posw p r.val) 4#32 (a (ix2 r k) + b (ix2 r k) + c (ix2 r k) + d (ix2 r k)) (a (ix2 r k))) (fun k => mix (ix4 (0 : Fin 1) (0 : Fin 1) k j)) (row3 s 0 j) := by
  unfold k0_pay13 k0_pay7 mixed less many posw
  pointwise
  rfl

theorem pool2_at (a0 a1 a2 a3 a4 a5 a6 a7 : FVec Ideal S688x128 .f32) (p : BitVec 32) (mix : FVec Ideal S1x1x128x128 .bf16) (s : FVec Ideal S1x1x128 .f32) (r : Fin 688) (j : Fin 128) :
    k0_pay17 (F := Ideal) (k0_pay16 (k0_pay7 p) a0 a1 a2 a3 a4 a5 a6 a7) mix s (ix2 r j)
      = mixed (fun k => less (posw p r.val) 8#32 (a0 (ix2 r k) + a1 (ix2 r k) + a2 (ix2 r k) + a3 (ix2 r k) + a4 (ix2 r k) + a5 (ix2 r k) + a6 (ix2 r k) + a7 (ix2 r k)) (a0 (ix2 r k)))
        (fun k => mix (ix4 (0 : Fin 1) (0 : Fin 1) k j)) (row3 s 0 j) := by
  unfold k0_pay17 k0_pay16 k0_pay7 mixed less many posw
  pointwise
  rfl

theorem pool3_at (a0 a1 a2 a3 a4 a5 a6 a7 a8 a9 a10 a11 a12 a13 a14 a15 : FVec Ideal S688x128 .f32) (p : BitVec 32) (mix : FVec Ideal S1x1x128x128 .bf16) (s : FVec Ideal S1x1x128 .f32) (r : Fin 688) (j : Fin 128) :
    k0_pay21 (F := Ideal) (k0_pay20 (k0_pay7 p) a0 (k0_pay19 a0 a1 a2 a3) a4 a5 a6 a7 a8 a9 a10 a11 a12 a13 a14 a15) mix s (ix2 r j)
      = mixed (fun k => less (posw p r.val) 16#32 (a0 (ix2 r k) + a1 (ix2 r k) + a2 (ix2 r k) + a3 (ix2 r k) + a4 (ix2 r k) + a5 (ix2 r k) + a6 (ix2 r k) + a7 (ix2 r k) + a8 (ix2 r k) + a9 (ix2 r k) + a10 (ix2 r k) + a11 (ix2 r k) + a12 (ix2 r k) + a13 (ix2 r k) + a14 (ix2 r k) + a15 (ix2 r k)) (a0 (ix2 r k)))
        (fun k => mix (ix4 (0 : Fin 1) (0 : Fin 1) k j)) (row3 s 0 j) := by
  unfold k0_pay21 k0_pay20 k0_pay19 k0_pay7 mixed less many posw
  pointwise
  rfl

/-! ## The buffer of rows -/

section Rows

variable {Val : EltTy → Type} [∀ e, Nonempty (Val e)] {e : EltTy} {a b n k : ℕ}

/-- A load of some rows and columns reads what the pieces left. -/
theorem readCov_rows {sig : RefSig} {κ : Kind} {sp : Space} (v : View sig κ sp (⟨2, ![b, n]⟩ : Shape) e)
    (L : List (View.Piece Val (⟨2, ![b, n]⟩ : Shape) e)) (p o : ℕ)
    (inb : ∀ x, (![p, o] : Fin 2 → ℕ) x + (⟨2, ![a, k]⟩ : Shape).size x ≤ (⟨2, ![b, n]⟩ : Shape).size x) (r : Fin a) (j : Fin k) (R : Fin b) (q : Fin n)
    (hR : R.val = p + r.val) (hq : q.val = o + j.val) :
    v.readCov L (Rect.unit (s := (⟨2, ![b, n]⟩ : Shape)) ![p, o] (⟨2, ![a, k]⟩ : Shape).size inb).toLoadRect (ix2 r j) = View.canon L (ix2 R q) := by
  rw [View.readCov_eq_canon']
  refine congrArg (View.canon L) ?_
  funext x
  apply Fin.ext
  fin_cases x
  · show p + 1 * r.val = R.val; omega
  · show o + 1 * j.val = q.val; omega

theorem canon_row_hit (p : ℕ) (inb : ∀ x, (![p, 0] : Fin 2 → ℕ) x + (⟨2, ![a, n]⟩ : Shape).size x ≤ (⟨2, ![b, n]⟩ : Shape).size x)
    (w : (⟨2, ![a, n]⟩ : Shape).Idx → Val e) (L : List (View.Piece Val (⟨2, ![b, n]⟩ : Shape) e)) (r : Fin a) (R : Fin b) (q : Fin n)
    (hR : R.val = p + r.val) :
    View.canon ((⟨Rect.unit (s := (⟨2, ![b, n]⟩ : Shape)) ![p, 0] (⟨2, ![a, n]⟩ : Shape).size inb, w⟩ : View.Piece Val (⟨2, ![b, n]⟩ : Shape) e) :: L)
      (ix2 R q) = w (ix2 r q) := by
  have he : (Rect.unit (s := (⟨2, ![b, n]⟩ : Shape)) ![p, 0] (⟨2, ![a, n]⟩ : Shape).size inb).emb (ix2 r q) = ix2 R q := by
    funext x
    apply Fin.ext
    fin_cases x
    · show p + 1 * r.val = R.val; omega
    · show 0 + 1 * q.val = q.val; omega
  rw [← he]
  exact View.canon_cons_emb (Rect.unit (s := (⟨2, ![b, n]⟩ : Shape)) ![p, 0] (⟨2, ![a, n]⟩ : Shape).size inb) w L (ix2 r q)

theorem canon_row_miss (p : ℕ) (inb : ∀ x, (![p, 0] : Fin 2 → ℕ) x + (⟨2, ![a, n]⟩ : Shape).size x ≤ (⟨2, ![b, n]⟩ : Shape).size x)
    (w : (⟨2, ![a, n]⟩ : Shape).Idx → Val e) (L : List (View.Piece Val (⟨2, ![b, n]⟩ : Shape) e)) (R : Fin b) (q : Fin n)
    (hR : R.val < p ∨ p + a ≤ R.val) :
    View.canon ((⟨Rect.unit (s := (⟨2, ![b, n]⟩ : Shape)) ![p, 0] (⟨2, ![a, n]⟩ : Shape).size inb, w⟩ : View.Piece Val (⟨2, ![b, n]⟩ : Shape) e) :: L)
      (ix2 R q) = View.canon L (ix2 R q) := by
  refine View.canon_cons_of_not_mem _ L fun hm => ?_
  have h2 : p ≤ R.val ∧ R.val < p + a := (Rect.mem_set_unit (inb := inb)).mp hm 0
  omega

/-- A load of some rows of a whole block. -/
theorem load_rows {sig : RefSig} {sp : Space} (M : Memref sig .tc sp (⟨2, ![b, n]⟩ : Shape) e) (h : M.IsWhole)
    (x : (⟨2, ![b, n]⟩ : Shape).Idx → Val e) (p : ℕ)
    (inb : ∀ x, (![p, 0] : Fin 2 → ℕ) x + (⟨2, ![a, n]⟩ : Shape).size x ≤ (⟨2, ![b, n]⟩ : Shape).size x) (r : Fin a) (q : Fin n) (R : Fin b)
    (hR : R.val = p + r.val) :
    View.readAt Val M.view (Rect.unit (s := (⟨2, ![b, n]⟩ : Shape)) ![p, 0] (⟨2, ![a, n]⟩ : Shape).size inb).toLoadRect (h.unread x) (ix2 r q)
      = x (ix2 R q) := by
  rw [View.readAt_eq_ld, h.read_unread]
  refine congrArg x ?_
  funext y
  apply Fin.ext
  fin_cases y
  · show p + 1 * r.val = R.val; omega
  · show 0 + 1 * q.val = q.val; omega

/-- A load of one matrix of four. -/
theorem load_mix {sig : RefSig} {sp : Space} (M : Memref sig .tc sp (⟨4, ![1, b, a, k]⟩ : Shape) e) (h : M.IsWhole)
    (x : (⟨4, ![1, b, a, k]⟩ : Shape).Idx → Val e) (g : ℕ)
    (inb : ∀ x, (![0, g, 0, 0] : Fin 4 → ℕ) x + (⟨4, ![1, 1, a, k]⟩ : Shape).size x ≤ (⟨4, ![1, b, a, k]⟩ : Shape).size x) (r : Fin a) (j : Fin k) (G : Fin b)
    (hG : G.val = g) :
    View.readAt Val M.view (Rect.unit (s := (⟨4, ![1, b, a, k]⟩ : Shape)) ![0, g, 0, 0] (⟨4, ![1, 1, a, k]⟩ : Shape).size inb).toLoadRect (h.unread x)
      (ix4 (0 : Fin 1) (0 : Fin 1) r j) = x (ix4 (0 : Fin 1) G r j) := by
  rw [View.readAt_eq_ld, h.read_unread]
  refine congrArg x ?_
  funext y
  apply Fin.ext
  fin_cases y
  · rfl
  · show g + 1 * 0 = G.val; omega
  · show 0 + 1 * r.val = r.val; omega
  · show 0 + 1 * j.val = j.val; omega

end Rows

/-! ## The values of a tile -/

section Tile

variable (x0 : Vec Ideal S688x1024 .f32) (x2 : Vec Ideal S1x1x1024 .f32) (x3 : Vec Ideal S1x1024x4096 .bf16) (x4 : Vec Ideal S1x1x2048 .f32)
  (x5 : Vec Ideal S1x4x128x128 .bf16) (x6 : Vec Ideal S1x1x512 .f32) (x7 : Vec Ideal S1x512x1024 .bf16)
  (p : BitVec 32) (halo : Fin 16 → Fin 512 → EReal)

/-- The normed row. -/
abbrev hrow (r : Fin 688) : Fin 1024 → EReal := rms (fun k => x0 (ix2 r k)) (row3 x2 0)
/-- An entry of the projection. -/
abbrev prj (r : Fin 688) (n : Fin 4096) : EReal := times (hrow x0 x2 r) (row3 x3) n
/-- The pooled columns before pooling. -/
abbrev ucols (r : Fin 688) (q : Fin 512) : EReal := prj x0 x2 x3 r ⟨1536 + q.val, by omega⟩
/-- A gate's entry. -/
abbrev gt (r : Fin 688) (n : Fin 2048) : EReal := sigm (prj x0 x2 x3 r ⟨2048 + n.val, by omega⟩ + row3 x4 0 n)
/-- A pooled entry of a group. -/
def group (u : Fin 688 → Fin 512 → EReal) (g : Fin 4) (r : Fin 688) (j : Fin 128) : EReal :=
  mixed (fun k => less (posw p r.val) (BitVec.ofNat 32 (win g.val)) (bsum (buf halo u (col g k)) (win g.val) (16 + r.val)) (buf halo u (col g k) (16 + r.val)))
    (fun k => x5 (ix4 (0 : Fin 1) g k j)) (row3 x6 0 (col g j))
/-- The pooled row. -/
def pool (u : Fin 688 → Fin 512 → EReal) (r : Fin 688) (q : Fin 512) : EReal :=
  group x5 x6 p halo u ⟨q.val / 128, by omega⟩ r ⟨q.val % 128, by omega⟩

theorem pool_group (u : Fin 688 → Fin 512 → EReal) (g : Fin 4) (r : Fin 688) (j : Fin 128) (o : ℕ) (ho : o = 128 * g.val) (h : o + j.val < 512) :
    pool x5 x6 p halo u r ⟨o + j.val, h⟩ = group x5 x6 p halo u g r j := by
  unfold pool
  have e1 : (⟨(o + j.val) / 128, by omega⟩ : Fin 4) = g := Fin.ext (by show (o + j.val) / 128 = g.val; omega)
  have e2 : (⟨(o + j.val) % 128, by omega⟩ : Fin 128) = j := Fin.ext (by show (o + j.val) % 128 = j.val; omega)
  rw [e1, e2]

theorem bsum2 (u : ℕ → EReal) (R : ℕ) : bsum u (win 0) R = u (R - 0) + u (R - 1) := by
  unfold bsum win
  simp only [show 2 ^ (0 + 1) = 2 from rfl, Finset.sum_range_succ, Finset.sum_range_zero, zero_add]

theorem bsum4 (u : ℕ → EReal) (R : ℕ) : bsum u (win 1) R = u (R - 0) + u (R - 1) + u (R - 2) + u (R - 3) := by
  unfold bsum win
  simp only [show 2 ^ (1 + 1) = 4 from rfl, Finset.sum_range_succ, Finset.sum_range_zero, zero_add]

theorem bsum8 (u : ℕ → EReal) (R : ℕ) : bsum u (win 2) R = u (R - 0) + u (R - 1) + u (R - 2) + u (R - 3) + u (R - 4) + u (R - 5) + u (R - 6) + u (R - 7) := by
  unfold bsum win
  simp only [show 2 ^ (2 + 1) = 8 from rfl, Finset.sum_range_succ, Finset.sum_range_zero, zero_add]

theorem bsum16 (u : ℕ → EReal) (R : ℕ) : bsum u (win 3) R = u (R - 0) + u (R - 1) + u (R - 2) + u (R - 3) + u (R - 4) + u (R - 5) + u (R - 6) + u (R - 7) + u (R - 8) + u (R - 9) + u (R - 10) + u (R - 11) + u (R - 12) + u (R - 13) + u (R - 14) + u (R - 15) := by
  unfold bsum win
  simp only [show 2 ^ (3 + 1) = 16 from rfl, Finset.sum_range_succ, Finset.sum_range_zero, zero_add]

end Tile

end Cert.Kernel3Ideal.In
end
-- ==== Proof.InBlockA.lean ====
/-
  What one body of the input stage leaves in its result blocks, at an index: the first tile of a sequence.
-/
module

public import proofs.«01_k».proof.Proof.InPay
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.In.A

open Cert.Kernel3Ideal Cert.Kernel3Ideal.Gen Idealize.ShloMosaic Idealize.ShloMosaic.TcCoe Idealize.SL.Sem
open Cert.OutStage Cert.InStage
open Cert.Kernel2Ideal.Out (canon_hit canon_miss canon_step readCov_cols load_cols row3)
open scoped BigOperators

variable (c : Dev nD) (i : grid0.Coords)
  (arg1 : Memref sig .tc .vmem S688x1024 .f32) (harg1 : arg1.IsWhole)
  (arg2 : Memref sig .tc .vmem S16x1024 .f32) (harg2 : arg2.IsWhole)
  (arg3 : Memref sig .tc .vmem S1x1x1024 .f32) (harg3 : arg3.IsWhole)
  (arg4 : Memref sig .tc .vmem S1x1024x4096 .bf16) (harg4 : arg4.IsWhole)
  (arg5 : Memref sig .tc .vmem S1x1x2048 .f32) (harg5 : arg5.IsWhole)
  (arg6 : Memref sig .tc .vmem S1x4x128x128 .bf16) (harg6 : arg6.IsWhole)
  (arg7 : Memref sig .tc .vmem S1x1x512 .f32) (harg7 : arg7.IsWhole)
  (arg8 : Memref sig .tc .vmem S1x512x1024 .bf16) (harg8 : arg8.IsWhole)
  (arg9 : Memref sig .tc .vmem S688x512 .bf16) (harg9 : arg9.IsWhole)
  (arg10 : Memref sig .tc .vmem S688x512 .bf16) (harg10 : arg10.IsWhole)
  (arg11 : Memref sig .tc .vmem S688x512 .bf16) (harg11 : arg11.IsWhole)
  (arg12 : Memref sig .tc .vmem S688x1024 .f32) (harg12 : arg12.IsWhole)
  (arg13 : Memref sig .tc .vmem S688x1024 .f32) (harg13 : arg13.IsWhole)
  (arg14 : Memref sig .tc .vmem S688x1024 .bf16) (harg14 : arg14.IsWhole)
  (arg15 : Memref sig .tc .vmem S704x512 .f32) (harg15 : arg15.IsWhole)
  (arg16 : Memref sig .tc .vmem S688x512 .bf16) (harg16 : arg16.IsWhole)
  (hc0 : cond0_0 i) (hc1 : ¬cond0_1 i)
  (x0 : Vec Ideal S688x1024 .f32)  (x1 : Vec Ideal S16x1024 .f32)  (x2 : Vec Ideal S1x1x1024 .f32)  (x3 : Vec Ideal S1x1024x4096 .bf16)  (x4 : Vec Ideal S1x1x2048 .f32)  (x5 : Vec Ideal S1x4x128x128 .bf16)  (x6 : Vec Ideal S1x1x512 .f32)  (x7 : Vec Ideal S1x512x1024 .bf16)

/-- The rows before the tile's. -/
abbrev halo : Fin 16 → Fin 512 → EReal := fun _ _ => (0 : EReal)

theorem h_at (r : Fin 688) (n : Fin 1024) : kernelRun0_A.sl.v36 (F := Ideal) c arg1 harg1 arg3 harg3 arg14 x0 x2 (ix2 r n) = hrow x0 x2 r n := by
  unfold kernelRun0_A.sl.v36 kernelRun0_A.sl.HS0_1
  refine (readCov_cols arg14.view _ 0 _ r n n (Nat.zero_add _).symm).trans ((canon_hit 0 _ _ _ r n n (Nat.zero_add _).symm).trans ((norm_at _ _ r n).trans ?_))
  exact congrArg₂ (fun a b => rms a b n) (funext fun k => load_rows arg1 harg1 x0 0 _ r k r (Nat.zero_add _).symm)
    (funext fun k => load_cols arg3 harg3 x2 0 _ 0 k k (Nat.zero_add _).symm)

/-- A projection's columns. -/
theorem times_at (o : ℕ) (inb) (r : Fin 688) (j : Fin 512) (n : Fin 4096) (hn : n.val = o + j.val) :
    times (fun k => kernelRun0_A.sl.v36 (F := Ideal) c arg1 harg1 arg3 harg3 arg14 x0 x2 (ix2 r k))
      (row3 (View.readAt (Elt Ideal) arg4.view (Rect.unit (s := S1x1024x4096) ![0, 0, o] S1x1024x512.size inb).toLoadRect (harg4.unread x3))) j
    = prj x0 x2 x3 r n :=
  Finset.sum_congr rfl fun k _ => congrArg₂ (· * ·) (h_at c arg1 harg1 arg3 harg3 arg14 x0 x2 r k) (load_cols arg4 harg4 x3 o inb k j n hn)

theorem u_canon (R : Fin 704) (q : Fin 512) : View.canon (kernelRun0_A.sl.HS1_2 (F := Ideal) c arg1 harg1 arg3 harg3 arg4 harg4 arg14 x0 x2 x3) (ix2 R q)
    = buf (halo) (ucols x0 x2 x3) q R.val := by
  unfold kernelRun0_A.sl.HS1_2 buf
  by_cases h : R.val < 16
  · rw [dif_pos h]
    refine (canon_row_miss 16 _ _ _ R q (.inl h)).trans ((canon_row_hit 0 _ _ _ (⟨R.val, h⟩ : Fin 16) R q (Nat.zero_add _).symm).trans ?_)
    exact zero_at _ q
  · have h' : R.val - 16 < 688 := by omega
    rw [dif_neg h, dif_pos h']
    refine (canon_row_hit 16 _ _ _ (⟨R.val - 16, h'⟩ : Fin 688) R q (by show R.val = 16 + (R.val - 16); omega)).trans ((proj_at _ _ _ q).trans ?_)
    exact times_at c arg1 harg1 arg3 harg3 arg4 harg4 arg14 x0 x2 x3 1536 _ _ q _ rfl

/-- A load of the buffer, `d` rows back. -/
theorem back (d p o : ℕ) (hp : p + d = 16) (g : Fin 4) (ho : o = 128 * g.val) (inb) (r : Fin 688) (k : Fin 128) :
    arg15.view.readCov (kernelRun0_A.sl.HS1_2 (F := Ideal) c arg1 harg1 arg3 harg3 arg4 harg4 arg14 x0 x2 x3) (Rect.unit (s := S704x512) ![p, o] S688x128.size inb).toLoadRect (ix2 r k)
    = buf (halo) (ucols x0 x2 x3) (col g k) (16 + r.val - d) := by
  refine (readCov_rows arg15.view _ p o inb r k (⟨p + r.val, by omega⟩ : Fin 704) (col g k) rfl (by show 128 * g.val + k.val = o + k.val; omega)).trans ?_
  refine (u_canon c arg1 harg1 arg3 harg3 arg4 harg4 arg14 x0 x2 x3 _ _).trans ?_
  exact congrArg _ (by show p + r.val = 16 + r.val - d; omega)

theorem group0_at (r : Fin 688) (j : Fin 128) :
    k0_pay11 (F := Ideal) (kernelRun0_A.sl.v62 c arg1 harg1 arg3 harg3 arg4 harg4 arg14 arg15 x0 x2 x3) (kernelRun0_A.sl.r_1 c arg1 harg1 arg3 harg3 arg4 harg4 arg14 arg15 x0 x2 x3) (kernelRun0_A.sl.r_2 i) 2#32
      (View.readAt (Elt Ideal) arg6.view (Rect.unit (s := S1x4x128x128) ![0, 0, 0, 0] S1x1x128x128.size inb_S1x4x128x128_S1x1x128x128_0_0_0_0).toLoadRect (harg6.unread x5))
      (View.readAt (Elt Ideal) arg7.view (Rect.unit (s := S1x1x512) ![0, 0, 0] S1x1x128.size inb_S1x1x512_S1x1x128_0_0_0).toLoadRect (harg7.unread x6)) (ix2 r j)
    = group x5 x6 (kernelRun0_A.sl.v9 i) (halo) (ucols x0 x2 x3) 0 r j := by
  have B (d p : ℕ) (hp : p + d = 16) (inb) (r : Fin 688) (k : Fin 128) := back c arg1 harg1 arg3 harg3 arg4 harg4 arg14 arg15 x0 x2 x3 d p 0 hp 0 rfl inb r k
  unfold kernelRun0_A.sl.r_1 kernelRun0_A.sl.r_2 kernelRun0_A.sl.v62 kernelRun0_A.sl.v63
  refine (pool0_at _ _ _ _ _ r j).trans ?_
  unfold group mixed
  refine congrArg₂ (· * ·) (Finset.sum_congr rfl fun k _ => congrArg₂ (· * ·) (congrArg₂ (less (posw (kernelRun0_A.sl.v9 i) r.val) 2#32) ?_ (B 0 16 rfl _ r k))
    (load_mix arg6 harg6 x5 0 _ k j 0 rfl)) (load_cols arg7 harg7 x6 0 _ 0 j (col 0 j) rfl)
  exact (congrArg₂ (· + ·) (B 0 16 rfl _ r k) (B 1 15 rfl _ r k)).trans (bsum2 _ _).symm

theorem group1_at (r : Fin 688) (j : Fin 128) :
    k0_pay13 (F := Ideal) (kernelRun0_A.sl.r i) (kernelRun0_A.sl.v c arg1 harg1 arg3 harg3 arg4 harg4 arg14 arg15 x0 x2 x3) (kernelRun0_A.sl.v101 c arg1 harg1 arg3 harg3 arg4 harg4 arg14 arg15 x0 x2 x3) (kernelRun0_A.sl.v103 c arg1 harg1 arg3 harg3 arg4 harg4 arg14 arg15 x0 x2 x3) (kernelRun0_A.sl.v105 c arg1 harg1 arg3 harg3 arg4 harg4 arg14 arg15 x0 x2 x3)
      (View.readAt (Elt Ideal) arg6.view (Rect.unit (s := S1x4x128x128) ![0, 1, 0, 0] S1x1x128x128.size inb_S1x4x128x128_S1x1x128x128_0_1_0_0).toLoadRect (harg6.unread x5))
      (View.readAt (Elt Ideal) arg7.view (Rect.unit (s := S1x1x512) ![0, 0, 128] S1x1x128.size inb_S1x1x512_S1x1x128_0_0_128).toLoadRect (harg7.unread x6)) (ix2 r j)
    = group x5 x6 (kernelRun0_A.sl.v9 i) (halo) (ucols x0 x2 x3) 1 r j := by
  have B (d p : ℕ) (hp : p + d = 16) (inb) (r : Fin 688) (k : Fin 128) := back c arg1 harg1 arg3 harg3 arg4 harg4 arg14 arg15 x0 x2 x3 d p 128 hp 1 rfl inb r k
  unfold kernelRun0_A.sl.r kernelRun0_A.sl.v kernelRun0_A.sl.v101 kernelRun0_A.sl.v103 kernelRun0_A.sl.v105
  refine (pool1_at _ _ _ _ _ _ _ r j).trans ?_
  unfold group mixed
  refine congrArg₂ (· * ·) (Finset.sum_congr rfl fun k _ => congrArg₂ (· * ·) (congrArg₂ (less (posw (kernelRun0_A.sl.v9 i) r.val) 4#32) ?_ (B 0 16 rfl _ r k))
    (load_mix arg6 harg6 x5 1 _ k j 1 rfl)) (load_cols arg7 harg7 x6 128 _ 0 j (col 1 j) rfl)
  exact (congrArg₂ (· + ·) (congrArg₂ (· + ·) (congrArg₂ (· + ·) (B 0 16 rfl _ r k) (B 1 15 rfl _ r k)) (B 2 14 rfl _ r k)) (B 3 13 rfl _ r k)).trans (bsum4 _ _).symm

theorem group2_at (r : Fin 688) (j : Fin 128) :
    k0_pay17 (F := Ideal) (kernelRun0_A.sl.r_4 c i arg1 harg1 arg3 harg3 arg4 harg4 arg14 arg15 x0 x2 x3)
      (View.readAt (Elt Ideal) arg6.view (Rect.unit (s := S1x4x128x128) ![0, 2, 0, 0] S1x1x128x128.size inb_S1x4x128x128_S1x1x128x128_0_2_0_0).toLoadRect (harg6.unread x5))
      (View.readAt (Elt Ideal) arg7.view (Rect.unit (s := S1x1x512) ![0, 0, 256] S1x1x128.size inb_S1x1x512_S1x1x128_0_0_256).toLoadRect (harg7.unread x6)) (ix2 r j)
    = group x5 x6 (kernelRun0_A.sl.v9 i) (halo) (ucols x0 x2 x3) 2 r j := by
  have B (d p : ℕ) (hp : p + d = 16) (inb) (r : Fin 688) (k : Fin 128) := back c arg1 harg1 arg3 harg3 arg4 harg4 arg14 arg15 x0 x2 x3 d p 256 hp 2 rfl inb r k
  unfold kernelRun0_A.sl.r_4 kernelRun0_A.sl.r kernelRun0_A.sl.v142 kernelRun0_A.sl.v143 kernelRun0_A.sl.v145 kernelRun0_A.sl.v147 kernelRun0_A.sl.v149 kernelRun0_A.sl.v151 kernelRun0_A.sl.v153 kernelRun0_A.sl.v155
  refine (pool2_at _ _ _ _ _ _ _ _ _ _ _ r j).trans ?_
  unfold group mixed
  refine congrArg₂ (· * ·) (Finset.sum_congr rfl fun k _ => congrArg₂ (· * ·) (congrArg₂ (less (posw (kernelRun0_A.sl.v9 i) r.val) 8#32) ?_ (B 0 16 rfl _ r k))
    (load_mix arg6 harg6 x5 2 _ k j 2 rfl)) (load_cols arg7 harg7 x6 256 _ 0 j (col 2 j) rfl)
  exact (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)).trans (bsum8 _ _).symm

theorem group3_at (r : Fin 688) (j : Fin 128) :
    k0_pay21 (F := Ideal) (kernelRun0_A.sl.r_7 c i arg1 harg1 arg3 harg3 arg4 harg4 arg14 arg15 x0 x2 x3)
      (View.readAt (Elt Ideal) arg6.view (Rect.unit (s := S1x4x128x128) ![0, 3, 0, 0] S1x1x128x128.size inb_S1x4x128x128_S1x1x128x128_0_3_0_0).toLoadRect (harg6.unread x5))
      (View.readAt (Elt Ideal) arg7.view (Rect.unit (s := S1x1x512) ![0, 0, 384] S1x1x128.size inb_S1x1x512_S1x1x128_0_0_384).toLoadRect (harg7.unread x6)) (ix2 r j)
    = group x5 x6 (kernelRun0_A.sl.v9 i) (halo) (ucols x0 x2 x3) 3 r j := by
  have B (d p : ℕ) (hp : p + d = 16) (inb) (r : Fin 688) (k : Fin 128) := back c arg1 harg1 arg3 harg3 arg4 harg4 arg14 arg15 x0 x2 x3 d p 384 hp 3 rfl inb r k
  unfold kernelRun0_A.sl.r_7 kernelRun0_A.sl.r_6 kernelRun0_A.sl.r kernelRun0_A.sl.v192 kernelRun0_A.sl.v193 kernelRun0_A.sl.v195 kernelRun0_A.sl.v197 kernelRun0_A.sl.v199 kernelRun0_A.sl.v201 kernelRun0_A.sl.v203 kernelRun0_A.sl.v205 kernelRun0_A.sl.v207 kernelRun0_A.sl.v209 kernelRun0_A.sl.v211 kernelRun0_A.sl.v213 kernelRun0_A.sl.v215 kernelRun0_A.sl.v217 kernelRun0_A.sl.v219 kernelRun0_A.sl.v221
  refine (pool3_at _ _ _ _ _ _ _ _ _ _ _ _ _ _ _ _ _ _ _ r j).trans ?_
  unfold group mixed
  refine congrArg₂ (· * ·) (Finset.sum_congr rfl fun k _ => congrArg₂ (· * ·) (congrArg₂ (less (posw (kernelRun0_A.sl.v9 i) r.val) 16#32) ?_ (B 0 16 rfl _ r k))
    (load_mix arg6 harg6 x5 3 _ k j 3 rfl)) (load_cols arg7 harg7 x6 384 _ 0 j (col 3 j) rfl)
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)) (B 8 8 rfl _ r k)) (B 9 7 rfl _ r k)) (B 10 6 rfl _ r k)) (B 11 5 rfl _ r k)) (B 12 4 rfl _ r k)) (B 13 3 rfl _ r k)) (B 14 2 rfl _ r k)) (B 15 1 rfl _ r k)).trans (bsum16 _ _).symm

/-- The pooled columns. -/
theorem a_at (r : Fin 688) (q : Fin 512) : kernelRun0_A.sl.v260 (F := Ideal) c i arg1 harg1 arg3 harg3 arg4 harg4 arg6 harg6 arg7 harg7 arg14 arg15 arg16 x0 x2 x3 x5 x6 (ix2 r q) = pool x5 x6 (kernelRun0_A.sl.v9 i) (halo) (ucols x0 x2 x3) r q := by
  unfold kernelRun0_A.sl.v260 kernelRun0_A.sl.HS2_4 kernelRun0_A.sl.r_5
  refine (readCov_cols arg16.view _ 0 _ r q q (Nat.zero_add _).symm).trans ?_
  refine canon_step (Val := Elt Ideal) (e := .bf16) (k := 128) (G := pool x5 x6 (kernelRun0_A.sl.v9 i) (halo) (ucols x0 x2 x3)) 384 512 rfl _ _ _ ?_
    (canon_step (k := 128) 256 384 rfl _ _ _ ?_
    (canon_step (k := 128) 128 256 rfl _ _ _ ?_
    (canon_step (k := 128) 0 128 rfl _ _ _ ?_ fun _ _ h => absurd h (Nat.not_lt_zero _)))) r q q.isLt
  · exact fun r j h => (group3_at c i arg1 harg1 arg3 harg3 arg4 harg4 arg6 harg6 arg7 harg7 arg14 arg15 x0 x2 x3 x5 x6 r j).trans (pool_group x5 x6 (kernelRun0_A.sl.v9 i) (halo) (ucols x0 x2 x3) 3 r j 384 rfl h).symm
  · exact fun r j h => (group2_at c i arg1 harg1 arg3 harg3 arg4 harg4 arg6 harg6 arg7 harg7 arg14 arg15 x0 x2 x3 x5 x6 r j).trans (pool_group x5 x6 (kernelRun0_A.sl.v9 i) (halo) (ucols x0 x2 x3) 2 r j 256 rfl h).symm
  · exact fun r j h => (group1_at c i arg1 harg1 arg3 harg3 arg4 harg4 arg6 harg6 arg7 harg7 arg14 arg15 x0 x2 x3 x5 x6 r j).trans (pool_group x5 x6 (kernelRun0_A.sl.v9 i) (halo) (ucols x0 x2 x3) 1 r j 128 rfl h).symm
  · exact fun r j h => (group0_at c i arg1 harg1 arg3 harg3 arg4 harg4 arg6 harg6 arg7 harg7 arg14 arg15 x0 x2 x3 x5 x6 r j).trans (pool_group x5 x6 (kernelRun0_A.sl.v9 i) (halo) (ucols x0 x2 x3) 0 r j 0 rfl h).symm

/-- A gate's columns. -/
theorem gate_at (o o' : ℕ) (ho : o = 2048 + o') (inb inb') (f : FVec Ideal S688x1024 .bf16 → FVec Ideal S1x1024x512 .bf16 → FVec Ideal S1x1x512 .f32 → FVec Ideal S688x512 .f32)
    (hf : ∀ h w b (r : Fin 688) (j : Fin 512), f h w b (ix2 r j) = sigm (times (fun k => h (ix2 r k)) (row3 w) j + row3 b 0 j))
    (r : Fin 688) (j : Fin 512) (h : o' + j.val < 2048) :
    f (kernelRun0_A.sl.v36 (F := Ideal) c arg1 harg1 arg3 harg3 arg14 x0 x2)
      (View.readAt (Elt Ideal) arg4.view (Rect.unit (s := S1x1024x4096) ![0, 0, o] S1x1024x512.size inb).toLoadRect (harg4.unread x3))
      (View.readAt (Elt Ideal) arg5.view (Rect.unit (s := S1x1x2048) ![0, 0, o'] S1x1x512.size inb').toLoadRect (harg5.unread x4)) (ix2 r j)
    = gt x0 x2 x3 x4 r ⟨o' + j.val, h⟩ := by
  refine (hf _ _ _ r j).trans (congrArg sigm (congrArg₂ (· + ·) ?_ (load_cols arg5 harg5 x4 o' inb' 0 j _ rfl)))
  exact times_at c arg1 harg1 arg3 harg3 arg4 harg4 arg14 x0 x2 x3 o inb r j _ (by subst ho; show 2048 + (o' + j.val) = 2048 + o' + j.val; omega)

/-- The first gate as it is kept. -/
theorem g_canon (r : Fin 688) (n : Fin 1024) : View.canon (kernelRun0_A.sl.H11_2 (F := Ideal) c arg1 harg1 arg3 harg3 arg4 harg4 arg5 harg5 arg14 x0 x2 x3 x4) (ix2 r n) = gt x0 x2 x3 x4 r ⟨n.val, by omega⟩ := by
  unfold kernelRun0_A.sl.H11_2 kernelRun0_A.sl.r_3 kernelRun0_A.sl.cst_76
  refine canon_step (Val := Elt Ideal) (e := .f32) (k := 512) (G := fun r n => gt x0 x2 x3 x4 r ⟨n.val, by omega⟩) 512 1024 rfl _ _ _ ?_
    (canon_step (k := 512) 0 512 rfl _ _ _ ?_ fun _ _ h => absurd h (Nat.not_lt_zero _)) r n n.isLt
  · exact fun r j h => gate_at c arg1 harg1 arg3 harg3 arg4 harg4 arg5 harg5 arg14 x0 x2 x3 x4 2560 512 rfl _ _ _ gate14_at r j (by omega)
  · exact fun r j h => gate_at c arg1 harg1 arg3 harg3 arg4 harg4 arg5 harg5 arg14 x0 x2 x3 x4 2048 0 rfl _ _ _ gate8_at r j (by omega)

/-- The pooled branch, gated. -/
abbrev prow (i : grid0.Coords) (r : Fin 688) (n : Fin 1024) : EReal := gt x0 x2 x3 x4 r ⟨n.val, by omega⟩ * times (pool x5 x6 (kernelRun0_A.sl.v9 i) (halo) (ucols x0 x2 x3) r) (row3 x7) n

theorem p_times (o : ℕ) (inb) (r : Fin 688) (j : Fin 512) (n : Fin 1024) (hn : n.val = o + j.val) :
    times (fun k => kernelRun0_A.sl.v260 (F := Ideal) c i arg1 harg1 arg3 harg3 arg4 harg4 arg6 harg6 arg7 harg7 arg14 arg15 arg16 x0 x2 x3 x5 x6 (ix2 r k))
      (row3 (View.readAt (Elt Ideal) arg8.view (Rect.unit (s := S1x512x1024) ![0, 0, o] ![1, 512, 512] inb).toLoadRect (harg8.unread x7))) j
    = times (pool x5 x6 (kernelRun0_A.sl.v9 i) (halo) (ucols x0 x2 x3) r) (row3 x7) n :=
  Finset.sum_congr rfl fun k _ => congrArg₂ (· * ·) (a_at c i arg1 harg1 arg3 harg3 arg4 harg4 arg6 harg6 arg7 harg7 arg14 arg15 arg16 x0 x2 x3 x5 x6 r k) (load_cols (a := 512) (k := 512) arg8 harg8 x7 o inb k j n hn)

theorem g_left (r : Fin 688) (j : Fin 512) : kernelRun0_A.sl.v261 (F := Ideal) c arg1 harg1 arg3 harg3 arg4 harg4 arg5 harg5 arg12 arg14 x0 x2 x3 x4 (ix2 r j) = gt x0 x2 x3 x4 r ⟨j.val, by omega⟩ := by
  unfold kernelRun0_A.sl.v261
  exact (readCov_cols (a := 688) (k := 512) arg12.view _ 0 _ r j (⟨j.val, by omega⟩ : Fin 1024) (Nat.zero_add _).symm).trans (g_canon c arg1 harg1 arg3 harg3 arg4 harg4 arg5 harg5 arg14 x0 x2 x3 x4 r _)

theorem g_right (r : Fin 688) (j : Fin 512) : kernelRun0_A.sl.v268 (F := Ideal) c i arg1 harg1 arg3 harg3 arg4 harg4 arg5 harg5 arg6 harg6 arg7 harg7 arg8 harg8 arg12 arg14 arg15 arg16 x0 x2 x3 x4 x5 x6 x7 (ix2 r j) = gt x0 x2 x3 x4 r ⟨512 + j.val, by omega⟩ := by
  unfold kernelRun0_A.sl.v268 kernelRun0_A.sl.H11_3
  exact (readCov_cols (a := 688) (k := 512) arg12.view _ 512 _ r j (⟨512 + j.val, by omega⟩ : Fin 1024) rfl).trans
    ((canon_miss (a := 688) (k := 512) 0 _ _ _ r _ (.inr (by show 0 + 512 ≤ 512 + j.val; omega))).trans (g_canon c arg1 harg1 arg3 harg3 arg4 harg4 arg5 harg5 arg14 x0 x2 x3 x4 r _))

theorem block8_at (r : Fin 688) (j : Fin 512) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r j) = prj x0 x2 x3 r ⟨0 + j.val, by omega⟩ * eighth := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine (canon_hit (a := 688) (k := 512) 0 _ _ _ r j j (Nat.zero_add _).symm).trans ((q_at _ _ r j).trans ?_)
  exact congrArg (· * eighth) (times_at c arg1 harg1 arg3 harg3 arg4 harg4 arg14 x0 x2 x3 0 _ r j _ rfl)

theorem block9_at (r : Fin 688) (j : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r j) = prj x0 x2 x3 r ⟨512 + j.val, by omega⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine (canon_hit (a := 688) (k := 512) 0 _ _ _ r j j (Nat.zero_add _).symm).trans ((k_at _ _ r j).trans ?_)
  exact times_at c arg1 harg1 arg3 harg3 arg4 harg4 arg14 x0 x2 x3 512 _ r j _ rfl

theorem block10_at (r : Fin 688) (j : Fin 512) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r j) = prj x0 x2 x3 r ⟨1024 + j.val, by omega⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine (canon_hit (a := 688) (k := 512) 0 _ _ _ r j j (Nat.zero_add _).symm).trans ((v_at _ _ r j).trans ?_)
  exact times_at c arg1 harg1 arg3 harg3 arg4 harg4 arg14 x0 x2 x3 1024 _ r j _ rfl

theorem block11_at (r : Fin 688) (n : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r n) = prow x0 x2 x3 x4 x5 x6 x7 i r n := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  unfold kernelRun0_A.sl.H11_3
  refine canon_step (Val := Elt Ideal) (e := .f32) (k := 512) (G := prow x0 x2 x3 x4 x5 x6 x7 i) 512 1024 rfl _ _ _ ?_
    (canon_step (k := 512) 0 512 rfl _ _ _ ?_ fun _ _ h => absurd h (Nat.not_lt_zero _)) r n n.isLt
  · exact fun r j h => (p2_at _ _ _ r j).trans (congrArg₂ (· * ·) (g_right c i arg1 harg1 arg3 harg3 arg4 harg4 arg5 harg5 arg6 harg6 arg7 harg7 arg8 harg8 arg12 arg14 arg15 arg16 x0 x2 x3 x4 x5 x6 x7 r j) (p_times c i arg1 harg1 arg3 harg3 arg4 harg4 arg6 harg6 arg7 harg7 arg8 harg8 arg14 arg15 arg16 x0 x2 x3 x5 x6 x7 512 _ r j _ rfl))
  · exact fun r j h => (p1_at _ _ _ r j).trans (congrArg₂ (· * ·) ((g_left c arg1 harg1 arg3 harg3 arg4 harg4 arg5 harg5 arg12 arg14 x0 x2 x3 x4 r j).trans (congrArg (gt x0 x2 x3 x4 r) (Fin.ext (Nat.zero_add _).symm)))
      (p_times c i arg1 harg1 arg3 harg3 arg4 harg4 arg6 harg6 arg7 harg7 arg8 harg8 arg14 arg15 arg16 x0 x2 x3 x5 x6 x7 0 _ r j _ rfl))

theorem block12_at (r : Fin 688) (n : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r n) = gt x0 x2 x3 x4 r ⟨1024 + n.val, by omega⟩ := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine canon_step (Val := Elt Ideal) (e := .f32) (k := 512) (G := fun r n => gt x0 x2 x3 x4 r ⟨1024 + n.val, by omega⟩) 512 1024 rfl _ _ _ ?_
    (canon_step (k := 512) 0 512 rfl _ _ _ ?_ fun _ _ h => absurd h (Nat.not_lt_zero _)) r n n.isLt
  · exact fun r j h => (gate_at c arg1 harg1 arg3 harg3 arg4 harg4 arg5 harg5 arg14 x0 x2 x3 x4 3584 1536 rfl _ _ _ gate18_at r j (by omega)).trans
      (congrArg (gt x0 x2 x3 x4 r) (Fin.ext (by show 1536 + j.val = 1024 + (512 + j.val); omega)))
  · exact fun r j h => (gate_at c arg1 harg1 arg3 harg3 arg4 harg4 arg5 harg5 arg14 x0 x2 x3 x4 3072 1024 rfl _ _ _ gate12_at r j (by omega)).trans
      (congrArg (gt x0 x2 x3 x4 r) (Fin.ext (by show 1024 + j.val = 1024 + (0 + j.val); omega)))

/-- The rows kept for the next tile. -/
theorem kept_at (R : Fin 704) (q : Fin 512) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 R q) = buf (halo) (ucols x0 x2 x3) q R.val := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  exact u_canon c arg1 harg1 arg3 harg3 arg4 harg4 arg14 x0 x2 x3 R q

end Cert.Kernel3Ideal.In.A
end
-- ==== Proof.InBlockB.lean ====
/-
  What one body of the input stage leaves in its result blocks, at an index: a tile with one before it in its sequence.
-/
module

public import proofs.«01_k».proof.Proof.InPay
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.In.B

open Cert.Kernel3Ideal Cert.Kernel3Ideal.Gen Idealize.ShloMosaic Idealize.ShloMosaic.TcCoe Idealize.SL.Sem
open Cert.OutStage Cert.InStage
open Cert.Kernel2Ideal.Out (canon_hit canon_miss canon_step readCov_cols load_cols row3)
open scoped BigOperators

variable (c : Dev nD) (i : grid0.Coords)
  (arg1 : Memref sig .tc .vmem S688x1024 .f32) (harg1 : arg1.IsWhole)
  (arg2 : Memref sig .tc .vmem S16x1024 .f32) (harg2 : arg2.IsWhole)
  (arg3 : Memref sig .tc .vmem S1x1x1024 .f32) (harg3 : arg3.IsWhole)
  (arg4 : Memref sig .tc .vmem S1x1024x4096 .bf16) (harg4 : arg4.IsWhole)
  (arg5 : Memref sig .tc .vmem S1x1x2048 .f32) (harg5 : arg5.IsWhole)
  (arg6 : Memref sig .tc .vmem S1x4x128x128 .bf16) (harg6 : arg6.IsWhole)
  (arg7 : Memref sig .tc .vmem S1x1x512 .f32) (harg7 : arg7.IsWhole)
  (arg8 : Memref sig .tc .vmem S1x512x1024 .bf16) (harg8 : arg8.IsWhole)
  (arg9 : Memref sig .tc .vmem S688x512 .bf16) (harg9 : arg9.IsWhole)
  (arg10 : Memref sig .tc .vmem S688x512 .bf16) (harg10 : arg10.IsWhole)
  (arg11 : Memref sig .tc .vmem S688x512 .bf16) (harg11 : arg11.IsWhole)
  (arg12 : Memref sig .tc .vmem S688x1024 .f32) (harg12 : arg12.IsWhole)
  (arg13 : Memref sig .tc .vmem S688x1024 .f32) (harg13 : arg13.IsWhole)
  (arg14 : Memref sig .tc .vmem S688x1024 .bf16) (harg14 : arg14.IsWhole)
  (arg15 : Memref sig .tc .vmem S704x512 .f32) (harg15 : arg15.IsWhole)
  (arg16 : Memref sig .tc .vmem S688x512 .bf16) (harg16 : arg16.IsWhole)
  (hc0 : ¬cond0_0 i) (hc1 : cond0_1 i)
  (x0 : Vec Ideal S688x1024 .f32)  (x1 : Vec Ideal S16x1024 .f32)  (x2 : Vec Ideal S1x1x1024 .f32)  (x3 : Vec Ideal S1x1024x4096 .bf16)  (x4 : Vec Ideal S1x1x2048 .f32)  (x5 : Vec Ideal S1x4x128x128 .bf16)  (x6 : Vec Ideal S1x1x512 .f32)  (x7 : Vec Ideal S1x512x1024 .bf16)
  (xs1 : Vec Ideal S704x512 .f32)

/-- The rows before the tile's. -/
abbrev halo (xs1 : Vec Ideal S704x512 .f32) : Fin 16 → Fin 512 → EReal := fun a q => xs1 (ix2 (⟨688 + a.val, by omega⟩ : Fin 704) q)

theorem h_at (r : Fin 688) (n : Fin 1024) : kernelRun0_B.sl.v36 (F := Ideal) c arg1 harg1 arg3 harg3 arg14 x0 x2 (ix2 r n) = hrow x0 x2 r n := by
  unfold kernelRun0_B.sl.v36 kernelRun0_B.sl.HS0_1
  refine (readCov_cols arg14.view _ 0 _ r n n (Nat.zero_add _).symm).trans ((canon_hit 0 _ _ _ r n n (Nat.zero_add _).symm).trans ((norm_at _ _ r n).trans ?_))
  exact congrArg₂ (fun a b => rms a b n) (funext fun k => load_rows arg1 harg1 x0 0 _ r k r (Nat.zero_add _).symm)
    (funext fun k => load_cols arg3 harg3 x2 0 _ 0 k k (Nat.zero_add _).symm)

/-- A projection's columns. -/
theorem times_at (o : ℕ) (inb) (r : Fin 688) (j : Fin 512) (n : Fin 4096) (hn : n.val = o + j.val) :
    times (fun k => kernelRun0_B.sl.v36 (F := Ideal) c arg1 harg1 arg3 harg3 arg14 x0 x2 (ix2 r k))
      (row3 (View.readAt (Elt Ideal) arg4.view (Rect.unit (s := S1x1024x4096) ![0, 0, o] S1x1024x512.size inb).toLoadRect (harg4.unread x3))) j
    = prj x0 x2 x3 r n :=
  Finset.sum_congr rfl fun k _ => congrArg₂ (· * ·) (h_at c arg1 harg1 arg3 harg3 arg14 x0 x2 r k) (load_cols arg4 harg4 x3 o inb k j n hn)

theorem u_canon (R : Fin 704) (q : Fin 512) : View.canon (kernelRun0_B.sl.HS1_2 (F := Ideal) c arg1 harg1 arg3 harg3 arg4 harg4 arg14 arg15 harg15 x0 x2 x3 xs1) (ix2 R q)
    = buf (halo xs1) (ucols x0 x2 x3) q R.val := by
  unfold kernelRun0_B.sl.HS1_2 buf
  by_cases h : R.val < 16
  · rw [dif_pos h]
    refine (canon_row_miss 16 _ _ _ R q (.inl h)).trans ((canon_row_hit 0 _ _ _ (⟨R.val, h⟩ : Fin 16) R q (Nat.zero_add _).symm).trans ?_)
    exact (keep_at _ _ q).trans (load_rows arg15 harg15 xs1 688 _ (⟨R.val, h⟩ : Fin 16) q ⟨688 + R.val, by omega⟩ rfl)
  · have h' : R.val - 16 < 688 := by omega
    rw [dif_neg h, dif_pos h']
    refine (canon_row_hit 16 _ _ _ (⟨R.val - 16, h'⟩ : Fin 688) R q (by show R.val = 16 + (R.val - 16); omega)).trans ((proj_at _ _ _ q).trans ?_)
    exact times_at c arg1 harg1 arg3 harg3 arg4 harg4 arg14 x0 x2 x3 1536 _ _ q _ rfl

/-- A load of the buffer, `d` rows back. -/
theorem back (d p o : ℕ) (hp : p + d = 16) (g : Fin 4) (ho : o = 128 * g.val) (inb) (r : Fin 688) (k : Fin 128) :
    arg15.view.readCov (kernelRun0_B.sl.HS1_2 (F := Ideal) c arg1 harg1 arg3 harg3 arg4 harg4 arg14 arg15 harg15 x0 x2 x3 xs1) (Rect.unit (s := S704x512) ![p, o] S688x128.size inb).toLoadRect (ix2 r k)
    = buf (halo xs1) (ucols x0 x2 x3) (col g k) (16 + r.val - d) := by
  refine (readCov_rows arg15.view _ p o inb r k (⟨p + r.val, by omega⟩ : Fin 704) (col g k) rfl (by show 128 * g.val + k.val = o + k.val; omega)).trans ?_
  refine (u_canon c arg1 harg1 arg3 harg3 arg4 harg4 arg14 arg15 harg15 x0 x2 x3 xs1 _ _).trans ?_
  exact congrArg _ (by show p + r.val = 16 + r.val - d; omega)

theorem group0_at (r : Fin 688) (j : Fin 128) :
    k0_pay11 (F := Ideal) (kernelRun0_B.sl.v62 c arg1 harg1 arg3 harg3 arg4 harg4 arg14 arg15 harg15 x0 x2 x3 xs1) (kernelRun0_B.sl.r_1 c arg1 harg1 arg3 harg3 arg4 harg4 arg14 arg15 harg15 x0 x2 x3 xs1) (kernelRun0_B.sl.r_2 i) 2#32
      (View.readAt (Elt Ideal) arg6.view (Rect.unit (s := S1x4x128x128) ![0, 0, 0, 0] S1x1x128x128.size inb_S1x4x128x128_S1x1x128x128_0_0_0_0).toLoadRect (harg6.unread x5))
      (View.readAt (Elt Ideal) arg7.view (Rect.unit (s := S1x1x512) ![0, 0, 0] S1x1x128.size inb_S1x1x512_S1x1x128_0_0_0).toLoadRect (harg7.unread x6)) (ix2 r j)
    = group x5 x6 (kernelRun0_B.sl.v9 i) (halo xs1) (ucols x0 x2 x3) 0 r j := by
  have B (d p : ℕ) (hp : p + d = 16) (inb) (r : Fin 688) (k : Fin 128) := back c arg1 harg1 arg3 harg3 arg4 harg4 arg14 arg15 harg15 x0 x2 x3 xs1 d p 0 hp 0 rfl inb r k
  unfold kernelRun0_B.sl.r_1 kernelRun0_B.sl.r_2 kernelRun0_B.sl.v62 kernelRun0_B.sl.v63
  refine (pool0_at _ _ _ _ _ r j).trans ?_
  unfold group mixed
  refine congrArg₂ (· * ·) (Finset.sum_congr rfl fun k _ => congrArg₂ (· * ·) (congrArg₂ (less (posw (kernelRun0_B.sl.v9 i) r.val) 2#32) ?_ (B 0 16 rfl _ r k))
    (load_mix arg6 harg6 x5 0 _ k j 0 rfl)) (load_cols arg7 harg7 x6 0 _ 0 j (col 0 j) rfl)
  exact (congrArg₂ (· + ·) (B 0 16 rfl _ r k) (B 1 15 rfl _ r k)).trans (bsum2 _ _).symm

theorem group1_at (r : Fin 688) (j : Fin 128) :
    k0_pay13 (F := Ideal) (kernelRun0_B.sl.r i) (kernelRun0_B.sl.v c arg1 harg1 arg3 harg3 arg4 harg4 arg14 arg15 harg15 x0 x2 x3 xs1) (kernelRun0_B.sl.v101 c arg1 harg1 arg3 harg3 arg4 harg4 arg14 arg15 harg15 x0 x2 x3 xs1) (kernelRun0_B.sl.v103 c arg1 harg1 arg3 harg3 arg4 harg4 arg14 arg15 harg15 x0 x2 x3 xs1) (kernelRun0_B.sl.v105 c arg1 harg1 arg3 harg3 arg4 harg4 arg14 arg15 harg15 x0 x2 x3 xs1)
      (View.readAt (Elt Ideal) arg6.view (Rect.unit (s := S1x4x128x128) ![0, 1, 0, 0] S1x1x128x128.size inb_S1x4x128x128_S1x1x128x128_0_1_0_0).toLoadRect (harg6.unread x5))
      (View.readAt (Elt Ideal) arg7.view (Rect.unit (s := S1x1x512) ![0, 0, 128] S1x1x128.size inb_S1x1x512_S1x1x128_0_0_128).toLoadRect (harg7.unread x6)) (ix2 r j)
    = group x5 x6 (kernelRun0_B.sl.v9 i) (halo xs1) (ucols x0 x2 x3) 1 r j := by
  have B (d p : ℕ) (hp : p + d = 16) (inb) (r : Fin 688) (k : Fin 128) := back c arg1 harg1 arg3 harg3 arg4 harg4 arg14 arg15 harg15 x0 x2 x3 xs1 d p 128 hp 1 rfl inb r k
  unfold kernelRun0_B.sl.r kernelRun0_B.sl.v kernelRun0_B.sl.v101 kernelRun0_B.sl.v103 kernelRun0_B.sl.v105
  refine (pool1_at _ _ _ _ _ _ _ r j).trans ?_
  unfold group mixed
  refine congrArg₂ (· * ·) (Finset.sum_congr rfl fun k _ => congrArg₂ (· * ·) (congrArg₂ (less (posw (kernelRun0_B.sl.v9 i) r.val) 4#32) ?_ (B 0 16 rfl _ r k))
    (load_mix arg6 harg6 x5 1 _ k j 1 rfl)) (load_cols arg7 harg7 x6 128 _ 0 j (col 1 j) rfl)
  exact (congrArg₂ (· + ·) (congrArg₂ (· + ·) (congrArg₂ (· + ·) (B 0 16 rfl _ r k) (B 1 15 rfl _ r k)) (B 2 14 rfl _ r k)) (B 3 13 rfl _ r k)).trans (bsum4 _ _).symm

theorem group2_at (r : Fin 688) (j : Fin 128) :
    k0_pay17 (F := Ideal) (kernelRun0_B.sl.r_4 c i arg1 harg1 arg3 harg3 arg4 harg4 arg14 arg15 harg15 x0 x2 x3 xs1)
      (View.readAt (Elt Ideal) arg6.view (Rect.unit (s := S1x4x128x128) ![0, 2, 0, 0] S1x1x128x128.size inb_S1x4x128x128_S1x1x128x128_0_2_0_0).toLoadRect (harg6.unread x5))
      (View.readAt (Elt Ideal) arg7.view (Rect.unit (s := S1x1x512) ![0, 0, 256] S1x1x128.size inb_S1x1x512_S1x1x128_0_0_256).toLoadRect (harg7.unread x6)) (ix2 r j)
    = group x5 x6 (kernelRun0_B.sl.v9 i) (halo xs1) (ucols x0 x2 x3) 2 r j := by
  have B (d p : ℕ) (hp : p + d = 16) (inb) (r : Fin 688) (k : Fin 128) := back c arg1 harg1 arg3 harg3 arg4 harg4 arg14 arg15 harg15 x0 x2 x3 xs1 d p 256 hp 2 rfl inb r k
  unfold kernelRun0_B.sl.r_4 kernelRun0_B.sl.r kernelRun0_B.sl.v142 kernelRun0_B.sl.v143 kernelRun0_B.sl.v145 kernelRun0_B.sl.v147 kernelRun0_B.sl.v149 kernelRun0_B.sl.v151 kernelRun0_B.sl.v153 kernelRun0_B.sl.v155
  refine (pool2_at _ _ _ _ _ _ _ _ _ _ _ r j).trans ?_
  unfold group mixed
  refine congrArg₂ (· * ·) (Finset.sum_congr rfl fun k _ => congrArg₂ (· * ·) (congrArg₂ (less (posw (kernelRun0_B.sl.v9 i) r.val) 8#32) ?_ (B 0 16 rfl _ r k))
    (load_mix arg6 harg6 x5 2 _ k j 2 rfl)) (load_cols arg7 harg7 x6 256 _ 0 j (col 2 j) rfl)
  exact (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)).trans (bsum8 _ _).symm

theorem group3_at (r : Fin 688) (j : Fin 128) :
    k0_pay21 (F := Ideal) (kernelRun0_B.sl.r_7 c i arg1 harg1 arg3 harg3 arg4 harg4 arg14 arg15 harg15 x0 x2 x3 xs1)
      (View.readAt (Elt Ideal) arg6.view (Rect.unit (s := S1x4x128x128) ![0, 3, 0, 0] S1x1x128x128.size inb_S1x4x128x128_S1x1x128x128_0_3_0_0).toLoadRect (harg6.unread x5))
      (View.readAt (Elt Ideal) arg7.view (Rect.unit (s := S1x1x512) ![0, 0, 384] S1x1x128.size inb_S1x1x512_S1x1x128_0_0_384).toLoadRect (harg7.unread x6)) (ix2 r j)
    = group x5 x6 (kernelRun0_B.sl.v9 i) (halo xs1) (ucols x0 x2 x3) 3 r j := by
  have B (d p : ℕ) (hp : p + d = 16) (inb) (r : Fin 688) (k : Fin 128) := back c arg1 harg1 arg3 harg3 arg4 harg4 arg14 arg15 harg15 x0 x2 x3 xs1 d p 384 hp 3 rfl inb r k
  unfold kernelRun0_B.sl.r_7 kernelRun0_B.sl.r_6 kernelRun0_B.sl.r kernelRun0_B.sl.v192 kernelRun0_B.sl.v193 kernelRun0_B.sl.v195 kernelRun0_B.sl.v197 kernelRun0_B.sl.v199 kernelRun0_B.sl.v201 kernelRun0_B.sl.v203 kernelRun0_B.sl.v205 kernelRun0_B.sl.v207 kernelRun0_B.sl.v209 kernelRun0_B.sl.v211 kernelRun0_B.sl.v213 kernelRun0_B.sl.v215 kernelRun0_B.sl.v217 kernelRun0_B.sl.v219 kernelRun0_B.sl.v221
  refine (pool3_at _ _ _ _ _ _ _ _ _ _ _ _ _ _ _ _ _ _ _ r j).trans ?_
  unfold group mixed
  refine congrArg₂ (· * ·) (Finset.sum_congr rfl fun k _ => congrArg₂ (· * ·) (congrArg₂ (less (posw (kernelRun0_B.sl.v9 i) r.val) 16#32) ?_ (B 0 16 rfl _ r k))
    (load_mix arg6 harg6 x5 3 _ k j 3 rfl)) (load_cols arg7 harg7 x6 384 _ 0 j (col 3 j) rfl)
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)) (B 8 8 rfl _ r k)) (B 9 7 rfl _ r k)) (B 10 6 rfl _ r k)) (B 11 5 rfl _ r k)) (B 12 4 rfl _ r k)) (B 13 3 rfl _ r k)) (B 14 2 rfl _ r k)) (B 15 1 rfl _ r k)).trans (bsum16 _ _).symm

/-- The pooled columns. -/
theorem a_at (r : Fin 688) (q : Fin 512) : kernelRun0_B.sl.v260 (F := Ideal) c i arg1 harg1 arg3 harg3 arg4 harg4 arg6 harg6 arg7 harg7 arg14 arg15 harg15 arg16 x0 x2 x3 x5 x6 xs1 (ix2 r q) = pool x5 x6 (kernelRun0_B.sl.v9 i) (halo xs1) (ucols x0 x2 x3) r q := by
  unfold kernelRun0_B.sl.v260 kernelRun0_B.sl.HS2_4 kernelRun0_B.sl.r_5
  refine (readCov_cols arg16.view _ 0 _ r q q (Nat.zero_add _).symm).trans ?_
  refine canon_step (Val := Elt Ideal) (e := .bf16) (k := 128) (G := pool x5 x6 (kernelRun0_B.sl.v9 i) (halo xs1) (ucols x0 x2 x3)) 384 512 rfl _ _ _ ?_
    (canon_step (k := 128) 256 384 rfl _ _ _ ?_
    (canon_step (k := 128) 128 256 rfl _ _ _ ?_
    (canon_step (k := 128) 0 128 rfl _ _ _ ?_ fun _ _ h => absurd h (Nat.not_lt_zero _)))) r q q.isLt
  · exact fun r j h => (group3_at c i arg1 harg1 arg3 harg3 arg4 harg4 arg6 harg6 arg7 harg7 arg14 arg15 harg15 x0 x2 x3 x5 x6 xs1 r j).trans (pool_group x5 x6 (kernelRun0_B.sl.v9 i) (halo xs1) (ucols x0 x2 x3) 3 r j 384 rfl h).symm
  · exact fun r j h => (group2_at c i arg1 harg1 arg3 harg3 arg4 harg4 arg6 harg6 arg7 harg7 arg14 arg15 harg15 x0 x2 x3 x5 x6 xs1 r j).trans (pool_group x5 x6 (kernelRun0_B.sl.v9 i) (halo xs1) (ucols x0 x2 x3) 2 r j 256 rfl h).symm
  · exact fun r j h => (group1_at c i arg1 harg1 arg3 harg3 arg4 harg4 arg6 harg6 arg7 harg7 arg14 arg15 harg15 x0 x2 x3 x5 x6 xs1 r j).trans (pool_group x5 x6 (kernelRun0_B.sl.v9 i) (halo xs1) (ucols x0 x2 x3) 1 r j 128 rfl h).symm
  · exact fun r j h => (group0_at c i arg1 harg1 arg3 harg3 arg4 harg4 arg6 harg6 arg7 harg7 arg14 arg15 harg15 x0 x2 x3 x5 x6 xs1 r j).trans (pool_group x5 x6 (kernelRun0_B.sl.v9 i) (halo xs1) (ucols x0 x2 x3) 0 r j 0 rfl h).symm

/-- A gate's columns. -/
theorem gate_at (o o' : ℕ) (ho : o = 2048 + o') (inb inb') (f : FVec Ideal S688x1024 .bf16 → FVec Ideal S1x1024x512 .bf16 → FVec Ideal S1x1x512 .f32 → FVec Ideal S688x512 .f32)
    (hf : ∀ h w b (r : Fin 688) (j : Fin 512), f h w b (ix2 r j) = sigm (times (fun k => h (ix2 r k)) (row3 w) j + row3 b 0 j))
    (r : Fin 688) (j : Fin 512) (h : o' + j.val < 2048) :
    f (kernelRun0_B.sl.v36 (F := Ideal) c arg1 harg1 arg3 harg3 arg14 x0 x2)
      (View.readAt (Elt Ideal) arg4.view (Rect.unit (s := S1x1024x4096) ![0, 0, o] S1x1024x512.size inb).toLoadRect (harg4.unread x3))
      (View.readAt (Elt Ideal) arg5.view (Rect.unit (s := S1x1x2048) ![0, 0, o'] S1x1x512.size inb').toLoadRect (harg5.unread x4)) (ix2 r j)
    = gt x0 x2 x3 x4 r ⟨o' + j.val, h⟩ := by
  refine (hf _ _ _ r j).trans (congrArg sigm (congrArg₂ (· + ·) ?_ (load_cols arg5 harg5 x4 o' inb' 0 j _ rfl)))
  exact times_at c arg1 harg1 arg3 harg3 arg4 harg4 arg14 x0 x2 x3 o inb r j _ (by subst ho; show 2048 + (o' + j.val) = 2048 + o' + j.val; omega)

/-- The first gate as it is kept. -/
theorem g_canon (r : Fin 688) (n : Fin 1024) : View.canon (kernelRun0_B.sl.H11_2 (F := Ideal) c arg1 harg1 arg3 harg3 arg4 harg4 arg5 harg5 arg14 x0 x2 x3 x4) (ix2 r n) = gt x0 x2 x3 x4 r ⟨n.val, by omega⟩ := by
  unfold kernelRun0_B.sl.H11_2 kernelRun0_B.sl.r_3 kernelRun0_B.sl.cst_76
  refine canon_step (Val := Elt Ideal) (e := .f32) (k := 512) (G := fun r n => gt x0 x2 x3 x4 r ⟨n.val, by omega⟩) 512 1024 rfl _ _ _ ?_
    (canon_step (k := 512) 0 512 rfl _ _ _ ?_ fun _ _ h => absurd h (Nat.not_lt_zero _)) r n n.isLt
  · exact fun r j h => gate_at c arg1 harg1 arg3 harg3 arg4 harg4 arg5 harg5 arg14 x0 x2 x3 x4 2560 512 rfl _ _ _ gate14_at r j (by omega)
  · exact fun r j h => gate_at c arg1 harg1 arg3 harg3 arg4 harg4 arg5 harg5 arg14 x0 x2 x3 x4 2048 0 rfl _ _ _ gate8_at r j (by omega)

/-- The pooled branch, gated. -/
abbrev prow (i : grid0.Coords) (xs1 : Vec Ideal S704x512 .f32) (r : Fin 688) (n : Fin 1024) : EReal := gt x0 x2 x3 x4 r ⟨n.val, by omega⟩ * times (pool x5 x6 (kernelRun0_B.sl.v9 i) (halo xs1) (ucols x0 x2 x3) r) (row3 x7) n

theorem p_times (o : ℕ) (inb) (r : Fin 688) (j : Fin 512) (n : Fin 1024) (hn : n.val = o + j.val) :
    times (fun k => kernelRun0_B.sl.v260 (F := Ideal) c i arg1 harg1 arg3 harg3 arg4 harg4 arg6 harg6 arg7 harg7 arg14 arg15 harg15 arg16 x0 x2 x3 x5 x6 xs1 (ix2 r k))
      (row3 (View.readAt (Elt Ideal) arg8.view (Rect.unit (s := S1x512x1024) ![0, 0, o] ![1, 512, 512] inb).toLoadRect (harg8.unread x7))) j
    = times (pool x5 x6 (kernelRun0_B.sl.v9 i) (halo xs1) (ucols x0 x2 x3) r) (row3 x7) n :=
  Finset.sum_congr rfl fun k _ => congrArg₂ (· * ·) (a_at c i arg1 harg1 arg3 harg3 arg4 harg4 arg6 harg6 arg7 harg7 arg14 arg15 harg15 arg16 x0 x2 x3 x5 x6 xs1 r k) (load_cols (a := 512) (k := 512) arg8 harg8 x7 o inb k j n hn)

theorem g_left (r : Fin 688) (j : Fin 512) : kernelRun0_B.sl.v261 (F := Ideal) c arg1 harg1 arg3 harg3 arg4 harg4 arg5 harg5 arg12 arg14 x0 x2 x3 x4 (ix2 r j) = gt x0 x2 x3 x4 r ⟨j.val, by omega⟩ := by
  unfold kernelRun0_B.sl.v261
  exact (readCov_cols (a := 688) (k := 512) arg12.view _ 0 _ r j (⟨j.val, by omega⟩ : Fin 1024) (Nat.zero_add _).symm).trans (g_canon c arg1 harg1 arg3 harg3 arg4 harg4 arg5 harg5 arg14 x0 x2 x3 x4 r _)

theorem g_right (r : Fin 688) (j : Fin 512) : kernelRun0_B.sl.v268 (F := Ideal) c i arg1 harg1 arg3 harg3 arg4 harg4 arg5 harg5 arg6 harg6 arg7 harg7 arg8 harg8 arg12 arg14 arg15 harg15 arg16 x0 x2 x3 x4 x5 x6 x7 xs1 (ix2 r j) = gt x0 x2 x3 x4 r ⟨512 + j.val, by omega⟩ := by
  unfold kernelRun0_B.sl.v268 kernelRun0_B.sl.H11_3
  exact (readCov_cols (a := 688) (k := 512) arg12.view _ 512 _ r j (⟨512 + j.val, by omega⟩ : Fin 1024) rfl).trans
    ((canon_miss (a := 688) (k := 512) 0 _ _ _ r _ (.inr (by show 0 + 512 ≤ 512 + j.val; omega))).trans (g_canon c arg1 harg1 arg3 harg3 arg4 harg4 arg5 harg5 arg14 x0 x2 x3 x4 r _))

theorem block8_at (r : Fin 688) (j : Fin 512) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r j) = prj x0 x2 x3 r ⟨0 + j.val, by omega⟩ * eighth := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine (canon_hit (a := 688) (k := 512) 0 _ _ _ r j j (Nat.zero_add _).symm).trans ((q_at _ _ r j).trans ?_)
  exact congrArg (· * eighth) (times_at c arg1 harg1 arg3 harg3 arg4 harg4 arg14 x0 x2 x3 0 _ r j _ rfl)

theorem block9_at (r : Fin 688) (j : Fin 512) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r j) = prj x0 x2 x3 r ⟨512 + j.val, by omega⟩ := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine (canon_hit (a := 688) (k := 512) 0 _ _ _ r j j (Nat.zero_add _).symm).trans ((k_at _ _ r j).trans ?_)
  exact times_at c arg1 harg1 arg3 harg3 arg4 harg4 arg14 x0 x2 x3 512 _ r j _ rfl

theorem block10_at (r : Fin 688) (j : Fin 512) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r j) = prj x0 x2 x3 r ⟨1024 + j.val, by omega⟩ := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine (canon_hit (a := 688) (k := 512) 0 _ _ _ r j j (Nat.zero_add _).symm).trans ((v_at _ _ r j).trans ?_)
  exact times_at c arg1 harg1 arg3 harg3 arg4 harg4 arg14 x0 x2 x3 1024 _ r j _ rfl

theorem block11_at (r : Fin 688) (n : Fin 1024) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r n) = prow x0 x2 x3 x4 x5 x6 x7 i xs1 r n := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  unfold kernelRun0_B.sl.H11_3
  refine canon_step (Val := Elt Ideal) (e := .f32) (k := 512) (G := prow x0 x2 x3 x4 x5 x6 x7 i xs1) 512 1024 rfl _ _ _ ?_
    (canon_step (k := 512) 0 512 rfl _ _ _ ?_ fun _ _ h => absurd h (Nat.not_lt_zero _)) r n n.isLt
  · exact fun r j h => (p2_at _ _ _ r j).trans (congrArg₂ (· * ·) (g_right c i arg1 harg1 arg3 harg3 arg4 harg4 arg5 harg5 arg6 harg6 arg7 harg7 arg8 harg8 arg12 arg14 arg15 harg15 arg16 x0 x2 x3 x4 x5 x6 x7 xs1 r j) (p_times c i arg1 harg1 arg3 harg3 arg4 harg4 arg6 harg6 arg7 harg7 arg8 harg8 arg14 arg15 harg15 arg16 x0 x2 x3 x5 x6 x7 xs1 512 _ r j _ rfl))
  · exact fun r j h => (p1_at _ _ _ r j).trans (congrArg₂ (· * ·) ((g_left c arg1 harg1 arg3 harg3 arg4 harg4 arg5 harg5 arg12 arg14 x0 x2 x3 x4 r j).trans (congrArg (gt x0 x2 x3 x4 r) (Fin.ext (Nat.zero_add _).symm)))
      (p_times c i arg1 harg1 arg3 harg3 arg4 harg4 arg6 harg6 arg7 harg7 arg8 harg8 arg14 arg15 harg15 arg16 x0 x2 x3 x5 x6 x7 xs1 0 _ r j _ rfl))

theorem block12_at (r : Fin 688) (n : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r n) = gt x0 x2 x3 x4 r ⟨1024 + n.val, by omega⟩ := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine canon_step (Val := Elt Ideal) (e := .f32) (k := 512) (G := fun r n => gt x0 x2 x3 x4 r ⟨1024 + n.val, by omega⟩) 512 1024 rfl _ _ _ ?_
    (canon_step (k := 512) 0 512 rfl _ _ _ ?_ fun _ _ h => absurd h (Nat.not_lt_zero _)) r n n.isLt
  · exact fun r j h => (gate_at c arg1 harg1 arg3 harg3 arg4 harg4 arg5 harg5 arg14 x0 x2 x3 x4 3584 1536 rfl _ _ _ gate18_at r j (by omega)).trans
      (congrArg (gt x0 x2 x3 x4 r) (Fin.ext (by show 1536 + j.val = 1024 + (512 + j.val); omega)))
  · exact fun r j h => (gate_at c arg1 harg1 arg3 harg3 arg4 harg4 arg5 harg5 arg14 x0 x2 x3 x4 3072 1024 rfl _ _ _ gate12_at r j (by omega)).trans
      (congrArg (gt x0 x2 x3 x4 r) (Fin.ext (by show 1024 + j.val = 1024 + (0 + j.val); omega)))

/-- The rows kept for the next tile. -/
theorem kept_at (R : Fin 704) (q : Fin 512) : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 R q) = buf (halo xs1) (ucols x0 x2 x3) q R.val := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  exact u_canon c arg1 harg1 arg3 harg3 arg4 harg4 arg14 arg15 harg15 x0 x2 x3 xs1 R q

end Cert.Kernel3Ideal.In.B
end
-- ==== Proof.InValue.lean ====
/-
  What the input stage's kernel leaves, over the extended reals: the stage of its arguments, a row at a time.
-/
module

public import proofs.«01_k».proof.Proof.InBlockA
public import proofs.«01_k».proof.Proof.InBlockB
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.In

open Cert.Kernel3Ideal Cert.Kernel3Ideal.Gen Cert.Kernel3Ideal.Value Idealize.ShloMosaic Idealize.ShloMosaic.TcCoe Idealize.ShloMosaic.StableHlo Idealize.SL.Sem
open Cert.OutStage Cert.InStage
open Cert.Kernel2Ideal.Out (canon_hit canon_miss canon_step readCov_cols load_cols row3)
open scoped BigOperators

variable (m : (ℓ : Loc nD τ sig) → Buf (Elt Ideal) ℓ) (c : Dev nD)

/-- The activations. -/
def argX : FVec Ideal S8x2064x1024 .f32 := m ((c.tc : Thread nD τ).loc main_arg0)
/-- The norm's weights. -/
def argN : FVec Ideal S2x1024 .f32 := m ((c.tc : Thread nD τ).loc main_arg2)
/-- The input matrix. -/
def argW : FVec Ideal S2x1024x4096 .f32 := m ((c.tc : Thread nD τ).loc main_arg3)
/-- The gates' bias. -/
def argC : FVec Ideal S2x2048 .f32 := m ((c.tc : Thread nD τ).loc main_arg4)
/-- The pooled groups' matrices. -/
def argM : FVec Ideal S2x4x128x128 .f32 := m ((c.tc : Thread nD τ).loc main_arg5)
/-- The pooled columns' scale. -/
def argS : FVec Ideal S2x512 .f32 := m ((c.tc : Thread nD τ).loc main_arg6)
/-- The pooled branch's way to the width. -/
def argB : FVec Ideal S2x512x1024 .f32 := m ((c.tc : Thread nD τ).loc main_arg7)

theorem entry_x : V m c main_v6 = (shapeCast S16512x1024 (argX m c) shapeCasts_S8x2064x1024_S16512x1024 : FVec Ideal S16512x1024 .f32) := by
  simp only [V, hostOps0, TRef.unary, TRef.toBuf, TRef.ofBuf, cast_eq]
  after_results_simp
  rfl

theorem entry_n : V m c main_v3 = (broadcastInDim S2x1x1024 ![0, 2] bcast_S2x1024_S2x1x1024_0_2 (argN m c) : FVec Ideal S2x1x1024 .f32) := by
  simp only [V, hostOps0, TRef.unary, TRef.toBuf, TRef.ofBuf, cast_eq]
  after_results_simp
  rfl

theorem entry_w : V m c main_v0 = (truncf .bf16 (argW m c) bitsLt_bf16_f32 : FVec Ideal S2x1024x4096 .bf16) := by
  simp only [V, hostOps0, TRef.unary, TRef.toBuf, TRef.ofBuf, cast_eq]
  after_results_simp
  rfl

theorem entry_c : V m c main_v4 = (broadcastInDim S2x1x2048 ![0, 2] bcast_S2x2048_S2x1x2048_0_2 (argC m c) : FVec Ideal S2x1x2048 .f32) := by
  simp only [V, hostOps0, TRef.unary, TRef.toBuf, TRef.ofBuf, cast_eq]
  after_results_simp
  rfl

theorem entry_m : V m c main_v1 = (truncf .bf16 (argM m c) bitsLt_bf16_f32 : FVec Ideal S2x4x128x128 .bf16) := by
  simp only [V, hostOps0, TRef.unary, TRef.toBuf, TRef.ofBuf, cast_eq]
  after_results_simp
  rfl

theorem entry_s : V m c main_v5 = (broadcastInDim S2x1x512 ![0, 2] bcast_S2x512_S2x1x512_0_2 (argS m c) : FVec Ideal S2x1x512 .f32) := by
  simp only [V, hostOps0, TRef.unary, TRef.toBuf, TRef.ofBuf, cast_eq]
  after_results_simp
  rfl

theorem entry_b : V m c main_v2 = (truncf .bf16 (argB m c) bitsLt_bf16_f32 : FVec Ideal S2x512x1024 .bf16) := by
  simp only [V, hostOps0, TRef.unary, TRef.toBuf, TRef.ofBuf, cast_eq]
  after_results_simp
  rfl

/-- The windows that follow the rows, at every point. -/
theorem idx_rows : ∀ t : Fin cfg0.N,
    win0_0.index t = ![t.val, 0] ∧ win0_8.index t = ![t.val, 0] ∧ win0_9.index t = ![t.val, 0] ∧ win0_10.index t = ![t.val, 0]
    ∧ win0_11.index t = ![t.val, 0] ∧ win0_12.index t = ![t.val, 0] := (by decide +kernel : ∀ t : Fin grid0.N, _)

/-- The windows of the weights, at every point. -/
theorem idx_weights : ∀ t : Fin cfg0.N,
    win0_2.index t = ![1, 0, 0] ∧ win0_3.index t = ![1, 0, 0] ∧ win0_4.index t = ![1, 0, 0] ∧ win0_5.index t = ![1, 0, 0, 0]
    ∧ win0_6.index t = ![1, 0, 0] ∧ win0_7.index t = ![1, 0, 0] := (by decide +kernel : ∀ t : Fin grid0.N, _)

/-- The word that counts the tiles of a sequence. -/
theorem tile_word : ∀ t : Fin cfg0.N, kernelRun0_A.sl.v9 (grid0.coords t) = BitVec.ofNat 32 (t.val % 3)
    ∧ kernelRun0_B.sl.v9 (grid0.coords t) = BitVec.ofNat 32 (t.val % 3) := (by decide +kernel : ∀ t : Fin grid0.N, _)

theorem pts (t : Fin cfg0.N) : t.val < 24 := lt_of_lt_of_eq t.isLt N_0

/-- The sequence of a grid point. -/
def seqOf (t : Fin cfg0.N) : Fin 8 := ⟨t.val / 3, by have := pts t; omega⟩
/-- The position of a row of a grid point's tile. -/
def rowOf (t : Fin cfg0.N) (r : Fin 688) : Fin 2064 := ⟨688 * (t.val % 3) + r.val, by omega⟩
/-- The row of the flattened arrays. -/
def flat (t : Fin cfg0.N) (r : Fin 688) : Fin 16512 := ⟨688 * t.val + r.val, by have := pts t; omega⟩

theorem seq_flat (t : Fin cfg0.N) (r : Fin 688) : seqAt (flat t r) = seqOf t :=
  Fin.ext (by show (688 * t.val + r.val) / 2064 = t.val / 3; omega)
theorem row_flat (t : Fin cfg0.N) (r : Fin 688) : rowAt (flat t r) = rowOf t r :=
  Fin.ext (by show (688 * t.val + r.val) % 2064 = 688 * (t.val % 3) + r.val; omega)

theorem flat_x (x : FVec Ideal S8x2064x1024 .f32) (R : Fin 16512) (k : Fin 1024) :
    (shapeCast S16512x1024 x shapeCasts_S8x2064x1024_S16512x1024 : FVec Ideal S16512x1024 .f32) (ix2 R k) = x (ix3 (seqAt R) (rowAt R) k) := by
  unfold seqAt rowAt
  pointwise

theorem read_x (t : Fin cfg0.N) (r : Fin 688) (k : Fin 1024) :
    iblk m c 0 t (ix2 r k) = argX m c (ix3 (seqOf t) (rowOf t r) k) := by
  have e : (V m c main_v6 : FVec Ideal S16512x1024 .f32) (ix2 (flat t r) k) = argX m c (ix3 (seqOf t) (rowOf t r) k) := by
    rw [entry_x, flat_x, seq_flat, row_flat]
  rw [← e]
  unfold flat
  blk_ext [iblk, idx_rows t]

theorem read_n (t : Fin cfg0.N) (k : Fin 1024) : iblk m c 2 t (ix3 (0 : Fin 1) (0 : Fin 1) k) = argN m c (ix2 (1 : Fin 2) k) := by
  have e : (V m c main_v3 : FVec Ideal S2x1x1024 .f32) (ix3 (1 : Fin 2) (0 : Fin 1) k) = argN m c (ix2 (1 : Fin 2) k) := by
    rw [entry_n]; pointwise
  rw [← e]
  blk_ext [iblk, idx_weights t]

theorem read_w (t : Fin cfg0.N) (k : Fin 1024) (i : Fin 4096) : iblk m c 3 t (ix3 (0 : Fin 1) k i) = argW m c (ix3 (1 : Fin 2) k i) := by
  have e : ∀ i, (V m c main_v0 : FVec Ideal S2x1024x4096 .bf16) i = argW m c i := fun i => by rw [entry_w]; rfl
  rw [← e]
  blk_ext [iblk, idx_weights t]

theorem read_c (t : Fin cfg0.N) (k : Fin 2048) : iblk m c 4 t (ix3 (0 : Fin 1) (0 : Fin 1) k) = argC m c (ix2 (1 : Fin 2) k) := by
  have e : (V m c main_v4 : FVec Ideal S2x1x2048 .f32) (ix3 (1 : Fin 2) (0 : Fin 1) k) = argC m c (ix2 (1 : Fin 2) k) := by
    rw [entry_c]; pointwise
  rw [← e]
  blk_ext [iblk, idx_weights t]

theorem read_m (t : Fin cfg0.N) (a : Fin 4) (k i : Fin 128) : iblk m c 5 t (ix4 (0 : Fin 1) a k i) = argM m c (ix4 (1 : Fin 2) a k i) := by
  have e : ∀ i, (V m c main_v1 : FVec Ideal S2x4x128x128 .bf16) i = argM m c i := fun i => by rw [entry_m]; rfl
  rw [← e]
  blk_ext [iblk, idx_weights t]

theorem read_s (t : Fin cfg0.N) (k : Fin 512) : iblk m c 6 t (ix3 (0 : Fin 1) (0 : Fin 1) k) = argS m c (ix2 (1 : Fin 2) k) := by
  have e : (V m c main_v5 : FVec Ideal S2x1x512 .f32) (ix3 (1 : Fin 2) (0 : Fin 1) k) = argS m c (ix2 (1 : Fin 2) k) := by
    rw [entry_s]; pointwise
  rw [← e]
  blk_ext [iblk, idx_weights t]

theorem read_b (t : Fin cfg0.N) (k : Fin 512) (i : Fin 1024) : iblk m c 7 t (ix3 (0 : Fin 1) k i) = argB m c (ix3 (1 : Fin 2) k i) := by
  have e : ∀ i, (V m c main_v2 : FVec Ideal S2x512x1024 .bf16) i = argB m c i := fun i => by rw [entry_b]; rfl
  rw [← e]
  blk_ext [iblk, idx_weights t]

/-- The arguments by their coordinates. -/
abbrev fX : Fin 8 → Fin 2064 → Fin 1024 → EReal := fun b l k => argX m c (ix3 b l k)
abbrev fN : Fin 1024 → EReal := fun k => argN m c (ix2 (1 : Fin 2) k)
abbrev fW : Fin 1024 → Fin 4096 → EReal := fun k i => argW m c (ix3 (1 : Fin 2) k i)
abbrev fC : Fin 2048 → EReal := fun k => argC m c (ix2 (1 : Fin 2) k)
abbrev fM : Fin 4 → Fin 128 → Fin 128 → EReal := fun a k j => argM m c (ix4 (1 : Fin 2) a k j)
abbrev fS : Fin 512 → EReal := fun k => argS m c (ix2 (1 : Fin 2) k)
abbrev fB : Fin 512 → Fin 1024 → EReal := fun k i => argB m c (ix3 (1 : Fin 2) k i)

/-- A tile's projection is the sequence's. -/
theorem prj_eq (t : Fin cfg0.N) (r : Fin 688) (n : Fin 4096) :
    prj (iblk m c 0 t) (iblk m c 2 t) (iblk m c 3 t) r n = proj (fX m c) (fN m c) (fW m c) (seqOf t) (rowOf t r) n := by
  have e1 : (fun k => iblk m c 0 t (ix2 r k)) = fX m c (seqOf t) (rowOf t r) := funext fun k => read_x m c t r k
  have e2 : row3 (iblk m c 2 t) 0 = fN m c := funext fun k => read_n m c t k
  have e3 : row3 (iblk m c 3 t) = fW m c := funext fun k => funext fun i => read_w m c t k i
  show times (rms (fun k => iblk m c 0 t (ix2 r k)) (row3 (iblk m c 2 t) 0)) (row3 (iblk m c 3 t)) n = _
  rw [e1, e2, e3]
  rfl

/-- So are its pooled columns before pooling. -/
theorem ucols_eq (t : Fin cfg0.N) (r : Fin 688) (q : Fin 512) :
    ucols (iblk m c 0 t) (iblk m c 2 t) (iblk m c 3 t) r q = Cert.InStage.ucol (fX m c) (fN m c) (fW m c) (seqOf t) q (688 * (t.val % 3) + r.val) := by
  refine (prj_eq m c t r _).trans ?_
  unfold Cert.InStage.ucol
  rw [dif_pos (show 688 * (t.val % 3) + r.val < 2064 by omega)]
  rfl

/-- Its gates. -/
theorem gt_eq (t : Fin cfg0.N) (r : Fin 688) (n : Fin 2048) :
    gt (iblk m c 0 t) (iblk m c 2 t) (iblk m c 3 t) (iblk m c 4 t) r n = gateOf (fX m c) (fN m c) (fW m c) (fC m c) (seqOf t) (rowOf t r) n :=
  congrArg sigm (congrArg₂ (· + ·) (prj_eq m c t r _) (read_c m c t n))

/-- Its pooled columns, the rows before it being those of its sequence. -/
theorem pool_eq (t : Fin cfg0.N) (halo : Fin 16 → Fin 512 → EReal)
    (hh : ∀ (a : Fin 16) q, halo a q = if 688 * (t.val % 3) + a.val < 16 then 0
      else Cert.InStage.ucol (fX m c) (fN m c) (fW m c) (seqOf t) q (688 * (t.val % 3) + a.val - 16)) (r : Fin 688) (q : Fin 512) :
    pool (iblk m c 5 t) (iblk m c 6 t) (BitVec.ofNat 32 (t.val % 3)) halo (ucols (iblk m c 0 t) (iblk m c 2 t) (iblk m c 3 t)) r q
      = pooled (fX m c) (fN m c) (fW m c) (fM m c) (fS m c) (seqOf t) (rowOf t r) q := by
  unfold pool pooled group pooledIn
  generalize (⟨q.val / 128, by omega⟩ : Fin 4) = a
  generalize (⟨q.val % 128, by omega⟩ : Fin 128) = j
  have ha := win_le a
  unfold mixed
  refine congrArg₂ (· * ·) (Finset.sum_congr rfl fun k _ => congrArg₂ (· * ·) ?_ (read_m m c t a k j)) (read_s m c t (Cert.InStage.col a j))
  dsimp only
  unfold less
  rw [posw_eq]
  refine congrArg₂ (· - ·) (congrArg₂ Ideal.div (bsum_eq halo _ _ _ _ (fun r => ucols_eq m c t r (Cert.InStage.col a k)) (fun b => hh b _) r _ ha) rfl) ?_
  refine (buf_eq halo _ _ _ _ (fun r => ucols_eq m c t r (Cert.InStage.col a k)) (fun b => hh b _) r 0 (by omega)).trans ?_
  rw [if_pos (Nat.zero_le _)]
  rfl

theorem prow_eq (t : Fin cfg0.N) (halo : Fin 16 → Fin 512 → EReal)
    (hh : ∀ (a : Fin 16) q, halo a q = if 688 * (t.val % 3) + a.val < 16 then 0
      else Cert.InStage.ucol (fX m c) (fN m c) (fW m c) (seqOf t) q (688 * (t.val % 3) + a.val - 16)) (r : Fin 688) (n : Fin 1024) :
    gt (iblk m c 0 t) (iblk m c 2 t) (iblk m c 3 t) (iblk m c 4 t) r ⟨n.val, by omega⟩
      * times (pool (iblk m c 5 t) (iblk m c 6 t) (BitVec.ofNat 32 (t.val % 3)) halo (ucols (iblk m c 0 t) (iblk m c 2 t) (iblk m c 3 t)) r) (row3 (iblk m c 7 t)) n
      = outP (fX m c) (fN m c) (fW m c) (fC m c) (fM m c) (fS m c) (fB m c) (seqOf t) (rowOf t r) n := by
  unfold outP
  refine congrArg₂ (· * ·) (gt_eq m c t r _) ?_
  exact Finset.sum_congr rfl fun k _ => congrArg₂ (· * ·) (pool_eq m c t halo hh r k) (read_b m c t k n)

/-- The buffer after a point holds its tile's rows. -/
theorem kept (t : Fin cfg0.N) (R : Fin 704) (hR : 16 ≤ R.val) (q : Fin 512) :
    (outsAt0 m c t.val t.isLt).2.2.2.2.2 (ix2 R q) = Cert.InStage.ucol (fX m c) (fN m c) (fW m c) (seqOf t) q (688 * (t.val % 3) + (R.val - 16)) := by
  have h' : R.val - 16 < 688 := by omega
  by_cases h0 : t.val % 3 = 0
  · rw [outsAt0_A m c t h0 (fun h => h h0)]
    dsimp only
    refine (A.kept_at _ _ _ _ _ _ _ _ _ _ _ _ _ _ _ _ _ _ _ _ _ _ _ _ _ _ _ _ _ _ _ _ _ _ _ _ _ _ _ _ _ _ _ _ R q).trans ?_
    unfold buf
    rw [dif_neg (by omega), dif_pos h']
    exact ucols_eq m c t ⟨R.val - 16, h'⟩ q
  · rw [outsAt0_B m c t h0 h0]
    dsimp only
    refine (B.kept_at _ _ _ _ _ _ _ _ _ _ _ _ _ _ _ _ _ _ _ _ _ _ _ _ _ _ _ _ _ _ _ _ _ _ _ _ _ _ _ _ _ _ _ _ _ R q).trans ?_
    unfold buf
    rw [dif_neg (by omega), dif_pos h']
    exact ucols_eq m c t ⟨R.val - 16, h'⟩ q

/-- The rows before the first tile of a sequence. -/
theorem halo_A (t : Fin cfg0.N) (h0 : t.val % 3 = 0) (a : Fin 16) (q : Fin 512) : A.halo a q = if 688 * (t.val % 3) + a.val < 16 then 0
      else Cert.InStage.ucol (fX m c) (fN m c) (fW m c) (seqOf t) q (688 * (t.val % 3) + a.val - 16) := by
  rw [if_pos (by omega)]

/-- The rows before a later tile. -/
theorem halo_B (t : Fin cfg0.N) (h0 : ¬ t.val % 3 = 0) (a : Fin 16) (q : Fin 512) :
    B.halo (outsAt0 m c (t.val - 1) (Nat.lt_of_le_of_lt (Nat.sub_le _ _) t.isLt)).2.2.2.2.2 a q = if 688 * (t.val % 3) + a.val < 16 then 0
      else Cert.InStage.ucol (fX m c) (fN m c) (fW m c) (seqOf t) q (688 * (t.val % 3) + a.val - 16) := by
  rw [if_neg (by omega)]
  refine (kept m c ⟨t.val - 1, Nat.lt_of_le_of_lt (Nat.sub_le _ _) t.isLt⟩ _ (by show 16 ≤ 688 + a.val; omega) q).trans ?_
  have e : seqOf ⟨t.val - 1, Nat.lt_of_le_of_lt (Nat.sub_le _ _) t.isLt⟩ = seqOf t := Fin.ext (by show (t.val - 1) / 3 = t.val / 3; omega)
  rw [e]
  exact congrArg _ (by show 688 * ((t.val - 1) % 3) + (688 + a.val - 16) = 688 * (t.val % 3) + a.val - 16; omega)

theorem pointQ (t : Fin cfg0.N) (r : Fin 688) (j : Fin 512) :
    (outsAt0 m c t.val t.isLt).1 (ix2 r j) = outQ (fX m c) (fN m c) (fW m c) (seqOf t) (rowOf t r) j := by
  by_cases h0 : t.val % 3 = 0
  · rw [outsAt0_A m c t h0 (fun h => h h0)]
    dsimp only
    refine (A.block8_at _ _ _ _ _ _ _ _ _ _ _ _ _ _ _ _ _ _ _ _ _ _ _ _ _ _ _ _ _ _ _ _ _ _ _ _ _ _ _ _ _ _ _ _ r j).trans ?_
    exact congrArg (· * eighth) (prj_eq m c t r _)
  · rw [outsAt0_B m c t h0 h0]
    dsimp only
    refine (B.block8_at _ _ _ _ _ _ _ _ _ _ _ _ _ _ _ _ _ _ _ _ _ _ _ _ _ _ _ _ _ _ _ _ _ _ _ _ _ _ _ _ _ _ _ _ _ r j).trans ?_
    exact congrArg (· * eighth) (prj_eq m c t r _)

/-- Result 0 as an array. -/
def wholeQ : FVec Ideal S16512x512 .bf16 := fun y => outQ (fX m c) (fN m c) (fW m c) (seqAt (y 0)) (rowAt (y 0)) (y 1)

theorem finalQ : (dats m 0 c).arrAt 8 cfg0.N = wholeQ m c := by
  refine (dats m 0 c).arrAt_eq_of_covers 8 _ (by decide +kernel) fun t hf y => ?_
  blk_simp
  rw [after0_8]
  idx_vars y
  refine (pointQ m c t y0 y1).trans ?_
  rw [← seq_flat t y0, ← row_flat t y0]
  show wholeQ m c (ix2 (flat t y0) y1) = _
  refine congrArg (wholeQ m c) ?_
  unfold flat
  blk_ext [iblk, idx_rows t]

theorem pointK (t : Fin cfg0.N) (r : Fin 688) (j : Fin 512) :
    (outsAt0 m c t.val t.isLt).2.1 (ix2 r j) = outK (fX m c) (fN m c) (fW m c) (seqOf t) (rowOf t r) j := by
  by_cases h0 : t.val % 3 = 0
  · rw [outsAt0_A m c t h0 (fun h => h h0)]
    dsimp only
    refine (A.block9_at _ _ _ _ _ _ _ _ _ _ _ _ _ _ _ _ _ _ _ _ _ _ _ _ _ _ _ _ _ _ _ _ _ _ _ _ _ _ _ _ _ _ _ _ r j).trans ?_
    exact prj_eq m c t r _
  · rw [outsAt0_B m c t h0 h0]
    dsimp only
    refine (B.block9_at _ _ _ _ _ _ _ _ _ _ _ _ _ _ _ _ _ _ _ _ _ _ _ _ _ _ _ _ _ _ _ _ _ _ _ _ _ _ _ _ _ _ _ _ _ r j).trans ?_
    exact prj_eq m c t r _

/-- Result 1 as an array. -/
def wholeK : FVec Ideal S16512x512 .bf16 := fun y => outK (fX m c) (fN m c) (fW m c) (seqAt (y 0)) (rowAt (y 0)) (y 1)

theorem finalK : (dats m 0 c).arrAt 9 cfg0.N = wholeK m c := by
  refine (dats m 0 c).arrAt_eq_of_covers 9 _ (by decide +kernel) fun t hf y => ?_
  blk_simp
  rw [after0_9]
  idx_vars y
  refine (pointK m c t y0 y1).trans ?_
  rw [← seq_flat t y0, ← row_flat t y0]
  show wholeK m c (ix2 (flat t y0) y1) = _
  refine congrArg (wholeK m c) ?_
  unfold flat
  blk_ext [iblk, idx_rows t]

theorem pointV (t : Fin cfg0.N) (r : Fin 688) (j : Fin 512) :
    (outsAt0 m c t.val t.isLt).2.2.1 (ix2 r j) = outV (fX m c) (fN m c) (fW m c) (seqOf t) (rowOf t r) j := by
  by_cases h0 : t.val % 3 = 0
  · rw [outsAt0_A m c t h0 (fun h => h h0)]
    dsimp only
    refine (A.block10_at _ _ _ _ _ _ _ _ _ _ _ _ _ _ _ _ _ _ _ _ _ _ _ _ _ _ _ _ _ _ _ _ _ _ _ _ _ _ _ _ _ _ _ _ r j).trans ?_
    exact prj_eq m c t r _
  · rw [outsAt0_B m c t h0 h0]
    dsimp only
    refine (B.block10_at _ _ _ _ _ _ _ _ _ _ _ _ _ _ _ _ _ _ _ _ _ _ _ _ _ _ _ _ _ _ _ _ _ _ _ _ _ _ _ _ _ _ _ _ _ r j).trans ?_
    exact prj_eq m c t r _

/-- Result 2 as an array. -/
def wholeV : FVec Ideal S16512x512 .bf16 := fun y => outV (fX m c) (fN m c) (fW m c) (seqAt (y 0)) (rowAt (y 0)) (y 1)

theorem finalV : (dats m 0 c).arrAt 10 cfg0.N = wholeV m c := by
  refine (dats m 0 c).arrAt_eq_of_covers 10 _ (by decide +kernel) fun t hf y => ?_
  blk_simp
  rw [after0_10]
  idx_vars y
  refine (pointV m c t y0 y1).trans ?_
  rw [← seq_flat t y0, ← row_flat t y0]
  show wholeV m c (ix2 (flat t y0) y1) = _
  refine congrArg (wholeV m c) ?_
  unfold flat
  blk_ext [iblk, idx_rows t]

theorem pointP (t : Fin cfg0.N) (r : Fin 688) (n : Fin 1024) :
    (outsAt0 m c t.val t.isLt).2.2.2.1 (ix2 r n) = outP (fX m c) (fN m c) (fW m c) (fC m c) (fM m c) (fS m c) (fB m c) (seqOf t) (rowOf t r) n := by
  by_cases h0 : t.val % 3 = 0
  · rw [outsAt0_A m c t h0 (fun h => h h0)]
    dsimp only
    refine (A.block11_at _ _ _ _ _ _ _ _ _ _ _ _ _ _ _ _ _ _ _ _ _ _ _ _ _ _ _ _ _ _ _ _ _ _ _ _ _ _ _ _ _ _ _ _ r n).trans ?_
    unfold A.prow
    rw [(tile_word t).1]
    exact prow_eq m c t _ (halo_A m c t h0) r n
  · rw [outsAt0_B m c t h0 h0]
    dsimp only
    refine (B.block11_at _ _ _ _ _ _ _ _ _ _ _ _ _ _ _ _ _ _ _ _ _ _ _ _ _ _ _ _ _ _ _ _ _ _ _ _ _ _ _ _ _ _ _ _ _ r n).trans ?_
    unfold B.prow
    rw [(tile_word t).2]
    exact prow_eq m c t _ (halo_B m c t h0) r n

/-- Result 3 as an array. -/
def wholeP : FVec Ideal S16512x1024 .f32 := fun y => outP (fX m c) (fN m c) (fW m c) (fC m c) (fM m c) (fS m c) (fB m c) (seqAt (y 0)) (rowAt (y 0)) (y 1)

theorem finalP : (dats m 0 c).arrAt 11 cfg0.N = wholeP m c := by
  refine (dats m 0 c).arrAt_eq_of_covers 11 _ (by decide +kernel) fun t hf y => ?_
  blk_simp
  rw [after0_11]
  idx_vars y
  refine (pointP m c t y0 y1).trans ?_
  rw [← seq_flat t y0, ← row_flat t y0]
  show wholeP m c (ix2 (flat t y0) y1) = _
  refine congrArg (wholeP m c) ?_
  unfold flat
  blk_ext [iblk, idx_rows t]

theorem pointG (t : Fin cfg0.N) (r : Fin 688) (n : Fin 1024) :
    (outsAt0 m c t.val t.isLt).2.2.2.2.1 (ix2 r n) = outG (fX m c) (fN m c) (fW m c) (fC m c) (seqOf t) (rowOf t r) n := by
  by_cases h0 : t.val % 3 = 0
  · rw [outsAt0_A m c t h0 (fun h => h h0)]
    dsimp only
    refine (A.block12_at _ _ _ _ _ _ _ _ _ _ _ _ _ _ _ _ _ _ _ _ _ _ _ _ _ _ _ _ _ _ _ _ _ _ _ _ _ _ _ _ _ _ _ _ r n).trans ?_
    exact gt_eq m c t r _
  · rw [outsAt0_B m c t h0 h0]
    dsimp only
    refine (B.block12_at _ _ _ _ _ _ _ _ _ _ _ _ _ _ _ _ _ _ _ _ _ _ _ _ _ _ _ _ _ _ _ _ _ _ _ _ _ _ _ _ _ _ _ _ _ r n).trans ?_
    exact gt_eq m c t r _

/-- Result 4 as an array. -/
def wholeG : FVec Ideal S16512x1024 .f32 := fun y => outG (fX m c) (fN m c) (fW m c) (fC m c) (seqAt (y 0)) (rowAt (y 0)) (y 1)

theorem finalG : (dats m 0 c).arrAt 12 cfg0.N = wholeG m c := by
  refine (dats m 0 c).arrAt_eq_of_covers 12 _ (by decide +kernel) fun t hf y => ?_
  blk_simp
  rw [after0_12]
  idx_vars y
  refine (pointG m c t y0 y1).trans ?_
  rw [← seq_flat t y0, ← row_flat t y0]
  show wholeG m c (ix2 (flat t y0) y1) = _
  refine congrArg (wholeG m c) ?_
  unfold flat
  blk_ext [iblk, idx_rows t]

end Cert.Kernel3Ideal.In
end
-- ==== Proof.InReal.lean ====
/-
  When the gain and the projection's weights are real, what is pooled is real, and a difference of two
  cumulative sums is the sum of the rows between.
-/
module

public import proofs.«01_k».proof.Proof.InSpec

@[expose] public section

noncomputable section

namespace Cert.InStage

open Idealize.ShloMosaic Cert.OutStage
open scoped BigOperators

/-- A real number. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy, EReal.coe_add]⟩

theorem isReal_of_abs {x : EReal} (h : max x (-x) < ⊤) : IsReal x := by
  induction x using EReal.rec with
  | bot => exact absurd h (by simp)
  | coe r => exact ⟨r, rfl⟩
  | top => exact absurd h (by simp)

theorem sumSq_real {ι : Type} (s : Finset ι) {f : ι → EReal} (h : ∀ i, IsReal (f i)) : ∃ r : ℝ, 0 ≤ r ∧ (∑ i ∈ s, f i * f i) = (r : EReal) := by
  classical
  induction s using Finset.induction_on with
  | empty => exact ⟨0, le_refl _, by simp⟩
  | insert a s ha ih =>
    rw [Finset.sum_insert ha]
    obtain ⟨x, hx⟩ := h a
    obtain ⟨y, hy, e⟩ := ih
    exact ⟨x * x + y, add_nonneg (mul_self_nonneg x) hy, by rw [e, hx, EReal.coe_add, EReal.coe_mul]⟩

theorem width_eq : width = ((1024 : ℝ) : EReal) := by
  unfold width
  simp [Ideal.ofBits, Ideal.ieee, -EReal.coe_mul]; norm_num

theorem eps_pos : ∃ e : ℝ, 0 < e ∧ eps = (e : EReal) := by
  unfold eps
  simp only [Ideal.ofBits, Ideal.ieee]
  simp [-EReal.coe_mul]

theorem mul_self_nonneg' (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

theorem mul_self_top {x : EReal} (h : ¬ IsReal x) : x * x = ⊤ := by
  induction x using EReal.rec with
  | bot => exact EReal.bot_mul_bot
  | coe r => exact absurd ⟨r, rfl⟩ h
  | top => exact EReal.top_mul_top

/-- The normed row is real whatever the row is: with an infinite entry it is zero. -/
theorem rms_real (x g : Fin 1024 → EReal) (hg : ∀ k, IsReal (g k)) (n : Fin 1024) : IsReal (rms x g n) := by
  unfold rms
  refine IsReal.mul ?_ (hg n)
  obtain ⟨d, hd, e'⟩ := eps_pos
  by_cases hx : ∀ k, IsReal (x k)
  · refine (hx n).mul ?_
    obtain ⟨r, hr, e⟩ := sumSq_real Finset.univ hx
    have hp : 0 < r * (1 / 1024) + d := by positivity
    rw [e, e', width_eq, Ideal.div_coe (by norm_num), ← EReal.coe_mul, ← EReal.coe_add, Ideal.rsqrt_coe, if_neg (not_lt.2 hp.le), if_neg hp.ne']
    exact ⟨_, rfl⟩
  · obtain ⟨k, hk⟩ := not_forall.1 hx
    have e : (∑ i, x i * x i) = ⊤ := by
      refine top_le_iff.1 ((mul_self_top hk).symm.le.trans ?_)
      exact Finset.single_le_sum (f := fun i => x i * x i) (fun i _ => mul_self_nonneg' (x i)) (Finset.mem_univ k)
    rw [e, e', width_eq, Ideal.div_coe (by norm_num), EReal.top_mul_coe_of_pos (by norm_num), EReal.top_add_coe, Ideal.rsqrt_top, mul_zero]
    exact ⟨0, rfl⟩

theorem proj_real (X : Fin 8 → Fin 2064 → Fin 1024 → EReal) (g : Fin 1024 → EReal) (W : Fin 1024 → Fin 4096 → EReal)
    (hg : ∀ k, IsReal (g k)) (hW : ∀ k n, IsReal (W k n)) (b : Fin 8) (l : Fin 2064) (n : Fin 4096) :
    IsReal (proj X g W b l n) := by
  unfold proj times
  exact IsReal.sum _ fun k _ => (rms_real _ _ hg k).mul (hW k n)

theorem ucol_real (X : Fin 8 → Fin 2064 → Fin 1024 → EReal) (g : Fin 1024 → EReal) (W : Fin 1024 → Fin 4096 → EReal)
    (hg : ∀ k, IsReal (g k)) (hW : ∀ k n, IsReal (W k n)) (b : Fin 8) (q : Fin 512) (l : ℕ) :
    IsReal (ucol X g W b q l) := by
  unfold ucol
  by_cases h : l < 2064
  · rw [dif_pos h]; exact proj_real X g W hg hW b _ _
  · rw [dif_neg h]; exact ⟨0, rfl⟩

/-- The cumulative sum before row `n`. -/
def csum (u : ℕ → EReal) (n : ℕ) : EReal := ∑ i ∈ Finset.range n, u i

theorem csum_split (u : ℕ → EReal) (w l : ℕ) : csum u (l + 1) = csum u (l + 1 - w) + wsum u w l := by
  induction w with
  | zero => simp [wsum]
  | succ w ih =>
    rw [ih]
    unfold wsum
    rw [Finset.sum_range_succ]
    by_cases h : w ≤ l
    · rw [if_pos h]
      have e : l + 1 - w = (l - w) + 1 := by omega
      have e' : l + 1 - (w + 1) = l - w := by omega
      rw [e, e']
      unfold csum
      rw [Finset.sum_range_succ]
      ac_rfl
    · rw [if_neg h, add_zero]
      have e : l + 1 - w = 0 := by omega
      have e' : l + 1 - (w + 1) = 0 := by omega
      rw [e, e']

theorem csum_sub (u : ℕ → EReal) (hu : ∀ i, IsReal (u i)) (w l : ℕ) : csum u (l + 1) - csum u (l + 1 - w) = wsum u w l := by
  obtain ⟨r, hr⟩ : IsReal (csum u (l + 1 - w)) := IsReal.sum _ fun i _ => hu i
  rw [csum_split u w l, hr, add_comm]
  exact EReal.add_sub_cancel_right

end Cert.InStage
end
-- ==== Proof.InRef.lean ====
/-
  The reference of the input stage at an index: the stage's function of its sequence. The averages are differences of
  cumulative sums, so the pooled branch needs real columns.
-/
module

public import proofs.«01_k».proof.Proof.InReal
public import proofs.«01_k».proof.Proof.RefValue
public import proofs.«01_k».proof.Proof.Gen.Reference3Ideal.Run
public import Idealize.ShloMosaic.Lib.Pointwise

@[expose] public section

set_option maxRecDepth 16384

noncomputable section

namespace Cert.Reference3Ideal.In

open Cert.Reference3Ideal Cert.Reference3Ideal.Gen Cert.Reference3Ideal.Value Idealize.ShloMosaic Idealize.ShloMosaic.TcCoe Idealize.SL.Sem
open Cert.OutStage Cert.InStage
open Cert.ReferenceIdeal.Attn (reduceWindow_sum)
open scoped BigOperators

abbrev Rows : Type := FVec Ideal S8x2064x1024 .f32
abbrev Cols : Type := FVec Ideal S8x2064x512 .f32
abbrev Proj : Type := FVec Ideal S8x2064x4096 .f32

/-- The norm as it is written. -/
def normed (x : Rows) (g : FVec Ideal S1024 .f32) : Rows :=
  mulf (mulf x (broadcastInDim S8x2064x1024 ![0, 1, 2] bcast_S8x2064x1_S8x2064x1024_0_1_2
      (Host.rsqrt (addf (Host.divf (broadcastInDim S8x2064x1 ![0, 1] bcast_S8x2064_S8x2064x1_0_1
          (Host.reduceAdd (mulf x x) (constant S_ .f32 0x00000000#32) reducesTo_S8x2064x1024_S8x2064_d2 h_S_))
        (broadcastInDim S8x2064x1 ![] bcast_S_S8x2064x1 (constant S_ .f32 0x44800000#32)))
        (broadcastInDim S8x2064x1 ![] bcast_S_S8x2064x1 (constant S_ .f32 0x358637BD#32))))))
    (broadcastInDim S8x2064x1024 ![0, 1, 2] bcast_S1x1x1024_S8x2064x1024_0_1_2 (broadcastInDim S1x1x1024 ![2] bcast_S1024_S1x1x1024_2 g))

/-- The projection as it is written. -/
def project (x : Rows) (g : FVec Ideal S2x1024 .f32) (w : FVec Ideal S2x1024x4096 .f32) : Proj :=
  Host.dotGeneral dot_S8x2064x1024_S1024x4096_S8x2064x4096_2_0_01_1_n_n none
    (normed x (shapeCast _ (extractStridedSlice S1x1024 ![1, 0] g slices_S2x1024_S1x1024_1_0) shapeCasts_S1x1024_S1024))
    (shapeCast _ (extractStridedSlice S1x1024x4096 ![1, 0, 0] w slices_S2x1024x4096_S1x1024x4096_1_0_0) shapeCasts_S1x1024x4096_S1024x4096)

/-- The gates as they are written. -/
def gates (p : Proj) (bg : FVec Ideal S2x2048 .f32) : FVec Ideal S8x2064x2048 .f32 :=
  Host.divf (broadcastInDim S8x2064x2048 ![] bcast_S_S8x2064x2048 (constant S_ .f32 0x3F800000#32))
    (addf (broadcastInDim S8x2064x2048 ![] bcast_S_S8x2064x2048 (constant S_ .f32 0x3F800000#32))
      (Host.exp (Host.negf (addf (extractStridedSlice S8x2064x2048 ![0, 0, 2048] p slices_S8x2064x4096_S8x2064x2048_0_0_2048)
        (broadcastInDim S8x2064x2048 ![0, 1, 2] bcast_S1x1x2048_S8x2064x2048_0_1_2 (broadcastInDim S1x1x2048 ![2] bcast_S2048_S1x1x2048_2
          (shapeCast _ (extractStridedSlice S1x2048 ![1, 0] bg slices_S2x2048_S1x2048_1_0) shapeCasts_S1x2048_S2048)))))))

/-- What is pooled. -/
def cols (p : Proj) : Cols := extractStridedSlice S8x2064x512 ![0, 0, 1536] p slices_S8x2064x4096_S8x2064x512_0_0_1536

/-- Its cumulative sums. -/
def sums (u : Cols) : Cols := Host.reduceWindowAdd ![1, 2064, 1] ![1, 1, 1] ![0, 2063, 0] ![0, 0, 0] u
  (broadcastInDim S_ ![] bcast_S_S_ (constant S_ .f32 0x00000000#32) : FVec Ideal S_ .f32)
  reduceWindows_S8x2064x512_S8x2064x512_w1s1p0_0_w2064s1p2063_0_w1s1p0_0 h_S_

/-- The zero the sums are padded with. -/
def nought : FVec Ideal S_ .f32 := sitofp .f32 (constantI S_ 32 0#32)

/-- The sums with a row of zeros before. -/
def before (s : Cols) : FVec Ideal S8x2065x512 .f32 := pad S8x2065x512 ![0, 1, 0] ![0, 0, 0] ![0, 0, 0] s nought pads_S8x2064x512_S8x2065x512_000_100_000 h_S_

/-- The columns of group 0, 1 rows further back. -/
def back0 (s : FVec Ideal S8x2065x512 .f32) : FVec Ideal S8x2066x128 .f32 := pad S8x2066x128 ![0, 1, 0] ![0, 0, 0] ![0, 0, 0]
  (extractStridedSlice S8x2065x128 ![0, 0, 0] s slices_S8x2065x512_S8x2065x128_0_0_0) nought pads_S8x2065x128_S8x2066x128_000_100_000 h_S_

/-- The averages of group 0. -/
def avg0 (s : FVec Ideal S8x2065x512 .f32) : FVec Ideal S8x2064x128 .f32 :=
  Host.divf (subf (extractStridedSlice S8x2064x128 ![0, 1, 0] (extractStridedSlice S8x2065x128 ![0, 0, 0] s slices_S8x2065x512_S8x2065x128_0_0_0) slices_S8x2065x128_S8x2064x128_0_1_0)
      (extractStridedSlice S8x2064x128 ![0, 0, 0] (back0 s) slices_S8x2066x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 2#32))))))

/-- The columns of group 1, 3 rows further back. -/
def back1 (s : FVec Ideal S8x2065x512 .f32) : FVec Ideal S8x2068x128 .f32 := pad S8x2068x128 ![0, 3, 0] ![0, 0, 0] ![0, 0, 0]
  (extractStridedSlice S8x2065x128 ![0, 0, 128] s slices_S8x2065x512_S8x2065x128_0_0_128) nought pads_S8x2065x128_S8x2068x128_000_300_000 h_S_

/-- The averages of group 1. -/
def avg1 (s : FVec Ideal S8x2065x512 .f32) : FVec Ideal S8x2064x128 .f32 :=
  Host.divf (subf (extractStridedSlice S8x2064x128 ![0, 1, 0] (extractStridedSlice S8x2065x128 ![0, 0, 128] s slices_S8x2065x512_S8x2065x128_0_0_128) slices_S8x2065x128_S8x2064x128_0_1_0)
      (extractStridedSlice S8x2064x128 ![0, 0, 0] (back1 s) slices_S8x2068x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 4#32))))))

/-- The columns of group 2, 7 rows further back. -/
def back2 (s : FVec Ideal S8x2065x512 .f32) : FVec Ideal S8x2072x128 .f32 := pad S8x2072x128 ![0, 7, 0] ![0, 0, 0] ![0, 0, 0]
  (extractStridedSlice S8x2065x128 ![0, 0, 256] s slices_S8x2065x512_S8x2065x128_0_0_256) nought pads_S8x2065x128_S8x2072x128_000_700_000 h_S_

/-- The averages of group 2. -/
def avg2 (s : FVec Ideal S8x2065x512 .f32) : FVec Ideal S8x2064x128 .f32 :=
  Host.divf (subf (extractStridedSlice S8x2064x128 ![0, 1, 0] (extractStridedSlice S8x2065x128 ![0, 0, 256] s slices_S8x2065x512_S8x2065x128_0_0_256) slices_S8x2065x128_S8x2064x128_0_1_0)
      (extractStridedSlice S8x2064x128 ![0, 0, 0] (back2 s) slices_S8x2072x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 8#32))))))

/-- The columns of group 3, 15 rows further back. -/
def back3 (s : FVec Ideal S8x2065x512 .f32) : FVec Ideal S8x2080x128 .f32 := pad S8x2080x128 ![0, 15, 0] ![0, 0, 0] ![0, 0, 0]
  (extractStridedSlice S8x2065x128 ![0, 0, 384] s slices_S8x2065x512_S8x2065x128_0_0_384) nought pads_S8x2065x128_S8x2080x128_000_1500_000 h_S_

/-- The averages of group 3. -/
def avg3 (s : FVec Ideal S8x2065x512 .f32) : FVec Ideal S8x2064x128 .f32 :=
  Host.divf (subf (extractStridedSlice S8x2064x128 ![0, 1, 0] (extractStridedSlice S8x2065x128 ![0, 0, 384] s slices_S8x2065x512_S8x2065x128_0_0_384) slices_S8x2065x128_S8x2064x128_0_1_0)
      (extractStridedSlice S8x2064x128 ![0, 0, 0] (back3 s) slices_S8x2080x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 16#32))))))

/-- The averages of all groups. -/
def avgs (s : FVec Ideal S8x2065x512 .f32) : FVec Ideal S8x2064x4x128 .f32 :=
  concatenate S8x2064x4x128 2 [
    ⟨S8x2064x1x128, ((broadcastInDim S8x2064x1x128 ![0, 1, 3] bcast_S8x2064x128_S8x2064x1x128_0_1_3 (avg0 s)) : (⟨S8x2064x1x128, .f32⟩ : BufTy).Contents (Elt Ideal))⟩,
    ⟨S8x2064x1x128, ((broadcastInDim S8x2064x1x128 ![0, 1, 3] bcast_S8x2064x128_S8x2064x1x128_0_1_3 (avg1 s)) : (⟨S8x2064x1x128, .f32⟩ : BufTy).Contents (Elt Ideal))⟩,
    ⟨S8x2064x1x128, ((broadcastInDim S8x2064x1x128 ![0, 1, 3] bcast_S8x2064x128_S8x2064x1x128_0_1_3 (avg2 s)) : (⟨S8x2064x1x128, .f32⟩ : BufTy).Contents (Elt Ideal))⟩,
    ⟨S8x2064x1x128, ((broadcastInDim S8x2064x1x128 ![0, 1, 3] bcast_S8x2064x128_S8x2064x1x128_0_1_3 (avg3 s)) : (⟨S8x2064x1x128, .f32⟩ : BufTy).Contents (Elt Ideal))⟩]
    concatenates_S8x2064x1x128_S8x2064x1x128_S8x2064x1x128_S8x2064x1x128_S8x2064x4x128_d2

/-- The averages less the rows, mixed. -/
def mixes (a u : FVec Ideal S8x2064x4x128 .f32) (mix : FVec Ideal S2x4x128x128 .f32) : FVec Ideal S8x2064x4x128 .f32 :=
  transpose S8x2064x4x128 [2, 3, 0, 1] (Host.dotGeneral dot_S4x128x128_S8x2064x4x128_S4x128x8x2064_1_3_2_01_0_2 none
    (shapeCast _ (extractStridedSlice S1x4x128x128 ![1, 0, 0, 0] mix slices_S2x4x128x128_S1x4x128x128_1_0_0_0) shapeCasts_S1x4x128x128_S4x128x128 : FVec Ideal S4x128x128 .f32)
    (subf a u) : FVec Ideal S4x128x8x2064 .f32) transposes_S4x128x8x2064_S8x2064x4x128_2_3_0_1

/-- The mixed columns scaled. -/
def scaled (a : FVec Ideal S8x2064x4x128 .f32) (sc : FVec Ideal S2x512 .f32) : Cols :=
  mulf (shapeCast _ a shapeCasts_S8x2064x4x128_S8x2064x512) (broadcastInDim S8x2064x512 ![0, 1, 2] bcast_S1x1x512_S8x2064x512_0_1_2
    (broadcastInDim S1x1x512 ![2] bcast_S512_S1x1x512_2 (shapeCast _ (extractStridedSlice S1x512 ![1, 0] sc slices_S2x512_S1x512_1_0) shapeCasts_S1x512_S512)))

/-- The pooled columns. -/
def pool (u : Cols) (mix : FVec Ideal S2x4x128x128 .f32) (sc : FVec Ideal S2x512 .f32) : Cols :=
  scaled (mixes (avgs (before (sums u))) (shapeCast _ u shapeCasts_S8x2064x512_S8x2064x4x128) mix) sc

/-- The pooled branch, gated. -/
def branch (g : FVec Ideal S8x2064x2048 .f32) (y : Cols) (wb : FVec Ideal S2x512x1024 .f32) : FVec Ideal S16512x1024 .f32 :=
  shapeCast _ (mulf (extractStridedSlice S8x2064x1024 ![0, 0, 0] g slices_S8x2064x2048_S8x2064x1024_0_0_0)
    (Host.dotGeneral dot_S8x2064x512_S512x1024_S8x2064x1024_2_0_01_1_n_n none y
      (shapeCast _ (extractStridedSlice S1x512x1024 ![1, 0, 0] wb slices_S2x512x1024_S1x512x1024_1_0_0) shapeCasts_S1x512x1024_S512x1024))
    : FVec Ideal S8x2064x1024 .f32) shapeCasts_S8x2064x1024_S16512x1024

theorem normed_at (x : Rows) (g : FVec Ideal S1024 .f32) (b : Fin 8) (t : Fin 2064) (n : Fin 1024) :
    normed x g (ix3 b t n) = rms (fun k => x (ix3 b t k)) (fun k => g (ix1 k)) n := by
  unfold normed rms width eps
  pointwise

theorem project_at (x : Rows) (g : FVec Ideal S2x1024 .f32) (w : FVec Ideal S2x1024x4096 .f32) (b : Fin 8) (t : Fin 2064) (n : Fin 4096) :
    project x g w (ix3 b t n) = proj (fun b l k => x (ix3 b l k)) (fun k => g (ix2 1 k)) (fun k i => w (ix3 1 k i)) b t n := by
  unfold project proj times
  have hg : (fun k : Fin 1024 => (shapeCast _ (extractStridedSlice S1x1024 ![1, 0] g slices_S2x1024_S1x1024_1_0) shapeCasts_S1x1024_S1024 : FVec Ideal S1024 .f32) (ix1 k))
      = fun k => g (ix2 1 k) := funext fun k => by pointwise
  pointwise [normed_at]

theorem gates_at (p : Proj) (bg : FVec Ideal S2x2048 .f32) (b : Fin 8) (t : Fin 2064) (n : Fin 2048) :
    gates p bg (ix3 b t n) = sigm (p (ix3 b t ⟨2048 + n.val, by omega⟩) + bg (ix2 1 n)) := by
  unfold gates sigm one
  pointwise

theorem cols_at (p : Proj) (b : Fin 8) (t : Fin 2064) (q : Fin 512) : cols p (ix3 b t q) = p (ix3 b t ⟨1536 + q.val, by omega⟩) := by
  unfold cols
  pointwise

/-- A column by position. -/
def column (u : Cols) (b : Fin 8) (q : Fin 512) (i : ℕ) : EReal := if h : i < 2064 then u (ix3 b ⟨i, h⟩ q) else 0

theorem sums_at (u : Cols) (b : Fin 8) (t : Fin 2064) (q : Fin 512) : sums u (ix3 b t q) = csum (column u b q) (t.val + 1) := by
  have e : (broadcastInDim S_ ![] bcast_S_S_ (constant S_ .f32 0x00000000#32) : FVec Ideal S_ .f32) (Shape.Idx.first h_S_) = 0 := by pointwise
  have e1 : sums u = Host.reduceWindow (· + ·) ![1, 2064, 1] ![1, 1, 1] ![0, 2063, 0] ![0, 0, 0] u
      (fun _ : (⟨0, ![]⟩ : Shape).Idx => (0 : EReal)) reduceWindows_S8x2064x512_S8x2064x512_w1s1p0_0_w2064s1p2063_0_w1s1p0_0 (by decide) := by
    unfold sums Host.reduceWindowAdd
    rw [e]
    show Ideal.hostReduceWindowAdd _ _ _ _ _ _ _ = _
    unfold Ideal.hostReduceWindowAdd
    rfl
  rw [e1, reduceWindow_sum, zero_add]
  refine (sum_idx3 (n0 := 1) (n1 := 2064) (n2 := 1) _).trans ?_
  rw [Fin.sum_univ_one]
  have step : ∀ w : Fin 2064, (if hw : 2063 ≤ t.val + w.val then column u b q (t.val + w.val - 2063) else 0)
      = (fun n : ℕ => if 2063 ≤ t.val + n then column u b q (t.val + n - 2063) else 0) w.val := fun w => rfl
  refine Eq.trans (b := ∑ w : Fin 2064, (fun n : ℕ => if 2063 ≤ t.val + n then column u b q (t.val + n - 2063) else 0) w.val) ?_ ?_
  · refine Finset.sum_congr rfl fun w _ => ?_
    rw [Fin.sum_univ_one, ← step w]
    have hc : ∀ a : Fin 3, (![b.val, t.val + w.val - 2063, q.val] : Fin 3 → ℕ) a
        = (ix3 b t q (a.cast rfl)).val * (![1, 1, 1] : Fin 3 → ℕ) a + (ix3 (0 : Fin 1) w (0 : Fin 1) a).val - (![0, 2063, 0] : Fin 3 → ℕ) a := by
      intro a
      fin_cases a
      · show b.val = b.val * 1 + 0 - 0; omega
      · show t.val + w.val - 2063 = t.val * 1 + w.val - 2063; omega
      · show q.val = q.val * 1 + 0 - 0; omega
    by_cases hw : 2063 ≤ t.val + w.val
    · have hlt : t.val + w.val - 2063 < 2064 := by omega
      rw [dif_pos hw, column, dif_pos hlt]
      refine (dif_pos ?_).trans (congrArg u (funext fun a => Fin.ext ?_))
      · intro a
        refine ⟨?_, lt_of_eq_of_lt (hc a).symm ?_⟩
        · fin_cases a
          · exact Nat.zero_le _
          · show 2063 ≤ t.val * 1 + w.val; omega
          · exact Nat.zero_le _
        · fin_cases a
          · exact b.isLt
          · exact hlt
          · exact q.isLt
      · refine (hc a).symm.trans ?_
        fin_cases a <;> rfl
    · rw [dif_neg hw]
      refine dif_neg fun hh => hw ?_
      have := (hh 1).1
      have e2 : (2063 : ℕ) ≤ t.val * 1 + w.val := this
      omega
  · refine (Fin.sum_univ_eq_sum_range (fun n : ℕ => if 2063 ≤ t.val + n then column u b q (t.val + n - 2063) else 0) 2064).trans ?_
    have hs : (2064 : ℕ) = (2063 - t.val) + (t.val + 1) := by omega
    refine (congrArg (fun n => ∑ i ∈ Finset.range n, if 2063 ≤ t.val + i then column u b q (t.val + i - 2063) else 0) hs).trans ?_
    rw [Finset.sum_range_add, Finset.sum_eq_zero, zero_add]
    · refine Finset.sum_congr rfl fun i _ => ?_
      rw [if_pos (by omega)]
      exact congrArg _ (by omega)
    · intro i hi
      have := Finset.mem_range.1 hi
      rw [if_neg (by omega)]

theorem nought_at (i : S_.Idx) : nought i = 0 := by
  show (((0#32 : BitVec 32).toInt : ℝ) : EReal) = 0
  simp

/-- Rows of zeros before the first. -/
theorem pad_rows {A B N K : ℕ} (lo : ℕ) (x : (⟨3, ![A, B, K]⟩ : Shape).Idx → EReal) {u : Shape} (v : u.Idx → EReal)
    (h : (⟨3, ![A, B, K]⟩ : Shape).Pads ![0, lo, 0] ![0, 0, 0] ![0, 0, 0] ⟨3, ![A, N, K]⟩) (hu : 0 < u.numel) (hv : ∀ i, v i = 0)
    (b : Fin A) (t : Fin N) (k : Fin K) :
    pad ⟨3, ![A, N, K]⟩ ![0, lo, 0] ![0, 0, 0] ![0, 0, 0] x v h hu (ix3 b t k)
      = if hp : lo ≤ t.val ∧ t.val - lo < B then x (ix3 b ⟨t.val - lo, hp.2⟩ k) else 0 := by
  by_cases hp : lo ≤ t.val ∧ t.val - lo < B
  · rw [dif_pos hp]
    refine (dif_pos ?_).trans (congrArg x (funext fun a => Fin.ext ?_))
    · intro a
      fin_cases a
      · refine ⟨Nat.zero_le _, Nat.mod_one _, ?_⟩
        show (b.val - 0) / 1 < A
        rw [Nat.div_one]; exact b.isLt
      · refine ⟨hp.1, Nat.mod_one _, ?_⟩
        show (t.val - lo) / 1 < B
        rw [Nat.div_one]; exact hp.2
      · refine ⟨Nat.zero_le _, Nat.mod_one _, ?_⟩
        show (k.val - 0) / 1 < K
        rw [Nat.div_one]; exact k.isLt
    · fin_cases a
      · exact Nat.div_one _
      · exact Nat.div_one _
      · exact Nat.div_one _
  · rw [dif_neg hp]
    refine (dif_neg fun hh => hp ?_).trans (hv _)
    have h1 := hh 1
    have h2 : (t.val - lo) / 1 < B := h1.2.2
    rw [Nat.div_one] at h2
    exact ⟨h1.1, h2⟩

theorem before_at (u : Cols) (b : Fin 8) (t : Fin 2065) (q : Fin 512) : before (sums u) (ix3 b t q) = csum (column u b q) t.val := by
  refine (pad_rows 1 (sums u) nought pads_S8x2064x512_S8x2065x512_000_100_000 h_S_ nought_at b t q).trans ?_
  by_cases hp : 1 ≤ t.val ∧ t.val - 1 < 2064
  · rw [dif_pos hp, sums_at]
    exact congrArg _ (by show t.val - 1 + 1 = t.val; omega)
  · rw [dif_neg hp]
    have e : t.val = 0 := by omega
    rw [e]
    rfl

theorem back0_at (u : Cols) (b : Fin 8) (t : Fin 2066) (k : Fin 128) (ht : t.val < 2064) :
    back0 (before (sums u)) (ix3 b t k) = csum (column u b (col 0 k)) (t.val + 1 - 2) := by
  refine (pad_rows 1 _ nought pads_S8x2065x128_S8x2066x128_000_100_000 h_S_ nought_at b t k).trans ?_
  by_cases hp : 1 ≤ t.val ∧ t.val - 1 < 2065
  · rw [dif_pos hp]
    refine Eq.trans ?_ ((before_at u b ⟨t.val - 1, hp.2⟩ (col 0 k)).trans (congrArg _ (by show t.val - 1 = t.val + 1 - 2; omega)))
    generalize before (sums u) = y
    pointwise
    exact congrArg (fun i => y (ix3 b _ i)) (Fin.ext (by show k.val = 128 * 0 + k.val; omega))
  · rw [dif_neg hp]
    have e : t.val + 1 - 2 = 0 := by omega
    rw [e]
    rfl

theorem avg0_at (u : Cols) (hu : ∀ b q i, IsReal (column u b q i)) (b : Fin 8) (t : Fin 2064) (k : Fin 128) :
    avg0 (before (sums u)) (ix3 b t k) = Ideal.div (wsum (column u b (col 0 k)) 2 t.val) (many (BitVec.ofNat 32 t.val) 2#32) := by
  rw [← csum_sub _ (hu b _)]
  have e0 : (extractStridedSlice S8x2064x128 ![0, 0, 0] (back0 (before (sums u))) slices_S8x2066x128_S8x2064x128_0_0_0 : FVec Ideal S8x2064x128 .f32) (ix3 b t k)
      = csum (column u b (col 0 k)) (t.val + 1 - 2) := by
    refine Eq.trans ?_ (back0_at u b ⟨t.val, by omega⟩ k t.isLt)
    generalize back0 (before (sums u)) = y
    pointwise
  have e1 : (extractStridedSlice S8x2064x128 ![0, 1, 0] (extractStridedSlice S8x2065x128 ![0, 0, 0] (before (sums u)) slices_S8x2065x512_S8x2065x128_0_0_0) slices_S8x2065x128_S8x2064x128_0_1_0 : FVec Ideal S8x2064x128 .f32) (ix3 b t k)
      = csum (column u b (col 0 k)) (t.val + 1) := by
    refine Eq.trans ?_ ((before_at u b ⟨t.val + 1, by omega⟩ (col 0 k)))
    generalize before (sums u) = y
    pointwise
    exact congrArg₂ (fun i j => y (ix3 b i j)) (Fin.ext (by show 1 + t.val = t.val + 1; omega)) (Fin.ext (by show k.val = 128 * 0 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 2#32))))) : FVec Ideal S8x2064x128 .f32) (ix3 b t k) = many (BitVec.ofNat 32 t.val) 2#32 := by
    unfold many
    pointwise
    rfl
  unfold avg0
  exact congrArg₂ Ideal.div (congrArg₂ (fun x y : EReal => x - y) e1 e0) e2

theorem back1_at (u : Cols) (b : Fin 8) (t : Fin 2068) (k : Fin 128) (ht : t.val < 2064) :
    back1 (before (sums u)) (ix3 b t k) = csum (column u b (col 1 k)) (t.val + 1 - 4) := by
  refine (pad_rows 3 _ nought pads_S8x2065x128_S8x2068x128_000_300_000 h_S_ nought_at b t k).trans ?_
  by_cases hp : 3 ≤ t.val ∧ t.val - 3 < 2065
  · rw [dif_pos hp]
    refine Eq.trans ?_ ((before_at u b ⟨t.val - 3, hp.2⟩ (col 1 k)).trans (congrArg _ (by show t.val - 3 = t.val + 1 - 4; omega)))
    generalize before (sums u) = y
    pointwise
    exact congrArg (fun i => y (ix3 b _ i)) (Fin.ext (by show 128 + k.val = 128 * 1 + k.val; omega))
  · rw [dif_neg hp]
    have e : t.val + 1 - 4 = 0 := by omega
    rw [e]
    rfl

theorem avg1_at (u : Cols) (hu : ∀ b q i, IsReal (column u b q i)) (b : Fin 8) (t : Fin 2064) (k : Fin 128) :
    avg1 (before (sums u)) (ix3 b t k) = Ideal.div (wsum (column u b (col 1 k)) 4 t.val) (many (BitVec.ofNat 32 t.val) 4#32) := by
  rw [← csum_sub _ (hu b _)]
  have e0 : (extractStridedSlice S8x2064x128 ![0, 0, 0] (back1 (before (sums u))) slices_S8x2068x128_S8x2064x128_0_0_0 : FVec Ideal S8x2064x128 .f32) (ix3 b t k)
      = csum (column u b (col 1 k)) (t.val + 1 - 4) := by
    refine Eq.trans ?_ (back1_at u b ⟨t.val, by omega⟩ k t.isLt)
    generalize back1 (before (sums u)) = y
    pointwise
  have e1 : (extractStridedSlice S8x2064x128 ![0, 1, 0] (extractStridedSlice S8x2065x128 ![0, 0, 128] (before (sums u)) slices_S8x2065x512_S8x2065x128_0_0_128) slices_S8x2065x128_S8x2064x128_0_1_0 : FVec Ideal S8x2064x128 .f32) (ix3 b t k)
      = csum (column u b (col 1 k)) (t.val + 1) := by
    refine Eq.trans ?_ ((before_at u b ⟨t.val + 1, by omega⟩ (col 1 k)))
    generalize before (sums u) = y
    pointwise
    exact congrArg₂ (fun i j => y (ix3 b i j)) (Fin.ext (by show 1 + t.val = t.val + 1; omega)) (Fin.ext (by show 128 + k.val = 128 * 1 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 4#32))))) : FVec Ideal S8x2064x128 .f32) (ix3 b t k) = many (BitVec.ofNat 32 t.val) 4#32 := by
    unfold many
    pointwise
    rfl
  unfold avg1
  exact congrArg₂ Ideal.div (congrArg₂ (fun x y : EReal => x - y) e1 e0) e2

theorem back2_at (u : Cols) (b : Fin 8) (t : Fin 2072) (k : Fin 128) (ht : t.val < 2064) :
    back2 (before (sums u)) (ix3 b t k) = csum (column u b (col 2 k)) (t.val + 1 - 8) := by
  refine (pad_rows 7 _ nought pads_S8x2065x128_S8x2072x128_000_700_000 h_S_ nought_at b t k).trans ?_
  by_cases hp : 7 ≤ t.val ∧ t.val - 7 < 2065
  · rw [dif_pos hp]
    refine Eq.trans ?_ ((before_at u b ⟨t.val - 7, hp.2⟩ (col 2 k)).trans (congrArg _ (by show t.val - 7 = t.val + 1 - 8; omega)))
    generalize before (sums u) = y
    pointwise
    exact congrArg (fun i => y (ix3 b _ i)) (Fin.ext (by show 256 + k.val = 128 * 2 + k.val; omega))
  · rw [dif_neg hp]
    have e : t.val + 1 - 8 = 0 := by omega
    rw [e]
    rfl

theorem avg2_at (u : Cols) (hu : ∀ b q i, IsReal (column u b q i)) (b : Fin 8) (t : Fin 2064) (k : Fin 128) :
    avg2 (before (sums u)) (ix3 b t k) = Ideal.div (wsum (column u b (col 2 k)) 8 t.val) (many (BitVec.ofNat 32 t.val) 8#32) := by
  rw [← csum_sub _ (hu b _)]
  have e0 : (extractStridedSlice S8x2064x128 ![0, 0, 0] (back2 (before (sums u))) slices_S8x2072x128_S8x2064x128_0_0_0 : FVec Ideal S8x2064x128 .f32) (ix3 b t k)
      = csum (column u b (col 2 k)) (t.val + 1 - 8) := by
    refine Eq.trans ?_ (back2_at u b ⟨t.val, by omega⟩ k t.isLt)
    generalize back2 (before (sums u)) = y
    pointwise
  have e1 : (extractStridedSlice S8x2064x128 ![0, 1, 0] (extractStridedSlice S8x2065x128 ![0, 0, 256] (before (sums u)) slices_S8x2065x512_S8x2065x128_0_0_256) slices_S8x2065x128_S8x2064x128_0_1_0 : FVec Ideal S8x2064x128 .f32) (ix3 b t k)
      = csum (column u b (col 2 k)) (t.val + 1) := by
    refine Eq.trans ?_ ((before_at u b ⟨t.val + 1, by omega⟩ (col 2 k)))
    generalize before (sums u) = y
    pointwise
    exact congrArg₂ (fun i j => y (ix3 b i j)) (Fin.ext (by show 1 + t.val = t.val + 1; omega)) (Fin.ext (by show 256 + k.val = 128 * 2 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 8#32))))) : FVec Ideal S8x2064x128 .f32) (ix3 b t k) = many (BitVec.ofNat 32 t.val) 8#32 := by
    unfold many
    pointwise
    rfl
  unfold avg2
  exact congrArg₂ Ideal.div (congrArg₂ (fun x y : EReal => x - y) e1 e0) e2

theorem back3_at (u : Cols) (b : Fin 8) (t : Fin 2080) (k : Fin 128) (ht : t.val < 2064) :
    back3 (before (sums u)) (ix3 b t k) = csum (column u b (col 3 k)) (t.val + 1 - 16) := by
  refine (pad_rows 15 _ nought pads_S8x2065x128_S8x2080x128_000_1500_000 h_S_ nought_at b t k).trans ?_
  by_cases hp : 15 ≤ t.val ∧ t.val - 15 < 2065
  · rw [dif_pos hp]
    refine Eq.trans ?_ ((before_at u b ⟨t.val - 15, hp.2⟩ (col 3 k)).trans (congrArg _ (by show t.val - 15 = t.val + 1 - 16; omega)))
    generalize before (sums u) = y
    pointwise
    exact congrArg (fun i => y (ix3 b _ i)) (Fin.ext (by show 384 + k.val = 128 * 3 + k.val; omega))
  · rw [dif_neg hp]
    have e : t.val + 1 - 16 = 0 := by omega
    rw [e]
    rfl

theorem avg3_at (u : Cols) (hu : ∀ b q i, IsReal (column u b q i)) (b : Fin 8) (t : Fin 2064) (k : Fin 128) :
    avg3 (before (sums u)) (ix3 b t k) = Ideal.div (wsum (column u b (col 3 k)) 16 t.val) (many (BitVec.ofNat 32 t.val) 16#32) := by
  rw [← csum_sub _ (hu b _)]
  have e0 : (extractStridedSlice S8x2064x128 ![0, 0, 0] (back3 (before (sums u))) slices_S8x2080x128_S8x2064x128_0_0_0 : FVec Ideal S8x2064x128 .f32) (ix3 b t k)
      = csum (column u b (col 3 k)) (t.val + 1 - 16) := by
    refine Eq.trans ?_ (back3_at u b ⟨t.val, by omega⟩ k t.isLt)
    generalize back3 (before (sums u)) = y
    pointwise
  have e1 : (extractStridedSlice S8x2064x128 ![0, 1, 0] (extractStridedSlice S8x2065x128 ![0, 0, 384] (before (sums u)) slices_S8x2065x512_S8x2065x128_0_0_384) slices_S8x2065x128_S8x2064x128_0_1_0 : FVec Ideal S8x2064x128 .f32) (ix3 b t k)
      = csum (column u b (col 3 k)) (t.val + 1) := by
    refine Eq.trans ?_ ((before_at u b ⟨t.val + 1, by omega⟩ (col 3 k)))
    generalize before (sums u) = y
    pointwise
    exact congrArg₂ (fun i j => y (ix3 b i j)) (Fin.ext (by show 1 + t.val = t.val + 1; omega)) (Fin.ext (by show 384 + k.val = 128 * 3 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 16#32))))) : FVec Ideal S8x2064x128 .f32) (ix3 b t k) = many (BitVec.ofNat 32 t.val) 16#32 := by
    unfold many
    pointwise
    rfl
  unfold avg3
  exact congrArg₂ Ideal.div (congrArg₂ (fun x y : EReal => x - y) e1 e0) e2

theorem avgs_at (u : Cols) (hu : ∀ b q i, IsReal (column u b q i)) (b : Fin 8) (t : Fin 2064) (a : Fin 4) (k : Fin 128) :
    avgs (before (sums u)) (ix4 b t a k) = Ideal.div (wsum (column u b (col a k)) (win a.val) t.val)
      (many (BitVec.ofNat 32 t.val) (BitVec.ofNat 32 (win a.val))) := by
  unfold avgs
  fin_cases a
  · refine Eq.trans ?_ (avg0_at u hu b t k)
    generalize avg0 _ = y0
    generalize avg1 _ = y1
    generalize avg2 _ = y2
    generalize avg3 _ = y3
    show concatenate S8x2064x4x128 2 _ _ (ix4 b t (0 : Fin 4) k) = _
    pointwise
  · refine Eq.trans ?_ (avg1_at u hu b t k)
    generalize avg0 _ = y0
    generalize avg1 _ = y1
    generalize avg2 _ = y2
    generalize avg3 _ = y3
    show concatenate S8x2064x4x128 2 _ _ (ix4 b t (1 : Fin 4) k) = _
    pointwise
  · refine Eq.trans ?_ (avg2_at u hu b t k)
    generalize avg0 _ = y0
    generalize avg1 _ = y1
    generalize avg2 _ = y2
    generalize avg3 _ = y3
    show concatenate S8x2064x4x128 2 _ _ (ix4 b t (2 : Fin 4) k) = _
    pointwise
  · refine Eq.trans ?_ (avg3_at u hu b t k)
    generalize avg0 _ = y0
    generalize avg1 _ = y1
    generalize avg2 _ = y2
    generalize avg3 _ = y3
    show concatenate S8x2064x4x128 2 _ _ (ix4 b t (3 : Fin 4) k) = _
    pointwise

theorem mixes_at (a u : FVec Ideal S8x2064x4x128 .f32) (mix : FVec Ideal S2x4x128x128 .f32) (b : Fin 8) (t : Fin 2064) (e : Fin 4) (j : Fin 128) :
    mixes a u mix (ix4 b t e j) = ∑ k : Fin 128, mix (ix4 1 e k j) * (a (ix4 b t e k) - u (ix4 b t e k)) := by
  unfold mixes
  pointwise

theorem scaled_at (a : FVec Ideal S8x2064x4x128 .f32) (sc : FVec Ideal S2x512 .f32) (b : Fin 8) (t : Fin 2064) (q : Fin 512) :
    scaled a sc (ix3 b t q) = a (ix4 b t ⟨q.val / 128, by omega⟩ ⟨q.val % 128, by omega⟩) * sc (ix2 1 q) := by
  unfold scaled
  pointwise

theorem four_at (u : Cols) (b : Fin 8) (t : Fin 2064) (e : Fin 4) (k : Fin 128) :
    (shapeCast _ u shapeCasts_S8x2064x512_S8x2064x4x128 : FVec Ideal S8x2064x4x128 .f32) (ix4 b t e k) = u (ix3 b t (col e k)) := by
  unfold col
  pointwise
  exact congrArg (fun i => u (ix3 b t i)) (Fin.ext (by show e.val * 128 + k.val = 128 * e.val + k.val; omega))

theorem branch_at (g : FVec Ideal S8x2064x2048 .f32) (y : Cols) (wb : FVec Ideal S2x512x1024 .f32) (R : Fin 16512) (n : Fin 1024) :
    branch g y wb (ix2 R n) = g (ix3 (seqAt R) (rowAt R) ⟨n.val, by omega⟩) * times (fun q => y (ix3 (seqAt R) (rowAt R) q)) (fun k i => wb (ix3 1 k i)) n := by
  unfold branch times seqAt rowAt
  pointwise

theorem pool_at (u : Cols) (mix : FVec Ideal S2x4x128x128 .f32) (sc : FVec Ideal S2x512 .f32) (hu : ∀ b q i, IsReal (column u b q i))
    (b : Fin 8) (t : Fin 2064) (q : Fin 512) :
    pool u mix sc (ix3 b t q) = mixed (fun k => Ideal.div (wsum (column u b (col ⟨q.val / 128, by omega⟩ k)) (win (q.val / 128)) t.val)
        (many (BitVec.ofNat 32 t.val) (BitVec.ofNat 32 (win (q.val / 128)))) - column u b (col ⟨q.val / 128, by omega⟩ k) t.val)
      (fun k => mix (ix4 1 ⟨q.val / 128, by omega⟩ k ⟨q.val % 128, by omega⟩)) (sc (ix2 1 q)) := by
  unfold pool mixed
  rw [scaled_at, mixes_at]
  refine congrArg (fun z : EReal => z * _) (Finset.sum_congr rfl fun k _ => ?_)
  rw [avgs_at u hu, four_at, mul_comm]
  have e : column u b (col ⟨q.val / 128, by omega⟩ k) t.val = u (ix3 b t (col ⟨q.val / 128, by omega⟩ k)) := dif_pos t.isLt
  rw [← e]

/-! ## The results -/

variable (m : (ℓ : Loc nD τ sig) → Buf (Elt Ideal) ℓ) (c : Dev nD)

abbrev argX : Rows := m ((c.tc : Thread nD τ).loc main_arg0)
abbrev argN : FVec Ideal S2x1024 .f32 := m ((c.tc : Thread nD τ).loc main_arg2)
abbrev argW : FVec Ideal S2x1024x4096 .f32 := m ((c.tc : Thread nD τ).loc main_arg3)
abbrev argC : FVec Ideal S2x2048 .f32 := m ((c.tc : Thread nD τ).loc main_arg4)
abbrev argM : FVec Ideal S2x4x128x128 .f32 := m ((c.tc : Thread nD τ).loc main_arg5)
abbrev argS : FVec Ideal S2x512 .f32 := m ((c.tc : Thread nD τ).loc main_arg6)
abbrev argB : FVec Ideal S2x512x1024 .f32 := m ((c.tc : Thread nD τ).loc main_arg7)

theorem res_eq : res_main_v120 m c = branch (gates (project (argX m c) (argN m c) (argW m c)) (argC m c))
    (pool (cols (project (argX m c) (argN m c) (argW m c))) (argM m c) (argS m c)) (argB m c) := rfl

abbrev gX (b : Fin 8) (l : Fin 2064) (k : Fin 1024) : EReal := argX m c (ix3 b l k)
abbrev gN (k : Fin 1024) : EReal := argN m c (ix2 1 k)
abbrev gW (k : Fin 1024) (n : Fin 4096) : EReal := argW m c (ix3 1 k n)
abbrev gC (n : Fin 2048) : EReal := argC m c (ix2 1 n)
abbrev gM (a : Fin 4) (k j : Fin 128) : EReal := argM m c (ix4 1 a k j)
abbrev gS (q : Fin 512) : EReal := argS m c (ix2 1 q)
abbrev gB (k : Fin 512) (n : Fin 1024) : EReal := argB m c (ix3 1 k n)

/-- The projection of the arguments. -/
abbrev P : Proj := project (argX m c) (argN m c) (argW m c)

theorem P_at (b : Fin 8) (l : Fin 2064) (n : Fin 4096) : P m c (ix3 b l n) = proj (gX m c) (gN m c) (gW m c) b l n := project_at _ _ _ b l n

theorem column_eq (b : Fin 8) (q : Fin 512) (i : ℕ) : column (cols (P m c)) b q i = ucol (gX m c) (gN m c) (gW m c) b q i := by
  unfold column ucol
  by_cases h : i < 2064
  · rw [dif_pos h, dif_pos h, cols_at, P_at]
  · rw [dif_neg h, dif_neg h]

theorem gates_eq (b : Fin 8) (l : Fin 2064) (n : Fin 2048) :
    gates (P m c) (argC m c) (ix3 b l n) = gateOf (gX m c) (gN m c) (gW m c) (gC m c) b l n := by
  rw [gates_at, P_at]
  rfl

/-- The queries. -/
theorem q_at (R : Fin 16512) (j : Fin 512) :
    (truncf .bf16 (shapeCast _ (mulf (extractStridedSlice S8x2064x512 ![0, 0, 0] (P m c) slices_S8x2064x4096_S8x2064x512_0_0_0)
      (broadcastInDim S8x2064x512 ![] bcast_S_S8x2064x512 (constant S_ .f32 0x3E000000#32))) shapeCasts_S8x2064x512_S16512x512 : FVec Ideal S16512x512 .f32) bitsLt_bf16_f32
      : FVec Ideal S16512x512 .bf16) (ix2 R j) = outQ (gX m c) (gN m c) (gW m c) (seqAt R) (rowAt R) j := by
  unfold outQ eighth seqAt rowAt
  rw [← P_at]
  generalize P m c = y
  pointwise
  try exact congrArg (fun i => y (ix3 _ _ i) * _) (Fin.ext (by dsimp only; omega))

/-- The keys. -/
theorem k_at (R : Fin 16512) (j : Fin 512) :
    (truncf .bf16 (shapeCast _ (extractStridedSlice S8x2064x512 ![0, 0, 512] (P m c) slices_S8x2064x4096_S8x2064x512_0_0_512) shapeCasts_S8x2064x512_S16512x512 : FVec Ideal S16512x512 .f32) bitsLt_bf16_f32
      : FVec Ideal S16512x512 .bf16) (ix2 R j) = outK (gX m c) (gN m c) (gW m c) (seqAt R) (rowAt R) j := by
  unfold outK seqAt rowAt
  rw [← P_at]
  generalize P m c = y
  pointwise

/-- The values. -/
theorem v_at (R : Fin 16512) (j : Fin 512) :
    (truncf .bf16 (shapeCast _ (extractStridedSlice S8x2064x512 ![0, 0, 1024] (P m c) slices_S8x2064x4096_S8x2064x512_0_0_1024) shapeCasts_S8x2064x512_S16512x512 : FVec Ideal S16512x512 .f32) bitsLt_bf16_f32
      : FVec Ideal S16512x512 .bf16) (ix2 R j) = outV (gX m c) (gN m c) (gW m c) (seqAt R) (rowAt R) j := by
  unfold outV seqAt rowAt
  rw [← P_at]
  generalize P m c = y
  pointwise

/-- The attention's gate. -/
theorem g_at (R : Fin 16512) (n : Fin 1024) :
    (shapeCast _ (extractStridedSlice S8x2064x1024 ![0, 0, 1024] (gates (P m c) (argC m c)) slices_S8x2064x2048_S8x2064x1024_0_0_1024) shapeCasts_S8x2064x1024_S16512x1024
      : FVec Ideal S16512x1024 .f32) (ix2 R n) = outG (gX m c) (gN m c) (gW m c) (gC m c) (seqAt R) (rowAt R) n := by
  unfold outG seqAt rowAt
  rw [← gates_eq]
  generalize gates (P m c) (argC m c) = y
  pointwise

/-- The pooled branch, of real columns. -/
theorem p_at (hu : ∀ b q i, IsReal (ucol (gX m c) (gN m c) (gW m c) b q i)) (R : Fin 16512) (n : Fin 1024) :
    (res_main_v120 m c : FVec Ideal S16512x1024 .f32) (ix2 R n)
      = outP (gX m c) (gN m c) (gW m c) (gC m c) (gM m c) (gS m c) (gB m c) (seqAt R) (rowAt R) n := by
  have hu' : ∀ b q i, IsReal (column (cols (P m c)) b q i) := fun b q i => by rw [column_eq]; exact hu b q i
  have hc : ∀ b q, column (cols (P m c)) b q = ucol (gX m c) (gN m c) (gW m c) b q := fun b q => funext fun i => column_eq m c b q i
  rw [res_eq, branch_at, gates_eq]
  unfold outP
  refine congrArg (fun z : EReal => _ * z) (congrArg (fun f : Fin 512 → EReal => times f (gB m c) n) (funext fun q => ?_))
  rw [pool_at _ _ _ hu']
  simp only [hc]
  have e : col ⟨q.val / 128, by omega⟩ ⟨q.val % 128, by omega⟩ = q := Fin.ext (by show 128 * (q.val / 128) + q.val % 128 = q.val; omega)
  unfold pooled pooledIn
  rw [e]

end Cert.Reference3Ideal.In
end
-- ==== Proof.InPre.lean ====
/-
  What the precondition says: the gain and the projection's weights are real numbers.
-/
module

public import proofs.«01_k».proof.Defs
public import proofs.«01_k».proof.Proof.InReal
public import proofs.«01_k».proof.Proof.Gen.Pre_real
public import Idealize.ShloMosaic.Lib.Pointwise

@[expose] public section

noncomputable section

namespace Cert.InStage

open Idealize.ShloMosaic Cert.OutStage

theorem real_of_less {s : Shape} (x : FVec Ideal s .f32) (h : Cert.Pre_real.S_.BroadcastsInDim s (![] : Fin 0 → Fin s.rank))
    (e : cmpf .olt (Host.absf x) (broadcastInDim s ![] h (constant Cert.Pre_real.S_ .f32 0x7F800000#32)) = fun _ => 1#1) (i : s.Idx) : IsReal (x i) := by
  have e' := congrFun e i
  have hb : (broadcastInDim s ![] h (constant (F := Ideal) Cert.Pre_real.S_ .f32 0x7F800000#32) : FVec Ideal s .f32) i = ⊤ := by
    show Ideal.ofBits .f32 0x7F800000#32 = ⊤
    simp [Ideal.ofBits, Ideal.ieee]
  have e2 : FloatOps.cmpf (F := Ideal) (φ := .f32) .olt (Host.absf x i) ⊤ = 1#1 := by rw [← hb]; exact e'
  have e3 : (BitVec.ofBool (decide ((max (x i) (-(x i)) : EReal) < ⊤))) = 1#1 := e2
  refine isReal_of_abs ?_
  by_contra hn
  rw [decide_eq_false hn] at e3
  exact absurd e3 (by decide)

variable (m : (ℓ : Loc Cert.Kernel3Ideal.nD Cert.Kernel3Ideal.τ Cert.Kernel3Ideal.sig) → Buf (Elt Ideal) ℓ) (c : Dev Cert.Kernel3Ideal.nD)

theorem real_args (h : Cert.Pre_Kernel3Ideal_real m) :
    (∀ i, IsReal ((m ((c.tc : Thread Cert.Kernel3Ideal.nD Cert.Kernel3Ideal.τ).loc Cert.Kernel3Ideal.main_arg2) : FVec Ideal Cert.Pre_real.S2x1024 .f32) i))
    ∧ (∀ i, IsReal ((m ((c.tc : Thread Cert.Kernel3Ideal.nD Cert.Kernel3Ideal.τ).loc Cert.Kernel3Ideal.main_arg3) : FVec Ideal Cert.Pre_real.S2x1024x4096 .f32) i)) :=
  ⟨real_of_less _ _ (h c).1, real_of_less _ _ (h c).2⟩

end Cert.InStage
end
-- ==== Proof.In5Pay.lean ====
/-
  The stored values of the first layer's input stage at an index.
-/
module

public import proofs.«01_k».proof.Proof.InPay
public import proofs.«01_k».proof.Proof.Gen.Kernel5Ideal.Skeleton
public import Idealize.ShloMosaic.Lib.Pipeline.ValueKit
public import Idealize.ShloMosaic.Lib.Pointwise

@[expose] public section

set_option maxRecDepth 16384

noncomputable section

namespace Cert.Kernel5Ideal.In

open Cert.Kernel5Ideal Cert.Kernel5Ideal.Gen Idealize.ShloMosaic Idealize.ShloMosaic.TcCoe Idealize.SL.Sem
open Cert.OutStage Cert.InStage
open Cert.Kernel2Ideal.Out (row3)
open Cert.Kernel3Ideal.In (less)
open scoped BigOperators

/-! ## Where the rows come from -/

/-- The word of a tile among the tiles of its sequence. -/
abbrev tileWord (i : grid0.Coords) : BitVec 32 :=
  let arg0 : BitVec 32 := BitVec.ofNat 32 (i 0).val
  let v1 : BitVec 32 := Scalar.select (Scalar.cmpi .eq 3#32 0#32) 1#32 3#32
  let v2 : BitVec 32 := Scalar.remsi arg0 v1
  Scalar.select (Scalar.andi (Scalar.xori (Scalar.cmpi .slt v2 0#32) (Scalar.cmpi .slt v1 0#32)) (Scalar.cmpi .ne v2 0#32)) (Scalar.addi v2 v1) v2

/-- Whether a tile is the first of its sequence. -/
def firstTile (i : grid0.Coords) : BitVec 1 := Scalar.cmpi .eq (tileWord i) 0#32

/-- A tile's rows: in the first tile the meta rows come first and the frames are moved down by as many rows. -/
def tileRows (i : grid0.Coords) (x0 : Vec Ideal S1x688x1024 .f32) (x1 : Vec Ideal S16x1024 .f32) : Vec Ideal S688x1024 .f32 := fun y =>
  if firstTile i = 1#1 then (if h : (y 0).val < 16 then x1 (ix2 (⟨(y 0).val, h⟩ : Fin 16) (y 1))
    else x0 (ix3 (0 : Fin 1) ⟨(y 0).val - 16, by have h1 : (y 0).val < 688 := (y 0).isLt; omega⟩ (y 1))) else x0 (ix3 (0 : Fin 1) (y 0) (y 1))

theorem head_rows (i : grid0.Coords) (u : FVec Ideal S16x1024 .f32) (v : FVec Ideal S1x16x1024 .f32) (r : Fin 16) (k : Fin 1024) :
    k0_pay4 (F := Ideal) i u v (ix2 r k) = if firstTile i = 1#1 then u (ix2 r k) else v (ix3 (0 : Fin 1) r k) := by
  have e : k0_pay4 (F := Ideal) i u v = if firstTile i = 1#1 then u else shapeCast S16x1024 v shapeCasts_S1x16x1024_S16x1024 := rfl
  rw [e]
  by_cases hb : firstTile i = 1#1
  · rw [if_pos hb, if_pos hb]
  · rw [if_neg hb, if_neg hb]
    pointwise

theorem rest_rows (i : grid0.Coords) (u v : FVec Ideal S1x672x1024 .f32) (r : Fin 672) (k : Fin 1024) :
    k0_pay5 (F := Ideal) i u v (ix2 r k) = if firstTile i = 1#1 then u (ix3 (0 : Fin 1) r k) else v (ix3 (0 : Fin 1) r k) := by
  have e : k0_pay5 (F := Ideal) i u v = if firstTile i = 1#1 then shapeCast S672x1024 u shapeCasts_S1x672x1024_S672x1024
    else shapeCast S672x1024 v shapeCasts_S1x672x1024_S672x1024 := rfl
  rw [e]
  by_cases hb : firstTile i = 1#1
  · rw [if_pos hb, if_pos hb]
    pointwise
  · rw [if_neg hb, if_neg hb]
    pointwise

/-! ## The stored values -/

theorem head_norm (i : grid0.Coords) (u : FVec Ideal S16x1024 .f32) (v : FVec Ideal S1x16x1024 .f32) (g : FVec Ideal S1x1x1024 .f32) (r : Fin 16) (n : Fin 1024) :
    k0_pay8 (F := Ideal) (k0_pay4 i u v) (k0_pay6 g) (k0_pay7 i u v) (ix2 r n) = rms (fun k => k0_pay4 (F := Ideal) i u v (ix2 r k)) (row3 g 0) n := by
  unfold k0_pay7
  generalize k0_pay4 (F := Ideal) i u v = w
  unfold k0_pay8 k0_pay6 rms width eps
  pointwise

theorem rest_norm (w : FVec Ideal S672x1024 .f32) (g : FVec Ideal S1x1x1024 .f32) (r : Fin 672) (n : Fin 1024) :
    k0_pay9 (F := Ideal) w g (ix2 r n) = rms (fun k => w (ix2 r k)) (row3 g 0) n := by
  unfold k0_pay9 rms width eps
  pointwise

theorem proj_at (h : FVec Ideal S688x1024 .bf16) (w : FVec Ideal S1x1024x512 .bf16) (r : Fin 688) (j : Fin 512) :
    k0_pay10 (F := Ideal) h w (ix2 r j) = times (fun k => h (ix2 r k)) (row3 w) j := by
  unfold k0_pay10 times
  pointwise

theorem q_at (h : FVec Ideal S688x1024 .bf16) (w : FVec Ideal S1x1024x512 .bf16) (r : Fin 688) (j : Fin 512) :
    k0_pay26 (F := Ideal) h w (ix2 r j) = times (fun k => h (ix2 r k)) (row3 w) j * eighth := by
  unfold k0_pay26 times eighth
  pointwise

theorem k_at (h : FVec Ideal S688x1024 .bf16) (w : FVec Ideal S1x1024x512 .bf16) (r : Fin 688) (j : Fin 512) :
    k0_pay27 (F := Ideal) h w (ix2 r j) = times (fun k => h (ix2 r k)) (row3 w) j := by
  unfold k0_pay27 times
  pointwise

theorem v_at (h : FVec Ideal S688x1024 .bf16) (w : FVec Ideal S1x1024x512 .bf16) (r : Fin 688) (j : Fin 512) :
    k0_pay28 (F := Ideal) h w (ix2 r j) = times (fun k => h (ix2 r k)) (row3 w) j := by
  unfold k0_pay28 times
  pointwise

theorem gate8_at (h : FVec Ideal S688x1024 .bf16) (w : FVec Ideal S1x1024x512 .bf16) (b : FVec Ideal S1x1x512 .f32) (r : Fin 688) (j : Fin 512) :
    k0_pay12 (F := Ideal) h w b (ix2 r j) = sigm (times (fun k => h (ix2 r k)) (row3 w) j + row3 b 0 j) := by
  unfold k0_pay12 sigm one times
  pointwise
  rw [zero_sub]

theorem gate12_at (h : FVec Ideal S688x1024 .bf16) (w : FVec Ideal S1x1024x512 .bf16) (b : FVec Ideal S1x1x512 .f32) (r : Fin 688) (j : Fin 512) :
    k0_pay15 (F := Ideal) h w b (ix2 r j) = sigm (times (fun k => h (ix2 r k)) (row3 w) j + row3 b 0 j) := by
  unfold k0_pay15 sigm one times
  pointwise
  rw [zero_sub]

theorem gate18_at (h : FVec Ideal S688x1024 .bf16) (w : FVec Ideal S1x1024x512 .bf16) (b : FVec Ideal S1x1x512 .f32) (r : Fin 688) (j : Fin 512) :
    k0_pay22 (F := Ideal) h w b (ix2 r j) = sigm (times (fun k => h (ix2 r k)) (row3 w) j + row3 b 0 j) := by
  unfold k0_pay22 sigm one times
  pointwise
  rw [zero_sub]

theorem gate14_at (h : FVec Ideal S688x1024 .bf16) (w : FVec Ideal S1x1024x512 .bf16) (b : FVec Ideal S1x1x512 .f32) (r : Fin 688) (j : Fin 512) :
    k0_pay19 (F := Ideal) h w b (ix2 r j) = sigm (times (fun k => h (ix2 r k)) (row3 w) j + row3 b 0 j) := by
  unfold k0_pay19 sigm one times
  pointwise
  rw [zero_sub]

theorem p1_at (a : FVec Ideal S688x512 .bf16) (g : FVec Ideal S688x512 .f32) (w : FVec Ideal S1x512x512 .bf16) (r : Fin 688) (j : Fin 512) :
    k0_pay29 (F := Ideal) a g w (ix2 r j) = g (ix2 r j) * times (fun k => a (ix2 r k)) (row3 w) j := by
  unfold k0_pay29 times
  pointwise

theorem p2_at (a : FVec Ideal S688x512 .bf16) (g : FVec Ideal S688x512 .f32) (w : FVec Ideal S1x512x512 .bf16) (r : Fin 688) (j : Fin 512) :
    k0_pay1 (F := Ideal) a g w (ix2 r j) = g (ix2 r j) * times (fun k => a (ix2 r k)) (row3 w) j := by
  unfold k0_pay1 times
  pointwise

theorem zero_at (r : Fin 16) (j : Fin 512) : k0_pay2 (F := Ideal) (ix2 r j) = 0 := by
  unfold k0_pay2
  pointwise

theorem keep_at (x : FVec Ideal S16x512 .f32) (r : Fin 16) (j : Fin 512) : k0_pay3 (F := Ideal) x (ix2 r j) = x (ix2 r j) := by
  unfold k0_pay3
  pointwise

theorem pool0_at (a b : FVec Ideal S688x128 .f32) (p : BitVec 32) (mix : FVec Ideal S1x1x128x128 .bf16) (s : FVec Ideal S1x1x128 .f32) (r : Fin 688) (j : Fin 128) :
    k0_pay14 (F := Ideal) (k0_pay13 p a b mix) s (ix2 r j)
      = mixed (fun k => less (posw p r.val) 2#32 (a (ix2 r k) + b (ix2 r k)) (a (ix2 r k))) (fun k => mix (ix4 (0 : Fin 1) (0 : Fin 1) k j)) (row3 s 0 j) := by
  unfold k0_pay14 k0_pay13 k0_pay11 mixed less many posw
  pointwise
  rfl

theorem pool1_at (a b c d : FVec Ideal S688x128 .f32) (p : BitVec 32) (mix : FVec Ideal S1x1x128x128 .bf16) (s : FVec Ideal S1x1x128 .f32) (r : Fin 688) (j : Fin 128) :
    k0_pay18 (F := Ideal) a (k0_pay16 a b c d) (k0_pay17 (k0_pay11 p)) mix s (ix2 r j)
      = mixed (fun k => less (posw p r.val) 4#32 (a (ix2 r k) + b (ix2 r k) + c (ix2 r k) + d (ix2 r k)) (a (ix2 r k))) (fun k => mix (ix4 (0 : Fin 1) (0 : Fin 1) k j)) (row3 s 0 j) := by
  unfold k0_pay18 k0_pay16 k0_pay17 k0_pay11 mixed less many posw
  pointwise
  rfl

theorem pool2_at (a0 a1 a2 a3 a4 a5 a6 a7 : FVec Ideal S688x128 .f32) (p : BitVec 32) (mix : FVec Ideal S1x1x128x128 .bf16) (s : FVec Ideal S1x1x128 .f32) (r : Fin 688) (j : Fin 128) :
    k0_pay21 (F := Ideal) (k0_pay20 (k0_pay11 p) a0 a1 a2 a3 a4 a5 a6 a7 mix s) (ix2 r j)
      = mixed (fun k => less (posw p r.val) 8#32 (a0 (ix2 r k) + a1 (ix2 r k) + a2 (ix2 r k) + a3 (ix2 r k) + a4 (ix2 r k) + a5 (ix2 r k) + a6 (ix2 r k) + a7 (ix2 r k)) (a0 (ix2 r k)))
        (fun k => mix (ix4 (0 : Fin 1) (0 : Fin 1) k j)) (row3 s 0 j) := by
  unfold k0_pay21 k0_pay20 k0_pay11 mixed less many posw
  pointwise
  rfl

theorem pool3_at (a0 a1 a2 a3 a4 a5 a6 a7 a8 a9 a10 a11 a12 a13 a14 a15 : FVec Ideal S688x128 .f32) (p : BitVec 32) (mix : FVec Ideal S1x1x128x128 .bf16) (s : FVec Ideal S1x1x128 .f32) (r : Fin 688) (j : Fin 128) :
    k0_pay25 (F := Ideal) (k0_pay24 (k0_pay11 p) a0 (k0_pay23 a0 a1 a2 a3 a4 a5 a6) a7 a8 a9 a10 a11 a12 a13 a14 a15 mix s) (ix2 r j)
      = mixed (fun k => less (posw p r.val) 16#32 (a0 (ix2 r k) + a1 (ix2 r k) + a2 (ix2 r k) + a3 (ix2 r k) + a4 (ix2 r k) + a5 (ix2 r k) + a6 (ix2 r k) + a7 (ix2 r k) + a8 (ix2 r k) + a9 (ix2 r k) + a10 (ix2 r k) + a11 (ix2 r k) + a12 (ix2 r k) + a13 (ix2 r k) + a14 (ix2 r k) + a15 (ix2 r k)) (a0 (ix2 r k)))
        (fun k => mix (ix4 (0 : Fin 1) (0 : Fin 1) k j)) (row3 s 0 j) := by
  unfold k0_pay25 k0_pay24 k0_pay23 k0_pay11 mixed less many posw
  pointwise
  rfl

/-! ## A tile's rows -/

section Rows

variable (i : grid0.Coords) (x0 : Vec Ideal S1x688x1024 .f32) (x1 : Vec Ideal S16x1024 .f32) (r : Fin 688) (k : Fin 1024)

theorem tile_head (hb : firstTile i = 1#1) (h : r.val < 16) : tileRows i x0 x1 (ix2 r k) = x1 (ix2 (⟨r.val, h⟩ : Fin 16) k) :=
  (if_pos hb).trans (dif_pos h)

theorem tile_rest (hb : firstTile i = 1#1) (h : ¬r.val < 16) : tileRows i x0 x1 (ix2 r k) = x0 (ix3 (0 : Fin 1) (⟨r.val - 16, by omega⟩ : Fin 688) k) :=
  (if_pos hb).trans (dif_neg h)

theorem tile_later (hb : ¬firstTile i = 1#1) : tileRows i x0 x1 (ix2 r k) = x0 (ix3 (0 : Fin 1) r k) := if_neg hb

end Rows

/-- A load of some rows of a whole block of one sequence. -/
theorem load_lead {Val : EltTy → Type} [∀ e, Nonempty (Val e)] {e : EltTy} {a b n : ℕ} {sig : RefSig} {sp : Space} (M : Memref sig .tc sp (⟨3, ![1, b, n]⟩ : Shape) e) (h : M.IsWhole)
    (x : (⟨3, ![1, b, n]⟩ : Shape).Idx → Val e) (p : ℕ)
    (inb : ∀ x, (![0, p, 0] : Fin 3 → ℕ) x + (⟨3, ![1, a, n]⟩ : Shape).size x ≤ (⟨3, ![1, b, n]⟩ : Shape).size x) (r : Fin a) (q : Fin n) (R : Fin b)
    (hR : R.val = p + r.val) :
    View.readAt Val M.view (Rect.unit (s := (⟨3, ![1, b, n]⟩ : Shape)) ![0, p, 0] (⟨3, ![1, a, n]⟩ : Shape).size inb).toLoadRect (h.unread x) (ix3 (0 : Fin 1) r q)
      = x (ix3 (0 : Fin 1) R q) := by
  rw [View.readAt_eq_ld, h.read_unread]
  refine congrArg x ?_
  funext y
  apply Fin.ext
  fin_cases y
  · rfl
  · show p + 1 * r.val = R.val; omega
  · show 0 + 1 * q.val = q.val; omega

end Cert.Kernel5Ideal.In
end
-- ==== Proof.In5BlockA.lean ====
/-
  What one body of the first layer's input stage leaves in its result blocks, at an index: the first tile of a sequence.
-/
module

public import proofs.«01_k».proof.Proof.In5Pay
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.In.A

open Cert.Kernel5Ideal Cert.Kernel5Ideal.Gen Idealize.ShloMosaic Idealize.ShloMosaic.TcCoe Idealize.SL.Sem
open Cert.OutStage Cert.InStage
open Cert.Kernel3Ideal.In (less canon_row_hit canon_row_miss readCov_rows load_rows load_mix hrow prj ucols gt group pool pool_group bsum2 bsum4 bsum8 bsum16)
open Cert.Kernel2Ideal.Out (canon_hit canon_miss canon_step readCov_cols load_cols row3)
open scoped BigOperators

variable (c : Dev nD) (i : grid0.Coords)
  (arg1 : Memref sig .tc .vmem S1x688x1024 .f32) (harg1 : arg1.IsWhole)
  (arg2 : Memref sig .tc .vmem S16x1024 .f32) (harg2 : arg2.IsWhole)
  (arg3 : Memref sig .tc .vmem S1x1x1024 .f32) (harg3 : arg3.IsWhole)
  (arg4 : Memref sig .tc .vmem S1x1024x4096 .bf16) (harg4 : arg4.IsWhole)
  (arg5 : Memref sig .tc .vmem S1x1x2048 .f32) (harg5 : arg5.IsWhole)
  (arg6 : Memref sig .tc .vmem S1x4x128x128 .bf16) (harg6 : arg6.IsWhole)
  (arg7 : Memref sig .tc .vmem S1x1x512 .f32) (harg7 : arg7.IsWhole)
  (arg8 : Memref sig .tc .vmem S1x512x1024 .bf16) (harg8 : arg8.IsWhole)
  (arg9 : Memref sig .tc .vmem S688x512 .bf16) (harg9 : arg9.IsWhole)
  (arg10 : Memref sig .tc .vmem S688x512 .bf16) (harg10 : arg10.IsWhole)
  (arg11 : Memref sig .tc .vmem S688x512 .bf16) (harg11 : arg11.IsWhole)
  (arg12 : Memref sig .tc .vmem S688x1024 .f32) (harg12 : arg12.IsWhole)
  (arg13 : Memref sig .tc .vmem S688x1024 .f32) (harg13 : arg13.IsWhole)
  (arg14 : Memref sig .tc .vmem S688x1024 .bf16) (harg14 : arg14.IsWhole)
  (arg15 : Memref sig .tc .vmem S704x512 .f32) (harg15 : arg15.IsWhole)
  (arg16 : Memref sig .tc .vmem S688x512 .bf16) (harg16 : arg16.IsWhole)
  (hc0 : cond0_0 i) (hc1 : ¬cond0_1 i)
  (x0 : Vec Ideal S1x688x1024 .f32)  (x1 : Vec Ideal S16x1024 .f32)  (x2 : Vec Ideal S1x1x1024 .f32)  (x3 : Vec Ideal S1x1024x4096 .bf16)  (x4 : Vec Ideal S1x1x2048 .f32)  (x5 : Vec Ideal S1x4x128x128 .bf16)  (x6 : Vec Ideal S1x1x512 .f32)  (x7 : Vec Ideal S1x512x1024 .bf16)

/-- The rows before the tile's. -/
abbrev halo : Fin 16 → Fin 512 → EReal := fun _ _ => (0 : EReal)

theorem h_at (r : Fin 688) (n : Fin 1024) : kernelRun0_A.sl.v62 (F := Ideal) c i arg1 harg1 arg2 harg2 arg3 harg3 arg14 x0 x1 x2 (ix2 r n) = hrow (tileRows i x0 x1) x2 r n := by
  unfold kernelRun0_A.sl.v62 kernelRun0_A.sl.HS0_2
  refine (readCov_cols arg14.view _ 0 _ r n n (Nat.zero_add _).symm).trans ?_
  by_cases h : r.val < 16
  · refine (canon_row_miss 16 _ _ _ r n (.inl h)).trans ((canon_row_hit 0 _ _ _ (⟨r.val, h⟩ : Fin 16) r n (Nat.zero_add _).symm).trans ?_)
    unfold kernelRun0_A.sl.r kernelRun0_A.sl.r_2 kernelRun0_A.sl.r_3
    refine (head_norm i _ _ _ _ n).trans ?_
    refine congrArg₂ (fun a b => rms a b n) (funext fun k => ?_) (funext fun k => load_cols arg3 harg3 x2 0 _ 0 k k (Nat.zero_add _).symm)
    refine (head_rows i _ _ _ k).trans ?_
    by_cases hb : firstTile i = 1#1
    · rw [if_pos hb, tile_head i x0 x1 r k hb h]
      exact load_rows arg2 harg2 x1 0 _ (⟨r.val, h⟩ : Fin 16) k ⟨r.val, h⟩ (Nat.zero_add _).symm
    · rw [if_neg hb, tile_later i x0 x1 r k hb]
      exact load_lead arg1 harg1 x0 0 _ (⟨r.val, h⟩ : Fin 16) k r (Nat.zero_add _).symm
  · have h' : r.val - 16 < 672 := by omega
    refine (canon_row_hit 16 _ _ _ (⟨r.val - 16, h'⟩ : Fin 672) r n (by show r.val = 16 + (r.val - 16); omega)).trans ?_
    unfold kernelRun0_A.sl.r_1
    refine (rest_norm _ _ _ n).trans ?_
    refine congrArg₂ (fun a b => rms a b n) (funext fun k => ?_) (funext fun k => load_cols arg3 harg3 x2 0 _ 0 k k (Nat.zero_add _).symm)
    refine (rest_rows i _ _ _ k).trans ?_
    by_cases hb : firstTile i = 1#1
    · rw [if_pos hb, tile_rest i x0 x1 r k hb h]
      exact load_lead arg1 harg1 x0 0 _ (⟨r.val - 16, h'⟩ : Fin 672) k _ (Nat.zero_add _).symm
    · rw [if_neg hb, tile_later i x0 x1 r k hb]
      exact load_lead arg1 harg1 x0 16 _ (⟨r.val - 16, h'⟩ : Fin 672) k r (by show r.val = 16 + (r.val - 16); omega)

/-- A projection's columns. -/
theorem times_at (o : ℕ) (inb) (r : Fin 688) (j : Fin 512) (n : Fin 4096) (hn : n.val = o + j.val) :
    times (fun k => kernelRun0_A.sl.v62 (F := Ideal) c i arg1 harg1 arg2 harg2 arg3 harg3 arg14 x0 x1 x2 (ix2 r k))
      (row3 (View.readAt (Elt Ideal) arg4.view (Rect.unit (s := S1x1024x4096) ![0, 0, o] S1x1024x512.size inb).toLoadRect (harg4.unread x3))) j
    = prj (tileRows i x0 x1) x2 x3 r n :=
  Finset.sum_congr rfl fun k _ => congrArg₂ (· * ·) (h_at c i arg1 harg1 arg2 harg2 arg3 harg3 arg14 x0 x1 x2 r k) (load_cols arg4 harg4 x3 o inb k j n hn)

theorem u_canon (R : Fin 704) (q : Fin 512) : View.canon (kernelRun0_A.sl.HS1_2 (F := Ideal) c i arg1 harg1 arg2 harg2 arg3 harg3 arg4 harg4 arg14 x0 x1 x2 x3) (ix2 R q)
    = buf (halo) (ucols (tileRows i x0 x1) x2 x3) q R.val := by
  unfold kernelRun0_A.sl.HS1_2 kernelRun0_A.sl.r_4 buf
  by_cases h : R.val < 16
  · rw [dif_pos h]
    refine (canon_row_miss 16 _ _ _ R q (.inl h)).trans ((canon_row_hit 0 _ _ _ (⟨R.val, h⟩ : Fin 16) R q (Nat.zero_add _).symm).trans ?_)
    exact zero_at _ q
  · have h' : R.val - 16 < 688 := by omega
    rw [dif_neg h, dif_pos h']
    refine (canon_row_hit 16 _ _ _ (⟨R.val - 16, h'⟩ : Fin 688) R q (by show R.val = 16 + (R.val - 16); omega)).trans ((proj_at _ _ _ q).trans ?_)
    exact times_at c i arg1 harg1 arg2 harg2 arg3 harg3 arg4 harg4 arg14 x0 x1 x2 x3 1536 _ _ q _ rfl

/-- A load of the buffer, `d` rows back. -/
theorem back (d p o : ℕ) (hp : p + d = 16) (g : Fin 4) (ho : o = 128 * g.val) (inb) (r : Fin 688) (k : Fin 128) :
    arg15.view.readCov (kernelRun0_A.sl.HS1_2 (F := Ideal) c i arg1 harg1 arg2 harg2 arg3 harg3 arg4 harg4 arg14 x0 x1 x2 x3) (Rect.unit (s := S704x512) ![p, o] S688x128.size inb).toLoadRect (ix2 r k)
    = buf (halo) (ucols (tileRows i x0 x1) x2 x3) (col g k) (16 + r.val - d) := by
  refine (readCov_rows arg15.view _ p o inb r k (⟨p + r.val, by omega⟩ : Fin 704) (col g k) rfl (by show 128 * g.val + k.val = o + k.val; omega)).trans ?_
  refine (u_canon c i arg1 harg1 arg2 harg2 arg3 harg3 arg4 harg4 arg14 x0 x1 x2 x3 _ _).trans ?_
  exact congrArg _ (by show p + r.val = 16 + r.val - d; omega)

theorem group0_at (r : Fin 688) (j : Fin 128) :
    k0_pay14 (F := Ideal) (kernelRun0_A.sl.r_6 c i arg1 harg1 arg2 harg2 arg3 harg3 arg4 harg4 arg6 harg6 arg14 arg15 x0 x1 x2 x3 x5)
      (View.readAt (Elt Ideal) arg7.view (Rect.unit (s := S1x1x512) ![0, 0, 0] S1x1x128.size inb_S1x1x512_S1x1x128_0_0_0).toLoadRect (harg7.unread x6)) (ix2 r j)
    = group x5 x6 (kernelRun0_A.sl.v9 i) (halo) (ucols (tileRows i x0 x1) x2 x3) 0 r j := by
  have B (d p : ℕ) (hp : p + d = 16) (inb) (r : Fin 688) (k : Fin 128) := back c i arg1 harg1 arg2 harg2 arg3 harg3 arg4 harg4 arg14 arg15 x0 x1 x2 x3 d p 0 hp 0 rfl inb r k
  unfold kernelRun0_A.sl.r_6 kernelRun0_A.sl.v88 kernelRun0_A.sl.v89
  refine (pool0_at _ _ _ _ _ r j).trans ?_
  unfold group mixed
  refine congrArg₂ (· * ·) (Finset.sum_congr rfl fun k _ => congrArg₂ (· * ·) (congrArg₂ (less (posw (kernelRun0_A.sl.v9 i) r.val) 2#32) ?_ (B 0 16 rfl _ r k))
    (load_mix arg6 harg6 x5 0 _ k j 0 rfl)) (load_cols arg7 harg7 x6 0 _ 0 j (col 0 j) rfl)
  exact (congrArg₂ (· + ·) (B 0 16 rfl _ r k) (B 1 15 rfl _ r k)).trans (bsum2 _ _).symm

theorem group1_at (r : Fin 688) (j : Fin 128) :
    k0_pay18 (F := Ideal) (kernelRun0_A.sl.v126 c i arg1 harg1 arg2 harg2 arg3 harg3 arg4 harg4 arg14 arg15 x0 x1 x2 x3) (kernelRun0_A.sl.r_7 c i arg1 harg1 arg2 harg2 arg3 harg3 arg4 harg4 arg14 arg15 x0 x1 x2 x3) (kernelRun0_A.sl.r_8 i)
      (View.readAt (Elt Ideal) arg6.view (Rect.unit (s := S1x4x128x128) ![0, 1, 0, 0] S1x1x128x128.size inb_S1x4x128x128_S1x1x128x128_0_1_0_0).toLoadRect (harg6.unread x5))
      (View.readAt (Elt Ideal) arg7.view (Rect.unit (s := S1x1x512) ![0, 0, 128] S1x1x128.size inb_S1x1x512_S1x1x128_0_0_128).toLoadRect (harg7.unread x6)) (ix2 r j)
    = group x5 x6 (kernelRun0_A.sl.v9 i) (halo) (ucols (tileRows i x0 x1) x2 x3) 1 r j := by
  have B (d p : ℕ) (hp : p + d = 16) (inb) (r : Fin 688) (k : Fin 128) := back c i arg1 harg1 arg2 harg2 arg3 harg3 arg4 harg4 arg14 arg15 x0 x1 x2 x3 d p 128 hp 1 rfl inb r k
  unfold kernelRun0_A.sl.r_8 kernelRun0_A.sl.r_5 kernelRun0_A.sl.r_7 kernelRun0_A.sl.v126 kernelRun0_A.sl.v127 kernelRun0_A.sl.v129 kernelRun0_A.sl.v131
  refine (pool1_at _ _ _ _ _ _ _ r j).trans ?_
  unfold group mixed
  refine congrArg₂ (· * ·) (Finset.sum_congr rfl fun k _ => congrArg₂ (· * ·) (congrArg₂ (less (posw (kernelRun0_A.sl.v9 i) r.val) 4#32) ?_ (B 0 16 rfl _ r k))
    (load_mix arg6 harg6 x5 1 _ k j 1 rfl)) (load_cols arg7 harg7 x6 128 _ 0 j (col 1 j) rfl)
  exact (congrArg₂ (· + ·) (congrArg₂ (· + ·) (congrArg₂ (· + ·) (B 0 16 rfl _ r k) (B 1 15 rfl _ r k)) (B 2 14 rfl _ r k)) (B 3 13 rfl _ r k)).trans (bsum4 _ _).symm

theorem group2_at (r : Fin 688) (j : Fin 128) :
    k0_pay21 (F := Ideal) (kernelRun0_A.sl.r_9 c i arg1 harg1 arg2 harg2 arg3 harg3 arg4 harg4 arg6 harg6 arg7 harg7 arg14 arg15 x0 x1 x2 x3 x5 x6) (ix2 r j)
    = group x5 x6 (kernelRun0_A.sl.v9 i) (halo) (ucols (tileRows i x0 x1) x2 x3) 2 r j := by
  have B (d p : ℕ) (hp : p + d = 16) (inb) (r : Fin 688) (k : Fin 128) := back c i arg1 harg1 arg2 harg2 arg3 harg3 arg4 harg4 arg14 arg15 x0 x1 x2 x3 d p 256 hp 2 rfl inb r k
  unfold kernelRun0_A.sl.r_9 kernelRun0_A.sl.r_5 kernelRun0_A.sl.v168 kernelRun0_A.sl.v169 kernelRun0_A.sl.v171 kernelRun0_A.sl.v173 kernelRun0_A.sl.v175 kernelRun0_A.sl.v177 kernelRun0_A.sl.v179 kernelRun0_A.sl.v181
  refine (pool2_at _ _ _ _ _ _ _ _ _ _ _ r j).trans ?_
  unfold group mixed
  refine congrArg₂ (· * ·) (Finset.sum_congr rfl fun k _ => congrArg₂ (· * ·) (congrArg₂ (less (posw (kernelRun0_A.sl.v9 i) r.val) 8#32) ?_ (B 0 16 rfl _ r k))
    (load_mix arg6 harg6 x5 2 _ k j 2 rfl)) (load_cols arg7 harg7 x6 256 _ 0 j (col 2 j) rfl)
  exact (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)).trans (bsum8 _ _).symm

theorem group3_at (r : Fin 688) (j : Fin 128) :
    k0_pay25 (F := Ideal) (kernelRun0_A.sl.r_11 c i arg1 harg1 arg2 harg2 arg3 harg3 arg4 harg4 arg6 harg6 arg7 harg7 arg14 arg15 x0 x1 x2 x3 x5 x6) (ix2 r j)
    = group x5 x6 (kernelRun0_A.sl.v9 i) (halo) (ucols (tileRows i x0 x1) x2 x3) 3 r j := by
  have B (d p : ℕ) (hp : p + d = 16) (inb) (r : Fin 688) (k : Fin 128) := back c i arg1 harg1 arg2 harg2 arg3 harg3 arg4 harg4 arg14 arg15 x0 x1 x2 x3 d p 384 hp 3 rfl inb r k
  unfold kernelRun0_A.sl.r_11 kernelRun0_A.sl.r_10 kernelRun0_A.sl.r_5 kernelRun0_A.sl.v218 kernelRun0_A.sl.v219 kernelRun0_A.sl.v221 kernelRun0_A.sl.v223 kernelRun0_A.sl.v225 kernelRun0_A.sl.v227 kernelRun0_A.sl.v229 kernelRun0_A.sl.v231 kernelRun0_A.sl.v233 kernelRun0_A.sl.v235 kernelRun0_A.sl.v237 kernelRun0_A.sl.v239 kernelRun0_A.sl.v241 kernelRun0_A.sl.v243 kernelRun0_A.sl.v245 kernelRun0_A.sl.v247
  refine (pool3_at _ _ _ _ _ _ _ _ _ _ _ _ _ _ _ _ _ _ _ r j).trans ?_
  unfold group mixed
  refine congrArg₂ (· * ·) (Finset.sum_congr rfl fun k _ => congrArg₂ (· * ·) (congrArg₂ (less (posw (kernelRun0_A.sl.v9 i) r.val) 16#32) ?_ (B 0 16 rfl _ r k))
    (load_mix arg6 harg6 x5 3 _ k j 3 rfl)) (load_cols arg7 harg7 x6 384 _ 0 j (col 3 j) rfl)
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)) (B 8 8 rfl _ r k)) (B 9 7 rfl _ r k)) (B 10 6 rfl _ r k)) (B 11 5 rfl _ r k)) (B 12 4 rfl _ r k)) (B 13 3 rfl _ r k)) (B 14 2 rfl _ r k)) (B 15 1 rfl _ r k)).trans (bsum16 _ _).symm

/-- The pooled columns. -/
theorem a_at (r : Fin 688) (q : Fin 512) : kernelRun0_A.sl.v286 (F := Ideal) c i arg1 harg1 arg2 harg2 arg3 harg3 arg4 harg4 arg6 harg6 arg7 harg7 arg14 arg15 arg16 x0 x1 x2 x3 x5 x6 (ix2 r q) = pool x5 x6 (kernelRun0_A.sl.v9 i) (halo) (ucols (tileRows i x0 x1) x2 x3) r q := by
  unfold kernelRun0_A.sl.v286 kernelRun0_A.sl.HS2_4
  refine (readCov_cols arg16.view _ 0 _ r q q (Nat.zero_add _).symm).trans ?_
  refine canon_step (Val := Elt Ideal) (e := .bf16) (k := 128) (G := pool x5 x6 (kernelRun0_A.sl.v9 i) (halo) (ucols (tileRows i x0 x1) x2 x3)) 384 512 rfl _ _ _ ?_
    (canon_step (k := 128) 256 384 rfl _ _ _ ?_
    (canon_step (k := 128) 128 256 rfl _ _ _ ?_
    (canon_step (k := 128) 0 128 rfl _ _ _ ?_ fun _ _ h => absurd h (Nat.not_lt_zero _)))) r q q.isLt
  · exact fun r j h => (group3_at c i arg1 harg1 arg2 harg2 arg3 harg3 arg4 harg4 arg6 harg6 arg7 harg7 arg14 arg15 x0 x1 x2 x3 x5 x6 r j).trans (pool_group x5 x6 (kernelRun0_A.sl.v9 i) (halo) (ucols (tileRows i x0 x1) x2 x3) 3 r j 384 rfl h).symm
  · exact fun r j h => (group2_at c i arg1 harg1 arg2 harg2 arg3 harg3 arg4 harg4 arg6 harg6 arg7 harg7 arg14 arg15 x0 x1 x2 x3 x5 x6 r j).trans (pool_group x5 x6 (kernelRun0_A.sl.v9 i) (halo) (ucols (tileRows i x0 x1) x2 x3) 2 r j 256 rfl h).symm
  · exact fun r j h => (group1_at c i arg1 harg1 arg2 harg2 arg3 harg3 arg4 harg4 arg6 harg6 arg7 harg7 arg14 arg15 x0 x1 x2 x3 x5 x6 r j).trans (pool_group x5 x6 (kernelRun0_A.sl.v9 i) (halo) (ucols (tileRows i x0 x1) x2 x3) 1 r j 128 rfl h).symm
  · exact fun r j h => (group0_at c i arg1 harg1 arg2 harg2 arg3 harg3 arg4 harg4 arg6 harg6 arg7 harg7 arg14 arg15 x0 x1 x2 x3 x5 x6 r j).trans (pool_group x5 x6 (kernelRun0_A.sl.v9 i) (halo) (ucols (tileRows i x0 x1) x2 x3) 0 r j 0 rfl h).symm

/-- A gate's columns. -/
theorem gate_at (o o' : ℕ) (ho : o = 2048 + o') (inb inb') (f : FVec Ideal S688x1024 .bf16 → FVec Ideal S1x1024x512 .bf16 → FVec Ideal S1x1x512 .f32 → FVec Ideal S688x512 .f32)
    (hf : ∀ h w b (r : Fin 688) (j : Fin 512), f h w b (ix2 r j) = sigm (times (fun k => h (ix2 r k)) (row3 w) j + row3 b 0 j))
    (r : Fin 688) (j : Fin 512) (h : o' + j.val < 2048) :
    f (kernelRun0_A.sl.v62 (F := Ideal) c i arg1 harg1 arg2 harg2 arg3 harg3 arg14 x0 x1 x2)
      (View.readAt (Elt Ideal) arg4.view (Rect.unit (s := S1x1024x4096) ![0, 0, o] S1x1024x512.size inb).toLoadRect (harg4.unread x3))
      (View.readAt (Elt Ideal) arg5.view (Rect.unit (s := S1x1x2048) ![0, 0, o'] S1x1x512.size inb').toLoadRect (harg5.unread x4)) (ix2 r j)
    = gt (tileRows i x0 x1) x2 x3 x4 r ⟨o' + j.val, h⟩ := by
  refine (hf _ _ _ r j).trans (congrArg sigm (congrArg₂ (· + ·) ?_ (load_cols arg5 harg5 x4 o' inb' 0 j _ rfl)))
  exact times_at c i arg1 harg1 arg2 harg2 arg3 harg3 arg4 harg4 arg14 x0 x1 x2 x3 o inb r j _ (by subst ho; show 2048 + (o' + j.val) = 2048 + o' + j.val; omega)

/-- The first gate as it is kept. -/
theorem g_canon (r : Fin 688) (n : Fin 1024) : View.canon (kernelRun0_A.sl.H11_2 (F := Ideal) c i arg1 harg1 arg2 harg2 arg3 harg3 arg4 harg4 arg5 harg5 arg14 x0 x1 x2 x3 x4) (ix2 r n) = gt (tileRows i x0 x1) x2 x3 x4 r ⟨n.val, by omega⟩ := by
  unfold kernelRun0_A.sl.H11_2
  refine canon_step (Val := Elt Ideal) (e := .f32) (k := 512) (G := fun r n => gt (tileRows i x0 x1) x2 x3 x4 r ⟨n.val, by omega⟩) 512 1024 rfl _ _ _ ?_
    (canon_step (k := 512) 0 512 rfl _ _ _ ?_ fun _ _ h => absurd h (Nat.not_lt_zero _)) r n n.isLt
  · exact fun r j h => gate_at c i arg1 harg1 arg2 harg2 arg3 harg3 arg4 harg4 arg5 harg5 arg14 x0 x1 x2 x3 x4 2560 512 rfl _ _ _ gate14_at r j (by omega)
  · exact fun r j h => gate_at c i arg1 harg1 arg2 harg2 arg3 harg3 arg4 harg4 arg5 harg5 arg14 x0 x1 x2 x3 x4 2048 0 rfl _ _ _ gate8_at r j (by omega)

/-- The pooled branch, gated. -/
abbrev prow (i : grid0.Coords) (r : Fin 688) (n : Fin 1024) : EReal := gt (tileRows i x0 x1) x2 x3 x4 r ⟨n.val, by omega⟩ * times (pool x5 x6 (kernelRun0_A.sl.v9 i) (halo) (ucols (tileRows i x0 x1) x2 x3) r) (row3 x7) n

theorem p_times (o : ℕ) (inb) (r : Fin 688) (j : Fin 512) (n : Fin 1024) (hn : n.val = o + j.val) :
    times (fun k => kernelRun0_A.sl.v286 (F := Ideal) c i arg1 harg1 arg2 harg2 arg3 harg3 arg4 harg4 arg6 harg6 arg7 harg7 arg14 arg15 arg16 x0 x1 x2 x3 x5 x6 (ix2 r k))
      (row3 (View.readAt (Elt Ideal) arg8.view (Rect.unit (s := S1x512x1024) ![0, 0, o] ![1, 512, 512] inb).toLoadRect (harg8.unread x7))) j
    = times (pool x5 x6 (kernelRun0_A.sl.v9 i) (halo) (ucols (tileRows i x0 x1) x2 x3) r) (row3 x7) n :=
  Finset.sum_congr rfl fun k _ => congrArg₂ (· * ·) (a_at c i arg1 harg1 arg2 harg2 arg3 harg3 arg4 harg4 arg6 harg6 arg7 harg7 arg14 arg15 arg16 x0 x1 x2 x3 x5 x6 r k) (load_cols (a := 512) (k := 512) arg8 harg8 x7 o inb k j n hn)

theorem g_left (r : Fin 688) (j : Fin 512) : kernelRun0_A.sl.v287 (F := Ideal) c i arg1 harg1 arg2 harg2 arg3 harg3 arg4 harg4 arg5 harg5 arg12 arg14 x0 x1 x2 x3 x4 (ix2 r j) = gt (tileRows i x0 x1) x2 x3 x4 r ⟨j.val, by omega⟩ := by
  unfold kernelRun0_A.sl.v287
  exact (readCov_cols (a := 688) (k := 512) arg12.view _ 0 _ r j (⟨j.val, by omega⟩ : Fin 1024) (Nat.zero_add _).symm).trans (g_canon c i arg1 harg1 arg2 harg2 arg3 harg3 arg4 harg4 arg5 harg5 arg14 x0 x1 x2 x3 x4 r _)

theorem g_right (r : Fin 688) (j : Fin 512) : kernelRun0_A.sl.v294 (F := Ideal) c i arg1 harg1 arg2 harg2 arg3 harg3 arg4 harg4 arg5 harg5 arg6 harg6 arg7 harg7 arg8 harg8 arg12 arg14 arg15 arg16 x0 x1 x2 x3 x4 x5 x6 x7 (ix2 r j) = gt (tileRows i x0 x1) x2 x3 x4 r ⟨512 + j.val, by omega⟩ := by
  unfold kernelRun0_A.sl.v294 kernelRun0_A.sl.H11_3
  exact (readCov_cols (a := 688) (k := 512) arg12.view _ 512 _ r j (⟨512 + j.val, by omega⟩ : Fin 1024) rfl).trans
    ((canon_miss (a := 688) (k := 512) 0 _ _ _ r _ (.inr (by show 0 + 512 ≤ 512 + j.val; omega))).trans (g_canon c i arg1 harg1 arg2 harg2 arg3 harg3 arg4 harg4 arg5 harg5 arg14 x0 x1 x2 x3 x4 r _))

theorem block8_at (r : Fin 688) (j : Fin 512) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r j) = prj (tileRows i x0 x1) x2 x3 r ⟨0 + j.val, by omega⟩ * eighth := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine (canon_hit (a := 688) (k := 512) 0 _ _ _ r j j (Nat.zero_add _).symm).trans ((q_at _ _ r j).trans ?_)
  exact congrArg (· * eighth) (times_at c i arg1 harg1 arg2 harg2 arg3 harg3 arg4 harg4 arg14 x0 x1 x2 x3 0 _ r j _ rfl)

theorem block9_at (r : Fin 688) (j : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r j) = prj (tileRows i x0 x1) x2 x3 r ⟨512 + j.val, by omega⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine (canon_hit (a := 688) (k := 512) 0 _ _ _ r j j (Nat.zero_add _).symm).trans ((k_at _ _ r j).trans ?_)
  exact times_at c i arg1 harg1 arg2 harg2 arg3 harg3 arg4 harg4 arg14 x0 x1 x2 x3 512 _ r j _ rfl

theorem block10_at (r : Fin 688) (j : Fin 512) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r j) = prj (tileRows i x0 x1) x2 x3 r ⟨1024 + j.val, by omega⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine (canon_hit (a := 688) (k := 512) 0 _ _ _ r j j (Nat.zero_add _).symm).trans ((v_at _ _ r j).trans ?_)
  exact times_at c i arg1 harg1 arg2 harg2 arg3 harg3 arg4 harg4 arg14 x0 x1 x2 x3 1024 _ r j _ rfl

theorem block11_at (r : Fin 688) (n : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r n) = prow x0 x1 x2 x3 x4 x5 x6 x7 i r n := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  unfold kernelRun0_A.sl.H11_3 kernelRun0_A.sl.r_12
  refine canon_step (Val := Elt Ideal) (e := .f32) (k := 512) (G := prow x0 x1 x2 x3 x4 x5 x6 x7 i) 512 1024 rfl _ _ _ ?_
    (canon_step (k := 512) 0 512 rfl _ _ _ ?_ fun _ _ h => absurd h (Nat.not_lt_zero _)) r n n.isLt
  · exact fun r j h => (p2_at _ _ _ r j).trans (congrArg₂ (· * ·) (g_right c i arg1 harg1 arg2 harg2 arg3 harg3 arg4 harg4 arg5 harg5 arg6 harg6 arg7 harg7 arg8 harg8 arg12 arg14 arg15 arg16 x0 x1 x2 x3 x4 x5 x6 x7 r j) (p_times c i arg1 harg1 arg2 harg2 arg3 harg3 arg4 harg4 arg6 harg6 arg7 harg7 arg8 harg8 arg14 arg15 arg16 x0 x1 x2 x3 x5 x6 x7 512 _ r j _ rfl))
  · exact fun r j h => (p1_at _ _ _ r j).trans (congrArg₂ (· * ·) ((g_left c i arg1 harg1 arg2 harg2 arg3 harg3 arg4 harg4 arg5 harg5 arg12 arg14 x0 x1 x2 x3 x4 r j).trans (congrArg (gt (tileRows i x0 x1) x2 x3 x4 r) (Fin.ext (Nat.zero_add _).symm)))
      (p_times c i arg1 harg1 arg2 harg2 arg3 harg3 arg4 harg4 arg6 harg6 arg7 harg7 arg8 harg8 arg14 arg15 arg16 x0 x1 x2 x3 x5 x6 x7 0 _ r j _ rfl))

theorem block12_at (r : Fin 688) (n : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 r n) = gt (tileRows i x0 x1) x2 x3 x4 r ⟨1024 + n.val, by omega⟩ := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  refine canon_step (Val := Elt Ideal) (e := .f32) (k := 512) (G := fun r n => gt (tileRows i x0 x1) x2 x3 x4 r ⟨1024 + n.val, by omega⟩) 512 1024 rfl _ _ _ ?_
    (canon_step (k := 512) 0 512 rfl _ _ _ ?_ fun _ _ h => absurd h (Nat.not_lt_zero _)) r n n.isLt
  · exact fun r j h => (gate_at c i arg1 harg1 arg2 harg2 arg3 harg3 arg4 harg4 arg5 harg5 arg14 x0 x1 x2 x3 x4 3584 1536 rfl _ _ _ gate18_at r j (by omega)).trans
      (congrArg (gt (tileRows i x0 x1) x2 x3 x4 r) (Fin.ext (by show 1536 + j.val = 1024 + (512 + j.val); omega)))
  · exact fun r j h => (gate_at c i arg1 harg1 arg2 harg2 arg3 harg3 arg4 harg4 arg5 harg5 arg14 x0 x1 x2 x3 x4 3072 1024 rfl _ _ _ gate12_at r j (by omega)).trans
      (congrArg (gt (tileRows i x0 x1) x2 x3 x4 r) (Fin.ext (by show 1024 + j.val = 1024 + (0 + j.val); omega)))

/-- The rows kept for the next tile. -/
theorem kept_at (R : Fin 704) (q : Fin 512) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (ix2 R q) = buf (halo) (ucols (tileRows i x0 x1) x2 x3) q R.val := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  exact u_canon c i arg1 harg1 arg2 harg2 arg3 harg3 arg4 harg4 arg14 x0 x1 x2 x3 R q

end Cert.Kernel5Ideal.In.A
end
-- ==== Proof.In5BlockB.lean ====
/-
  What one body of the first layer's input stage leaves in its result blocks, at an index: a tile with one before it in its sequence.
-/
module

public import proofs.«01_k».proof.Proof.In5Pay
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.In.B

open Cert.Kernel5Ideal Cert.Kernel5Ideal.Gen Idealize.ShloMosaic Idealize.ShloMosaic.TcCoe Idealize.SL.Sem
open Cert.OutStage Cert.InStage
open Cert.Kernel3Ideal.In (less canon_row_hit canon_row_miss readCov_rows load_rows load_mix hrow prj ucols gt group pool pool_group bsum2 bsum4 bsum8 bsum16)
open Cert.Kernel2Ideal.Out (canon_hit canon_miss canon_step readCov_cols load_cols row3)
open scoped BigOperators

variable (c : Dev nD) (i : grid0.Coords)
  (arg1 : Memref sig .tc .vmem S1x688x1024 .f32) (harg1 : arg1.IsWhole)
  (arg2 : Memref sig .tc .vmem S16x1024 .f32) (harg2 : arg2.IsWhole)
  (arg3 : Memref sig .tc .vmem S1x1x1024 .f32) (harg3 : arg3.IsWhole)
  (arg4 : Memref sig .tc .vmem S1x1024x4096 .bf16) (harg4 : arg4.IsWhole)
  (arg5 : Memref sig .tc .vmem S1x1x2048 .f32) (harg5 : arg5.IsWhole)
  (arg6 : Memref sig .tc .vmem S1x4x128x128 .bf16) (harg6 : arg6.IsWhole)
  (arg7 : Memref sig .tc .vmem S1x1x512 .f32) (harg7 : arg7.IsWhole)
  (arg8 : Memref sig .tc .vmem S1x512x1024 .bf16) (harg8 : arg8.IsWhole)
  (arg9 : Memref sig .tc .vmem S688x512 .bf16) (harg9 : arg9.IsWhole)
  (arg10 : Memref sig .tc .vmem S688x512 .bf16) (harg10 : arg10.IsWhole)
  (arg11 : Memref sig .tc .vmem S688x512 .bf16) (harg11 : arg11.IsWhole)
  (arg12 : Memref sig .tc .vmem S688x1024 .f32) (harg12 : arg12.IsWhole)
  (arg13 : Memref sig .tc .vmem S688x1024 .f32) (harg13 : arg13.IsWhole)
  (arg14 : Memref sig .tc .vmem S688x1024 .bf16) (harg14 : arg14.IsWhole)
  (arg15 : Memref sig .tc .vmem S704x512 .f32) (harg15 : arg15.IsWhole)
  (arg16 : Memref sig .tc .vmem S688x512 .bf16) (harg16 : arg16.IsWhole)
  (hc0 : ¬cond0_0 i) (hc1 : cond0_1 i)
  (x0 : Vec Ideal S1x688x1024 .f32)  (x1 : Vec Ideal S16x1024 .f32)  (x2 : Vec Ideal S1x1x1024 .f32)  (x3 : Vec Ideal S1x1024x4096 .bf16)  (x4 : Vec Ideal S1x1x2048 .f32)  (x5 : Vec Ideal S1x4x128x128 .bf16)  (x6 : Vec Ideal S1x1x512 .f32)  (x7 : Vec Ideal S1x512x1024 .bf16)
  (xs1 : Vec Ideal S704x512 .f32)

/-- The rows before the tile's. -/
abbrev halo (xs1 : Vec Ideal S704x512 .f32) : Fin 16 → Fin 512 → EReal := fun a q => xs1 (ix2 (⟨688 + a.val, by omega⟩ : Fin 704) q)

theorem h_at (r : Fin 688) (n : Fin 1024) : kernelRun0_B.sl.v62 (F := Ideal) c i arg1 harg1 arg2 harg2 arg3 harg3 arg14 x0 x1 x2 (ix2 r n) = hrow (tileRows i x0 x1) x2 r n := by
  unfold kernelRun0_B.sl.v62 kernelRun0_B.sl.HS0_2
  refine (readCov_cols arg14.view _ 0 _ r n n (Nat.zero_add _).symm).trans ?_
  by_cases h : r.val < 16
  · refine (canon_row_miss 16 _ _ _ r n (.inl h)).trans ((canon_row_hit 0 _ _ _ (⟨r.val, h⟩ : Fin 16) r n (Nat.zero_add _).symm).trans ?_)
    unfold kernelRun0_B.sl.r kernelRun0_B.sl.r_2 kernelRun0_B.sl.r_3
    refine (head_norm i _ _ _ _ n).trans ?_
    refine congrArg₂ (fun a b => rms a b n) (funext fun k => ?_) (funext fun k => load_cols arg3 harg3 x2 0 _ 0 k k (Nat.zero_add _).symm)
    refine (head_rows i _ _ _ k).trans ?_
    by_cases hb : firstTile i = 1#1
    · rw [if_pos hb, tile_head i x0 x1 r k hb h]
      exact load_rows arg2 harg2 x1 0 _ (⟨r.val, h⟩ : Fin 16) k ⟨r.val, h⟩ (Nat.zero_add _).symm
    · rw [if_neg hb, tile_later i x0 x1 r k hb]
      exact load_lead arg1 harg1 x0 0 _ (⟨r.val, h⟩ : Fin 16) k r (Nat.zero_add _).symm
  · have h' : r.val - 16 < 672 := by omega
    refine (canon_row_hit 16 _ _ _ (⟨r.val - 16, h'⟩ : Fin 672) r n (by show r.val = 16 + (r.val - 16); omega)).trans ?_
    unfold kernelRun0_B.sl.r_1
    refine (rest_norm _ _ _ n).trans ?_
    refine congrArg₂ (fun a b => rms a b n) (funext fun k => ?_) (funext fun k => load_cols arg3 harg3 x2 0 _ 0 k k (Nat.zero_add _).symm)
    refine (rest_rows i _ _ _ k).trans ?_
    by_cases hb : firstTile i = 1#1
    · rw [if_pos hb, tile_rest i x0 x1 r k hb h]
      exact load_lead arg1 harg1 x0 0 _ (⟨r.val - 16, h'⟩ : Fin 672) k _ (Nat.zero_add _).symm
    · rw [if_neg hb, tile_later i x0 x1 r k hb]
      exact load_lead arg1 harg1 x0 16 _ (⟨r.val - 16, h'⟩ : Fin 672) k r (by show r.val = 16 + (r.val - 16); omega)

/-- A projection's columns. -/
theorem times_at (o : ℕ) (inb) (r : Fin 688) (j : Fin 512) (n : Fin 4096) (hn : n.val = o + j.val) :
    times (fun k => kernelRun0_B.sl.v62 (F := Ideal) c i arg1 harg1 arg2 harg2 arg3 harg3 arg14 x0 x1 x2 (ix2 r k))
      (row3 (View.readAt (Elt Ideal) arg4.view (Rect.unit (s := S1x1024x4096) ![0, 0, o] S1x1024x512.size inb).toLoadRect (harg4.unread x3))) j
    = prj (tileRows i x0 x1) x2 x3 r n :=
  Finset.sum_congr rfl fun k _ => congrArg₂ (· * ·) (h_at c i arg1 harg1 arg2 harg2 arg3 harg3 arg14 x0 x1 x2 r k) (load_cols arg4 harg4 x3 o inb k j n hn)

theorem u_canon (R : Fin 704) (q : Fin 512) : View.canon (kernelRun0_B.sl.HS1_2 (F := Ideal) c i arg1 harg1 arg2 harg2 arg3 harg3 arg4 harg4 arg14 arg15 harg15 x0 x1 x2 x3 xs1) (ix2 R q)
    = buf (halo xs1) (ucols (tileRows i x0 x1) x2 x3) q R.val := by
  unfold kernelRun0_B.sl.HS1_2 kernelRun0_B.sl.r_4 buf
  by_cases h : R.val < 16
  · rw [dif_pos h]
    refine (canon_row_miss 16 _ _ _ R q (.inl h)).trans ((canon_row_hit 0 _ _ _ (⟨R.val, h⟩ : Fin 16) R q (Nat.zero_add _).symm).trans ?_)
    exact (keep_at _ _ q).trans (load_rows arg15 harg15 xs1 688 _ (⟨R.val, h⟩ : Fin 16) q ⟨688 + R.val, by omega⟩ rfl)
  · have h' : R.val - 16 < 688 := by omega
    rw [dif_neg h, dif_pos h']
    refine (canon_row_hit 16 _ _ _ (⟨R.val - 16, h'⟩ : Fin 688) R q (by show R.val = 16 + (R.val - 16); omega)).trans ((proj_at _ _ _ q).trans ?_)
    exact times_at c i arg1 harg1 arg2 harg2 arg3 harg3 arg4 harg4 arg14 x0 x1 x2 x3 1536 _ _ q _ rfl

/-- A load of the buffer, `d` rows back. -/
theorem back (d p o : ℕ) (hp : p + d = 16) (g : Fin 4) (ho : o = 128 * g.val) (inb) (r : Fin 688) (k : Fin 128) :
    arg15.view.readCov (kernelRun0_B.sl.HS1_2 (F := Ideal) c i arg1 harg1 arg2 harg2 arg3 harg3 arg4 harg4 arg14 arg15 harg15 x0 x1 x2 x3 xs1) (Rect.unit (s := S704x512) ![p, o] S688x128.size inb).toLoadRect (ix2 r k)
    = buf (halo xs1) (ucols (tileRows i x0 x1) x2 x3) (col g k) (16 + r.val - d) := by
  refine (readCov_rows arg15.view _ p o inb r k (⟨p + r.val, by omega⟩ : Fin 704) (col g k) rfl (by show 128 * g.val + k.val = o + k.val; omega)).trans ?_
  refine (u_canon c i arg1 harg1 arg2 harg2 arg3 harg3 arg4 harg4 arg14 arg15 harg15 x0 x1 x2 x3 xs1 _ _).trans ?_
  exact congrArg _ (by show p + r.val = 16 + r.val - d; omega)

theorem group0_at (r : Fin 688) (j : Fin 128) :
    k0_pay14 (F := Ideal) (kernelRun0_B.sl.r_6 c i arg1 harg1 arg2 harg2 arg3 harg3 arg4 harg4 arg6 harg6 arg14 arg15 harg15 x0 x1 x2 x3 x5 xs1)
      (View.readAt (Elt Ideal) arg7.view (Rect.unit (s := S1x1x512) ![0, 0, 0] S1x1x128.size inb_S1x1x512_S1x1x128_0_0_0).toLoadRect (harg7.unread x6)) (ix2 r j)
    = group x5 x6 (kernelRun0_B.sl.v9 i) (halo xs1) (ucols (tileRows i x0 x1) x2 x3) 0 r j := by
  have B (d p : ℕ) (hp : p + d = 16) (inb) (r : Fin 688) (k : Fin 128) := back c i arg1 harg1 arg2 harg2 arg3 harg3 arg4 harg4 arg14 arg15 harg15 x0 x1 x2 x3 xs1 d p 0 hp 0 rfl inb r k
  unfold kernelRun0_B.sl.r_6 kernelRun0_B.sl.v88 kernelRun0_B.sl.v89
  refine (pool0_at _ _ _ _ _ r j).trans ?_
  unfold group mixed
  refine congrArg₂ (· * ·) (Finset.sum_congr rfl fun k _ => congrArg₂ (· * ·) (congrArg₂ (less (posw (kernelRun0_B.sl.v9 i) r.val) 2#32) ?_ (B 0 16 rfl _ r k))
    (load_mix arg6 harg6 x5 0 _ k j 0 rfl)) (load_cols arg7 harg7 x6 0 _ 0 j (col 0 j) rfl)
  exact (congrArg₂ (· + ·) (B 0 16 rfl _ r k) (B 1 15 rfl _ r k)).trans (bsum2 _ _).symm

theorem group1_at (r : Fin 688) (j : Fin 128) :
    k0_pay18 (F := Ideal) (kernelRun0_B.sl.v126 c i arg1 harg1 arg2 harg2 arg3 harg3 arg4 harg4 arg14 arg15 harg15 x0 x1 x2 x3 xs1) (kernelRun0_B.sl.r_7 c i arg1 harg1 arg2 harg2 arg3 harg3 arg4 harg4 arg14 arg15 harg15 x0 x1 x2 x3 xs1) (kernelRun0_B.sl.r_8 i)
      (View.readAt (Elt Ideal) arg6.view (Rect.unit (s := S1x4x128x128) ![0, 1, 0, 0] S1x1x128x128.size inb_S1x4x128x128_S1x1x128x128_0_1_0_0).toLoadRect (harg6.unread x5))
      (View.readAt (Elt Ideal) arg7.view (Rect.unit (s := S1x1x512) ![0, 0, 128] S1x1x128.size inb_S1x1x512_S1x1x128_0_0_128).toLoadRect (harg7.unread x6)) (ix2 r j)
    = group x5 x6 (kernelRun0_B.sl.v9 i) (halo xs1) (ucols (tileRows i x0 x1) x2 x3) 1 r j := by
  have B (d p : ℕ) (hp : p + d = 16) (inb) (r : Fin 688) (k : Fin 128) := back c i arg1 harg1 arg2 harg2 arg3 harg3 arg4 harg4 arg14 arg15 harg15 x0 x1 x2 x3 xs1 d p 128 hp 1 rfl inb r k
  unfold kernelRun0_B.sl.r_8 kernelRun0_B.sl.r_5 kernelRun0_B.sl.r_7 kernelRun0_B.sl.v126 kernelRun0_B.sl.v127 kernelRun0_B.sl.v129 kernelRun0_B.sl.v131
  refine (pool1_at _ _ _ _ _ _ _ r j).trans ?_
  unfold group mixed
  refine congrArg₂ (· * ·) (Finset.sum_congr rfl fun k _ => congrArg₂ (· * ·) (congrArg₂ (less (posw (kernelRun0_B.sl.v9 i) r.val) 4#32) ?_ (B 0 16 rfl _ r k))
    (load_mix arg6 harg6 x5 1 _ k j 1 rfl)) (load_cols arg7 harg7 x6 128 _ 0 j (col 1 j) rfl)
  exact (congrArg₂ (· + ·) (congrArg₂ (· + ·) (congrArg₂ (· + ·) (B 0 16 rfl _ r k) (B 1 15 rfl _ r k)) (B 2 14 rfl _ r k)) (B 3 13 rfl _ r k)).trans (bsum4 _ _).symm

theorem group2_at (r : Fin 688) (j : Fin 128) :
    k0_pay21 (F := Ideal) (kernelRun0_B.sl.r_9 c i arg1 harg1 arg2 harg2 arg3 harg3 arg4 harg4 arg6 harg6 arg7 harg7 arg14 arg15 harg15 x0 x1 x2 x3 x5 x6 xs1) (ix2 r j)
    = group x5 x6 (kernelRun0_B.sl.v9 i) (halo xs1) (ucols (tileRows i x0 x1) x2 x3) 2 r j := by
  have B (d p : ℕ) (hp : p + d = 16) (inb) (r : Fin 688) (k : Fin 128) := back c i arg1 harg1 arg2 harg2 arg3 harg3 arg4 harg4 arg14 arg15 harg15 x0 x1 x2 x3 xs1 d p 256 hp 2 rfl inb r k
  unfold kernelRun0_B.sl.r_9 kernelRun0_B.sl.r_5 kernelRun0_B.sl.v168 kernelRun0_B.sl.v169 kernelRun0_B.sl.v171 kernelRun0_B.sl.v173 kernelRun0_B.sl.v175 kernelRun0_B.sl.v177 kernelRun0_B.sl.v179 kernelRun0_B.sl.v181
  refine (pool2_at _ _ _ _ _ _ _ _ _ _ _ r j).trans ?_
  unfold group mixed
  refine congrArg₂ (· * ·) (Finset.sum_congr rfl fun k _ => congrArg₂ (· * ·) (congrArg₂ (less (posw (kernelRun0_B.sl.v9 i) r.val) 8#32) ?_ (B 0 16 rfl _ r k))
    (load_mix arg6 harg6 x5 2 _ k j 2 rfl)) (load_cols arg7 harg7 x6 256 _ 0 j (col 2 j) rfl)
  exact (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)).trans (bsum8 _ _).symm

theorem group3_at (r : Fin 688) (j : Fin 128) :
    k0_pay25 (F := Ideal) (kernelRun0_B.sl.r_11 c i arg1 harg1 arg2 harg2 arg3 harg3 arg4 harg4 arg6 harg6 arg7 harg7 arg14 arg15 harg15 x0 x1 x2 x3 x5 x6 xs1) (ix2 r j)
    = group x5 x6 (kernelRun0_B.sl.v9 i) (halo xs1) (ucols (tileRows i x0 x1) x2 x3) 3 r j := by
  have B (d p : ℕ) (hp : p + d = 16) (inb) (r : Fin 688) (k : Fin 128) := back c i arg1 harg1 arg2 harg2 arg3 harg3 arg4 harg4 arg14 arg15 harg15 x0 x1 x2 x3 xs1 d p 384 hp 3 rfl inb r k
  unfold kernelRun0_B.sl.r_11 kernelRun0_B.sl.r_10 kernelRun0_B.sl.r_5 kernelRun0_B.sl.v218 kernelRun0_B.sl.v219 kernelRun0_B.sl.v221 kernelRun0_B.sl.v223 kernelRun0_B.sl.v225 kernelRun0_B.sl.v227 kernelRun0_B.sl.v229 kernelRun0_B.sl.v231 kernelRun0_B.sl.v233 kernelRun0_B.sl.v235 kernelRun0_B.sl.v237 kernelRun0_B.sl.v239 kernelRun0_B.sl.v241 kernelRun0_B.sl.v243 kernelRun0_B.sl.v245 kernelRun0_B.sl.v247
  refine (pool3_at _ _ _ _ _ _ _ _ _ _ _ _ _ _ _ _ _ _ _ r j).trans ?_
  unfold group mixed
  refine congrArg₂ (· * ·) (Finset.sum_congr rfl fun k _ => congrArg₂ (· * ·) (congrArg₂ (less (posw (kernelRun0_B.sl.v9 i) r.val) 16#32) ?_ (B 0 16 rfl _ r k))
    (load_mix arg6 harg6 x5 3 _ k j 3 rfl)) (load_cols arg7 harg7 x6 384 _ 0 j (col 3 j) rfl)
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (B 0 16 rfl _ r k) (B 1 15 rfl _ r k)) (B 2 14 rfl _ r k)) (B 3 13 rfl _ r k)) (B 4 12 rfl _ r k)) (B 5 11 rfl _ r k)) (B 6 10 rfl _ r k)) (B 7 9 rfl _ r k)) (B 8 8 rfl _ r k)) (B 9 7 rfl _ r k)) (B 10 6 rfl _ r k)) (B 11 5 rfl _ r k)) (B 12 4 rfl _ r k)) (B 13 3 rfl _ r k)) (B 14 2 rfl _ r k)) (B 15 1 rfl _ r k)).trans (bsum16 _ _).symm

/-- The pooled columns. -/
theorem a_at (r : Fin 688) (q : Fin 512) : kernelRun0_B.sl.v286 (F := Ideal) c i arg1 harg1 arg2 harg2 arg3 harg3 arg4 harg4 arg6 harg6 arg7 harg7 arg14 arg15 harg15 arg16 x0 x1 x2 x3 x5 x6 xs1 (ix2 r q) = pool x5 x6 (kernelRun0_B.sl.v9 i) (halo xs1) (ucols (tileRows i x0 x1) x2 x3) r q := by
  unfold kernelRun0_B.sl.v286 kernelRun0_B.sl.HS2_4
  refine (readCov_cols arg16.view _ 0 _ r q q (Nat.zero_add _).symm).trans ?_
  refine canon_step (Val := Elt Ideal) (e := .bf16) (k := 128) (G := pool x5 x6 (kernelRun0_B.sl.v9 i) (halo xs1) (ucols (tileRows i x0 x1) x2 x3)) 384 512 rfl _ _ _ ?_
    (canon_step (k := 128) 256 384 rfl _ _ _ ?_
    (canon_step (k := 128) 128 256 rfl _ _ _ ?_
    (canon_step (k := 128) 0 128 rfl _ _ _ ?_ fun _ _ h => absurd h (Nat.not_lt_zero _)))) r q q.isLt
  · exact fun r j h => (group3_at c i arg1 harg1 arg2 harg2 arg3 harg3 arg4 harg4 arg6 harg6 arg7 harg7 arg14 arg15 harg15 x0 x1 x2 x3 x5 x6 xs1 r j).trans (pool_group x5 x6 (kernelRun0_B.sl.v9 i) (halo xs1) (ucols (tileRows i x0 x1) x2 x3) 3 r j 384 rfl h).symm
  · exact fun r j h => (group2_at c i arg1 harg1 arg2 harg2 arg3 harg3 arg4 harg4 arg6 harg6 arg7 harg7 arg14 arg15 harg15 x0 x1 x2 x3 x5 x6 xs1 r j).trans (pool_group x5 x6 (kernelRun0_B.sl.v9 i) (halo xs1) (ucols (tileRows i x0 x1) x2 x3) 2 r j 256 rfl h).symm
  · exact fun r j h => (group1_at c i arg1 harg1 arg2 harg2 arg3 harg3 arg4 harg4 arg6 harg6 arg7 harg7 arg14 arg15 harg15 x0 x1 x2 x3 x5 x6 xs1 r j).trans (pool_group x5 x6 (kernelRun0_B.sl.v9 i) (halo xs1) (ucols (tileRows i x0 x1) x2 x3) 1 r j 128 rfl h).symm
  · exact fun r j h => (group0_at c i arg1 harg1 arg2 harg2 arg3 harg3 arg4 harg4 arg6 harg6 arg7 harg7 arg14 arg15 harg15 x0 x1 x2 x3 x5 x6 xs1 r j).trans (pool_group x5 x6 (kernelRun0_B.sl.v9 i) (halo xs1) (ucols (tileRows i x0 x1) x2 x3) 0 r j 0 rfl h).symm

/-- A gate's columns. -/
theorem gate_at (o o' : ℕ) (ho : o = 2048 + o') (inb inb') (f : FVec Ideal S688x1024 .bf16 → FVec Ideal S1x1024x512 .bf16 → FVec Ideal S1x1x512 .f32 → FVec Ideal S688x512 .f32)
    (hf : ∀ h w b (r : Fin 688) (j : Fin 512), f h w b (ix2 r j) = sigm (times (fun k => h (ix2 r k)) (row3 w) j + row3 b 0 j))
    (r : Fin 688) (j : Fin 512) (h : o' + j.val < 2048) :
    f (kernelRun0_B.sl.v62 (F := Ideal) c i arg1 harg1 arg2 harg2 arg3 harg3 arg14 x0 x1 x2)
      (View.readAt (Elt Ideal) arg4.view (Rect.unit (s := S1x1024x4096) ![0, 0, o] S1x1024x512.size inb).toLoadRect (harg4.unread x3))
      (View.readAt (Elt Ideal) arg5.view (Rect.unit (s := S1x1x2048) ![0, 0, o'] S1x1x512.size inb').toLoadRect (harg5.unread x4)) (ix2 r j)
    = gt (tileRows i x0 x1) x2 x3 x4 r ⟨o' + j.val, h⟩ := by
  refine (hf _ _ _ r j).trans (congrArg sigm (congrArg₂ (· + ·) ?_ (load_cols arg5 harg5 x4 o' inb' 0 j _ rfl)))
  exact times_at c i arg1 harg1 arg2 harg2 arg3 harg3 arg4 harg4 arg14 x0 x1 x2 x3 o inb r j _ (by subst ho; show 2048 + (o' + j.val) = 2048 + o' + j.val; omega)

/-- The first gate as it is kept. -/
theorem g_canon (r : Fin 688) (n : Fin 1024) : View.canon (kernelRun0_B.sl.H11_2 (F := Ideal) c i arg1 harg1 arg2 harg2 arg3 harg3 arg4 harg4 arg5 harg5 arg14 x0 x1 x2 x3 x4) (ix2 r n) = gt (tileRows i x0 x1) x2 x3 x4 r ⟨n.val, by omega⟩ := by
  unfold kernelRun0_B.sl.H11_2
  refine canon_step (Val := Elt Ideal) (e := .f32) (k := 512) (G := fun r n => gt (tileRows i x0 x1) x2 x3 x4 r ⟨n.val, by omega⟩) 512 1024 rfl _ _ _ ?_
    (canon_step (k := 512) 0 512 rfl _ _ _ ?_ fun _ _ h => absurd h (Nat.not_lt_zero _)) r n n.isLt
  · exact fun r j h => gate_at c i arg1 harg1 arg2 harg2 arg3 harg3 arg4 harg4 arg5 harg5 arg14 x0 x1 x2 x3 x4 2560 512 rfl _ _ _ gate14_at r j (by omega)
  · exact fun r j h => gate_at c i arg1 harg1 arg2 harg2 arg3 harg3 arg4 harg4 arg5 harg5 arg14 x0 x1 x2 x3 x4 2048 0 rfl _ _ _ gate8_at r j (by omega)

/-- The pooled branch, gated. -/
abbrev prow (i : grid0.Coords) (xs1 : Vec Ideal S704x512 .f32) (r : Fin 688) (n : Fin 1024) : EReal := gt (tileRows i x0 x1) x2 x3 x4 r ⟨n.val, by omega⟩ * times (pool x5 x6 (kernelRun0_B.sl.v9 i) (halo xs1) (ucols (tileRows i x0 x1) x2 x3) r) (row3 x7) n

theorem p_times (o : ℕ) (inb) (r : Fin 688) (j : Fin 512) (n : Fin 1024) (hn : n.val = o + j.val) :
    times (fun k => kernelRun0_B.sl.v286 (F := Ideal) c i arg1 harg1 arg2 harg2 arg3 harg3 arg4 harg4 arg6 harg6 arg7 harg7 arg14 arg15 harg15 arg16 x0 x1 x2 x3 x5 x6 xs1 (ix2 r k))
      (row3 (View.readAt (Elt Ideal) arg8.view (Rect.unit (s := S1x512x1024) ![0, 0, o] ![1, 512, 512] inb).toLoadRect (harg8.unread x7))) j
    = times (pool x5 x6 (kernelRun0_B.sl.v9 i) (halo xs1) (ucols (tileRows i x0 x1) x2 x3) r) (row3 x7) n :=
  Finset.sum_congr rfl fun k _ => congrArg₂ (· * ·) (a_at c i arg1 harg1 arg2 harg2 arg3 harg3 arg4 harg4 arg6 harg6 arg7 harg7 arg14 arg15 harg15 arg16 x0 x1 x2 x3 x5 x6 xs1 r k) (load_cols (a := 512) (k := 512) arg8 harg8 x7 o inb k j n hn)

theorem g_left (r : Fin 688) (j : Fin 512) : kernelRun0_B.sl.v287 (F := Ideal) c i arg1 harg1 arg2 harg2 arg3 harg3 arg4 harg4 arg5 harg5 arg12 arg14 x0 x1 x2 x3 x4 (ix2 r j) = gt (tileRows i x0 x1) x2 x3 x4 r ⟨j.val, by omega⟩ := by
  unfold kernelRun0_B.sl.v287
  exact (readCov_cols (a := 688) (k := 512) arg12.view _ 0 _ r j (⟨j.val, by omega⟩ : Fin 1024) (Nat.zero_add _).symm).trans (g_canon c i arg1 harg1 arg2 harg2 arg3 harg3 arg4 harg4 arg5 harg5 arg14 x0 x1 x2 x3 x4 r _)

theorem g_right (r : Fin 688) (j : Fin 512) : kernelRun0_B.sl.v294 (F := Ideal) c i arg1 harg1 arg2 harg2 arg3 harg3 arg4 harg4 arg5 harg5 arg6 harg6 arg7 harg7 arg8 harg8 arg12 arg14 arg15 harg15 arg16 x0 x1 x2 x3 x4 x5 x6 x7 xs1 (ix2 r j) = gt (tileRows i x0 x1) x2 x3 x4 r ⟨512 + j.val, by omega⟩ := by
  unfold kernelRun0_B.sl.v294 kernelRun0_B.sl.H11_3
  exact (readCov_cols (a := 688) (k := 512) arg12.view _ 512 _ r j (⟨512 + j.val, by omega⟩ : Fin 1024) rfl).trans
    ((canon_miss (a := 688) (k := 512) 0 _ _ _ r _ (.inr (by show 0 + 512 ≤ 512 + j.val; omega))).trans (g_canon c i arg1 harg1 arg2 harg2 arg3 harg3 arg4 harg4 arg5 harg5 arg14 x0 x1 x2 x3 x4 r _))

theorem block8_at (r : Fin 688) (j : Fin 512) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r j) = prj (tileRows i x0 x1) x2 x3 r ⟨0 + j.val, by omega⟩ * eighth := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine (canon_hit (a := 688) (k := 512) 0 _ _ _ r j j (Nat.zero_add _).symm).trans ((q_at _ _ r j).trans ?_)
  exact congrArg (· * eighth) (times_at c i arg1 harg1 arg2 harg2 arg3 harg3 arg4 harg4 arg14 x0 x1 x2 x3 0 _ r j _ rfl)

theorem block9_at (r : Fin 688) (j : Fin 512) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r j) = prj (tileRows i x0 x1) x2 x3 r ⟨512 + j.val, by omega⟩ := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine (canon_hit (a := 688) (k := 512) 0 _ _ _ r j j (Nat.zero_add _).symm).trans ((k_at _ _ r j).trans ?_)
  exact times_at c i arg1 harg1 arg2 harg2 arg3 harg3 arg4 harg4 arg14 x0 x1 x2 x3 512 _ r j _ rfl

theorem block10_at (r : Fin 688) (j : Fin 512) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r j) = prj (tileRows i x0 x1) x2 x3 r ⟨1024 + j.val, by omega⟩ := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine (canon_hit (a := 688) (k := 512) 0 _ _ _ r j j (Nat.zero_add _).symm).trans ((v_at _ _ r j).trans ?_)
  exact times_at c i arg1 harg1 arg2 harg2 arg3 harg3 arg4 harg4 arg14 x0 x1 x2 x3 1024 _ r j _ rfl

theorem block11_at (r : Fin 688) (n : Fin 1024) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r n) = prow x0 x1 x2 x3 x4 x5 x6 x7 i xs1 r n := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  unfold kernelRun0_B.sl.H11_3 kernelRun0_B.sl.r_12
  refine canon_step (Val := Elt Ideal) (e := .f32) (k := 512) (G := prow x0 x1 x2 x3 x4 x5 x6 x7 i xs1) 512 1024 rfl _ _ _ ?_
    (canon_step (k := 512) 0 512 rfl _ _ _ ?_ fun _ _ h => absurd h (Nat.not_lt_zero _)) r n n.isLt
  · exact fun r j h => (p2_at _ _ _ r j).trans (congrArg₂ (· * ·) (g_right c i arg1 harg1 arg2 harg2 arg3 harg3 arg4 harg4 arg5 harg5 arg6 harg6 arg7 harg7 arg8 harg8 arg12 arg14 arg15 harg15 arg16 x0 x1 x2 x3 x4 x5 x6 x7 xs1 r j) (p_times c i arg1 harg1 arg2 harg2 arg3 harg3 arg4 harg4 arg6 harg6 arg7 harg7 arg8 harg8 arg14 arg15 harg15 arg16 x0 x1 x2 x3 x5 x6 x7 xs1 512 _ r j _ rfl))
  · exact fun r j h => (p1_at _ _ _ r j).trans (congrArg₂ (· * ·) ((g_left c i arg1 harg1 arg2 harg2 arg3 harg3 arg4 harg4 arg5 harg5 arg12 arg14 x0 x1 x2 x3 x4 r j).trans (congrArg (gt (tileRows i x0 x1) x2 x3 x4 r) (Fin.ext (Nat.zero_add _).symm)))
      (p_times c i arg1 harg1 arg2 harg2 arg3 harg3 arg4 harg4 arg6 harg6 arg7 harg7 arg8 harg8 arg14 arg15 harg15 arg16 x0 x1 x2 x3 x5 x6 x7 xs1 0 _ r j _ rfl))

theorem block12_at (r : Fin 688) (n : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 r n) = gt (tileRows i x0 x1) x2 x3 x4 r ⟨1024 + n.val, by omega⟩ := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  refine canon_step (Val := Elt Ideal) (e := .f32) (k := 512) (G := fun r n => gt (tileRows i x0 x1) x2 x3 x4 r ⟨1024 + n.val, by omega⟩) 512 1024 rfl _ _ _ ?_
    (canon_step (k := 512) 0 512 rfl _ _ _ ?_ fun _ _ h => absurd h (Nat.not_lt_zero _)) r n n.isLt
  · exact fun r j h => (gate_at c i arg1 harg1 arg2 harg2 arg3 harg3 arg4 harg4 arg5 harg5 arg14 x0 x1 x2 x3 x4 3584 1536 rfl _ _ _ gate18_at r j (by omega)).trans
      (congrArg (gt (tileRows i x0 x1) x2 x3 x4 r) (Fin.ext (by show 1536 + j.val = 1024 + (512 + j.val); omega)))
  · exact fun r j h => (gate_at c i arg1 harg1 arg2 harg2 arg3 harg3 arg4 harg4 arg5 harg5 arg14 x0 x1 x2 x3 x4 3072 1024 rfl _ _ _ gate12_at r j (by omega)).trans
      (congrArg (gt (tileRows i x0 x1) x2 x3 x4 r) (Fin.ext (by show 1024 + j.val = 1024 + (0 + j.val); omega)))

/-- The rows kept for the next tile. -/
theorem kept_at (R : Fin 704) (q : Fin 512) : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1 (ix2 R q) = buf (halo xs1) (ucols (tileRows i x0 x1) x2 x3) q R.val := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1)]
  unfold kernelRun0_B
  dsimp only
  exact u_canon c i arg1 harg1 arg2 harg2 arg3 harg3 arg4 harg4 arg14 arg15 harg15 x0 x1 x2 x3 xs1 R q

end Cert.Kernel5Ideal.In.B
end
-- ==== Proof.In5Value.lean ====
/-
  What the first layer's input stage leaves, over the extended reals: the stage of its arguments, a row at a time, the meta
  rows before the frames.
-/
module

public import proofs.«01_k».proof.Proof.In5BlockA
public import proofs.«01_k».proof.Proof.In5BlockB
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.In

open Cert.Kernel5Ideal Cert.Kernel5Ideal.Gen Cert.Kernel5Ideal.Value Idealize.ShloMosaic Idealize.ShloMosaic.TcCoe Idealize.ShloMosaic.StableHlo Idealize.SL.Sem
open Cert.OutStage Cert.InStage
open Cert.Kernel3Ideal.In (less hrow prj ucols gt group pool)
open Cert.Kernel2Ideal.Out (canon_hit canon_miss canon_step readCov_cols load_cols row3)
open scoped BigOperators

variable (m : (ℓ : Loc nD τ sig) → Buf (Elt Ideal) ℓ) (c : Dev nD)

/-- The frames. -/
def argX : FVec Ideal S8x2048x1024 .f32 := m ((c.tc : Thread nD τ).loc main_arg0)
/-- The meta rows. -/
def argT : FVec Ideal S16x1024 .f32 := m ((c.tc : Thread nD τ).loc main_arg1)
/-- The norm's weights. -/
def argN : FVec Ideal S2x1024 .f32 := m ((c.tc : Thread nD τ).loc main_arg2)
/-- The input matrix. -/
def argW : FVec Ideal S2x1024x4096 .f32 := m ((c.tc : Thread nD τ).loc main_arg3)
/-- The gates' bias. -/
def argC : FVec Ideal S2x2048 .f32 := m ((c.tc : Thread nD τ).loc main_arg4)
/-- The pooled groups' matrices. -/
def argM : FVec Ideal S2x4x128x128 .f32 := m ((c.tc : Thread nD τ).loc main_arg5)
/-- The pooled columns' scale. -/
def argS : FVec Ideal S2x512 .f32 := m ((c.tc : Thread nD τ).loc main_arg6)
/-- The pooled branch's way to the width. -/
def argB : FVec Ideal S2x512x1024 .f32 := m ((c.tc : Thread nD τ).loc main_arg7)

theorem entry_x : V m c main_arg0 = argX m c := by
  simp only [V, hostOps0, TRef.unary, TRef.toBuf, TRef.ofBuf, cast_eq]
  after_results_simp
  rfl

theorem entry_t : V m c main_arg1 = argT m c := by
  simp only [V, hostOps0, TRef.unary, TRef.toBuf, TRef.ofBuf, cast_eq]
  after_results_simp
  rfl

theorem entry_n : V m c main_v3 = (broadcastInDim S2x1x1024 ![0, 2] bcast_S2x1024_S2x1x1024_0_2 (argN m c) : FVec Ideal S2x1x1024 .f32) := by
  simp only [V, hostOps0, TRef.unary, TRef.toBuf, TRef.ofBuf, cast_eq]
  after_results_simp
  rfl

theorem entry_w : V m c main_v0 = (truncf .bf16 (argW m c) bitsLt_bf16_f32 : FVec Ideal S2x1024x4096 .bf16) := by
  simp only [V, hostOps0, TRef.unary, TRef.toBuf, TRef.ofBuf, cast_eq]
  after_results_simp
  rfl

theorem entry_c : V m c main_v4 = (broadcastInDim S2x1x2048 ![0, 2] bcast_S2x2048_S2x1x2048_0_2 (argC m c) : FVec Ideal S2x1x2048 .f32) := by
  simp only [V, hostOps0, TRef.unary, TRef.toBuf, TRef.ofBuf, cast_eq]
  after_results_simp
  rfl

theorem entry_m : V m c main_v1 = (truncf .bf16 (argM m c) bitsLt_bf16_f32 : FVec Ideal S2x4x128x128 .bf16) := by
  simp only [V, hostOps0, TRef.unary, TRef.toBuf, TRef.ofBuf, cast_eq]
  after_results_simp
  rfl

theorem entry_s : V m c main_v5 = (broadcastInDim S2x1x512 ![0, 2] bcast_S2x512_S2x1x512_0_2 (argS m c) : FVec Ideal S2x1x512 .f32) := by
  simp only [V, hostOps0, TRef.unary, TRef.toBuf, TRef.ofBuf, cast_eq]
  after_results_simp
  rfl

theorem entry_b : V m c main_v2 = (truncf .bf16 (argB m c) bitsLt_bf16_f32 : FVec Ideal S2x512x1024 .bf16) := by
  simp only [V, hostOps0, TRef.unary, TRef.toBuf, TRef.ofBuf, cast_eq]
  after_results_simp
  rfl

/-- The windows that follow the rows, at every point. -/
theorem idx_rows : ∀ t : Fin cfg0.N,
    win0_0.index t = ![t.val / 3, t.val % 3 * 688 - 16, 0] ∧ win0_8.index t = ![t.val, 0] ∧ win0_9.index t = ![t.val, 0] ∧ win0_10.index t = ![t.val, 0]
    ∧ win0_11.index t = ![t.val, 0] ∧ win0_12.index t = ![t.val, 0] := (by decide +kernel : ∀ t : Fin grid0.N, _)

/-- The meta rows' window, at every point. -/
theorem idx_meta : ∀ t : Fin cfg0.N, win0_1.index t = ![0, 0] := (by decide +kernel : ∀ t : Fin grid0.N, _)

/-- Which points are the first of their sequences. -/
theorem first_iff : ∀ t : Fin cfg0.N, firstTile (grid0.coords t) = 1#1 ↔ t.val % 3 = 0 := (by decide +kernel : ∀ t : Fin grid0.N, _)

/-- The windows of the weights, at every point. -/
theorem idx_weights : ∀ t : Fin cfg0.N,
    win0_2.index t = ![0, 0, 0] ∧ win0_3.index t = ![0, 0, 0] ∧ win0_4.index t = ![0, 0, 0] ∧ win0_5.index t = ![0, 0, 0, 0]
    ∧ win0_6.index t = ![0, 0, 0] ∧ win0_7.index t = ![0, 0, 0] := (by decide +kernel : ∀ t : Fin grid0.N, _)

/-- The word that counts the tiles of a sequence. -/
theorem tile_word : ∀ t : Fin cfg0.N, kernelRun0_A.sl.v9 (grid0.coords t) = BitVec.ofNat 32 (t.val % 3)
    ∧ kernelRun0_B.sl.v9 (grid0.coords t) = BitVec.ofNat 32 (t.val % 3) := (by decide +kernel : ∀ t : Fin grid0.N, _)

theorem pts (t : Fin cfg0.N) : t.val < 24 := lt_of_lt_of_eq t.isLt N_0

/-- The sequence of a grid point. -/
def seqOf (t : Fin cfg0.N) : Fin 8 := ⟨t.val / 3, by have := pts t; omega⟩
/-- The position of a row of a grid point's tile. -/
def rowOf (t : Fin cfg0.N) (r : Fin 688) : Fin 2064 := ⟨688 * (t.val % 3) + r.val, by omega⟩
/-- The row of the flattened arrays. -/
def flat (t : Fin cfg0.N) (r : Fin 688) : Fin 16512 := ⟨688 * t.val + r.val, by have := pts t; omega⟩

theorem seq_flat (t : Fin cfg0.N) (r : Fin 688) : seqAt (flat t r) = seqOf t :=
  Fin.ext (by show (688 * t.val + r.val) / 2064 = t.val / 3; omega)
theorem row_flat (t : Fin cfg0.N) (r : Fin 688) : rowAt (flat t r) = rowOf t r :=
  Fin.ext (by show (688 * t.val + r.val) % 2064 = 688 * (t.val % 3) + r.val; omega)

/-- A row of a grid point's block of frames among the frames. -/
def frameOf (t : Fin cfg0.N) (r : Fin 688) : Fin 2048 := ⟨t.val % 3 * 688 - 16 + r.val, by omega⟩

theorem rows_place (t : Fin cfg0.N) :
    ∀ y a, ((((View.whole main_arg0).slice (win0_0.rect t)).emb y a : Fin _) : ℕ) = win0_0.index t a + (y a).val :=
  fun y a => ValueKit.rect_emb_unit_val _ _ _ y a

theorem read_x (t : Fin cfg0.N) (r : Fin 688) (k : Fin 1024) :
    iblk m c 0 t (ix3 (0 : Fin 1) r k) = argX m c (ix3 (seqOf t) (frameOf t r) k) := by
  rw [← entry_x]
  unfold seqOf frameOf
  blk_ext [iblk]
  all_goals
    refine (rows_place t _ _).trans ?_
    rw [(idx_rows t).1]
    simp [ix3]
    try omega

theorem read_t (t : Fin cfg0.N) (r : Fin 16) (k : Fin 1024) : iblk m c 1 t (ix2 r k) = argT m c (ix2 r k) := by
  rw [← entry_t]
  blk_ext [iblk, idx_meta t]

theorem read_n (t : Fin cfg0.N) (k : Fin 1024) : iblk m c 2 t (ix3 (0 : Fin 1) (0 : Fin 1) k) = argN m c (ix2 (0 : Fin 2) k) := by
  have e : (V m c main_v3 : FVec Ideal S2x1x1024 .f32) (ix3 (0 : Fin 2) (0 : Fin 1) k) = argN m c (ix2 (0 : Fin 2) k) := by
    rw [entry_n]; pointwise
  rw [← e]
  blk_ext [iblk, idx_weights t]

theorem read_w (t : Fin cfg0.N) (k : Fin 1024) (i : Fin 4096) : iblk m c 3 t (ix3 (0 : Fin 1) k i) = argW m c (ix3 (0 : Fin 2) k i) := by
  have e : ∀ i, (V m c main_v0 : FVec Ideal S2x1024x4096 .bf16) i = argW m c i := fun i => by rw [entry_w]; rfl
  rw [← e]
  blk_ext [iblk, idx_weights t]

theorem read_c (t : Fin cfg0.N) (k : Fin 2048) : iblk m c 4 t (ix3 (0 : Fin 1) (0 : Fin 1) k) = argC m c (ix2 (0 : Fin 2) k) := by
  have e : (V m c main_v4 : FVec Ideal S2x1x2048 .f32) (ix3 (0 : Fin 2) (0 : Fin 1) k) = argC m c (ix2 (0 : Fin 2) k) := by
    rw [entry_c]; pointwise
  rw [← e]
  blk_ext [iblk, idx_weights t]

theorem read_m (t : Fin cfg0.N) (a : Fin 4) (k i : Fin 128) : iblk m c 5 t (ix4 (0 : Fin 1) a k i) = argM m c (ix4 (0 : Fin 2) a k i) := by
  have e : ∀ i, (V m c main_v1 : FVec Ideal S2x4x128x128 .bf16) i = argM m c i := fun i => by rw [entry_m]; rfl
  rw [← e]
  blk_ext [iblk, idx_weights t]

theorem read_s (t : Fin cfg0.N) (k : Fin 512) : iblk m c 6 t (ix3 (0 : Fin 1) (0 : Fin 1) k) = argS m c (ix2 (0 : Fin 2) k) := by
  have e : (V m c main_v5 : FVec Ideal S2x1x512 .f32) (ix3 (0 : Fin 2) (0 : Fin 1) k) = argS m c (ix2 (0 : Fin 2) k) := by
    rw [entry_s]; pointwise
  rw [← e]
  blk_ext [iblk, idx_weights t]

theorem read_b (t : Fin cfg0.N) (k : Fin 512) (i : Fin 1024) : iblk m c 7 t (ix3 (0 : Fin 1) k i) = argB m c (ix3 (0 : Fin 2) k i) := by
  have e : ∀ i, (V m c main_v2 : FVec Ideal S2x512x1024 .bf16) i = argB m c i := fun i => by rw [entry_b]; rfl
  rw [← e]
  blk_ext [iblk, idx_weights t]

/-- The arguments by their coordinates. -/
abbrev fX : Fin 8 → Fin 2064 → Fin 1024 → EReal := fun b l k =>
  if h : l.val < 16 then argT m c (ix2 (⟨l.val, h⟩ : Fin 16) k) else argX m c (ix3 b ⟨l.val - 16, by omega⟩ k)
abbrev fN : Fin 1024 → EReal := fun k => argN m c (ix2 (0 : Fin 2) k)
abbrev fW : Fin 1024 → Fin 4096 → EReal := fun k i => argW m c (ix3 (0 : Fin 2) k i)
abbrev fC : Fin 2048 → EReal := fun k => argC m c (ix2 (0 : Fin 2) k)
abbrev fM : Fin 4 → Fin 128 → Fin 128 → EReal := fun a k j => argM m c (ix4 (0 : Fin 2) a k j)
abbrev fS : Fin 512 → EReal := fun k => argS m c (ix2 (0 : Fin 2) k)
abbrev fB : Fin 512 → Fin 1024 → EReal := fun k i => argB m c (ix3 (0 : Fin 2) k i)

/-- A tile's rows are the sequence's. -/
theorem read_tile (t : Fin cfg0.N) (r : Fin 688) (k : Fin 1024) :
    tileRows (grid0.coords t) (iblk m c 0 t) (iblk m c 1 t) (ix2 r k) = fX m c (seqOf t) (rowOf t r) k := by
  by_cases h0 : t.val % 3 = 0
  · by_cases hr : r.val < 16
    · refine (tile_head _ _ _ r k ((first_iff t).mpr h0) hr).trans ((read_t m c t _ k).trans ?_)
      refine Eq.trans ?_ (dif_pos (show (rowOf t r).val < 16 by show 688 * (t.val % 3) + r.val < 16; omega)).symm
      exact congrArg (fun u => argT m c (ix2 u k)) (Fin.ext (by show r.val = 688 * (t.val % 3) + r.val; omega))
    · refine (tile_rest _ _ _ r k ((first_iff t).mpr h0) hr).trans ((read_x m c t _ k).trans ?_)
      refine Eq.trans ?_ (dif_neg (show ¬(rowOf t r).val < 16 by show ¬688 * (t.val % 3) + r.val < 16; omega)).symm
      exact congrArg (fun u => argX m c (ix3 (seqOf t) u k)) (Fin.ext (by show t.val % 3 * 688 - 16 + (r.val - 16) = 688 * (t.val % 3) + r.val - 16; omega))
  · refine (tile_later _ _ _ r k (fun h => h0 ((first_iff t).mp h))).trans ((read_x m c t _ k).trans ?_)
    refine Eq.trans ?_ (dif_neg (show ¬(rowOf t r).val < 16 by show ¬688 * (t.val % 3) + r.val < 16; omega)).symm
    exact congrArg (fun u => argX m c (ix3 (seqOf t) u k)) (Fin.ext (by show t.val % 3 * 688 - 16 + r.val = 688 * (t.val % 3) + r.val - 16; omega))

/-- A tile's projection is the sequence's. -/
theorem prj_eq (t : Fin cfg0.N) (r : Fin 688) (n : Fin 4096) :
    prj (tileRows (grid0.coords t) (iblk m c 0 t) (iblk m c 1 t)) (iblk m c 2 t) (iblk m c 3 t) r n = proj (fX m c) (fN m c) (fW m c) (seqOf t) (rowOf t r) n := by
  have e1 : (fun k => tileRows (grid0.coords t) (iblk m c 0 t) (iblk m c 1 t) (ix2 r k)) = fX m c (seqOf t) (rowOf t r) := funext fun k => read_tile m c t r k
  have e2 : row3 (iblk m c 2 t) 0 = fN m c := funext fun k => read_n m c t k
  have e3 : row3 (iblk m c 3 t) = fW m c := funext fun k => funext fun i => read_w m c t k i
  show times (rms (fun k => tileRows (grid0.coords t) (iblk m c 0 t) (iblk m c 1 t) (ix2 r k)) (row3 (iblk m c 2 t) 0)) (row3 (iblk m c 3 t)) n = _
  rw [e1, e2, e3]
  rfl

/-- So are its pooled columns before pooling. -/
theorem ucols_eq (t : Fin cfg0.N) (r : Fin 688) (q : Fin 512) :
    ucols (tileRows (grid0.coords t) (iblk m c 0 t) (iblk m c 1 t)) (iblk m c 2 t) (iblk m c 3 t) r q = Cert.InStage.ucol (fX m c) (fN m c) (fW m c) (seqOf t) q (688 * (t.val % 3) + r.val) := by
  refine (prj_eq m c t r _).trans ?_
  unfold Cert.InStage.ucol
  rw [dif_pos (show 688 * (t.val % 3) + r.val < 2064 by omega)]
  rfl

/-- Its gates. -/
theorem gt_eq (t : Fin cfg0.N) (r : Fin 688) (n : Fin 2048) :
    gt (tileRows (grid0.coords t) (iblk m c 0 t) (iblk m c 1 t)) (iblk m c 2 t) (iblk m c 3 t) (iblk m c 4 t) r n = gateOf (fX m c) (fN m c) (fW m c) (fC m c) (seqOf t) (rowOf t r) n :=
  congrArg sigm (congrArg₂ (· + ·) (prj_eq m c t r _) (read_c m c t n))

/-- Its pooled columns, the rows before it being those of its sequence. -/
theorem pool_eq (t : Fin cfg0.N) (halo : Fin 16 → Fin 512 → EReal)
    (hh : ∀ (a : Fin 16) q, halo a q = if 688 * (t.val % 3) + a.val < 16 then 0
      else Cert.InStage.ucol (fX m c) (fN m c) (fW m c) (seqOf t) q (688 * (t.val % 3) + a.val - 16)) (r : Fin 688) (q : Fin 512) :
    pool (iblk m c 5 t) (iblk m c 6 t) (BitVec.ofNat 32 (t.val % 3)) halo (ucols (tileRows (grid0.coords t) (iblk m c 0 t) (iblk m c 1 t)) (iblk m c 2 t) (iblk m c 3 t)) r q
      = pooled (fX m c) (fN m c) (fW m c) (fM m c) (fS m c) (seqOf t) (rowOf t r) q := by
  unfold Cert.Kernel3Ideal.In.pool pooled group pooledIn
  generalize (⟨q.val / 128, by omega⟩ : Fin 4) = a
  generalize (⟨q.val % 128, by omega⟩ : Fin 128) = j
  have ha := win_le a
  unfold mixed
  refine congrArg₂ (· * ·) (Finset.sum_congr rfl fun k _ => congrArg₂ (· * ·) ?_ (read_m m c t a k j)) (read_s m c t (Cert.InStage.col a j))
  dsimp only
  unfold less
  rw [posw_eq]
  refine congrArg₂ (· - ·) (congrArg₂ Ideal.div (bsum_eq halo _ _ _ _ (fun r => ucols_eq m c t r (Cert.InStage.col a k)) (fun b => hh b _) r _ ha) rfl) ?_
  refine (buf_eq halo _ _ _ _ (fun r => ucols_eq m c t r (Cert.InStage.col a k)) (fun b => hh b _) r 0 (by omega)).trans ?_
  rw [if_pos (Nat.zero_le _)]
  rfl

theorem prow_eq (t : Fin cfg0.N) (halo : Fin 16 → Fin 512 → EReal)
    (hh : ∀ (a : Fin 16) q, halo a q = if 688 * (t.val % 3) + a.val < 16 then 0
      else Cert.InStage.ucol (fX m c) (fN m c) (fW m c) (seqOf t) q (688 * (t.val % 3) + a.val - 16)) (r : Fin 688) (n : Fin 1024) :
    gt (tileRows (grid0.coords t) (iblk m c 0 t) (iblk m c 1 t)) (iblk m c 2 t) (iblk m c 3 t) (iblk m c 4 t) r ⟨n.val, by omega⟩
      * times (pool (iblk m c 5 t) (iblk m c 6 t) (BitVec.ofNat 32 (t.val % 3)) halo (ucols (tileRows (grid0.coords t) (iblk m c 0 t) (iblk m c 1 t)) (iblk m c 2 t) (iblk m c 3 t)) r) (row3 (iblk m c 7 t)) n
      = outP (fX m c) (fN m c) (fW m c) (fC m c) (fM m c) (fS m c) (fB m c) (seqOf t) (rowOf t r) n := by
  unfold outP
  refine congrArg₂ (· * ·) (gt_eq m c t r _) ?_
  exact Finset.sum_congr rfl fun k _ => congrArg₂ (· * ·) (pool_eq m c t halo hh r k) (read_b m c t k n)

/-- The buffer after a point holds its tile's rows. -/
theorem kept (t : Fin cfg0.N) (R : Fin 704) (hR : 16 ≤ R.val) (q : Fin 512) :
    (outsAt0 m c t.val t.isLt).2.2.2.2.2 (ix2 R q) = Cert.InStage.ucol (fX m c) (fN m c) (fW m c) (seqOf t) q (688 * (t.val % 3) + (R.val - 16)) := by
  have h' : R.val - 16 < 688 := by omega
  by_cases h0 : t.val % 3 = 0
  · rw [outsAt0_A m c t h0 (fun h => h h0)]
    dsimp only
    refine (A.kept_at _ _ _ _ _ _ _ _ _ _ _ _ _ _ _ _ _ _ _ _ _ _ _ _ _ _ _ _ _ _ _ _ _ _ _ _ _ _ _ _ _ _ _ _ R q).trans ?_
    unfold buf
    rw [dif_neg (by omega), dif_pos h']
    exact ucols_eq m c t ⟨R.val - 16, h'⟩ q
  · rw [outsAt0_B m c t h0 h0]
    dsimp only
    refine (B.kept_at _ _ _ _ _ _ _ _ _ _ _ _ _ _ _ _ _ _ _ _ _ _ _ _ _ _ _ _ _ _ _ _ _ _ _ _ _ _ _ _ _ _ _ _ _ R q).trans ?_
    unfold buf
    rw [dif_neg (by omega), dif_pos h']
    exact ucols_eq m c t ⟨R.val - 16, h'⟩ q

/-- The rows before the first tile of a sequence. -/
theorem halo_A (t : Fin cfg0.N) (h0 : t.val % 3 = 0) (a : Fin 16) (q : Fin 512) : A.halo a q = if 688 * (t.val % 3) + a.val < 16 then 0
      else Cert.InStage.ucol (fX m c) (fN m c) (fW m c) (seqOf t) q (688 * (t.val % 3) + a.val - 16) := by
  rw [if_pos (by omega)]

/-- The rows before a later tile. -/
theorem halo_B (t : Fin cfg0.N) (h0 : ¬ t.val % 3 = 0) (a : Fin 16) (q : Fin 512) :
    B.halo (outsAt0 m c (t.val - 1) (Nat.lt_of_le_of_lt (Nat.sub_le _ _) t.isLt)).2.2.2.2.2 a q = if 688 * (t.val % 3) + a.val < 16 then 0
      else Cert.InStage.ucol (fX m c) (fN m c) (fW m c) (seqOf t) q (688 * (t.val % 3) + a.val - 16) := by
  rw [if_neg (by omega)]
  refine (kept m c ⟨t.val - 1, Nat.lt_of_le_of_lt (Nat.sub_le _ _) t.isLt⟩ _ (by show 16 ≤ 688 + a.val; omega) q).trans ?_
  have e : seqOf ⟨t.val - 1, Nat.lt_of_le_of_lt (Nat.sub_le _ _) t.isLt⟩ = seqOf t := Fin.ext (by show (t.val - 1) / 3 = t.val / 3; omega)
  rw [e]
  exact congrArg _ (by show 688 * ((t.val - 1) % 3) + (688 + a.val - 16) = 688 * (t.val % 3) + a.val - 16; omega)

theorem pointQ (t : Fin cfg0.N) (r : Fin 688) (j : Fin 512) :
    (outsAt0 m c t.val t.isLt).1 (ix2 r j) = outQ (fX m c) (fN m c) (fW m c) (seqOf t) (rowOf t r) j := by
  by_cases h0 : t.val % 3 = 0
  · rw [outsAt0_A m c t h0 (fun h => h h0)]
    dsimp only
    refine (A.block8_at _ _ _ _ _ _ _ _ _ _ _ _ _ _ _ _ _ _ _ _ _ _ _ _ _ _ _ _ _ _ _ _ _ _ _ _ _ _ _ _ _ _ _ _ r j).trans ?_
    exact congrArg (· * eighth) (prj_eq m c t r _)
  · rw [outsAt0_B m c t h0 h0]
    dsimp only
    refine (B.block8_at _ _ _ _ _ _ _ _ _ _ _ _ _ _ _ _ _ _ _ _ _ _ _ _ _ _ _ _ _ _ _ _ _ _ _ _ _ _ _ _ _ _ _ _ _ r j).trans ?_
    exact congrArg (· * eighth) (prj_eq m c t r _)

/-- Result 0 as an array. -/
def wholeQ : FVec Ideal S16512x512 .bf16 := fun y => outQ (fX m c) (fN m c) (fW m c) (seqAt (y 0)) (rowAt (y 0)) (y 1)

theorem finalQ : (dats m 0 c).arrAt 8 cfg0.N = wholeQ m c := by
  refine (dats m 0 c).arrAt_eq_of_covers 8 _ (by decide +kernel) fun t hf y => ?_
  blk_simp
  rw [after0_8]
  idx_vars y
  refine (pointQ m c t y0 y1).trans ?_
  rw [← seq_flat t y0, ← row_flat t y0]
  show wholeQ m c (ix2 (flat t y0) y1) = _
  refine congrArg (wholeQ m c) ?_
  unfold flat
  blk_ext [iblk, idx_rows t]

theorem pointK (t : Fin cfg0.N) (r : Fin 688) (j : Fin 512) :
    (outsAt0 m c t.val t.isLt).2.1 (ix2 r j) = outK (fX m c) (fN m c) (fW m c) (seqOf t) (rowOf t r) j := by
  by_cases h0 : t.val % 3 = 0
  · rw [outsAt0_A m c t h0 (fun h => h h0)]
    dsimp only
    refine (A.block9_at _ _ _ _ _ _ _ _ _ _ _ _ _ _ _ _ _ _ _ _ _ _ _ _ _ _ _ _ _ _ _ _ _ _ _ _ _ _ _ _ _ _ _ _ r j).trans ?_
    exact prj_eq m c t r _
  · rw [outsAt0_B m c t h0 h0]
    dsimp only
    refine (B.block9_at _ _ _ _ _ _ _ _ _ _ _ _ _ _ _ _ _ _ _ _ _ _ _ _ _ _ _ _ _ _ _ _ _ _ _ _ _ _ _ _ _ _ _ _ _ r j).trans ?_
    exact prj_eq m c t r _

/-- Result 1 as an array. -/
def wholeK : FVec Ideal S16512x512 .bf16 := fun y => outK (fX m c) (fN m c) (fW m c) (seqAt (y 0)) (rowAt (y 0)) (y 1)

theorem finalK : (dats m 0 c).arrAt 9 cfg0.N = wholeK m c := by
  refine (dats m 0 c).arrAt_eq_of_covers 9 _ (by decide +kernel) fun t hf y => ?_
  blk_simp
  rw [after0_9]
  idx_vars y
  refine (pointK m c t y0 y1).trans ?_
  rw [← seq_flat t y0, ← row_flat t y0]
  show wholeK m c (ix2 (flat t y0) y1) = _
  refine congrArg (wholeK m c) ?_
  unfold flat
  blk_ext [iblk, idx_rows t]

theorem pointV (t : Fin cfg0.N) (r : Fin 688) (j : Fin 512) :
    (outsAt0 m c t.val t.isLt).2.2.1 (ix2 r j) = outV (fX m c) (fN m c) (fW m c) (seqOf t) (rowOf t r) j := by
  by_cases h0 : t.val % 3 = 0
  · rw [outsAt0_A m c t h0 (fun h => h h0)]
    dsimp only
    refine (A.block10_at _ _ _ _ _ _ _ _ _ _ _ _ _ _ _ _ _ _ _ _ _ _ _ _ _ _ _ _ _ _ _ _ _ _ _ _ _ _ _ _ _ _ _ _ r j).trans ?_
    exact prj_eq m c t r _
  · rw [outsAt0_B m c t h0 h0]
    dsimp only
    refine (B.block10_at _ _ _ _ _ _ _ _ _ _ _ _ _ _ _ _ _ _ _ _ _ _ _ _ _ _ _ _ _ _ _ _ _ _ _ _ _ _ _ _ _ _ _ _ _ r j).trans ?_
    exact prj_eq m c t r _

/-- Result 2 as an array. -/
def wholeV : FVec Ideal S16512x512 .bf16 := fun y => outV (fX m c) (fN m c) (fW m c) (seqAt (y 0)) (rowAt (y 0)) (y 1)

theorem finalV : (dats m 0 c).arrAt 10 cfg0.N = wholeV m c := by
  refine (dats m 0 c).arrAt_eq_of_covers 10 _ (by decide +kernel) fun t hf y => ?_
  blk_simp
  rw [after0_10]
  idx_vars y
  refine (pointV m c t y0 y1).trans ?_
  rw [← seq_flat t y0, ← row_flat t y0]
  show wholeV m c (ix2 (flat t y0) y1) = _
  refine congrArg (wholeV m c) ?_
  unfold flat
  blk_ext [iblk, idx_rows t]

theorem pointP (t : Fin cfg0.N) (r : Fin 688) (n : Fin 1024) :
    (outsAt0 m c t.val t.isLt).2.2.2.1 (ix2 r n) = outP (fX m c) (fN m c) (fW m c) (fC m c) (fM m c) (fS m c) (fB m c) (seqOf t) (rowOf t r) n := by
  by_cases h0 : t.val % 3 = 0
  · rw [outsAt0_A m c t h0 (fun h => h h0)]
    dsimp only
    refine (A.block11_at _ _ _ _ _ _ _ _ _ _ _ _ _ _ _ _ _ _ _ _ _ _ _ _ _ _ _ _ _ _ _ _ _ _ _ _ _ _ _ _ _ _ _ _ r n).trans ?_
    unfold A.prow
    rw [(tile_word t).1]
    exact prow_eq m c t _ (halo_A m c t h0) r n
  · rw [outsAt0_B m c t h0 h0]
    dsimp only
    refine (B.block11_at _ _ _ _ _ _ _ _ _ _ _ _ _ _ _ _ _ _ _ _ _ _ _ _ _ _ _ _ _ _ _ _ _ _ _ _ _ _ _ _ _ _ _ _ _ r n).trans ?_
    unfold B.prow
    rw [(tile_word t).2]
    exact prow_eq m c t _ (halo_B m c t h0) r n

/-- Result 3 as an array. -/
def wholeP : FVec Ideal S16512x1024 .f32 := fun y => outP (fX m c) (fN m c) (fW m c) (fC m c) (fM m c) (fS m c) (fB m c) (seqAt (y 0)) (rowAt (y 0)) (y 1)

theorem finalP : (dats m 0 c).arrAt 11 cfg0.N = wholeP m c := by
  refine (dats m 0 c).arrAt_eq_of_covers 11 _ (by decide +kernel) fun t hf y => ?_
  blk_simp
  rw [after0_11]
  idx_vars y
  refine (pointP m c t y0 y1).trans ?_
  rw [← seq_flat t y0, ← row_flat t y0]
  show wholeP m c (ix2 (flat t y0) y1) = _
  refine congrArg (wholeP m c) ?_
  unfold flat
  blk_ext [iblk, idx_rows t]

theorem pointG (t : Fin cfg0.N) (r : Fin 688) (n : Fin 1024) :
    (outsAt0 m c t.val t.isLt).2.2.2.2.1 (ix2 r n) = outG (fX m c) (fN m c) (fW m c) (fC m c) (seqOf t) (rowOf t r) n := by
  by_cases h0 : t.val % 3 = 0
  · rw [outsAt0_A m c t h0 (fun h => h h0)]
    dsimp only
    refine (A.block12_at _ _ _ _ _ _ _ _ _ _ _ _ _ _ _ _ _ _ _ _ _ _ _ _ _ _ _ _ _ _ _ _ _ _ _ _ _ _ _ _ _ _ _ _ r n).trans ?_
    exact gt_eq m c t r _
  · rw [outsAt0_B m c t h0 h0]
    dsimp only
    refine (B.block12_at _ _ _ _ _ _ _ _ _ _ _ _ _ _ _ _ _ _ _ _ _ _ _ _ _ _ _ _ _ _ _ _ _ _ _ _ _ _ _ _ _ _ _ _ _ r n).trans ?_
    exact gt_eq m c t r _

/-- Result 4 as an array. -/
def wholeG : FVec Ideal S16512x1024 .f32 := fun y => outG (fX m c) (fN m c) (fW m c) (fC m c) (seqAt (y 0)) (rowAt (y 0)) (y 1)

theorem finalG : (dats m 0 c).arrAt 12 cfg0.N = wholeG m c := by
  refine (dats m 0 c).arrAt_eq_of_covers 12 _ (by decide +kernel) fun t hf y => ?_
  blk_simp
  rw [after0_12]
  idx_vars y
  refine (pointG m c t y0 y1).trans ?_
  rw [← seq_flat t y0, ← row_flat t y0]
  show wholeG m c (ix2 (flat t y0) y1) = _
  refine congrArg (wholeG m c) ?_
  unfold flat
  blk_ext [iblk, idx_rows t]

end Cert.Kernel5Ideal.In
end
-- ==== Proof.In5Ref.lean ====
/-
  The reference of the first layer's input stage at an index: the stage's function of its sequence. The averages are differences of
  cumulative sums, so the pooled branch needs real columns.
-/
module

public import proofs.«01_k».proof.Proof.InReal
public import proofs.«01_k».proof.Proof.RefValue
public import proofs.«01_k».proof.Proof.Gen.Reference5Ideal.Run
public import Idealize.ShloMosaic.Lib.Pointwise

@[expose] public section

set_option maxRecDepth 16384

noncomputable section

namespace Cert.Reference5Ideal.In

open Cert.Reference5Ideal Cert.Reference5Ideal.Gen Cert.Reference5Ideal.Value Idealize.ShloMosaic Idealize.ShloMosaic.TcCoe Idealize.SL.Sem
open Cert.OutStage Cert.InStage
open Cert.ReferenceIdeal.Attn (reduceWindow_sum)
open scoped BigOperators

abbrev Rows : Type := FVec Ideal S8x2064x1024 .f32
abbrev Cols : Type := FVec Ideal S8x2064x512 .f32
abbrev Proj : Type := FVec Ideal S8x2064x4096 .f32

/-- The rows as they are written: the meta rows before the frames. -/
def rows (x : FVec Ideal S8x2048x1024 .f32) (mt : FVec Ideal S16x1024 .f32) : Rows :=
  concatenate S8x2064x1024 1 [⟨S8x16x1024, (broadcastInDim S8x16x1024 ![0, 1, 2] bcast_S1x16x1024_S8x16x1024_0_1_2
    (broadcastInDim S1x16x1024 ![1, 2] bcast_S16x1024_S1x16x1024_1_2 mt))⟩, ⟨S8x2048x1024, x⟩] concatenates_S8x16x1024_S8x2048x1024_S8x2064x1024_d1

theorem rows_at (x : FVec Ideal S8x2048x1024 .f32) (mt : FVec Ideal S16x1024 .f32) (b : Fin 8) (t : Fin 2064) (k : Fin 1024) :
    rows x mt (ix3 b t k) = if h : t.val < 16 then mt (ix2 (⟨t.val, h⟩ : Fin 16) k) else x (ix3 b ⟨t.val - 16, by omega⟩ k) := by
  unfold rows
  pointwise

/-- The norm as it is written. -/
def normed (x : Rows) (g : FVec Ideal S1024 .f32) : Rows :=
  mulf (mulf x (broadcastInDim S8x2064x1024 ![0, 1, 2] bcast_S8x2064x1_S8x2064x1024_0_1_2
      (Host.rsqrt (addf (Host.divf (broadcastInDim S8x2064x1 ![0, 1] bcast_S8x2064_S8x2064x1_0_1
          (Host.reduceAdd (mulf x x) (constant S_ .f32 0x00000000#32) reducesTo_S8x2064x1024_S8x2064_d2 h_S_))
        (broadcastInDim S8x2064x1 ![] bcast_S_S8x2064x1 (constant S_ .f32 0x44800000#32)))
        (broadcastInDim S8x2064x1 ![] bcast_S_S8x2064x1 (constant S_ .f32 0x358637BD#32))))))
    (broadcastInDim S8x2064x1024 ![0, 1, 2] bcast_S1x1x1024_S8x2064x1024_0_1_2 (broadcastInDim S1x1x1024 ![2] bcast_S1024_S1x1x1024_2 g))

/-- The projection as it is written. -/
def project (x : Rows) (g : FVec Ideal S2x1024 .f32) (w : FVec Ideal S2x1024x4096 .f32) : Proj :=
  Host.dotGeneral dot_S8x2064x1024_S1024x4096_S8x2064x4096_2_0_01_1_n_n none
    (normed x (shapeCast _ (extractStridedSlice S1x1024 ![0, 0] g slices_S2x1024_S1x1024_0_0) shapeCasts_S1x1024_S1024))
    (shapeCast _ (extractStridedSlice S1x1024x4096 ![0, 0, 0] w slices_S2x1024x4096_S1x1024x4096_0_0_0) shapeCasts_S1x1024x4096_S1024x4096)

/-- The gates as they are written. -/
def gates (p : Proj) (bg : FVec Ideal S2x2048 .f32) : FVec Ideal S8x2064x2048 .f32 :=
  Host.divf (broadcastInDim S8x2064x2048 ![] bcast_S_S8x2064x2048 (constant S_ .f32 0x3F800000#32))
    (addf (broadcastInDim S8x2064x2048 ![] bcast_S_S8x2064x2048 (constant S_ .f32 0x3F800000#32))
      (Host.exp (Host.negf (addf (extractStridedSlice S8x2064x2048 ![0, 0, 2048] p slices_S8x2064x4096_S8x2064x2048_0_0_2048)
        (broadcastInDim S8x2064x2048 ![0, 1, 2] bcast_S1x1x2048_S8x2064x2048_0_1_2 (broadcastInDim S1x1x2048 ![2] bcast_S2048_S1x1x2048_2
          (shapeCast _ (extractStridedSlice S1x2048 ![0, 0] bg slices_S2x2048_S1x2048_0_0) shapeCasts_S1x2048_S2048)))))))

/-- What is pooled. -/
def cols (p : Proj) : Cols := extractStridedSlice S8x2064x512 ![0, 0, 1536] p slices_S8x2064x4096_S8x2064x512_0_0_1536

/-- Its cumulative sums. -/
def sums (u : Cols) : Cols := Host.reduceWindowAdd ![1, 2064, 1] ![1, 1, 1] ![0, 2063, 0] ![0, 0, 0] u
  (broadcastInDim S_ ![] bcast_S_S_ (constant S_ .f32 0x00000000#32) : FVec Ideal S_ .f32)
  reduceWindows_S8x2064x512_S8x2064x512_w1s1p0_0_w2064s1p2063_0_w1s1p0_0 h_S_

/-- The zero the sums are padded with. -/
def nought : FVec Ideal S_ .f32 := sitofp .f32 (constantI S_ 32 0#32)

/-- The sums with a row of zeros before. -/
def before (s : Cols) : FVec Ideal S8x2065x512 .f32 := pad S8x2065x512 ![0, 1, 0] ![0, 0, 0] ![0, 0, 0] s nought pads_S8x2064x512_S8x2065x512_000_100_000 h_S_

/-- The columns of group 0, 1 rows further back. -/
def back0 (s : FVec Ideal S8x2065x512 .f32) : FVec Ideal S8x2066x128 .f32 := pad S8x2066x128 ![0, 1, 0] ![0, 0, 0] ![0, 0, 0]
  (extractStridedSlice S8x2065x128 ![0, 0, 0] s slices_S8x2065x512_S8x2065x128_0_0_0) nought pads_S8x2065x128_S8x2066x128_000_100_000 h_S_

/-- The averages of group 0. -/
def avg0 (s : FVec Ideal S8x2065x512 .f32) : FVec Ideal S8x2064x128 .f32 :=
  Host.divf (subf (extractStridedSlice S8x2064x128 ![0, 1, 0] (extractStridedSlice S8x2065x128 ![0, 0, 0] s slices_S8x2065x512_S8x2065x128_0_0_0) slices_S8x2065x128_S8x2064x128_0_1_0)
      (extractStridedSlice S8x2064x128 ![0, 0, 0] (back0 s) slices_S8x2066x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 2#32))))))

/-- The columns of group 1, 3 rows further back. -/
def back1 (s : FVec Ideal S8x2065x512 .f32) : FVec Ideal S8x2068x128 .f32 := pad S8x2068x128 ![0, 3, 0] ![0, 0, 0] ![0, 0, 0]
  (extractStridedSlice S8x2065x128 ![0, 0, 128] s slices_S8x2065x512_S8x2065x128_0_0_128) nought pads_S8x2065x128_S8x2068x128_000_300_000 h_S_

/-- The averages of group 1. -/
def avg1 (s : FVec Ideal S8x2065x512 .f32) : FVec Ideal S8x2064x128 .f32 :=
  Host.divf (subf (extractStridedSlice S8x2064x128 ![0, 1, 0] (extractStridedSlice S8x2065x128 ![0, 0, 128] s slices_S8x2065x512_S8x2065x128_0_0_128) slices_S8x2065x128_S8x2064x128_0_1_0)
      (extractStridedSlice S8x2064x128 ![0, 0, 0] (back1 s) slices_S8x2068x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 4#32))))))

/-- The columns of group 2, 7 rows further back. -/
def back2 (s : FVec Ideal S8x2065x512 .f32) : FVec Ideal S8x2072x128 .f32 := pad S8x2072x128 ![0, 7, 0] ![0, 0, 0] ![0, 0, 0]
  (extractStridedSlice S8x2065x128 ![0, 0, 256] s slices_S8x2065x512_S8x2065x128_0_0_256) nought pads_S8x2065x128_S8x2072x128_000_700_000 h_S_

/-- The averages of group 2. -/
def avg2 (s : FVec Ideal S8x2065x512 .f32) : FVec Ideal S8x2064x128 .f32 :=
  Host.divf (subf (extractStridedSlice S8x2064x128 ![0, 1, 0] (extractStridedSlice S8x2065x128 ![0, 0, 256] s slices_S8x2065x512_S8x2065x128_0_0_256) slices_S8x2065x128_S8x2064x128_0_1_0)
      (extractStridedSlice S8x2064x128 ![0, 0, 0] (back2 s) slices_S8x2072x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 8#32))))))

/-- The columns of group 3, 15 rows further back. -/
def back3 (s : FVec Ideal S8x2065x512 .f32) : FVec Ideal S8x2080x128 .f32 := pad S8x2080x128 ![0, 15, 0] ![0, 0, 0] ![0, 0, 0]
  (extractStridedSlice S8x2065x128 ![0, 0, 384] s slices_S8x2065x512_S8x2065x128_0_0_384) nought pads_S8x2065x128_S8x2080x128_000_1500_000 h_S_

/-- The averages of group 3. -/
def avg3 (s : FVec Ideal S8x2065x512 .f32) : FVec Ideal S8x2064x128 .f32 :=
  Host.divf (subf (extractStridedSlice S8x2064x128 ![0, 1, 0] (extractStridedSlice S8x2065x128 ![0, 0, 384] s slices_S8x2065x512_S8x2065x128_0_0_384) slices_S8x2065x128_S8x2064x128_0_1_0)
      (extractStridedSlice S8x2064x128 ![0, 0, 0] (back3 s) slices_S8x2080x128_S8x2064x128_0_0_0))
    (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 16#32))))))

/-- The averages of all groups. -/
def avgs (s : FVec Ideal S8x2065x512 .f32) : FVec Ideal S8x2064x4x128 .f32 :=
  concatenate S8x2064x4x128 2 [
    ⟨S8x2064x1x128, ((broadcastInDim S8x2064x1x128 ![0, 1, 3] bcast_S8x2064x128_S8x2064x1x128_0_1_3 (avg0 s)) : (⟨S8x2064x1x128, .f32⟩ : BufTy).Contents (Elt Ideal))⟩,
    ⟨S8x2064x1x128, ((broadcastInDim S8x2064x1x128 ![0, 1, 3] bcast_S8x2064x128_S8x2064x1x128_0_1_3 (avg1 s)) : (⟨S8x2064x1x128, .f32⟩ : BufTy).Contents (Elt Ideal))⟩,
    ⟨S8x2064x1x128, ((broadcastInDim S8x2064x1x128 ![0, 1, 3] bcast_S8x2064x128_S8x2064x1x128_0_1_3 (avg2 s)) : (⟨S8x2064x1x128, .f32⟩ : BufTy).Contents (Elt Ideal))⟩,
    ⟨S8x2064x1x128, ((broadcastInDim S8x2064x1x128 ![0, 1, 3] bcast_S8x2064x128_S8x2064x1x128_0_1_3 (avg3 s)) : (⟨S8x2064x1x128, .f32⟩ : BufTy).Contents (Elt Ideal))⟩]
    concatenates_S8x2064x1x128_S8x2064x1x128_S8x2064x1x128_S8x2064x1x128_S8x2064x4x128_d2

/-- The averages less the rows, mixed. -/
def mixes (a u : FVec Ideal S8x2064x4x128 .f32) (mix : FVec Ideal S2x4x128x128 .f32) : FVec Ideal S8x2064x4x128 .f32 :=
  transpose S8x2064x4x128 [2, 3, 0, 1] (Host.dotGeneral dot_S4x128x128_S8x2064x4x128_S4x128x8x2064_1_3_2_01_0_2 none
    (shapeCast _ (extractStridedSlice S1x4x128x128 ![0, 0, 0, 0] mix slices_S2x4x128x128_S1x4x128x128_0_0_0_0) shapeCasts_S1x4x128x128_S4x128x128 : FVec Ideal S4x128x128 .f32)
    (subf a u) : FVec Ideal S4x128x8x2064 .f32) transposes_S4x128x8x2064_S8x2064x4x128_2_3_0_1

/-- The mixed columns scaled. -/
def scaled (a : FVec Ideal S8x2064x4x128 .f32) (sc : FVec Ideal S2x512 .f32) : Cols :=
  mulf (shapeCast _ a shapeCasts_S8x2064x4x128_S8x2064x512) (broadcastInDim S8x2064x512 ![0, 1, 2] bcast_S1x1x512_S8x2064x512_0_1_2
    (broadcastInDim S1x1x512 ![2] bcast_S512_S1x1x512_2 (shapeCast _ (extractStridedSlice S1x512 ![0, 0] sc slices_S2x512_S1x512_0_0) shapeCasts_S1x512_S512)))

/-- The pooled columns. -/
def pool (u : Cols) (mix : FVec Ideal S2x4x128x128 .f32) (sc : FVec Ideal S2x512 .f32) : Cols :=
  scaled (mixes (avgs (before (sums u))) (shapeCast _ u shapeCasts_S8x2064x512_S8x2064x4x128) mix) sc

/-- The pooled branch, gated. -/
def branch (g : FVec Ideal S8x2064x2048 .f32) (y : Cols) (wb : FVec Ideal S2x512x1024 .f32) : FVec Ideal S16512x1024 .f32 :=
  shapeCast _ (mulf (extractStridedSlice S8x2064x1024 ![0, 0, 0] g slices_S8x2064x2048_S8x2064x1024_0_0_0)
    (Host.dotGeneral dot_S8x2064x512_S512x1024_S8x2064x1024_2_0_01_1_n_n none y
      (shapeCast _ (extractStridedSlice S1x512x1024 ![0, 0, 0] wb slices_S2x512x1024_S1x512x1024_0_0_0) shapeCasts_S1x512x1024_S512x1024))
    : FVec Ideal S8x2064x1024 .f32) shapeCasts_S8x2064x1024_S16512x1024

theorem normed_at (x : Rows) (g : FVec Ideal S1024 .f32) (b : Fin 8) (t : Fin 2064) (n : Fin 1024) :
    normed x g (ix3 b t n) = rms (fun k => x (ix3 b t k)) (fun k => g (ix1 k)) n := by
  unfold normed rms width eps
  pointwise

theorem project_at (x : Rows) (g : FVec Ideal S2x1024 .f32) (w : FVec Ideal S2x1024x4096 .f32) (b : Fin 8) (t : Fin 2064) (n : Fin 4096) :
    project x g w (ix3 b t n) = proj (fun b l k => x (ix3 b l k)) (fun k => g (ix2 0 k)) (fun k i => w (ix3 0 k i)) b t n := by
  unfold project proj times
  have hg : (fun k : Fin 1024 => (shapeCast _ (extractStridedSlice S1x1024 ![0, 0] g slices_S2x1024_S1x1024_0_0) shapeCasts_S1x1024_S1024 : FVec Ideal S1024 .f32) (ix1 k))
      = fun k => g (ix2 0 k) := funext fun k => by pointwise
  pointwise [normed_at]

theorem gates_at (p : Proj) (bg : FVec Ideal S2x2048 .f32) (b : Fin 8) (t : Fin 2064) (n : Fin 2048) :
    gates p bg (ix3 b t n) = sigm (p (ix3 b t ⟨2048 + n.val, by omega⟩) + bg (ix2 0 n)) := by
  unfold gates sigm one
  pointwise

theorem cols_at (p : Proj) (b : Fin 8) (t : Fin 2064) (q : Fin 512) : cols p (ix3 b t q) = p (ix3 b t ⟨1536 + q.val, by omega⟩) := by
  unfold cols
  pointwise

/-- A column by position. -/
def column (u : Cols) (b : Fin 8) (q : Fin 512) (i : ℕ) : EReal := if h : i < 2064 then u (ix3 b ⟨i, h⟩ q) else 0

theorem sums_at (u : Cols) (b : Fin 8) (t : Fin 2064) (q : Fin 512) : sums u (ix3 b t q) = csum (column u b q) (t.val + 1) := by
  have e : (broadcastInDim S_ ![] bcast_S_S_ (constant S_ .f32 0x00000000#32) : FVec Ideal S_ .f32) (Shape.Idx.first h_S_) = 0 := by pointwise
  have e1 : sums u = Host.reduceWindow (· + ·) ![1, 2064, 1] ![1, 1, 1] ![0, 2063, 0] ![0, 0, 0] u
      (fun _ : (⟨0, ![]⟩ : Shape).Idx => (0 : EReal)) reduceWindows_S8x2064x512_S8x2064x512_w1s1p0_0_w2064s1p2063_0_w1s1p0_0 (by decide) := by
    unfold sums Host.reduceWindowAdd
    rw [e]
    show Ideal.hostReduceWindowAdd _ _ _ _ _ _ _ = _
    unfold Ideal.hostReduceWindowAdd
    rfl
  rw [e1, reduceWindow_sum, zero_add]
  refine (sum_idx3 (n0 := 1) (n1 := 2064) (n2 := 1) _).trans ?_
  rw [Fin.sum_univ_one]
  have step : ∀ w : Fin 2064, (if hw : 2063 ≤ t.val + w.val then column u b q (t.val + w.val - 2063) else 0)
      = (fun n : ℕ => if 2063 ≤ t.val + n then column u b q (t.val + n - 2063) else 0) w.val := fun w => rfl
  refine Eq.trans (b := ∑ w : Fin 2064, (fun n : ℕ => if 2063 ≤ t.val + n then column u b q (t.val + n - 2063) else 0) w.val) ?_ ?_
  · refine Finset.sum_congr rfl fun w _ => ?_
    rw [Fin.sum_univ_one, ← step w]
    have hc : ∀ a : Fin 3, (![b.val, t.val + w.val - 2063, q.val] : Fin 3 → ℕ) a
        = (ix3 b t q (a.cast rfl)).val * (![1, 1, 1] : Fin 3 → ℕ) a + (ix3 (0 : Fin 1) w (0 : Fin 1) a).val - (![0, 2063, 0] : Fin 3 → ℕ) a := by
      intro a
      fin_cases a
      · show b.val = b.val * 1 + 0 - 0; omega
      · show t.val + w.val - 2063 = t.val * 1 + w.val - 2063; omega
      · show q.val = q.val * 1 + 0 - 0; omega
    by_cases hw : 2063 ≤ t.val + w.val
    · have hlt : t.val + w.val - 2063 < 2064 := by omega
      rw [dif_pos hw, column, dif_pos hlt]
      refine (dif_pos ?_).trans (congrArg u (funext fun a => Fin.ext ?_))
      · intro a
        refine ⟨?_, lt_of_eq_of_lt (hc a).symm ?_⟩
        · fin_cases a
          · exact Nat.zero_le _
          · show 2063 ≤ t.val * 1 + w.val; omega
          · exact Nat.zero_le _
        · fin_cases a
          · exact b.isLt
          · exact hlt
          · exact q.isLt
      · refine (hc a).symm.trans ?_
        fin_cases a <;> rfl
    · rw [dif_neg hw]
      refine dif_neg fun hh => hw ?_
      have := (hh 1).1
      have e2 : (2063 : ℕ) ≤ t.val * 1 + w.val := this
      omega
  · refine (Fin.sum_univ_eq_sum_range (fun n : ℕ => if 2063 ≤ t.val + n then column u b q (t.val + n - 2063) else 0) 2064).trans ?_
    have hs : (2064 : ℕ) = (2063 - t.val) + (t.val + 1) := by omega
    refine (congrArg (fun n => ∑ i ∈ Finset.range n, if 2063 ≤ t.val + i then column u b q (t.val + i - 2063) else 0) hs).trans ?_
    rw [Finset.sum_range_add, Finset.sum_eq_zero, zero_add]
    · refine Finset.sum_congr rfl fun i _ => ?_
      rw [if_pos (by omega)]
      exact congrArg _ (by omega)
    · intro i hi
      have := Finset.mem_range.1 hi
      rw [if_neg (by omega)]

theorem nought_at (i : S_.Idx) : nought i = 0 := by
  show (((0#32 : BitVec 32).toInt : ℝ) : EReal) = 0
  simp

/-- Rows of zeros before the first. -/
theorem pad_rows {A B N K : ℕ} (lo : ℕ) (x : (⟨3, ![A, B, K]⟩ : Shape).Idx → EReal) {u : Shape} (v : u.Idx → EReal)
    (h : (⟨3, ![A, B, K]⟩ : Shape).Pads ![0, lo, 0] ![0, 0, 0] ![0, 0, 0] ⟨3, ![A, N, K]⟩) (hu : 0 < u.numel) (hv : ∀ i, v i = 0)
    (b : Fin A) (t : Fin N) (k : Fin K) :
    pad ⟨3, ![A, N, K]⟩ ![0, lo, 0] ![0, 0, 0] ![0, 0, 0] x v h hu (ix3 b t k)
      = if hp : lo ≤ t.val ∧ t.val - lo < B then x (ix3 b ⟨t.val - lo, hp.2⟩ k) else 0 := by
  by_cases hp : lo ≤ t.val ∧ t.val - lo < B
  · rw [dif_pos hp]
    refine (dif_pos ?_).trans (congrArg x (funext fun a => Fin.ext ?_))
    · intro a
      fin_cases a
      · refine ⟨Nat.zero_le _, Nat.mod_one _, ?_⟩
        show (b.val - 0) / 1 < A
        rw [Nat.div_one]; exact b.isLt
      · refine ⟨hp.1, Nat.mod_one _, ?_⟩
        show (t.val - lo) / 1 < B
        rw [Nat.div_one]; exact hp.2
      · refine ⟨Nat.zero_le _, Nat.mod_one _, ?_⟩
        show (k.val - 0) / 1 < K
        rw [Nat.div_one]; exact k.isLt
    · fin_cases a
      · exact Nat.div_one _
      · exact Nat.div_one _
      · exact Nat.div_one _
  · rw [dif_neg hp]
    refine (dif_neg fun hh => hp ?_).trans (hv _)
    have h1 := hh 1
    have h2 : (t.val - lo) / 1 < B := h1.2.2
    rw [Nat.div_one] at h2
    exact ⟨h1.1, h2⟩

theorem before_at (u : Cols) (b : Fin 8) (t : Fin 2065) (q : Fin 512) : before (sums u) (ix3 b t q) = csum (column u b q) t.val := by
  refine (pad_rows 1 (sums u) nought pads_S8x2064x512_S8x2065x512_000_100_000 h_S_ nought_at b t q).trans ?_
  by_cases hp : 1 ≤ t.val ∧ t.val - 1 < 2064
  · rw [dif_pos hp, sums_at]
    exact congrArg _ (by show t.val - 1 + 1 = t.val; omega)
  · rw [dif_neg hp]
    have e : t.val = 0 := by omega
    rw [e]
    rfl

theorem back0_at (u : Cols) (b : Fin 8) (t : Fin 2066) (k : Fin 128) (ht : t.val < 2064) :
    back0 (before (sums u)) (ix3 b t k) = csum (column u b (col 0 k)) (t.val + 1 - 2) := by
  refine (pad_rows 1 _ nought pads_S8x2065x128_S8x2066x128_000_100_000 h_S_ nought_at b t k).trans ?_
  by_cases hp : 1 ≤ t.val ∧ t.val - 1 < 2065
  · rw [dif_pos hp]
    refine Eq.trans ?_ ((before_at u b ⟨t.val - 1, hp.2⟩ (col 0 k)).trans (congrArg _ (by show t.val - 1 = t.val + 1 - 2; omega)))
    generalize before (sums u) = y
    pointwise
    exact congrArg (fun i => y (ix3 b _ i)) (Fin.ext (by show k.val = 128 * 0 + k.val; omega))
  · rw [dif_neg hp]
    have e : t.val + 1 - 2 = 0 := by omega
    rw [e]
    rfl

theorem avg0_at (u : Cols) (hu : ∀ b q i, IsReal (column u b q i)) (b : Fin 8) (t : Fin 2064) (k : Fin 128) :
    avg0 (before (sums u)) (ix3 b t k) = Ideal.div (wsum (column u b (col 0 k)) 2 t.val) (many (BitVec.ofNat 32 t.val) 2#32) := by
  rw [← csum_sub _ (hu b _)]
  have e0 : (extractStridedSlice S8x2064x128 ![0, 0, 0] (back0 (before (sums u))) slices_S8x2066x128_S8x2064x128_0_0_0 : FVec Ideal S8x2064x128 .f32) (ix3 b t k)
      = csum (column u b (col 0 k)) (t.val + 1 - 2) := by
    refine Eq.trans ?_ (back0_at u b ⟨t.val, by omega⟩ k t.isLt)
    generalize back0 (before (sums u)) = y
    pointwise
  have e1 : (extractStridedSlice S8x2064x128 ![0, 1, 0] (extractStridedSlice S8x2065x128 ![0, 0, 0] (before (sums u)) slices_S8x2065x512_S8x2065x128_0_0_0) slices_S8x2065x128_S8x2064x128_0_1_0 : FVec Ideal S8x2064x128 .f32) (ix3 b t k)
      = csum (column u b (col 0 k)) (t.val + 1) := by
    refine Eq.trans ?_ ((before_at u b ⟨t.val + 1, by omega⟩ (col 0 k)))
    generalize before (sums u) = y
    pointwise
    exact congrArg₂ (fun i j => y (ix3 b i j)) (Fin.ext (by show 1 + t.val = t.val + 1; omega)) (Fin.ext (by show k.val = 128 * 0 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 2#32))))) : FVec Ideal S8x2064x128 .f32) (ix3 b t k) = many (BitVec.ofNat 32 t.val) 2#32 := by
    unfold many
    pointwise
    rfl
  unfold avg0
  exact congrArg₂ Ideal.div (congrArg₂ (fun x y : EReal => x - y) e1 e0) e2

theorem back1_at (u : Cols) (b : Fin 8) (t : Fin 2068) (k : Fin 128) (ht : t.val < 2064) :
    back1 (before (sums u)) (ix3 b t k) = csum (column u b (col 1 k)) (t.val + 1 - 4) := by
  refine (pad_rows 3 _ nought pads_S8x2065x128_S8x2068x128_000_300_000 h_S_ nought_at b t k).trans ?_
  by_cases hp : 3 ≤ t.val ∧ t.val - 3 < 2065
  · rw [dif_pos hp]
    refine Eq.trans ?_ ((before_at u b ⟨t.val - 3, hp.2⟩ (col 1 k)).trans (congrArg _ (by show t.val - 3 = t.val + 1 - 4; omega)))
    generalize before (sums u) = y
    pointwise
    exact congrArg (fun i => y (ix3 b _ i)) (Fin.ext (by show 128 + k.val = 128 * 1 + k.val; omega))
  · rw [dif_neg hp]
    have e : t.val + 1 - 4 = 0 := by omega
    rw [e]
    rfl

theorem avg1_at (u : Cols) (hu : ∀ b q i, IsReal (column u b q i)) (b : Fin 8) (t : Fin 2064) (k : Fin 128) :
    avg1 (before (sums u)) (ix3 b t k) = Ideal.div (wsum (column u b (col 1 k)) 4 t.val) (many (BitVec.ofNat 32 t.val) 4#32) := by
  rw [← csum_sub _ (hu b _)]
  have e0 : (extractStridedSlice S8x2064x128 ![0, 0, 0] (back1 (before (sums u))) slices_S8x2068x128_S8x2064x128_0_0_0 : FVec Ideal S8x2064x128 .f32) (ix3 b t k)
      = csum (column u b (col 1 k)) (t.val + 1 - 4) := by
    refine Eq.trans ?_ (back1_at u b ⟨t.val, by omega⟩ k t.isLt)
    generalize back1 (before (sums u)) = y
    pointwise
  have e1 : (extractStridedSlice S8x2064x128 ![0, 1, 0] (extractStridedSlice S8x2065x128 ![0, 0, 128] (before (sums u)) slices_S8x2065x512_S8x2065x128_0_0_128) slices_S8x2065x128_S8x2064x128_0_1_0 : FVec Ideal S8x2064x128 .f32) (ix3 b t k)
      = csum (column u b (col 1 k)) (t.val + 1) := by
    refine Eq.trans ?_ ((before_at u b ⟨t.val + 1, by omega⟩ (col 1 k)))
    generalize before (sums u) = y
    pointwise
    exact congrArg₂ (fun i j => y (ix3 b i j)) (Fin.ext (by show 1 + t.val = t.val + 1; omega)) (Fin.ext (by show 128 + k.val = 128 * 1 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 4#32))))) : FVec Ideal S8x2064x128 .f32) (ix3 b t k) = many (BitVec.ofNat 32 t.val) 4#32 := by
    unfold many
    pointwise
    rfl
  unfold avg1
  exact congrArg₂ Ideal.div (congrArg₂ (fun x y : EReal => x - y) e1 e0) e2

theorem back2_at (u : Cols) (b : Fin 8) (t : Fin 2072) (k : Fin 128) (ht : t.val < 2064) :
    back2 (before (sums u)) (ix3 b t k) = csum (column u b (col 2 k)) (t.val + 1 - 8) := by
  refine (pad_rows 7 _ nought pads_S8x2065x128_S8x2072x128_000_700_000 h_S_ nought_at b t k).trans ?_
  by_cases hp : 7 ≤ t.val ∧ t.val - 7 < 2065
  · rw [dif_pos hp]
    refine Eq.trans ?_ ((before_at u b ⟨t.val - 7, hp.2⟩ (col 2 k)).trans (congrArg _ (by show t.val - 7 = t.val + 1 - 8; omega)))
    generalize before (sums u) = y
    pointwise
    exact congrArg (fun i => y (ix3 b _ i)) (Fin.ext (by show 256 + k.val = 128 * 2 + k.val; omega))
  · rw [dif_neg hp]
    have e : t.val + 1 - 8 = 0 := by omega
    rw [e]
    rfl

theorem avg2_at (u : Cols) (hu : ∀ b q i, IsReal (column u b q i)) (b : Fin 8) (t : Fin 2064) (k : Fin 128) :
    avg2 (before (sums u)) (ix3 b t k) = Ideal.div (wsum (column u b (col 2 k)) 8 t.val) (many (BitVec.ofNat 32 t.val) 8#32) := by
  rw [← csum_sub _ (hu b _)]
  have e0 : (extractStridedSlice S8x2064x128 ![0, 0, 0] (back2 (before (sums u))) slices_S8x2072x128_S8x2064x128_0_0_0 : FVec Ideal S8x2064x128 .f32) (ix3 b t k)
      = csum (column u b (col 2 k)) (t.val + 1 - 8) := by
    refine Eq.trans ?_ (back2_at u b ⟨t.val, by omega⟩ k t.isLt)
    generalize back2 (before (sums u)) = y
    pointwise
  have e1 : (extractStridedSlice S8x2064x128 ![0, 1, 0] (extractStridedSlice S8x2065x128 ![0, 0, 256] (before (sums u)) slices_S8x2065x512_S8x2065x128_0_0_256) slices_S8x2065x128_S8x2064x128_0_1_0 : FVec Ideal S8x2064x128 .f32) (ix3 b t k)
      = csum (column u b (col 2 k)) (t.val + 1) := by
    refine Eq.trans ?_ ((before_at u b ⟨t.val + 1, by omega⟩ (col 2 k)))
    generalize before (sums u) = y
    pointwise
    exact congrArg₂ (fun i j => y (ix3 b i j)) (Fin.ext (by show 1 + t.val = t.val + 1; omega)) (Fin.ext (by show 256 + k.val = 128 * 2 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 8#32))))) : FVec Ideal S8x2064x128 .f32) (ix3 b t k) = many (BitVec.ofNat 32 t.val) 8#32 := by
    unfold many
    pointwise
    rfl
  unfold avg2
  exact congrArg₂ Ideal.div (congrArg₂ (fun x y : EReal => x - y) e1 e0) e2

theorem back3_at (u : Cols) (b : Fin 8) (t : Fin 2080) (k : Fin 128) (ht : t.val < 2064) :
    back3 (before (sums u)) (ix3 b t k) = csum (column u b (col 3 k)) (t.val + 1 - 16) := by
  refine (pad_rows 15 _ nought pads_S8x2065x128_S8x2080x128_000_1500_000 h_S_ nought_at b t k).trans ?_
  by_cases hp : 15 ≤ t.val ∧ t.val - 15 < 2065
  · rw [dif_pos hp]
    refine Eq.trans ?_ ((before_at u b ⟨t.val - 15, hp.2⟩ (col 3 k)).trans (congrArg _ (by show t.val - 15 = t.val + 1 - 16; omega)))
    generalize before (sums u) = y
    pointwise
    exact congrArg (fun i => y (ix3 b _ i)) (Fin.ext (by show 384 + k.val = 128 * 3 + k.val; omega))
  · rw [dif_neg hp]
    have e : t.val + 1 - 16 = 0 := by omega
    rw [e]
    rfl

theorem avg3_at (u : Cols) (hu : ∀ b q i, IsReal (column u b q i)) (b : Fin 8) (t : Fin 2064) (k : Fin 128) :
    avg3 (before (sums u)) (ix3 b t k) = Ideal.div (wsum (column u b (col 3 k)) 16 t.val) (many (BitVec.ofNat 32 t.val) 16#32) := by
  rw [← csum_sub _ (hu b _)]
  have e0 : (extractStridedSlice S8x2064x128 ![0, 0, 0] (back3 (before (sums u))) slices_S8x2080x128_S8x2064x128_0_0_0 : FVec Ideal S8x2064x128 .f32) (ix3 b t k)
      = csum (column u b (col 3 k)) (t.val + 1 - 16) := by
    refine Eq.trans ?_ (back3_at u b ⟨t.val, by omega⟩ k t.isLt)
    generalize back3 (before (sums u)) = y
    pointwise
  have e1 : (extractStridedSlice S8x2064x128 ![0, 1, 0] (extractStridedSlice S8x2065x128 ![0, 0, 384] (before (sums u)) slices_S8x2065x512_S8x2065x128_0_0_384) slices_S8x2065x128_S8x2064x128_0_1_0 : FVec Ideal S8x2064x128 .f32) (ix3 b t k)
      = csum (column u b (col 3 k)) (t.val + 1) := by
    refine Eq.trans ?_ ((before_at u b ⟨t.val + 1, by omega⟩ (col 3 k)))
    generalize before (sums u) = y
    pointwise
    exact congrArg₂ (fun i j => y (ix3 b i j)) (Fin.ext (by show 1 + t.val = t.val + 1; omega)) (Fin.ext (by show 384 + k.val = 128 * 3 + k.val; omega))
  have e2 : (broadcastInDim S8x2064x128 ![0, 1, 2] bcast_S1x2064x1_S8x2064x128_0_1_2 (broadcastInDim S1x2064x1 ![1] bcast_S2064_S1x2064x1_1
      (sitofp .f32 (minsi (addi (iotaInDim S2064 32 0) (broadcastInDim S2064 ![] bcast_S_S2064 (constantI S_ 32 1#32)))
        (broadcastInDim S2064 ![] bcast_S_S2064 (constantI S_ 32 16#32))))) : FVec Ideal S8x2064x128 .f32) (ix3 b t k) = many (BitVec.ofNat 32 t.val) 16#32 := by
    unfold many
    pointwise
    rfl
  unfold avg3
  exact congrArg₂ Ideal.div (congrArg₂ (fun x y : EReal => x - y) e1 e0) e2

theorem avgs_at (u : Cols) (hu : ∀ b q i, IsReal (column u b q i)) (b : Fin 8) (t : Fin 2064) (a : Fin 4) (k : Fin 128) :
    avgs (before (sums u)) (ix4 b t a k) = Ideal.div (wsum (column u b (col a k)) (win a.val) t.val)
      (many (BitVec.ofNat 32 t.val) (BitVec.ofNat 32 (win a.val))) := by
  unfold avgs
  fin_cases a
  · refine Eq.trans ?_ (avg0_at u hu b t k)
    generalize avg0 _ = y0
    generalize avg1 _ = y1
    generalize avg2 _ = y2
    generalize avg3 _ = y3
    show concatenate S8x2064x4x128 2 _ _ (ix4 b t (0 : Fin 4) k) = _
    pointwise
  · refine Eq.trans ?_ (avg1_at u hu b t k)
    generalize avg0 _ = y0
    generalize avg1 _ = y1
    generalize avg2 _ = y2
    generalize avg3 _ = y3
    show concatenate S8x2064x4x128 2 _ _ (ix4 b t (1 : Fin 4) k) = _
    pointwise
  · refine Eq.trans ?_ (avg2_at u hu b t k)
    generalize avg0 _ = y0
    generalize avg1 _ = y1
    generalize avg2 _ = y2
    generalize avg3 _ = y3
    show concatenate S8x2064x4x128 2 _ _ (ix4 b t (2 : Fin 4) k) = _
    pointwise
  · refine Eq.trans ?_ (avg3_at u hu b t k)
    generalize avg0 _ = y0
    generalize avg1 _ = y1
    generalize avg2 _ = y2
    generalize avg3 _ = y3
    show concatenate S8x2064x4x128 2 _ _ (ix4 b t (3 : Fin 4) k) = _
    pointwise

theorem mixes_at (a u : FVec Ideal S8x2064x4x128 .f32) (mix : FVec Ideal S2x4x128x128 .f32) (b : Fin 8) (t : Fin 2064) (e : Fin 4) (j : Fin 128) :
    mixes a u mix (ix4 b t e j) = ∑ k : Fin 128, mix (ix4 0 e k j) * (a (ix4 b t e k) - u (ix4 b t e k)) := by
  unfold mixes
  pointwise

theorem scaled_at (a : FVec Ideal S8x2064x4x128 .f32) (sc : FVec Ideal S2x512 .f32) (b : Fin 8) (t : Fin 2064) (q : Fin 512) :
    scaled a sc (ix3 b t q) = a (ix4 b t ⟨q.val / 128, by omega⟩ ⟨q.val % 128, by omega⟩) * sc (ix2 0 q) := by
  unfold scaled
  pointwise

theorem four_at (u : Cols) (b : Fin 8) (t : Fin 2064) (e : Fin 4) (k : Fin 128) :
    (shapeCast _ u shapeCasts_S8x2064x512_S8x2064x4x128 : FVec Ideal S8x2064x4x128 .f32) (ix4 b t e k) = u (ix3 b t (col e k)) := by
  unfold col
  pointwise
  exact congrArg (fun i => u (ix3 b t i)) (Fin.ext (by show e.val * 128 + k.val = 128 * e.val + k.val; omega))

theorem branch_at (g : FVec Ideal S8x2064x2048 .f32) (y : Cols) (wb : FVec Ideal S2x512x1024 .f32) (R : Fin 16512) (n : Fin 1024) :
    branch g y wb (ix2 R n) = g (ix3 (seqAt R) (rowAt R) ⟨n.val, by omega⟩) * times (fun q => y (ix3 (seqAt R) (rowAt R) q)) (fun k i => wb (ix3 0 k i)) n := by
  unfold branch times seqAt rowAt
  pointwise

theorem pool_at (u : Cols) (mix : FVec Ideal S2x4x128x128 .f32) (sc : FVec Ideal S2x512 .f32) (hu : ∀ b q i, IsReal (column u b q i))
    (b : Fin 8) (t : Fin 2064) (q : Fin 512) :
    pool u mix sc (ix3 b t q) = mixed (fun k => Ideal.div (wsum (column u b (col ⟨q.val / 128, by omega⟩ k)) (win (q.val / 128)) t.val)
        (many (BitVec.ofNat 32 t.val) (BitVec.ofNat 32 (win (q.val / 128)))) - column u b (col ⟨q.val / 128, by omega⟩ k) t.val)
      (fun k => mix (ix4 0 ⟨q.val / 128, by omega⟩ k ⟨q.val % 128, by omega⟩)) (sc (ix2 0 q)) := by
  unfold pool mixed
  rw [scaled_at, mixes_at]
  refine congrArg (fun z : EReal => z * _) (Finset.sum_congr rfl fun k _ => ?_)
  rw [avgs_at u hu, four_at, mul_comm]
  have e : column u b (col ⟨q.val / 128, by omega⟩ k) t.val = u (ix3 b t (col ⟨q.val / 128, by omega⟩ k)) := dif_pos t.isLt
  rw [← e]

/-! ## The results -/

variable (m : (ℓ : Loc nD τ sig) → Buf (Elt Ideal) ℓ) (c : Dev nD)

abbrev argF : FVec Ideal S8x2048x1024 .f32 := m ((c.tc : Thread nD τ).loc main_arg0)
abbrev argT : FVec Ideal S16x1024 .f32 := m ((c.tc : Thread nD τ).loc main_arg1)
abbrev argX : Rows := rows (argF m c) (argT m c)
abbrev argN : FVec Ideal S2x1024 .f32 := m ((c.tc : Thread nD τ).loc main_arg2)
abbrev argW : FVec Ideal S2x1024x4096 .f32 := m ((c.tc : Thread nD τ).loc main_arg3)
abbrev argC : FVec Ideal S2x2048 .f32 := m ((c.tc : Thread nD τ).loc main_arg4)
abbrev argM : FVec Ideal S2x4x128x128 .f32 := m ((c.tc : Thread nD τ).loc main_arg5)
abbrev argS : FVec Ideal S2x512 .f32 := m ((c.tc : Thread nD τ).loc main_arg6)
abbrev argB : FVec Ideal S2x512x1024 .f32 := m ((c.tc : Thread nD τ).loc main_arg7)

theorem res_eq : res_main_v117 m c = branch (gates (project (argX m c) (argN m c) (argW m c)) (argC m c))
    (pool (cols (project (argX m c) (argN m c) (argW m c))) (argM m c) (argS m c)) (argB m c) := rfl

abbrev gX (b : Fin 8) (l : Fin 2064) (k : Fin 1024) : EReal :=
  if h : l.val < 16 then argT m c (ix2 (⟨l.val, h⟩ : Fin 16) k) else argF m c (ix3 b ⟨l.val - 16, by omega⟩ k)
abbrev gN (k : Fin 1024) : EReal := argN m c (ix2 0 k)
abbrev gW (k : Fin 1024) (n : Fin 4096) : EReal := argW m c (ix3 0 k n)
abbrev gC (n : Fin 2048) : EReal := argC m c (ix2 0 n)
abbrev gM (a : Fin 4) (k j : Fin 128) : EReal := argM m c (ix4 0 a k j)
abbrev gS (q : Fin 512) : EReal := argS m c (ix2 0 q)
abbrev gB (k : Fin 512) (n : Fin 1024) : EReal := argB m c (ix3 0 k n)

/-- The projection of the arguments. -/
abbrev P : Proj := project (argX m c) (argN m c) (argW m c)

theorem P_at (b : Fin 8) (l : Fin 2064) (n : Fin 4096) : P m c (ix3 b l n) = proj (gX m c) (gN m c) (gW m c) b l n := by
  have e : (fun b l k => argX m c (ix3 b l k)) = gX m c := funext fun b => funext fun l => funext fun k => rows_at _ _ b l k
  rw [← e]
  exact project_at _ _ _ b l n

theorem column_eq (b : Fin 8) (q : Fin 512) (i : ℕ) : column (cols (P m c)) b q i = ucol (gX m c) (gN m c) (gW m c) b q i := by
  unfold column ucol
  by_cases h : i < 2064
  · rw [dif_pos h, dif_pos h, cols_at, P_at]
  · rw [dif_neg h, dif_neg h]

theorem gates_eq (b : Fin 8) (l : Fin 2064) (n : Fin 2048) :
    gates (P m c) (argC m c) (ix3 b l n) = gateOf (gX m c) (gN m c) (gW m c) (gC m c) b l n := by
  rw [gates_at, P_at]
  rfl

/-- The queries. -/
theorem q_at (R : Fin 16512) (j : Fin 512) :
    (truncf .bf16 (shapeCast _ (mulf (extractStridedSlice S8x2064x512 ![0, 0, 0] (P m c) slices_S8x2064x4096_S8x2064x512_0_0_0)
      (broadcastInDim S8x2064x512 ![] bcast_S_S8x2064x512 (constant S_ .f32 0x3E000000#32))) shapeCasts_S8x2064x512_S16512x512 : FVec Ideal S16512x512 .f32) bitsLt_bf16_f32
      : FVec Ideal S16512x512 .bf16) (ix2 R j) = outQ (gX m c) (gN m c) (gW m c) (seqAt R) (rowAt R) j := by
  unfold outQ eighth seqAt rowAt
  rw [← P_at]
  generalize P m c = y
  pointwise
  try exact congrArg (fun i => y (ix3 _ _ i) * _) (Fin.ext (by dsimp only; omega))

/-- The keys. -/
theorem k_at (R : Fin 16512) (j : Fin 512) :
    (truncf .bf16 (shapeCast _ (extractStridedSlice S8x2064x512 ![0, 0, 512] (P m c) slices_S8x2064x4096_S8x2064x512_0_0_512) shapeCasts_S8x2064x512_S16512x512 : FVec Ideal S16512x512 .f32) bitsLt_bf16_f32
      : FVec Ideal S16512x512 .bf16) (ix2 R j) = outK (gX m c) (gN m c) (gW m c) (seqAt R) (rowAt R) j := by
  unfold outK seqAt rowAt
  rw [← P_at]
  generalize P m c = y
  pointwise

/-- The values. -/
theorem v_at (R : Fin 16512) (j : Fin 512) :
    (truncf .bf16 (shapeCast _ (extractStridedSlice S8x2064x512 ![0, 0, 1024] (P m c) slices_S8x2064x4096_S8x2064x512_0_0_1024) shapeCasts_S8x2064x512_S16512x512 : FVec Ideal S16512x512 .f32) bitsLt_bf16_f32
      : FVec Ideal S16512x512 .bf16) (ix2 R j) = outV (gX m c) (gN m c) (gW m c) (seqAt R) (rowAt R) j := by
  unfold outV seqAt rowAt
  rw [← P_at]
  generalize P m c = y
  pointwise

/-- The attention's gate. -/
theorem g_at (R : Fin 16512) (n : Fin 1024) :
    (shapeCast _ (extractStridedSlice S8x2064x1024 ![0, 0, 1024] (gates (P m c) (argC m c)) slices_S8x2064x2048_S8x2064x1024_0_0_1024) shapeCasts_S8x2064x1024_S16512x1024
      : FVec Ideal S16512x1024 .f32) (ix2 R n) = outG (gX m c) (gN m c) (gW m c) (gC m c) (seqAt R) (rowAt R) n := by
  unfold outG seqAt rowAt
  rw [← gates_eq]
  generalize gates (P m c) (argC m c) = y
  pointwise

/-- The pooled branch, of real columns. -/
theorem p_at (hu : ∀ b q i, IsReal (ucol (gX m c) (gN m c) (gW m c) b q i)) (R : Fin 16512) (n : Fin 1024) :
    (res_main_v117 m c : FVec Ideal S16512x1024 .f32) (ix2 R n)
      = outP (gX m c) (gN m c) (gW m c) (gC m c) (gM m c) (gS m c) (gB m c) (seqAt R) (rowAt R) n := by
  have hu' : ∀ b q i, IsReal (column (cols (P m c)) b q i) := fun b q i => by rw [column_eq]; exact hu b q i
  have hc : ∀ b q, column (cols (P m c)) b q = ucol (gX m c) (gN m c) (gW m c) b q := fun b q => funext fun i => column_eq m c b q i
  rw [res_eq, branch_at, gates_eq]
  unfold outP
  refine congrArg (fun z : EReal => _ * z) (congrArg (fun f : Fin 512 → EReal => times f (gB m c) n) (funext fun q => ?_))
  rw [pool_at _ _ _ hu']
  simp only [hc]
  have e : col ⟨q.val / 128, by omega⟩ ⟨q.val % 128, by omega⟩ = q := Fin.ext (by show 128 * (q.val / 128) + q.val % 128 = q.val; omega)
  unfold pooled pooledIn
  rw [e]

end Cert.Reference5Ideal.In
end
-- ==== Proof.In5Pre.lean ====
/-
  What the precondition of the first layer's input stage says: the gain and the projection's weights are real numbers.
-/
module

public import proofs.«01_k».proof.Defs
public import proofs.«01_k».proof.Proof.InReal
public import Idealize.ShloMosaic.Lib.Pointwise

@[expose] public section

noncomputable section

namespace Cert.Kernel5Ideal.In

open Idealize.ShloMosaic Cert.OutStage Cert.InStage

/-- The shape facts the precondition's operations take. -/
instance preFacts : Cert.Pre_real5.Facts where
  bcast_S_S2x1024 := by decide
  bcast_S_S2x1024x4096 := by decide

theorem real_of_less {s : Shape} (x : FVec Ideal s .f32) (h : Cert.Pre_real5.S_.BroadcastsInDim s (![] : Fin 0 → Fin s.rank))
    (e : cmpf .olt (Host.absf x) (broadcastInDim s ![] h (constant Cert.Pre_real5.S_ .f32 0x7F800000#32)) = fun _ => 1#1) (i : s.Idx) : IsReal (x i) := by
  have e' := congrFun e i
  have hb : (broadcastInDim s ![] h (constant (F := Ideal) Cert.Pre_real5.S_ .f32 0x7F800000#32) : FVec Ideal s .f32) i = ⊤ := by
    show Ideal.ofBits .f32 0x7F800000#32 = ⊤
    simp [Ideal.ofBits, Ideal.ieee]
  have e2 : FloatOps.cmpf (F := Ideal) (φ := .f32) .olt (Host.absf x i) ⊤ = 1#1 := by rw [← hb]; exact e'
  have e3 : (BitVec.ofBool (decide ((max (x i) (-(x i)) : EReal) < ⊤))) = 1#1 := e2
  refine isReal_of_abs ?_
  by_contra hn
  rw [decide_eq_false hn] at e3
  exact absurd e3 (by decide)

variable (m : (ℓ : Loc Cert.Kernel5Ideal.nD Cert.Kernel5Ideal.τ Cert.Kernel5Ideal.sig) → Buf (Elt Ideal) ℓ) (c : Dev Cert.Kernel5Ideal.nD)

theorem real_args (h : Cert.Pre_Kernel5Ideal_real5 m) :
    (∀ i, IsReal ((m ((c.tc : Thread Cert.Kernel5Ideal.nD Cert.Kernel5Ideal.τ).loc Cert.Kernel5Ideal.main_arg2) : FVec Ideal Cert.Pre_real5.S2x1024 .f32) i))
    ∧ (∀ i, IsReal ((m ((c.tc : Thread Cert.Kernel5Ideal.nD Cert.Kernel5Ideal.τ).loc Cert.Kernel5Ideal.main_arg3) : FVec Ideal Cert.Pre_real5.S2x1024x4096 .f32) i)) :=
  ⟨real_of_less _ _ (h c).1, real_of_less _ _ (h c).2⟩

end Cert.Kernel5Ideal.In
end
-- ==== Proof.lean ====
/-
  The claims of the certificate, for the attention, for both layers' output stage and for the last layer's input stage: the kernel, its ideal form and the
  reference run and leave their arguments as they were, the named constant is the value the kernel prints, and the
  ideal kernel leaves the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Value
public import proofs.«01_k».proof.Proof.RefValue
public import proofs.«01_k».proof.Proof.OutValue
public import proofs.«01_k».proof.Proof.OutRef
public import proofs.«01_k».proof.Proof.Out4Value
public import proofs.«01_k».proof.Proof.Out4Ref
public import proofs.«01_k».proof.Proof.InValue
public import proofs.«01_k».proof.Proof.InRef
public import proofs.«01_k».proof.Proof.InPre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_real
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.In5Value
public import proofs.«01_k».proof.Proof.In5Ref
public import proofs.«01_k».proof.Proof.In5Pre
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ

theorem frame_pi : Cert.quiescent_KernelIdeal := fun m ρ _ => Cert.KernelIdeal.Attn.quiescent m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "masked" .f32 0xF149F2CA#32 ⊥ rfl

open Cert.KernelIdeal.Attn in
theorem algebraic : Cert.algebraic_KernelIdeal_ReferenceIdeal := by
  intro m ρ m' ρ' _ hargs
  refine ⟨fun c => whole m c, ?_, ?_⟩
  · exact (θ_run Cert.KernelIdeal.defs _ _).mono (fun r h c => ⟨h.1 c, h.2.1 c⟩) (θ_run_and (leaves m ρ) (quiescent m ρ))
  · refine (θ_run Cert.ReferenceIdeal.defs _ _).mono (fun r h c => ⟨(h c).1.trans ?_, (h c).2⟩)
      (Cert.ReferenceIdeal.Value.run (F := Ideal) m' ρ')
    obtain ⟨a0, a1, a2⟩ := hargs c
    refine (Cert.ReferenceIdeal.Attn.res_eq m' c).trans ?_
    rw [a0, a1, a2]
    funext y
    idx_vars y
    exact Cert.ReferenceIdeal.Attn.result_at _ _ _ y0 y1 y2

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves2 : Cert.preserves_Kernel2_Kernel2Ideal := trivial

open Cert.Kernel2Ideal.Out in
theorem algebraic2 : Cert.algebraic_Kernel2Ideal_Reference2Ideal := by
  intro m ρ m' ρ' _ hargs
  refine ⟨fun c => whole m c, ?_, ?_⟩
  · exact (θ_run Cert.Kernel2Ideal.defs _ _).mono (fun r h c => ⟨(h c).1.trans (final m c), (h c).2⟩)
      (Cert.Kernel2Ideal.Value.run_blocks m ρ)
  · refine (θ_run Cert.Reference2Ideal.defs _ _).mono (fun r h c => ⟨(h c).1.trans ?_, (h c).2⟩)
      (Cert.Reference2Ideal.Value.run (F := Ideal) m' ρ')
    obtain ⟨a0, a1, a2, a3, a4, a5, a6, a7, a8, a9, a10⟩ := hargs c
    funext y
    idx_vars y
    refine (Cert.Reference2Ideal.Out.res_at m' c y0 y1 y2).trans ?_
    rw [a0, a2, a3, a4, a5, a6, a7, a8, a9, a10]
    rfl

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_pi3_real : Cert.quiescent_Kernel3Ideal_pre_real := fun m ρ _ => Cert.Kernel3Ideal.Gen.frame m ρ

theorem frame_ri3 : Cert.quiescent_Reference3Ideal := fun m ρ _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m ρ)

theorem frame_ri3_real : Cert.quiescent_Reference3Ideal_pre_real := fun m ρ _ => frame_ri3 m ρ trivial

theorem preserves3 : Cert.preserves_Kernel3_Kernel3Ideal := trivial

open Cert.Kernel3Ideal.In Cert.InStage in
theorem algebraic3 : Cert.algebraic_Kernel3Ideal_Reference3Ideal_pre_real := by
  intro m ρ m' ρ' hpre hargs
  refine ⟨fun c => wholeQ m c, fun c => wholeK m c, fun c => wholeV m c, fun c => wholeP m c, fun c => wholeG m c, ?_, ?_⟩
  · exact (θ_run Cert.Kernel3Ideal.defs _ _).mono (fun r h c => ⟨(h c).1.trans (finalQ m c), (h c).2.1.trans (finalK m c),
      (h c).2.2.1.trans (finalV m c), (h c).2.2.2.1.trans (finalP m c), (h c).2.2.2.2.1.trans (finalG m c), (h c).2.2.2.2.2⟩)
      (Cert.Kernel3Ideal.Value.run_blocks m ρ)
  · refine (θ_run Cert.Reference3Ideal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.Reference3Ideal.Value.run (F := Ideal) m' ρ')
    · obtain ⟨a0, a1, a2, a3, a4, a5, a6, a7⟩ := hargs c
      funext y
      idx_vars y
      refine (Cert.Reference3Ideal.In.q_at m' c y0 y1).trans ?_
      unfold Cert.Reference3Ideal.In.gX Cert.Reference3Ideal.In.gN Cert.Reference3Ideal.In.gW
      unfold Cert.Reference3Ideal.In.argX Cert.Reference3Ideal.In.argN Cert.Reference3Ideal.In.argW
      rw [a0, a2, a3]
      rfl
    · obtain ⟨a0, a1, a2, a3, a4, a5, a6, a7⟩ := hargs c
      funext y
      idx_vars y
      refine (Cert.Reference3Ideal.In.k_at m' c y0 y1).trans ?_
      unfold Cert.Reference3Ideal.In.gX Cert.Reference3Ideal.In.gN Cert.Reference3Ideal.In.gW
      unfold Cert.Reference3Ideal.In.argX Cert.Reference3Ideal.In.argN Cert.Reference3Ideal.In.argW
      rw [a0, a2, a3]
      rfl
    · obtain ⟨a0, a1, a2, a3, a4, a5, a6, a7⟩ := hargs c
      funext y
      idx_vars y
      refine (Cert.Reference3Ideal.In.v_at m' c y0 y1).trans ?_
      unfold Cert.Reference3Ideal.In.gX Cert.Reference3Ideal.In.gN Cert.Reference3Ideal.In.gW
      unfold Cert.Reference3Ideal.In.argX Cert.Reference3Ideal.In.argN Cert.Reference3Ideal.In.argW
      rw [a0, a2, a3]
      rfl
    · obtain ⟨a0, a1, a2, a3, a4, a5, a6, a7⟩ := hargs c
      obtain ⟨r2, r3⟩ := real_args m c hpre
      funext y
      idx_vars y
      refine (Cert.Reference3Ideal.In.p_at m' c (fun b q i => ucol_real _ _ _ (fun k => ?_) (fun k n => ?_) b q i) y0 y1).trans ?_
      · unfold Cert.Reference3Ideal.In.gN Cert.Reference3Ideal.In.argN
        rw [a2]
        exact r2 _
      · unfold Cert.Reference3Ideal.In.gW Cert.Reference3Ideal.In.argW
        rw [a3]
        exact r3 _
      · unfold Cert.Reference3Ideal.In.gX Cert.Reference3Ideal.In.gN Cert.Reference3Ideal.In.gW Cert.Reference3Ideal.In.gC Cert.Reference3Ideal.In.gM
          Cert.Reference3Ideal.In.gS Cert.Reference3Ideal.In.gB
        unfold Cert.Reference3Ideal.In.argX Cert.Reference3Ideal.In.argN Cert.Reference3Ideal.In.argW Cert.Reference3Ideal.In.argC
          Cert.Reference3Ideal.In.argM Cert.Reference3Ideal.In.argS Cert.Reference3Ideal.In.argB
        rw [a0, a2, a3, a4, a5, a6, a7]
        rfl
    · obtain ⟨a0, a1, a2, a3, a4, a5, a6, a7⟩ := hargs c
      funext y
      idx_vars y
      refine (Cert.Reference3Ideal.In.g_at m' c y0 y1).trans ?_
      unfold Cert.Reference3Ideal.In.gX Cert.Reference3Ideal.In.gN Cert.Reference3Ideal.In.gW Cert.Reference3Ideal.In.gC
      unfold Cert.Reference3Ideal.In.argX Cert.Reference3Ideal.In.argN Cert.Reference3Ideal.In.argW Cert.Reference3Ideal.In.argC
      rw [a0, a2, a3, a4]
      rfl

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves4 : Cert.preserves_Kernel4_Kernel4Ideal := trivial

open Cert.Kernel4Ideal.Out in
theorem algebraic4 : Cert.algebraic_Kernel4Ideal_Reference4Ideal := by
  intro m ρ m' ρ' _ hargs
  refine ⟨fun c => whole m c, ?_, ?_⟩
  · exact (θ_run Cert.Kernel4Ideal.defs _ _).mono (fun r h c => ⟨(h c).1.trans (final m c), (h c).2⟩)
      (Cert.Kernel4Ideal.Value.run_blocks m ρ)
  · refine (θ_run Cert.Reference4Ideal.defs _ _).mono (fun r h c => ⟨(h c).1.trans ?_, (h c).2⟩)
      (Cert.Reference4Ideal.Value.run (F := Ideal) m' ρ')
    obtain ⟨a0, a1, a2, a3, a4, a5, a6, a7, a8, a9, a10⟩ := hargs c
    funext y
    idx_vars y
    refine (Cert.Reference4Ideal.Out.res_at m' c y0 y1 y2).trans ?_
    rw [a0, a1, a2, a3, a4, a5, a6, a7, a8, a9]
    rfl

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_pi5_real5 : Cert.quiescent_Kernel5Ideal_pre_real5 := fun m ρ _ => Cert.Kernel5Ideal.Gen.frame m ρ

theorem frame_ri5 : Cert.quiescent_Reference5Ideal := fun m ρ _ =>
  (θ_run Cert.Reference5Ideal.defs _ _).mono (fun r h => ⟨fun c => (h c).2.2.2.2.2, Idealize.ShloMosaic.sem_eq_zero_of_no_sems (by decide) r.2⟩)
    (Cert.Reference5Ideal.Value.run (F := Ideal) m ρ)

theorem frame_ri5_real5 : Cert.quiescent_Reference5Ideal_pre_real5 := fun m ρ _ => frame_ri5 m ρ trivial

theorem preserves5 : Cert.preserves_Kernel5_Kernel5Ideal := trivial

open Cert.Kernel5Ideal.In in
theorem algebraic5 : Cert.algebraic_Kernel5Ideal_Reference5Ideal_pre_real5 := by
  intro m ρ m' ρ' hpre hargs
  refine ⟨fun c => wholeQ m c, fun c => wholeK m c, fun c => wholeV m c, fun c => wholeP m c, fun c => wholeG m c, ?_, ?_⟩
  · exact (θ_run Cert.Kernel5Ideal.defs _ _).mono (fun r h c => ⟨(h c).1.trans (finalQ m c), (h c).2.1.trans (finalK m c),
      (h c).2.2.1.trans (finalV m c), (h c).2.2.2.1.trans (finalP m c), (h c).2.2.2.2.1.trans (finalG m c), (h c).2.2.2.2.2⟩)
      (Cert.Kernel5Ideal.Value.run_blocks m ρ)
  · refine (θ_run Cert.Reference5Ideal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.Reference5Ideal.Value.run (F := Ideal) m' ρ')
    · obtain ⟨a0, a1, a2, a3, a4, a5, a6, a7⟩ := hargs c
      funext y
      idx_vars y
      refine (Cert.Reference5Ideal.In.q_at m' c y0 y1).trans ?_
      unfold Cert.Reference5Ideal.In.gX Cert.Reference5Ideal.In.gN Cert.Reference5Ideal.In.gW
      unfold Cert.Reference5Ideal.In.argF Cert.Reference5Ideal.In.argT Cert.Reference5Ideal.In.argN Cert.Reference5Ideal.In.argW
      rw [a0, a1, a2, a3]
      rfl
    · obtain ⟨a0, a1, a2, a3, a4, a5, a6, a7⟩ := hargs c
      funext y
      idx_vars y
      refine (Cert.Reference5Ideal.In.k_at m' c y0 y1).trans ?_
      unfold Cert.Reference5Ideal.In.gX Cert.Reference5Ideal.In.gN Cert.Reference5Ideal.In.gW
      unfold Cert.Reference5Ideal.In.argF Cert.Reference5Ideal.In.argT Cert.Reference5Ideal.In.argN Cert.Reference5Ideal.In.argW
      rw [a0, a1, a2, a3]
      rfl
    · obtain ⟨a0, a1, a2, a3, a4, a5, a6, a7⟩ := hargs c
      funext y
      idx_vars y
      refine (Cert.Reference5Ideal.In.v_at m' c y0 y1).trans ?_
      unfold Cert.Reference5Ideal.In.gX Cert.Reference5Ideal.In.gN Cert.Reference5Ideal.In.gW
      unfold Cert.Reference5Ideal.In.argF Cert.Reference5Ideal.In.argT Cert.Reference5Ideal.In.argN Cert.Reference5Ideal.In.argW
      rw [a0, a1, a2, a3]
      rfl
    · obtain ⟨a0, a1, a2, a3, a4, a5, a6, a7⟩ := hargs c
      obtain ⟨r2, r3⟩ := real_args m c hpre
      funext y
      idx_vars y
      refine (Cert.Reference5Ideal.In.p_at m' c (fun b q i => Cert.InStage.ucol_real _ _ _ (fun k => ?_) (fun k n => ?_) b q i) y0 y1).trans ?_
      · unfold Cert.Reference5Ideal.In.gN Cert.Reference5Ideal.In.argN
        rw [a2]
        exact r2 _
      · unfold Cert.Reference5Ideal.In.gW Cert.Reference5Ideal.In.argW
        rw [a3]
        exact r3 _
      · unfold Cert.Reference5Ideal.In.gX Cert.Reference5Ideal.In.gN Cert.Reference5Ideal.In.gW Cert.Reference5Ideal.In.gC Cert.Reference5Ideal.In.gM
          Cert.Reference5Ideal.In.gS Cert.Reference5Ideal.In.gB
        unfold Cert.Reference5Ideal.In.argF Cert.Reference5Ideal.In.argT Cert.Reference5Ideal.In.argN Cert.Reference5Ideal.In.argW Cert.Reference5Ideal.In.argC
          Cert.Reference5Ideal.In.argM Cert.Reference5Ideal.In.argS Cert.Reference5Ideal.In.argB
        rw [a0, a1, a2, a3, a4, a5, a6, a7]
        rfl
    · obtain ⟨a0, a1, a2, a3, a4, a5, a6, a7⟩ := hargs c
      funext y
      idx_vars y
      refine (Cert.Reference5Ideal.In.g_at m' c y0 y1).trans ?_
      unfold Cert.Reference5Ideal.In.gX Cert.Reference5Ideal.In.gN Cert.Reference5Ideal.In.gW Cert.Reference5Ideal.In.gC
      unfold Cert.Reference5Ideal.In.argF Cert.Reference5Ideal.In.argT Cert.Reference5Ideal.In.argN Cert.Reference5Ideal.In.argW Cert.Reference5Ideal.In.argC
      rw [a0, a1, a2, a3, a4]
      rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_real.Gen.facts, Cert.Kernel5Ideal.In.preFacts,
    frame_p, frame_pi, frame_ri, frame_p2, frame_pi2, frame_ri2, frame_p3, frame_pi3, frame_pi3_real, frame_ri3, frame_ri3_real,
    frame_p4, frame_pi4, frame_ri4, frame_p5, frame_pi5, frame_pi5_real5, frame_ri5, frame_ri5_real5,
    preserves, algebraic, preserves2, algebraic2, preserves3, algebraic3, preserves4, algebraic4, preserves5, algebraic5⟩

end Cert.Proof

end
